-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeIdeal_finite_inputs [hPre_finite_inputs : Cert.Pre_finite_inputs.Facts] (m : (ℓ : Loc Cert.DecodeIdeal.nD Cert.DecodeIdeal.τ Cert.DecodeIdeal.sig) → Buf (Elt Ideal) ℓ) : Prop :=
  ∀ c : Dev Cert.DecodeIdeal.nD,
    (Cert.Pre_finite_inputs.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3)) (m ((c.tc : Thread Cert.DecodeIdeal.nD Cert.DecodeIdeal.τ).loc Cert.DecodeIdeal.main_arg4)) (m ((c.tc : Thread Cert.DecodeIdeal.nD Cert.DecodeIdeal.τ).loc Cert.DecodeIdeal.main_arg5)) (m ((c.tc : Thread Cert.DecodeIdeal.nD Cert.DecodeIdeal.τ).loc Cert.DecodeIdeal.main_arg6)) (m ((c.tc : Thread Cert.DecodeIdeal.nD Cert.DecodeIdeal.τ).loc Cert.DecodeIdeal.main_arg7)) (m ((c.tc : Thread Cert.DecodeIdeal.nD Cert.DecodeIdeal.τ).loc Cert.DecodeIdeal.main_arg8))).1 = (fun _ => 1#1)
    ∧ (Cert.Pre_finite_inputs.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3)) (m ((c.tc : Thread Cert.DecodeIdeal.nD Cert.DecodeIdeal.τ).loc Cert.DecodeIdeal.main_arg4)) (m ((c.tc : Thread Cert.DecodeIdeal.nD Cert.DecodeIdeal.τ).loc Cert.DecodeIdeal.main_arg5)) (m ((c.tc : Thread Cert.DecodeIdeal.nD Cert.DecodeIdeal.τ).loc Cert.DecodeIdeal.main_arg6)) (m ((c.tc : Thread Cert.DecodeIdeal.nD Cert.DecodeIdeal.τ).loc Cert.DecodeIdeal.main_arg7)) (m ((c.tc : Thread Cert.DecodeIdeal.nD Cert.DecodeIdeal.τ).loc Cert.DecodeIdeal.main_arg8))).2.1 = (fun _ => 1#1)
    ∧ (Cert.Pre_finite_inputs.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3)) (m ((c.tc : Thread Cert.DecodeIdeal.nD Cert.DecodeIdeal.τ).loc Cert.DecodeIdeal.main_arg4)) (m ((c.tc : Thread Cert.DecodeIdeal.nD Cert.DecodeIdeal.τ).loc Cert.DecodeIdeal.main_arg5)) (m ((c.tc : Thread Cert.DecodeIdeal.nD Cert.DecodeIdeal.τ).loc Cert.DecodeIdeal.main_arg6)) (m ((c.tc : Thread Cert.DecodeIdeal.nD Cert.DecodeIdeal.τ).loc Cert.DecodeIdeal.main_arg7)) (m ((c.tc : Thread Cert.DecodeIdeal.nD Cert.DecodeIdeal.τ).loc Cert.DecodeIdeal.main_arg8))).2.2 = (fun _ => 1#1)

def Pre_DecodeRefIdeal (m : (ℓ : Loc Cert.DecodeRefIdeal.nD Cert.DecodeRefIdeal.τ Cert.DecodeRefIdeal.sig) → Buf (Elt Ideal) ℓ) : Prop :=
  True

def Pre_DecodeRefIdeal_finite_inputs [hPre_finite_inputs : Cert.Pre_finite_inputs.Facts] (m : (ℓ : Loc Cert.DecodeRefIdeal.nD Cert.DecodeRefIdeal.τ Cert.DecodeRefIdeal.sig) → Buf (Elt Ideal) ℓ) : Prop :=
  ∀ c : Dev Cert.DecodeRefIdeal.nD,
    (Cert.Pre_finite_inputs.fn (F := Ideal) (m ((c.tc : Thread Cert.DecodeRefIdeal.nD Cert.DecodeRefIdeal.τ).loc Cert.DecodeRefIdeal.main_arg0)) (m ((c.tc : Thread Cert.DecodeRefIdeal.nD Cert.DecodeRefIdeal.τ).loc Cert.DecodeRefIdeal.main_arg1)) (m ((c.tc : Thread Cert.DecodeRefIdeal.nD Cert.DecodeRefIdeal.τ).loc Cert.DecodeRefIdeal.main_arg2)) (m ((c.tc : Thread Cert.DecodeRefIdeal.nD Cert.DecodeRefIdeal.τ).loc Cert.DecodeRefIdeal.main_arg3)) (m ((c.tc : Thread Cert.DecodeRefIdeal.nD Cert.DecodeRefIdeal.τ).loc Cert.DecodeRefIdeal.main_arg4)) (m ((c.tc : Thread Cert.DecodeRefIdeal.nD Cert.DecodeRefIdeal.τ).loc Cert.DecodeRefIdeal.main_arg5)) (m ((c.tc : Thread Cert.DecodeRefIdeal.nD Cert.DecodeRefIdeal.τ).loc Cert.DecodeRefIdeal.main_arg6)) (m ((c.tc : Thread Cert.DecodeRefIdeal.nD Cert.DecodeRefIdeal.τ).loc Cert.DecodeRefIdeal.main_arg7)) (m ((c.tc : Thread Cert.DecodeRefIdeal.nD Cert.DecodeRefIdeal.τ).loc Cert.DecodeRefIdeal.main_arg8))).1 = (fun _ => 1#1)
    ∧ (Cert.Pre_finite_inputs.fn (F := Ideal) (m ((c.tc : Thread Cert.DecodeRefIdeal.nD Cert.DecodeRefIdeal.τ).loc Cert.DecodeRefIdeal.main_arg0)) (m ((c.tc : Thread Cert.DecodeRefIdeal.nD Cert.DecodeRefIdeal.τ).loc Cert.DecodeRefIdeal.main_arg1)) (m ((c.tc : Thread Cert.DecodeRefIdeal.nD Cert.DecodeRefIdeal.τ).loc Cert.DecodeRefIdeal.main_arg2)) (m ((c.tc : Thread Cert.DecodeRefIdeal.nD Cert.DecodeRefIdeal.τ).loc Cert.DecodeRefIdeal.main_arg3)) (m ((c.tc : Thread Cert.DecodeRefIdeal.nD Cert.DecodeRefIdeal.τ).loc Cert.DecodeRefIdeal.main_arg4)) (m ((c.tc : Thread Cert.DecodeRefIdeal.nD Cert.DecodeRefIdeal.τ).loc Cert.DecodeRefIdeal.main_arg5)) (m ((c.tc : Thread Cert.DecodeRefIdeal.nD Cert.DecodeRefIdeal.τ).loc Cert.DecodeRefIdeal.main_arg6)) (m ((c.tc : Thread Cert.DecodeRefIdeal.nD Cert.DecodeRefIdeal.τ).loc Cert.DecodeRefIdeal.main_arg7)) (m ((c.tc : Thread Cert.DecodeRefIdeal.nD Cert.DecodeRefIdeal.τ).loc Cert.DecodeRefIdeal.main_arg8))).2.1 = (fun _ => 1#1)
    ∧ (Cert.Pre_finite_inputs.fn (F := Ideal) (m ((c.tc : Thread Cert.DecodeRefIdeal.nD Cert.DecodeRefIdeal.τ).loc Cert.DecodeRefIdeal.main_arg0)) (m ((c.tc : Thread Cert.DecodeRefIdeal.nD Cert.DecodeRefIdeal.τ).loc Cert.DecodeRefIdeal.main_arg1)) (m ((c.tc : Thread Cert.DecodeRefIdeal.nD Cert.DecodeRefIdeal.τ).loc Cert.DecodeRefIdeal.main_arg2)) (m ((c.tc : Thread Cert.DecodeRefIdeal.nD Cert.DecodeRefIdeal.τ).loc Cert.DecodeRefIdeal.main_arg3)) (m ((c.tc : Thread Cert.DecodeRefIdeal.nD Cert.DecodeRefIdeal.τ).loc Cert.DecodeRefIdeal.main_arg4)) (m ((c.tc : Thread Cert.DecodeRefIdeal.nD Cert.DecodeRefIdeal.τ).loc Cert.DecodeRefIdeal.main_arg5)) (m ((c.tc : Thread Cert.DecodeRefIdeal.nD Cert.DecodeRefIdeal.τ).loc Cert.DecodeRefIdeal.main_arg6)) (m ((c.tc : Thread Cert.DecodeRefIdeal.nD Cert.DecodeRefIdeal.τ).loc Cert.DecodeRefIdeal.main_arg7)) (m ((c.tc : Thread Cert.DecodeRefIdeal.nD Cert.DecodeRefIdeal.τ).loc Cert.DecodeRefIdeal.main_arg8))).2.2 = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3)
      ∧ r.2.mem ((c.tc : Thread Cert.Decode.nD Cert.Decode.τ).loc Cert.Decode.main_arg4) = m ((c.tc : Thread Cert.Decode.nD Cert.Decode.τ).loc Cert.Decode.main_arg4)
      ∧ r.2.mem ((c.tc : Thread Cert.Decode.nD Cert.Decode.τ).loc Cert.Decode.main_arg5) = m ((c.tc : Thread Cert.Decode.nD Cert.Decode.τ).loc Cert.Decode.main_arg5)
      ∧ r.2.mem ((c.tc : Thread Cert.Decode.nD Cert.Decode.τ).loc Cert.Decode.main_arg6) = m ((c.tc : Thread Cert.Decode.nD Cert.Decode.τ).loc Cert.Decode.main_arg6)
      ∧ r.2.mem ((c.tc : Thread Cert.Decode.nD Cert.Decode.τ).loc Cert.Decode.main_arg7) = m ((c.tc : Thread Cert.Decode.nD Cert.Decode.τ).loc Cert.Decode.main_arg7)
      ∧ r.2.mem ((c.tc : Thread Cert.Decode.nD Cert.Decode.τ).loc Cert.Decode.main_arg8) = m ((c.tc : Thread Cert.Decode.nD Cert.Decode.τ).loc Cert.Decode.main_arg8))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
      ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
      ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6)
      ∧ r.2.mem ((c.tc : Thread Cert.DecodeIdeal.nD Cert.DecodeIdeal.τ).loc Cert.DecodeIdeal.main_arg7) = m ((c.tc : Thread Cert.DecodeIdeal.nD Cert.DecodeIdeal.τ).loc Cert.DecodeIdeal.main_arg7)
      ∧ r.2.mem ((c.tc : Thread Cert.DecodeIdeal.nD Cert.DecodeIdeal.τ).loc Cert.DecodeIdeal.main_arg8) = m ((c.tc : Thread Cert.DecodeIdeal.nD Cert.DecodeIdeal.τ).loc Cert.DecodeIdeal.main_arg8))
      ∧ r.2.sem = fun _ => 0)

def quiescent_DecodeIdeal_pre_finite_inputs [hDecodeIdeal : Cert.DecodeIdeal.Facts] [hPre_finite_inputs : Cert.Pre_finite_inputs.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal_finite_inputs m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
      ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
      ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6)
      ∧ r.2.mem ((c.tc : Thread Cert.DecodeIdeal.nD Cert.DecodeIdeal.τ).loc Cert.DecodeIdeal.main_arg7) = m ((c.tc : Thread Cert.DecodeIdeal.nD Cert.DecodeIdeal.τ).loc Cert.DecodeIdeal.main_arg7)
      ∧ r.2.mem ((c.tc : Thread Cert.DecodeIdeal.nD Cert.DecodeIdeal.τ).loc Cert.DecodeIdeal.main_arg8) = m ((c.tc : Thread Cert.DecodeIdeal.nD Cert.DecodeIdeal.τ).loc Cert.DecodeIdeal.main_arg8))
      ∧ r.2.sem = fun _ => 0)

def quiescent_DecodeRefIdeal [hDecodeRefIdeal : Cert.DecodeRefIdeal.Facts] : Prop :=
  ∀ (m : (ℓ : Loc Cert.DecodeRefIdeal.nD Cert.DecodeRefIdeal.τ Cert.DecodeRefIdeal.sig) → Buf (Elt Ideal) ℓ) (g : Dev Cert.DecodeRefIdeal.nD → PrngReg), Pre_DecodeRefIdeal m →
    θ_run (Cert.DecodeRefIdeal.defs (F := Ideal)) (onTc (τ := Cert.DecodeRefIdeal.τ) (Cert.DecodeRefIdeal.main (F := Ideal))) ⟨m, fun _ => 0, g⟩ (fun r => (∀ c : Dev Cert.DecodeRefIdeal.nD,
      r.2.mem ((c.tc : Thread Cert.DecodeRefIdeal.nD Cert.DecodeRefIdeal.τ).loc Cert.DecodeRefIdeal.main_arg0) = m ((c.tc : Thread Cert.DecodeRefIdeal.nD Cert.DecodeRefIdeal.τ).loc Cert.DecodeRefIdeal.main_arg0)
      ∧ r.2.mem ((c.tc : Thread Cert.DecodeRefIdeal.nD Cert.DecodeRefIdeal.τ).loc Cert.DecodeRefIdeal.main_arg1) = m ((c.tc : Thread Cert.DecodeRefIdeal.nD Cert.DecodeRefIdeal.τ).loc Cert.DecodeRefIdeal.main_arg1)
      ∧ r.2.mem ((c.tc : Thread Cert.DecodeRefIdeal.nD Cert.DecodeRefIdeal.τ).loc Cert.DecodeRefIdeal.main_arg2) = m ((c.tc : Thread Cert.DecodeRefIdeal.nD Cert.DecodeRefIdeal.τ).loc Cert.DecodeRefIdeal.main_arg2)
      ∧ r.2.mem ((c.tc : Thread Cert.DecodeRefIdeal.nD Cert.DecodeRefIdeal.τ).loc Cert.DecodeRefIdeal.main_arg3) = m ((c.tc : Thread Cert.DecodeRefIdeal.nD Cert.DecodeRefIdeal.τ).loc Cert.DecodeRefIdeal.main_arg3)
      ∧ r.2.mem ((c.tc : Thread Cert.DecodeRefIdeal.nD Cert.DecodeRefIdeal.τ).loc Cert.DecodeRefIdeal.main_arg4) = m ((c.tc : Thread Cert.DecodeRefIdeal.nD Cert.DecodeRefIdeal.τ).loc Cert.DecodeRefIdeal.main_arg4)
      ∧ r.2.mem ((c.tc : Thread Cert.DecodeRefIdeal.nD Cert.DecodeRefIdeal.τ).loc Cert.DecodeRefIdeal.main_arg5) = m ((c.tc : Thread Cert.DecodeRefIdeal.nD Cert.DecodeRefIdeal.τ).loc Cert.DecodeRefIdeal.main_arg5)
      ∧ r.2.mem ((c.tc : Thread Cert.DecodeRefIdeal.nD Cert.DecodeRefIdeal.τ).loc Cert.DecodeRefIdeal.main_arg6) = m ((c.tc : Thread Cert.DecodeRefIdeal.nD Cert.DecodeRefIdeal.τ).loc Cert.DecodeRefIdeal.main_arg6)
      ∧ r.2.mem ((c.tc : Thread Cert.DecodeRefIdeal.nD Cert.DecodeRefIdeal.τ).loc Cert.DecodeRefIdeal.main_arg7) = m ((c.tc : Thread Cert.DecodeRefIdeal.nD Cert.DecodeRefIdeal.τ).loc Cert.DecodeRefIdeal.main_arg7)
      ∧ r.2.mem ((c.tc : Thread Cert.DecodeRefIdeal.nD Cert.DecodeRefIdeal.τ).loc Cert.DecodeRefIdeal.main_arg8) = m ((c.tc : Thread Cert.DecodeRefIdeal.nD Cert.DecodeRefIdeal.τ).loc Cert.DecodeRefIdeal.main_arg8))
      ∧ r.2.sem = fun _ => 0)

def quiescent_DecodeRefIdeal_pre_finite_inputs [hDecodeRefIdeal : Cert.DecodeRefIdeal.Facts] [hPre_finite_inputs : Cert.Pre_finite_inputs.Facts] : Prop :=
  ∀ (m : (ℓ : Loc Cert.DecodeRefIdeal.nD Cert.DecodeRefIdeal.τ Cert.DecodeRefIdeal.sig) → Buf (Elt Ideal) ℓ) (g : Dev Cert.DecodeRefIdeal.nD → PrngReg), Pre_DecodeRefIdeal_finite_inputs m →
    θ_run (Cert.DecodeRefIdeal.defs (F := Ideal)) (onTc (τ := Cert.DecodeRefIdeal.τ) (Cert.DecodeRefIdeal.main (F := Ideal))) ⟨m, fun _ => 0, g⟩ (fun r => (∀ c : Dev Cert.DecodeRefIdeal.nD,
      r.2.mem ((c.tc : Thread Cert.DecodeRefIdeal.nD Cert.DecodeRefIdeal.τ).loc Cert.DecodeRefIdeal.main_arg0) = m ((c.tc : Thread Cert.DecodeRefIdeal.nD Cert.DecodeRefIdeal.τ).loc Cert.DecodeRefIdeal.main_arg0)
      ∧ r.2.mem ((c.tc : Thread Cert.DecodeRefIdeal.nD Cert.DecodeRefIdeal.τ).loc Cert.DecodeRefIdeal.main_arg1) = m ((c.tc : Thread Cert.DecodeRefIdeal.nD Cert.DecodeRefIdeal.τ).loc Cert.DecodeRefIdeal.main_arg1)
      ∧ r.2.mem ((c.tc : Thread Cert.DecodeRefIdeal.nD Cert.DecodeRefIdeal.τ).loc Cert.DecodeRefIdeal.main_arg2) = m ((c.tc : Thread Cert.DecodeRefIdeal.nD Cert.DecodeRefIdeal.τ).loc Cert.DecodeRefIdeal.main_arg2)
      ∧ r.2.mem ((c.tc : Thread Cert.DecodeRefIdeal.nD Cert.DecodeRefIdeal.τ).loc Cert.DecodeRefIdeal.main_arg3) = m ((c.tc : Thread Cert.DecodeRefIdeal.nD Cert.DecodeRefIdeal.τ).loc Cert.DecodeRefIdeal.main_arg3)
      ∧ r.2.mem ((c.tc : Thread Cert.DecodeRefIdeal.nD Cert.DecodeRefIdeal.τ).loc Cert.DecodeRefIdeal.main_arg4) = m ((c.tc : Thread Cert.DecodeRefIdeal.nD Cert.DecodeRefIdeal.τ).loc Cert.DecodeRefIdeal.main_arg4)
      ∧ r.2.mem ((c.tc : Thread Cert.DecodeRefIdeal.nD Cert.DecodeRefIdeal.τ).loc Cert.DecodeRefIdeal.main_arg5) = m ((c.tc : Thread Cert.DecodeRefIdeal.nD Cert.DecodeRefIdeal.τ).loc Cert.DecodeRefIdeal.main_arg5)
      ∧ r.2.mem ((c.tc : Thread Cert.DecodeRefIdeal.nD Cert.DecodeRefIdeal.τ).loc Cert.DecodeRefIdeal.main_arg6) = m ((c.tc : Thread Cert.DecodeRefIdeal.nD Cert.DecodeRefIdeal.τ).loc Cert.DecodeRefIdeal.main_arg6)
      ∧ r.2.mem ((c.tc : Thread Cert.DecodeRefIdeal.nD Cert.DecodeRefIdeal.τ).loc Cert.DecodeRefIdeal.main_arg7) = m ((c.tc : Thread Cert.DecodeRefIdeal.nD Cert.DecodeRefIdeal.τ).loc Cert.DecodeRefIdeal.main_arg7)
      ∧ r.2.mem ((c.tc : Thread Cert.DecodeRefIdeal.nD Cert.DecodeRefIdeal.τ).loc Cert.DecodeRefIdeal.main_arg8) = m ((c.tc : Thread Cert.DecodeRefIdeal.nD Cert.DecodeRefIdeal.τ).loc Cert.DecodeRefIdeal.main_arg8))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) →
    ∃ (v0 : (c : Dev Cert.MlpIdeal.nD) → Buf (Elt Ideal) ((c.tc : Thread Cert.MlpIdeal.nD Cert.MlpIdeal.τ).loc Cert.MlpIdeal.main_v7_0)) (v1 : (c : Dev Cert.MlpIdeal.nD) → Buf (Elt Ideal) ((c.tc : Thread Cert.MlpIdeal.nD Cert.MlpIdeal.τ).loc Cert.MlpIdeal.main_v7_1)) (v2 : (c : Dev Cert.MlpIdeal.nD) → Buf (Elt Ideal) ((c.tc : Thread Cert.MlpIdeal.nD Cert.MlpIdeal.τ).loc Cert.MlpIdeal.main_v7_2)) (v3 : (c : Dev Cert.MlpIdeal.nD) → Buf (Elt Ideal) ((c.tc : Thread Cert.MlpIdeal.nD Cert.MlpIdeal.τ).loc Cert.MlpIdeal.main_v7_3)) (v4 : (c : Dev Cert.MlpIdeal.nD) → Buf (Elt Ideal) ((c.tc : Thread Cert.MlpIdeal.nD Cert.MlpIdeal.τ).loc Cert.MlpIdeal.main_v7_4)) (v5 : (c : Dev Cert.MlpIdeal.nD) → Buf (Elt Ideal) ((c.tc : Thread Cert.MlpIdeal.nD Cert.MlpIdeal.τ).loc Cert.MlpIdeal.main_v7_5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7_0) = v0 c
          ∧ r.2.mem ((c.tc : Thread Cert.MlpIdeal.nD Cert.MlpIdeal.τ).loc Cert.MlpIdeal.main_v7_1) = v1 c
          ∧ r.2.mem ((c.tc : Thread Cert.MlpIdeal.nD Cert.MlpIdeal.τ).loc Cert.MlpIdeal.main_v7_2) = v2 c
          ∧ r.2.mem ((c.tc : Thread Cert.MlpIdeal.nD Cert.MlpIdeal.τ).loc Cert.MlpIdeal.main_v7_3) = v3 c
          ∧ r.2.mem ((c.tc : Thread Cert.MlpIdeal.nD Cert.MlpIdeal.τ).loc Cert.MlpIdeal.main_v7_4) = v4 c
          ∧ r.2.mem ((c.tc : Thread Cert.MlpIdeal.nD Cert.MlpIdeal.τ).loc Cert.MlpIdeal.main_v7_5) = v5 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v88) = v0 c
          ∧ r.2.mem ((c.tc : Thread Cert.MlpRefIdeal.nD Cert.MlpRefIdeal.τ).loc Cert.MlpRefIdeal.main_v57) = v1 c
          ∧ r.2.mem ((c.tc : Thread Cert.MlpRefIdeal.nD Cert.MlpRefIdeal.τ).loc Cert.MlpRefIdeal.main_v180) = v2 c
          ∧ r.2.mem ((c.tc : Thread Cert.MlpRefIdeal.nD Cert.MlpRefIdeal.τ).loc Cert.MlpRefIdeal.main_v181) = v3 c
          ∧ r.2.mem ((c.tc : Thread Cert.MlpRefIdeal.nD Cert.MlpRefIdeal.τ).loc Cert.MlpRefIdeal.main_v184) = v4 c
          ∧ r.2.mem ((c.tc : Thread Cert.MlpRefIdeal.nD Cert.MlpRefIdeal.τ).loc Cert.MlpRefIdeal.main_v187) = v5 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_v81) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Decode_DecodeIdeal : Prop :=
  True

def algebraic_DecodeIdeal_DecodeRefIdeal_pre_finite_inputs [hDecodeIdeal : Cert.DecodeIdeal.Facts] [hDecodeRefIdeal : Cert.DecodeRefIdeal.Facts] [hPre_finite_inputs : Cert.Pre_finite_inputs.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeRefIdeal.nD Cert.DecodeRefIdeal.τ Cert.DecodeRefIdeal.sig) → Buf (Elt Ideal) ℓ) (g' : Dev Cert.DecodeRefIdeal.nD → PrngReg), Pre_DecodeIdeal_finite_inputs m →
    (∀ c : Dev Cert.DecodeIdeal.nD,
      m' ((c.tc : Thread Cert.DecodeRefIdeal.nD Cert.DecodeRefIdeal.τ).loc Cert.DecodeRefIdeal.main_arg0) = m ((c.tc : Thread Cert.DecodeIdeal.nD Cert.DecodeIdeal.τ).loc Cert.DecodeIdeal.main_arg0)
      ∧ m' ((c.tc : Thread Cert.DecodeRefIdeal.nD Cert.DecodeRefIdeal.τ).loc Cert.DecodeRefIdeal.main_arg1) = m ((c.tc : Thread Cert.DecodeIdeal.nD Cert.DecodeIdeal.τ).loc Cert.DecodeIdeal.main_arg1)
      ∧ m' ((c.tc : Thread Cert.DecodeRefIdeal.nD Cert.DecodeRefIdeal.τ).loc Cert.DecodeRefIdeal.main_arg2) = m ((c.tc : Thread Cert.DecodeIdeal.nD Cert.DecodeIdeal.τ).loc Cert.DecodeIdeal.main_arg2)
      ∧ m' ((c.tc : Thread Cert.DecodeRefIdeal.nD Cert.DecodeRefIdeal.τ).loc Cert.DecodeRefIdeal.main_arg3) = m ((c.tc : Thread Cert.DecodeIdeal.nD Cert.DecodeIdeal.τ).loc Cert.DecodeIdeal.main_arg3)
      ∧ m' ((c.tc : Thread Cert.DecodeRefIdeal.nD Cert.DecodeRefIdeal.τ).loc Cert.DecodeRefIdeal.main_arg4) = m ((c.tc : Thread Cert.DecodeIdeal.nD Cert.DecodeIdeal.τ).loc Cert.DecodeIdeal.main_arg4)
      ∧ m' ((c.tc : Thread Cert.DecodeRefIdeal.nD Cert.DecodeRefIdeal.τ).loc Cert.DecodeRefIdeal.main_arg5) = m ((c.tc : Thread Cert.DecodeIdeal.nD Cert.DecodeIdeal.τ).loc Cert.DecodeIdeal.main_arg5)
      ∧ m' ((c.tc : Thread Cert.DecodeRefIdeal.nD Cert.DecodeRefIdeal.τ).loc Cert.DecodeRefIdeal.main_arg6) = m ((c.tc : Thread Cert.DecodeIdeal.nD Cert.DecodeIdeal.τ).loc Cert.DecodeIdeal.main_arg6)
      ∧ m' ((c.tc : Thread Cert.DecodeRefIdeal.nD Cert.DecodeRefIdeal.τ).loc Cert.DecodeRefIdeal.main_arg7) = m ((c.tc : Thread Cert.DecodeIdeal.nD Cert.DecodeIdeal.τ).loc Cert.DecodeIdeal.main_arg7)
      ∧ m' ((c.tc : Thread Cert.DecodeRefIdeal.nD Cert.DecodeRefIdeal.τ).loc Cert.DecodeRefIdeal.main_arg8) = m ((c.tc : Thread Cert.DecodeIdeal.nD Cert.DecodeIdeal.τ).loc Cert.DecodeIdeal.main_arg8)) →
    ∃ (v0 : (c : Dev Cert.DecodeIdeal.nD) → Buf (Elt Ideal) ((c.tc : Thread Cert.DecodeIdeal.nD Cert.DecodeIdeal.τ).loc Cert.DecodeIdeal.main_v3_0)) (v1 : (c : Dev Cert.DecodeIdeal.nD) → Buf (Elt Ideal) ((c.tc : Thread Cert.DecodeIdeal.nD Cert.DecodeIdeal.τ).loc Cert.DecodeIdeal.main_v3_1)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v3_0) = v0 c
          ∧ r.2.mem ((c.tc : Thread Cert.DecodeIdeal.nD Cert.DecodeIdeal.τ).loc Cert.DecodeIdeal.main_v3_1) = v1 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
          ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
          ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
          ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6)
          ∧ r.2.mem ((c.tc : Thread Cert.DecodeIdeal.nD Cert.DecodeIdeal.τ).loc Cert.DecodeIdeal.main_arg7) = m ((c.tc : Thread Cert.DecodeIdeal.nD Cert.DecodeIdeal.τ).loc Cert.DecodeIdeal.main_arg7)
          ∧ r.2.mem ((c.tc : Thread Cert.DecodeIdeal.nD Cert.DecodeIdeal.τ).loc Cert.DecodeIdeal.main_arg8) = m ((c.tc : Thread Cert.DecodeIdeal.nD Cert.DecodeIdeal.τ).loc Cert.DecodeIdeal.main_arg8))
      ∧ θ_run (Cert.DecodeRefIdeal.defs (F := Ideal)) (onTc (τ := Cert.DecodeRefIdeal.τ) (Cert.DecodeRefIdeal.main (F := Ideal))) ⟨m', fun _ => 0, g'⟩ (fun r => ∀ c : Dev Cert.DecodeRefIdeal.nD,
          r.2.mem ((c.tc : Thread Cert.DecodeRefIdeal.nD Cert.DecodeRefIdeal.τ).loc Cert.DecodeRefIdeal.main_v163) = v0 c
          ∧ r.2.mem ((c.tc : Thread Cert.DecodeRefIdeal.nD Cert.DecodeRefIdeal.τ).loc Cert.DecodeRefIdeal.main_v165) = v1 c
          ∧ r.2.mem ((c.tc : Thread Cert.DecodeRefIdeal.nD Cert.DecodeRefIdeal.τ).loc Cert.DecodeRefIdeal.main_arg0) = m' ((c.tc : Thread Cert.DecodeRefIdeal.nD Cert.DecodeRefIdeal.τ).loc Cert.DecodeRefIdeal.main_arg0)
          ∧ r.2.mem ((c.tc : Thread Cert.DecodeRefIdeal.nD Cert.DecodeRefIdeal.τ).loc Cert.DecodeRefIdeal.main_arg1) = m' ((c.tc : Thread Cert.DecodeRefIdeal.nD Cert.DecodeRefIdeal.τ).loc Cert.DecodeRefIdeal.main_arg1)
          ∧ r.2.mem ((c.tc : Thread Cert.DecodeRefIdeal.nD Cert.DecodeRefIdeal.τ).loc Cert.DecodeRefIdeal.main_arg2) = m' ((c.tc : Thread Cert.DecodeRefIdeal.nD Cert.DecodeRefIdeal.τ).loc Cert.DecodeRefIdeal.main_arg2)
          ∧ r.2.mem ((c.tc : Thread Cert.DecodeRefIdeal.nD Cert.DecodeRefIdeal.τ).loc Cert.DecodeRefIdeal.main_arg3) = m' ((c.tc : Thread Cert.DecodeRefIdeal.nD Cert.DecodeRefIdeal.τ).loc Cert.DecodeRefIdeal.main_arg3)
          ∧ r.2.mem ((c.tc : Thread Cert.DecodeRefIdeal.nD Cert.DecodeRefIdeal.τ).loc Cert.DecodeRefIdeal.main_arg4) = m' ((c.tc : Thread Cert.DecodeRefIdeal.nD Cert.DecodeRefIdeal.τ).loc Cert.DecodeRefIdeal.main_arg4)
          ∧ r.2.mem ((c.tc : Thread Cert.DecodeRefIdeal.nD Cert.DecodeRefIdeal.τ).loc Cert.DecodeRefIdeal.main_arg5) = m' ((c.tc : Thread Cert.DecodeRefIdeal.nD Cert.DecodeRefIdeal.τ).loc Cert.DecodeRefIdeal.main_arg5)
          ∧ r.2.mem ((c.tc : Thread Cert.DecodeRefIdeal.nD Cert.DecodeRefIdeal.τ).loc Cert.DecodeRefIdeal.main_arg6) = m' ((c.tc : Thread Cert.DecodeRefIdeal.nD Cert.DecodeRefIdeal.τ).loc Cert.DecodeRefIdeal.main_arg6)
          ∧ r.2.mem ((c.tc : Thread Cert.DecodeRefIdeal.nD Cert.DecodeRefIdeal.τ).loc Cert.DecodeRefIdeal.main_arg7) = m' ((c.tc : Thread Cert.DecodeRefIdeal.nD Cert.DecodeRefIdeal.τ).loc Cert.DecodeRefIdeal.main_arg7)
          ∧ r.2.mem ((c.tc : Thread Cert.DecodeRefIdeal.nD Cert.DecodeRefIdeal.τ).loc Cert.DecodeRefIdeal.main_arg8) = m' ((c.tc : Thread Cert.DecodeRefIdeal.nD Cert.DecodeRefIdeal.τ).loc Cert.DecodeRefIdeal.main_arg8))

def Claim : Prop :=
  ∃ (hMlp : Cert.Mlp.Facts) (hMlpIdeal : Cert.MlpIdeal.Facts) (hMlpRefIdeal : Cert.MlpRefIdeal.Facts) (hFfn : Cert.Ffn.Facts) (hFfnIdeal : Cert.FfnIdeal.Facts) (hFfnRefIdeal : Cert.FfnRefIdeal.Facts) (hDecode : Cert.Decode.Facts) (hDecodeIdeal : Cert.DecodeIdeal.Facts) (hDecodeRefIdeal : Cert.DecodeRefIdeal.Facts) (hPre_finite_inputs : Cert.Pre_finite_inputs.Facts),
    quiescent_Mlp (hMlp := hMlp)
    ∧ quiescent_MlpIdeal (hMlpIdeal := hMlpIdeal)
    ∧ quiescent_MlpRefIdeal (hMlpRefIdeal := hMlpRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Decode (hDecode := hDecode)
    ∧ quiescent_DecodeIdeal (hDecodeIdeal := hDecodeIdeal)
    ∧ quiescent_DecodeIdeal_pre_finite_inputs (hDecodeIdeal := hDecodeIdeal) (hPre_finite_inputs := hPre_finite_inputs)
    ∧ quiescent_DecodeRefIdeal (hDecodeRefIdeal := hDecodeRefIdeal)
    ∧ quiescent_DecodeRefIdeal_pre_finite_inputs (hDecodeRefIdeal := hDecodeRefIdeal) (hPre_finite_inputs := hPre_finite_inputs)
    ∧ preserves_Mlp_MlpIdeal
    ∧ algebraic_MlpIdeal_MlpRefIdeal (hMlpIdeal := hMlpIdeal) (hMlpRefIdeal := hMlpRefIdeal)
    ∧ preserves_Ffn_FfnIdeal
    ∧ algebraic_FfnIdeal_FfnRefIdeal (hFfnIdeal := hFfnIdeal) (hFfnRefIdeal := hFfnRefIdeal)
    ∧ preserves_Decode_DecodeIdeal
    ∧ algebraic_DecodeIdeal_DecodeRefIdeal_pre_finite_inputs (hDecodeIdeal := hDecodeIdeal) (hDecodeRefIdeal := hDecodeRefIdeal) (hPre_finite_inputs := hPre_finite_inputs)
-- ==== Pre_finite_inputs.lean ====
abbrev S128x1024 : Shape := ⟨2, ![128, 1024]⟩
abbrev S2x128x8x128x128 : Shape := ⟨5, ![2, 128, 8, 128, 128]⟩
abbrev S4x1024 : Shape := ⟨2, ![4, 1024]⟩
abbrev S2x1024x4096 : Shape := ⟨3, ![2, 1024, 4096]⟩
abbrev S2x128 : Shape := ⟨2, ![2, 128]⟩
abbrev S2x1024x1024 : Shape := ⟨3, ![2, 1024, 1024]⟩
abbrev S_ : Shape := ⟨0, ![]⟩

class Facts : Prop where
  bcast_S_S128x1024 : S_.BroadcastsInDim S128x1024 (![] : Fin 0 → Fin S128x1024.rank)
  bcast_S_S4x1024 : S_.BroadcastsInDim S4x1024 (![] : Fin 0 → Fin S4x1024.rank)
  bcast_S_S2x1024x4096 : S_.BroadcastsInDim S2x1024x4096 (![] : Fin 0 → Fin S2x1024x4096.rank)

variable [Facts]

def fn {F : FTy → Type} [FloatOps F] (main_arg0 : FVec F S128x1024 .f32) (main_arg1 : FVec F S2x128x8x128x128 .f32) (main_arg2 : FVec F S2x128x8x128x128 .f32) (main_arg3 : FVec F S4x1024 .f32) (main_arg4 : FVec F S2x1024x4096 .f32) (main_arg5 : FVec F S2x128 .f32) (main_arg6 : FVec F S2x1024x1024 .f32) (main_arg7 : FVec F S4x1024 .f32) (main_arg8 : FVec F S4x1024 .f32) : IVec S128x1024 1 × IVec S4x1024 1 × IVec S2x1024x4096 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_v3 : FVec F S4x1024 .f32 := Host.absf main_arg3
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S2x1024x4096 .f32 := Host.absf main_arg4
  let main_cst_1 : FVec F S_ .f32 := constant S_ .f32 0x7F800000#32
  let main_v7 : FVec F S2x1024x4096 .f32 := broadcastInDim S2x1024x4096 ![] bcast_S_S2x1024x4096 main_cst_1
  let main_v8 : IVec S2x1024x4096 1 := cmpf .olt main_v6 main_v7
  (main_v2, main_v5, main_v8)
-- ==== Mlp.lean ====
abbrev S8x2048x1024 : Shape := ⟨3, ![8, 2048, 1024]⟩
abbrev S128x1024 : Shape := ⟨2, ![128, 1024]⟩
abbrev S2x1024x2048 : Shape := ⟨3, ![2, 1024, 2048]⟩
abbrev S2x1024 : Shape := ⟨2, ![2, 1024]⟩
abbrev S2x8x128x128 : Shape := ⟨4, ![2, 8, 128, 128]⟩
abbrev S2x8x128 : Shape := ⟨3, ![2, 8, 128]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S2x128x8 : Shape := ⟨3, ![2, 128, 8]⟩
abbrev S2x128x8x128 : Shape := ⟨4, ![2, 128, 8, 128]⟩
abbrev S2x128x1024 : Shape := ⟨3, ![2, 128, 1024]⟩
abbrev S2x1x1024 : Shape := ⟨3, ![2, 1, 1024]⟩
abbrev S4x1x1024 : Shape := ⟨3, ![4, 1, 1024]⟩
abbrev S8x128x1024 : Shape := ⟨3, ![8, 128, 1024]⟩
abbrev S1024x5632 : Shape := ⟨2, ![1024, 5632]⟩
abbrev S2816x1024 : Shape := ⟨2, ![2816, 1024]⟩
abbrev S1x512x1024 : Shape := ⟨3, ![1, 512, 1024]⟩
abbrev S1x1024x2048 : Shape := ⟨3, ![1, 1024, 2048]⟩
abbrev S1x1x1024 : Shape := ⟨3, ![1, 1, 1024]⟩
abbrev S1x8x128x128 : Shape := ⟨4, ![1, 8, 128, 128]⟩
abbrev S1x128x1024 : Shape := ⟨3, ![1, 128, 1024]⟩
abbrev S1x1024x1024 : Shape := ⟨3, ![1, 1024, 1024]⟩
abbrev S1x32x5632 : Shape := ⟨3, ![1, 32, 5632]⟩
abbrev S1x176x1024 : Shape := ⟨3, ![1, 176, 1024]⟩
abbrev S32x5632 : Shape := ⟨2, ![32, 5632]⟩
abbrev S176x1024 : Shape := ⟨2, ![176, 1024]⟩
abbrev S512x1024 : Shape := ⟨2, ![512, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S128x128 : Shape := ⟨2, ![128, 128]⟩
abbrev S1x1x128x128 : Shape := ⟨4, ![1, 1, 128, 128]⟩
abbrev S128 : Shape := ⟨1, ![128]⟩
abbrev S128x1 : Shape := ⟨2, ![128, 1]⟩
abbrev S1x1x1x1 : Shape := ⟨4, ![1, 1, 1, 1]⟩
abbrev S1x1 : Shape := ⟨2, ![1, 1]⟩
abbrev S1x128 : Shape := ⟨2, ![1, 128]⟩

abbrev nBuf : Space → Nat
  | .hbm => 25
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S128x1024, .f32⟩
  | .hbm, ⟨2, _⟩ => ⟨S2x1024x2048, .f32⟩
  | .hbm, ⟨3, _⟩ => ⟨S2x1024, .f32⟩
  | .hbm, ⟨4, _⟩ => ⟨S2x1024, .f32⟩
  | .hbm, ⟨5, _⟩ => ⟨S2x8x128x128, .f32⟩
  | .hbm, ⟨6, _⟩ => ⟨S2x8x128, .f32⟩
  | .hbm, ⟨7, _⟩ => ⟨S2x1024x1024, .f32⟩
  | .hbm, ⟨8, _⟩ => ⟨S4x1024, .f32⟩
  | .hbm, ⟨9, _⟩ => ⟨S4x1024, .f32⟩
  | .hbm, ⟨10, _⟩ => ⟨S4x1024x5632, .f32⟩
  | .hbm, ⟨11, _⟩ => ⟨S4x2816x1024, .f32⟩
  | .hbm, ⟨12, _⟩ => ⟨S2x128x8, .f32⟩
  | .hbm, ⟨13, _⟩ => ⟨S2x128x8x128, .f32⟩
  | .hbm, ⟨14, _⟩ => ⟨S2x128x1024, .f32⟩
  | .hbm, ⟨15, _⟩ => ⟨S2x1x1024, .f32⟩
  | .hbm, ⟨16, _⟩ => ⟨S2x1x1024, .f32⟩
  | .hbm, ⟨17, _⟩ => ⟨S4x1x1024, .f32⟩
  | .hbm, ⟨18, _⟩ => ⟨S4x1x1024, .f32⟩
  | .hbm, ⟨19, _⟩ => ⟨S8x2048x1024, .f32⟩
  | .hbm, ⟨20, _⟩ => ⟨S8x128x1024, .f32⟩
  | .hbm, ⟨21, _⟩ => ⟨S128x1024, .f32⟩
  | .hbm, ⟨22, _⟩ => ⟨S128x1024, .f32⟩
  | .hbm, ⟨23, _⟩ => ⟨S1024x5632, .bf16⟩
  | .hbm, ⟨24, _⟩ => ⟨S2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S128x1024, .f32⟩
  | .local _ .vmem, ⟨3, _⟩ => ⟨S1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x8x128x128, .f32⟩
  | .local _ .vmem, ⟨7, _⟩ => ⟨S1x128x1024, .f32⟩
  | .local _ .vmem, ⟨8, _⟩ => ⟨S1x1024x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x32x5632, .f32⟩
  | .local _ .vmem, ⟨12, _⟩ => ⟨S1x32x5632, .f32⟩
  | .local _ .vmem, ⟨13, _⟩ => ⟨S1x176x1024, .f32⟩
  | .local _ .vmem, ⟨14, _⟩ => ⟨S1x176x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x128x1024, .f32⟩
  | .local _ .vmem, ⟨18, _⟩ => ⟨S1x128x1024, .f32⟩
  | .local _ .vmem, ⟨19, _⟩ => ⟨S128x1024, .f32⟩
  | .local _ .vmem, ⟨20, _⟩ => ⟨S128x1024, .f32⟩
  | .local _ .vmem, ⟨21, _⟩ => ⟨S32x5632, .bf16⟩
  | .local _ .vmem, ⟨22, _⟩ => ⟨S32x5632, .bf16⟩
  | .local _ .vmem, ⟨23, _⟩ => ⟨S176x1024, .bf16⟩
  | .local _ .vmem, ⟨24, _⟩ => ⟨S176x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c3_i32 : BitVec 32 := 3#32
  let v218 : BitVec 1 := Scalar.cmpi .eq arg1 c3_i32
  let v219 : BitVec 32 := Scalar.extui v218
  let c0_i32 : BitVec 32 := 0#32
  let v220 : BitVec 1 := Scalar.cmpi .ne v219 c0_i32
  v220

def k0_cond2 (i : grid0.Coords) : BitVec 1 :=
  let arg0 : BitVec 32 := BitVec.ofNat 32 (i 0).val
  let c0_i32_122 : BitVec 32 := 0#32
  let v221 : BitVec 1 := Scalar.cmpi .eq arg0 c0_i32_122
  let arg1 : BitVec 32 := BitVec.ofNat 32 (i 1).val
  let c0_i32_123 : BitVec 32 := 0#32
  let v222 : BitVec 1 := Scalar.cmpi .eq arg1 c0_i32_123
  let v223 : BitVec 1 := Scalar.andi v221 v222
  let v224 : BitVec 32 := Scalar.extui v223
  let c0_i32_124 : BitVec 32 := 0#32
  let v225 : BitVec 1 := Scalar.cmpi .ne v224 c0_i32_124
  v225

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let c0_i32_5 : BitVec 32 := 0#32
  let c0_i32_6 : BitVec 32 := 0#32
  ![c1_i32_4.toNat, v18.toNat, c0_i32_5.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x32x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S32x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S176x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MlpRefIdeal.lean ====
abbrev S8x2048x1024 : Shape := ⟨3, ![8, 2048, 1024]⟩
abbrev S128x1024 : Shape := ⟨2, ![128, 1024]⟩
abbrev S2x1024x2048 : Shape := ⟨3, ![2, 1024, 2048]⟩
abbrev S2x1024 : Shape := ⟨2, ![2, 1024]⟩
abbrev S2x8x128x128 : Shape := ⟨4, ![2, 8, 128, 128]⟩
abbrev S2x8x128 : Shape := ⟨3, ![2, 8, 128]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024x2048 : Shape := ⟨3, ![1, 1024, 2048]⟩
abbrev S1024x2048 : Shape := ⟨2, ![1024, 2048]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S1x1024x1024 : Shape := ⟨3, ![1, 1024, 1024]⟩
abbrev S1024x1024 : Shape := ⟨2, ![1024, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S128x128 : Shape := ⟨2, ![128, 128]⟩
abbrev S128x8 : Shape := ⟨2, ![128, 8]⟩
abbrev S1x1x128x8x1 : Shape := ⟨5, ![1, 1, 128, 8, 1]⟩
abbrev S8x16x128x8x128 : Shape := ⟨5, ![8, 16, 128, 8, 128]⟩
abbrev S8x8x16x128x128 : Shape := ⟨5, ![8, 8, 16, 128, 128]⟩
abbrev S8x128x1024 : Shape := ⟨3, ![8, 128, 1024]⟩
abbrev S128x1x1024 : Shape := ⟨3, ![128, 1, 1024]⟩
abbrev S128x1x2048 : Shape := ⟨3, ![128, 1, 2048]⟩
abbrev S128x1 : Shape := ⟨2, ![128, 1]⟩
abbrev S128x1x1 : Shape := ⟨3, ![128, 1, 1]⟩
abbrev S8x1x1 : Shape := ⟨3, ![8, 1, 1]⟩
abbrev S1x1 : Shape := ⟨2, ![1, 1]⟩
abbrev S8x1 : Shape := ⟨2, ![8, 1]⟩
abbrev S1x8 : Shape := ⟨2, ![1, 8]⟩
abbrev S1x1x1x8x1 : Shape := ⟨5, ![1, 1, 1, 8, 1]⟩
abbrev S128x1x1x8x128 : Shape := ⟨5, ![128, 1, 1, 8, 128]⟩
abbrev S8x128x1x128x1 : Shape := ⟨5, ![8, 128, 1, 128, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩

abbrev nBuf : Space → Nat
  | .hbm => 244
  | .vmem => 0
  | .smem => 0
  | _ => 0

abbrev hbmTy0_0 (i : Nat) : BufTy := match i % 128 with
  | 0 => ⟨S8x2048x1024, .f32⟩
  | 1 => ⟨S128x1024, .f32⟩
  | 2 => ⟨S2x1024x2048, .f32⟩
  | 3 => ⟨S2x1024, .f32⟩
  | 4 => ⟨S2x1024, .f32⟩
  | 5 => ⟨S2x8x128x128, .f32⟩
  | 6 => ⟨S2x8x128, .f32⟩
  | 7 => ⟨S2x1024x1024, .f32⟩
  | 8 => ⟨S4x1024, .f32⟩
  | 9 => ⟨S4x1024, .f32⟩
  | 10 => ⟨S4x1024x5632, .f32⟩
  | 11 => ⟨S4x2816x1024, .f32⟩
  | 12 => ⟨S1x1024x2048, .f32⟩
  | 13 => ⟨S1024x2048, .f32⟩
  | 14 => ⟨S1x1024, .f32⟩
  | 15 => ⟨S1024, .f32⟩
  | 16 => ⟨S1x1024, .f32⟩
  | 17 => ⟨S1024, .f32⟩
  | 18 => ⟨S1x8x128x128, .f32⟩
  | 19 => ⟨S8x128x128, .f32⟩
  | 20 => ⟨S1x8x128, .f32⟩
  | 21 => ⟨S8x128, .f32⟩
  | 22 => ⟨S1x1024x1024, .f32⟩
  | 23 => ⟨S1024x1024, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S_, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x1024, .f32⟩
  | 35 => ⟨S8x2048x1024, .f32⟩
  | 36 => ⟨S_, .f32⟩
  | 37 => ⟨S8x2048, .f32⟩
  | 38 => ⟨S8x2048x1, .f32⟩
  | 39 => ⟨S_, .f32⟩
  | 40 => ⟨S8x2048x1, .f32⟩
  | 41 => ⟨S8x2048x1, .f32⟩
  | 42 => ⟨S8x2048x1024, .f32⟩
  | 43 => ⟨S8x2048x1024, .f32⟩
  | 44 => ⟨S8x2048x1024, .f32⟩
  | 45 => ⟨S_, .f32⟩
  | 46 => ⟨S8x2048, .f32⟩
  | 47 => ⟨S8x2048x1, .f32⟩
  | 48 => ⟨S_, .f32⟩
  | 49 => ⟨S8x2048x1, .f32⟩
  | 50 => ⟨S8x2048x1, .f32⟩
  | 51 => ⟨S8x2048x1024, .f32⟩
  | 52 => ⟨S8x2048x1024, .f32⟩
  | 53 => ⟨S_, .f32⟩
  | 54 => ⟨S8x2048x1, .f32⟩
  | 55 => ⟨S8x2048x1, .f32⟩
  | 56 => ⟨S8x2048x1, .f32⟩
  | 57 => ⟨S8x2048x1024, .f32⟩
  | 58 => ⟨S8x2048x1024, .f32⟩
  | 59 => ⟨S1x1x1024, .f32⟩
  | 60 => ⟨S8x2048x1024, .f32⟩
  | 61 => ⟨S8x2048x1024, .f32⟩
  | 62 => ⟨S1x1x1024, .f32⟩
  | 63 => ⟨S8x2048x1024, .f32⟩
  | 64 => ⟨S8x2048x1024, .f32⟩
  | 65 => ⟨S128x128, .i32⟩
  | 66 => ⟨S_, .i32⟩
  | 67 => ⟨S128x128, .i32⟩
  | 68 => ⟨S128x128, .i32⟩
  | 69 => ⟨S128x128, .i32⟩
  | 70 => ⟨S128x128, .i1⟩
  | 71 => ⟨S8x128x128, .i1⟩
  | 72 => ⟨S_, .f32⟩
  | 73 => ⟨S8x128x128, .f32⟩
  | 74 => ⟨S8x128x128, .f32⟩
  | 75 => ⟨S128x8, .f32⟩
  | 76 => ⟨S1x1x128x8x1, .f32⟩
  | 77 => ⟨S8x16x128x8x128, .f32⟩
  | 78 => ⟨S8x8x16x128x128, .f32⟩
  | 79 => ⟨S8x16x128x8x128, .f32⟩
  | 80 => ⟨S8x16x128x8x128, .f32⟩
  | 81 => ⟨S8x16x128x8x128, .f32⟩
  | 82 => ⟨S8x2048x1024, .f32⟩
  | 83 => ⟨S8x2048x1024, .f32⟩
  | 84 => ⟨S8x2048x1024, .f32⟩
  | 85 => ⟨S8x128x1024, .f32⟩
  | 86 => ⟨S_, .f32⟩
  | 87 => ⟨S8x2048x1024, .f32⟩
  | 88 => ⟨S8x2048x1024, .f32⟩
  | 89 => ⟨S8x2048x1024, .f32⟩
  | 90 => ⟨S1x1024, .f32⟩
  | 91 => ⟨S1024, .f32⟩
  | 92 => ⟨S1x1024, .f32⟩
  | 93 => ⟨S1024, .f32⟩
  | 94 => ⟨S_, .f32⟩
  | 95 => ⟨S8x2048, .f32⟩
  | 96 => ⟨S8x2048x1, .f32⟩
  | 97 => ⟨S_, .f32⟩
  | 98 => ⟨S8x2048x1, .f32⟩
  | 99 => ⟨S8x2048x1, .f32⟩
  | 100 => ⟨S8x2048x1024, .f32⟩
  | 101 => ⟨S8x2048x1024, .f32⟩
  | 102 => ⟨S8x2048x1024, .f32⟩
  | 103 => ⟨S_, .f32⟩
  | 104 => ⟨S8x2048, .f32⟩
  | 105 => ⟨S8x2048x1, .f32⟩
  | 106 => ⟨S_, .f32⟩
  | 107 => ⟨S8x2048x1, .f32⟩
  | 108 => ⟨S8x2048x1, .f32⟩
  | 109 => ⟨S8x2048x1024, .f32⟩
  | 110 => ⟨S8x2048x1024, .f32⟩
  | 111 => ⟨S_, .f32⟩
  | 112 => ⟨S8x2048x1, .f32⟩
  | 113 => ⟨S8x2048x1, .f32⟩
  | 114 => ⟨S8x2048x1, .f32⟩
  | 115 => ⟨S8x2048x1024, .f32⟩
  | 116 => ⟨S8x2048x1024, .f32⟩
  | 117 => ⟨S1x1x1024, .f32⟩
  | 118 => ⟨S8x2048x1024, .f32⟩
  | 119 => ⟨S8x2048x1024, .f32⟩
  | 120 => ⟨S1x1x1024, .f32⟩
  | 121 => ⟨S8x2048x1024, .f32⟩
  | 122 => ⟨S8x2048x1024, .f32⟩
  | 123 => ⟨S128x1x1024, .f32⟩
  | 124 => ⟨S1x1024x2048, .f32⟩
  | 125 => ⟨S1024x2048, .f32⟩
  | 126 => ⟨S1x1024, .f32⟩
  | 127 => ⟨S1024, .f32⟩
  | _ => ⟨S8x2048x1024, .f32⟩

abbrev hbmTy0_1 (i : Nat) : BufTy := match i % 128 with
  | 0 => ⟨S1x1024, .f32⟩
  | 1 => ⟨S1024, .f32⟩
  | 2 => ⟨S1x8x128x128, .f32⟩
  | 3 => ⟨S8x128x128, .f32⟩
  | 4 => ⟨S1x8x128, .f32⟩
  | 5 => ⟨S8x128, .f32⟩
  | 6 => ⟨S1x1024x1024, .f32⟩
  | 7 => ⟨S1024x1024, .f32⟩
  | 8 => ⟨S128x1x2048, .f32⟩
  | 9 => ⟨S_, .f32⟩
  | 10 => ⟨S128x1x2048, .f32⟩
  | 11 => ⟨S128x1x2048, .f32⟩
  | 12 => ⟨S128x1x2048, .f32⟩
  | 13 => ⟨S_, .f32⟩
  | 14 => ⟨S128x1x2048, .f32⟩
  | 15 => ⟨S128x1x2048, .f32⟩
  | 16 => ⟨S128x1x2048, .f32⟩
  | 17 => ⟨S128x1x2048, .f32⟩
  | 18 => ⟨S128x1x1024, .f32⟩
  | 19 => ⟨S128x1x1024, .f32⟩
  | 20 => ⟨S_, .f32⟩
  | 21 => ⟨S128x1, .f32⟩
  | 22 => ⟨S128x1x1, .f32⟩
  | 23 => ⟨S_, .f32⟩
  | 24 => ⟨S128x1x1, .f32⟩
  | 25 => ⟨S128x1x1, .f32⟩
  | 26 => ⟨S128x1x1024, .f32⟩
  | 27 => ⟨S128x1x1024, .f32⟩
  | 28 => ⟨S128x1x1024, .f32⟩
  | 29 => ⟨S_, .f32⟩
  | 30 => ⟨S128x1, .f32⟩
  | 31 => ⟨S128x1x1, .f32⟩
  | 32 => ⟨S_, .f32⟩
  | 33 => ⟨S128x1x1, .f32⟩
  | 34 => ⟨S128x1x1, .f32⟩
  | 35 => ⟨S128x1x1024, .f32⟩
  | 36 => ⟨S128x1x1024, .f32⟩
  | 37 => ⟨S_, .f32⟩
  | 38 => ⟨S128x1x1, .f32⟩
  | 39 => ⟨S128x1x1, .f32⟩
  | 40 => ⟨S128x1x1, .f32⟩
  | 41 => ⟨S128x1x1024, .f32⟩
  | 42 => ⟨S128x1x1024, .f32⟩
  | 43 => ⟨S1x1x1024, .f32⟩
  | 44 => ⟨S128x1x1024, .f32⟩
  | 45 => ⟨S128x1x1024, .f32⟩
  | 46 => ⟨S1x1x1024, .f32⟩
  | 47 => ⟨S128x1x1024, .f32⟩
  | 48 => ⟨S128x1x1024, .f32⟩
  | 49 => ⟨S8x1x1, .f32⟩
  | 50 => ⟨S1x1, .i32⟩
  | 51 => ⟨S_, .i32⟩
  | 52 => ⟨S1x1, .i32⟩
  | 53 => ⟨S1x1, .i32⟩
  | 54 => ⟨S1x1, .i32⟩
  | 55 => ⟨S1x1, .i1⟩
  | 56 => ⟨S8x1x1, .i1⟩
  | 57 => ⟨S_, .f32⟩
  | 58 => ⟨S8x1x1, .f32⟩
  | 59 => ⟨S8x1x1, .f32⟩
  | 60 => ⟨S8x1, .f32⟩
  | 61 => ⟨S1x8, .f32⟩
  | 62 => ⟨S1x1x1x8x1, .f32⟩
  | 63 => ⟨S128x1x1x8x128, .f32⟩
  | 64 => ⟨S8x128x1x128x1, .f32⟩
  | 65 => ⟨S128x1x1x8x128, .f32⟩
  | 66 => ⟨S128x1x1x8x128, .f32⟩
  | 67 => ⟨S128x1x1x8x128, .f32⟩
  | 68 => ⟨S128x1x1024, .f32⟩
  | 69 => ⟨S128x1x1024, .f32⟩
  | 70 => ⟨S128x1x1024, .f32⟩
  | 71 => ⟨S_, .f32⟩
  | 72 => ⟨S128x1x1024, .f32⟩
  | 73 => ⟨S128x1x1024, .f32⟩
  | 74 => ⟨S128x1x1024, .f32⟩
  | 75 => ⟨S1x1024, .f32⟩
  | 76 => ⟨S1024, .f32⟩
  | 77 => ⟨S1x1024, .f32⟩
  | 78 => ⟨S1024, .f32⟩
  | 79 => ⟨S_, .f32⟩
  | 80 => ⟨S128x1, .f32⟩
  | 81 => ⟨S128x1x1, .f32⟩
  | 82 => ⟨S_, .f32⟩
  | 83 => ⟨S128x1x1, .f32⟩
  | 84 => ⟨S128x1x1, .f32⟩
  | 85 => ⟨S128x1x1024, .f32⟩
  | 86 => ⟨S128x1x1024, .f32⟩
  | 87 => ⟨S128x1x1024, .f32⟩
  | 88 => ⟨S_, .f32⟩
  | 89 => ⟨S128x1, .f32⟩
  | 90 => ⟨S128x1x1, .f32⟩
  | 91 => ⟨S_, .f32⟩
  | 92 => ⟨S128x1x1, .f32⟩
  | 93 => ⟨S128x1x1, .f32⟩
  | 94 => ⟨S128x1x1024, .f32⟩
  | 95 => ⟨S128x1x1024, .f32⟩
  | 96 => ⟨S_, .f32⟩
  | 97 => ⟨S128x1x1, .f32⟩
  | 98 => ⟨S128x1x1, .f32⟩
  | 99 => ⟨S128x1x1, .f32⟩
  | 100 => ⟨S128x1x1024, .f32⟩
  | 101 => ⟨S128x1x1024, .f32⟩
  | 102 => ⟨S1x1x1024, .f32⟩
  | 103 => ⟨S128x1x1024, .f32⟩
  | 104 => ⟨S128x1x1024, .f32⟩
  | 105 => ⟨S1x1x1024, .f32⟩
  | 106 => ⟨S128x1x1024, .f32⟩
  | 107 => ⟨S128x1x1024, .f32⟩
  | 108 => ⟨S128x1024, .f32⟩
  | 109 => ⟨S128x1024, .f32⟩
  | 110 => ⟨S1x1024x5632, .f32⟩
  | 111 => ⟨S1024x5632, .f32⟩
  | 112 => ⟨S1024x5632, .bf16⟩
  | 113 => ⟨S1x2816x1024, .f32⟩
  | 114 => ⟨S2816x1024, .f32⟩
  | 115 => ⟨S2816x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_cst : Ref sig .tc := ⟨.hbm, 72, rfl⟩
abbrev main_call0_v6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_6 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_7 : Ref sig .tc := ⟨.hbm, 94, rfl⟩
abbrev main_v65 : Ref sig .tc := ⟨.hbm, 95, rfl⟩
abbrev main_v66 : Ref sig .tc := ⟨.hbm, 96, rfl⟩
abbrev main_cst_8 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_9 : Ref sig .tc := ⟨.hbm, 103, rfl⟩
abbrev main_v72 : Ref sig .tc := ⟨.hbm, 104, rfl⟩
abbrev main_v73 : Ref sig .tc := ⟨.hbm, 105, rfl⟩
abbrev main_cst_10 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_11 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_12 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_13 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_14 : Ref sig .tc := ⟨.hbm, 148, rfl⟩
abbrev main_v112 : Ref sig .tc := ⟨.hbm, 149, rfl⟩
abbrev main_v113 : Ref sig .tc := ⟨.hbm, 150, rfl⟩
abbrev main_cst_15 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_16 : Ref sig .tc := ⟨.hbm, 157, rfl⟩
abbrev main_v119 : Ref sig .tc := ⟨.hbm, 158, rfl⟩
abbrev main_v120 : Ref sig .tc := ⟨.hbm, 159, rfl⟩
abbrev main_cst_17 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_18 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_call1_v0 : Ref sig .tc := ⟨.hbm, 178, rfl⟩
abbrev main_call1_c : Ref sig .tc := ⟨.hbm, 179, rfl⟩
abbrev main_call1_v1 : Ref sig .tc := ⟨.hbm, 180, rfl⟩
abbrev main_call1_v2 : Ref sig .tc := ⟨.hbm, 181, rfl⟩
abbrev main_call1_v3 : Ref sig .tc := ⟨.hbm, 182, rfl⟩
abbrev main_call1_v4 : Ref sig .tc := ⟨.hbm, 183, rfl⟩
abbrev main_call1_v5 : Ref sig .tc := ⟨.hbm, 184, rfl⟩
abbrev main_call1_cst : Ref sig .tc := ⟨.hbm, 185, rfl⟩
abbrev main_call1_v6 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_19 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_20 : Ref sig .tc := ⟨.hbm, 207, rfl⟩
abbrev main_v156 : Ref sig .tc := ⟨.hbm, 208, rfl⟩
abbrev main_v157 : Ref sig .tc := ⟨.hbm, 209, rfl⟩
abbrev main_cst_21 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_cst_22 : Ref sig .tc := ⟨.hbm, 216, rfl⟩
abbrev main_v163 : Ref sig .tc := ⟨.hbm, 217, rfl⟩
abbrev main_v164 : Ref sig .tc := ⟨.hbm, 218, rfl⟩
abbrev main_cst_23 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_24 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩

abbrev nD : Nat := 1
abbrev τ : Topo := Topo.v7x

variable {F : FTy → Type} [FloatOps F]
-- ==== Ffn.lean ====
abbrev S16384x1024 : Shape := ⟨2, ![16384, 1024]⟩
abbrev S128x1024 : Shape := ⟨2, ![128, 1024]⟩
abbrev S4x1024x5632 : Shape := ⟨3, ![4, 1024, 5632]⟩
abbrev S4x2816x1024 : Shape := ⟨3, ![4, 2816, 1024]⟩
abbrev S4x1024 : Shape := ⟨2, ![4, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S128x256 : Shape := ⟨2, ![128, 256]⟩
abbrev S128 : Shape := ⟨1, ![128]⟩
abbrev S128x1 : Shape := ⟨2, ![128, 1]⟩

abbrev nBuf : Space → Nat
  | .hbm => 16
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S4x1024x5632, .f32⟩
  | .hbm, ⟨3, _⟩ => ⟨S4x2816x1024, .f32⟩
  | .hbm, ⟨4, _⟩ => ⟨S4x1024, .f32⟩
  | .hbm, ⟨5, _⟩ => ⟨S4x1024, .f32⟩
  | .hbm, ⟨6, _⟩ => ⟨S1x1024x5632, .f32⟩
  | .hbm, ⟨7, _⟩ => ⟨S1024x5632, .f32⟩
  | .hbm, ⟨8, _⟩ => ⟨S1024x5632, .bf16⟩
  | .hbm, ⟨9, _⟩ => ⟨S1x2816x1024, .f32⟩
  | .hbm, ⟨10, _⟩ => ⟨S2816x1024, .f32⟩
  | .hbm, ⟨11, _⟩ => ⟨S2816x1024, .bf16⟩
  | .hbm, ⟨12, _⟩ => ⟨S4x1x1024, .f32⟩
  | .hbm, ⟨13, _⟩ => ⟨S4x1x1024, .f32⟩
  | .hbm, ⟨14, _⟩ => ⟨S16384x1024, .f32⟩
  | .hbm, ⟨15, _⟩ => ⟨S128x1024, .f32⟩
  | .local _ .vmem, ⟨0, _⟩ => ⟨S1024x1024, .f32⟩
  | .local _ .vmem, ⟨1, _⟩ => ⟨S1024x1024, .f32⟩
  | .local _ .vmem, ⟨2, _⟩ => ⟨S128x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v366 : BitVec 1 := Scalar.cmpi .eq arg0 c0_i32
  let v367 : BitVec 32 := Scalar.extui v366
  let c0_i32_203 : BitVec 32 := 0#32
  let v368 : BitVec 1 := Scalar.cmpi .ne v367 c0_i32_203
  v368

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnRefIdeal.lean ====
abbrev S16384x1024 : Shape := ⟨2, ![16384, 1024]⟩
abbrev S128x1024 : Shape := ⟨2, ![128, 1024]⟩
abbrev S4x1024x5632 : Shape := ⟨3, ![4, 1024, 5632]⟩
abbrev S4x2816x1024 : Shape := ⟨3, ![4, 2816, 1024]⟩
abbrev S4x1024 : Shape := ⟨2, ![4, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S128x5632 : Shape := ⟨2, ![128, 5632]⟩
abbrev S128x2816 : Shape := ⟨2, ![128, 2816]⟩
abbrev S128 : Shape := ⟨1, ![128]⟩
abbrev S128x1 : Shape := ⟨2, ![128, 1]⟩

abbrev nBuf : Space → Nat
  | .hbm => 116
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S4x1024x5632, .f32⟩
  | .hbm, ⟨3, _⟩ => ⟨S4x2816x1024, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S1x1024x5632, .f32⟩
  | .hbm, ⟨10, _⟩ => ⟨S1024x5632, .f32⟩
  | .hbm, ⟨11, _⟩ => ⟨S1x2816x1024, .f32⟩
  | .hbm, ⟨12, _⟩ => ⟨S2816x1024, .f32⟩
  | .hbm, ⟨13, _⟩ => ⟨S16384x5632, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S_, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S128x1024, .f32⟩
  | .hbm, ⟨63, _⟩ => ⟨S128x1024, .f32⟩
  | .hbm, ⟨64, _⟩ => ⟨S1x1024x5632, .f32⟩
  | .hbm, ⟨65, _⟩ => ⟨S1024x5632, .f32⟩
  | .hbm, ⟨66, _⟩ => ⟨S1x2816x1024, .f32⟩
  | .hbm, ⟨67, _⟩ => ⟨S2816x1024, .f32⟩
  | .hbm, ⟨68, _⟩ => ⟨S128x5632, .f32⟩
  | .hbm, ⟨69, _⟩ => ⟨S128x2816, .f32⟩
  | .hbm, ⟨70, _⟩ => ⟨S128x2816, .f32⟩
  | .hbm, ⟨71, _⟩ => ⟨S128x2816, .f32⟩
  | .hbm, ⟨72, _⟩ => ⟨S128x2816, .f32⟩
  | .hbm, ⟨73, _⟩ => ⟨S_, .f32⟩
  | .hbm, ⟨74, _⟩ => ⟨S128x2816, .f32⟩
  | .hbm, ⟨75, _⟩ => ⟨S128x2816, .f32⟩
  | .hbm, ⟨76, _⟩ => ⟨S_, .f32⟩
  | .hbm, ⟨77, _⟩ => ⟨S128x2816, .f32⟩
  | .hbm, ⟨78, _⟩ => ⟨S128x2816, .f32⟩
  | .hbm, ⟨79, _⟩ => ⟨S128x2816, .f32⟩
  | .hbm, ⟨80, _⟩ => ⟨S128x2816, .f32⟩
  | .hbm, ⟨81, _⟩ => ⟨S128x1024, .f32⟩
  | .hbm, ⟨82, _⟩ => ⟨S128x1024, .f32⟩
  | .hbm, ⟨83, _⟩ => ⟨S1x1024, .f32⟩
  | .hbm, ⟨84, _⟩ => ⟨S1024, .f32⟩
  | .hbm, ⟨85, _⟩ => ⟨S1x1024, .f32⟩
  | .hbm, ⟨86, _⟩ => ⟨S1024, .f32⟩
  | .hbm, ⟨87, _⟩ => ⟨S_, .f32⟩
  | .hbm, ⟨88, _⟩ => ⟨S128, .f32⟩
  | .hbm, ⟨89, _⟩ => ⟨S128x1, .f32⟩
  | .hbm, ⟨90, _⟩ => ⟨S_, .f32⟩
  | .hbm, ⟨91, _⟩ => ⟨S128x1, .f32⟩
  | .hbm, ⟨92, _⟩ => ⟨S128x1, .f32⟩
  | .hbm, ⟨93, _⟩ => ⟨S128x1024, .f32⟩
  | .hbm, ⟨94, _⟩ => ⟨S128x1024, .f32⟩
  | .hbm, ⟨95, _⟩ => ⟨S128x1024, .f32⟩
  | .hbm, ⟨96, _⟩ => ⟨S_, .f32⟩
  | .hbm, ⟨97, _⟩ => ⟨S128, .f32⟩
  | .hbm, ⟨98, _⟩ => ⟨S128x1, .f32⟩
  | .hbm, ⟨99, _⟩ => ⟨S_, .f32⟩
  | .hbm, ⟨100, _⟩ => ⟨S128x1, .f32⟩
  | .hbm, ⟨101, _⟩ => ⟨S128x1, .f32⟩
  | .hbm, ⟨102, _⟩ => ⟨S128x1024, .f32⟩
  | .hbm, ⟨103, _⟩ => ⟨S128x1024, .f32⟩
  | .hbm, ⟨104, _⟩ => ⟨S_, .f32⟩
  | .hbm, ⟨105, _⟩ => ⟨S128x1, .f32⟩
  | .hbm, ⟨106, _⟩ => ⟨S128x1, .f32⟩
  | .hbm, ⟨107, _⟩ => ⟨S128x1, .f32⟩
  | .hbm, ⟨108, _⟩ => ⟨S128x1024, .f32⟩
  | .hbm, ⟨109, _⟩ => ⟨S128x1024, .f32⟩
  | .hbm, ⟨110, _⟩ => ⟨S1x1024, .f32⟩
  | .hbm, ⟨111, _⟩ => ⟨S128x1024, .f32⟩
  | .hbm, ⟨112, _⟩ => ⟨S128x1024, .f32⟩
  | .hbm, ⟨113, _⟩ => ⟨S1x1024, .f32⟩
  | .hbm, ⟨114, _⟩ => ⟨S128x1024, .f32⟩
  | .hbm, ⟨115, _⟩ => ⟨S128x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩

abbrev nD : Nat := 1
abbrev τ : Topo := Topo.v7x

variable {F : FTy → Type} [FloatOps F]
-- ==== Decode.lean ====
abbrev S128x1024 : Shape := ⟨2, ![128, 1024]⟩
abbrev S2x128x8x128x128 : Shape := ⟨5, ![2, 128, 8, 128, 128]⟩
abbrev S4x1024 : Shape := ⟨2, ![4, 1024]⟩
abbrev S2x1024x4096 : Shape := ⟨3, ![2, 1024, 4096]⟩
abbrev S2x128 : Shape := ⟨2, ![2, 128]⟩
abbrev S2x1024x1024 : Shape := ⟨3, ![2, 1024, 1024]⟩
abbrev S2x1x128 : Shape := ⟨3, ![2, 1, 128]⟩
abbrev S4x1x1024 : Shape := ⟨3, ![4, 1, 1024]⟩
abbrev S1x1024x4096 : Shape := ⟨3, ![1, 1024, 4096]⟩
abbrev S1x1x128 : Shape := ⟨3, ![1, 1, 128]⟩
abbrev S1x1024x1024 : Shape := ⟨3, ![1, 1024, 1024]⟩
abbrev S1x1x1024 : Shape := ⟨3, ![1, 1, 1024]⟩
abbrev S1x8x8x128x128 : Shape := ⟨5, ![1, 8, 8, 128, 128]⟩
abbrev S3x128x1024 : Shape := ⟨3, ![3, 128, 1024]⟩
abbrev S3x8x8x128x128 : Shape := ⟨5, ![3, 8, 8, 128, 128]⟩
abbrev S3 : Shape := ⟨1, ![3]⟩
abbrev S1 : Shape := ⟨1, ![1]⟩
abbrev S_ : Shape := ⟨0, ![]⟩
abbrev S8x8x128x128 : Shape := ⟨4, ![8, 8, 128, 128]⟩
abbrev S1024 : Shape := ⟨1, ![1024]⟩
abbrev S1x1024 : Shape := ⟨2, ![1, 1024]⟩
abbrev S1024x1024 : Shape := ⟨2, ![1024, 1024]⟩
abbrev S1x128x1024 : Shape := ⟨3, ![1, 128, 1024]⟩
abbrev S1x8x1024 : Shape := ⟨3, ![1, 8, 1024]⟩
abbrev S8x1024 : Shape := ⟨2, ![8, 1024]⟩
abbrev S8x128 : Shape := ⟨2, ![8, 128]⟩
abbrev S32x128 : Shape := ⟨2, ![32, 128]⟩
abbrev S32x256 : Shape := ⟨2, ![32, 256]⟩
abbrev S1x1x128x128 : Shape := ⟨4, ![1, 1, 128, 128]⟩
abbrev S128x128 : Shape := ⟨2, ![128, 128]⟩
abbrev S128x256 : Shape := ⟨2, ![128, 256]⟩
abbrev S1x1x1x128x128 : Shape := ⟨5, ![1, 1, 1, 128, 128]⟩
abbrev S1x128 : Shape := ⟨2, ![1, 128]⟩
abbrev S128 : Shape := ⟨1, ![128]⟩
abbrev S128x1 : Shape := ⟨2, ![128, 1]⟩

abbrev nBuf : Space → Nat
  | .hbm => 14
  | .vmem => 17
  | .smem => 0
  | _ => 0

abbrev bufTy : (tb : Table) → Fin (tcTables nBuf tb) → BufTy
  | .hbm, ⟨0, _⟩ => ⟨S128x1024, .f32⟩
  | .hbm, ⟨1, _⟩ => ⟨S2x128x8x128x128, .f32⟩
  | .hbm, ⟨2, _⟩ => ⟨S2x128x8x128x128, .f32⟩
  | .hbm, ⟨3, _⟩ => ⟨S4x1024, .f32⟩
  | .hbm, ⟨4, _⟩ => ⟨S2x1024x4096, .f32⟩
  | .hbm, ⟨5, _⟩ => ⟨S2x128, .f32⟩
  | .hbm, ⟨6, _⟩ => ⟨S2x1024x1024, .f32⟩
  | .hbm, ⟨7, _⟩ => ⟨S4x1024, .f32⟩
  | .hbm, ⟨8, _⟩ => ⟨S4x1024, .f32⟩
  | .hbm, ⟨9, _⟩ => ⟨S2x1x128, .f32⟩
  | .hbm, ⟨10, _⟩ => ⟨S4x1x1024, .f32⟩
  | .hbm, ⟨11, _⟩ => ⟨S4x1x1024, .f32⟩
  | .hbm, ⟨12, _⟩ => ⟨S128x1024, .f32⟩
  | .hbm, ⟨13, _⟩ => ⟨S2x128x8x128x128, .f32⟩
  | .local _ .vmem, ⟨0, _⟩ => ⟨S128x1024, .f32⟩
  | .local _ .vmem, ⟨1, _⟩ => ⟨S4x1024, .f32⟩
  | .local _ .vmem, ⟨2, _⟩ => ⟨S1x1024x4096, .f32⟩
  | .local _ .vmem, ⟨3, _⟩ => ⟨S1x1x128, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S128x1024, .f32⟩
  | .local _ .vmem, ⟨8, _⟩ => ⟨S1x8x8x128x128, .f32⟩
  | .local _ .vmem, ⟨9, _⟩ => ⟨S1x8x8x128x128, .f32⟩
  | .local _ .vmem, ⟨10, _⟩ => ⟨S3x128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S3x8x8x128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c2_i32 : BitVec 32 := 2#32
  let v9 : BitVec 32 := Scalar.addi arg1 c2_i32
  let c16_i32 : BitVec 32 := 16#32
  let v10 : BitVec 1 := Scalar.cmpi .slt v9 c16_i32
  let v11 : BitVec 32 := Scalar.extui v10
  let c0_i32_5 : BitVec 32 := 0#32
  let v12 : BitVec 1 := Scalar.cmpi .ne v11 c0_i32_5
  v12

def k0_off1 (i : grid0.Coords) : Fin 1 → Nat :=
  let arg1 : BitVec 32 := BitVec.ofNat 32 (i 1).val
  let c2_i32_1198 : BitVec 32 := 2#32
  let v2335 : BitVec 32 := Scalar.addi arg1 c2_i32_1198
  let c3_i32_1199 : BitVec 32 := 3#32
  let c0_i32_1200 : BitVec 32 := 0#32
  let v2336 : BitVec 1 := Scalar.cmpi .eq c3_i32_1199 c0_i32_1200
  let c1_i32_1201 : BitVec 32 := 1#32
  let v2337 : BitVec 32 := Scalar.select v2336 c1_i32_1201 c3_i32_1199
  let v2338 : BitVec 32 := Scalar.remsi v2335 v2337
  let c0_i32_1203 : BitVec 32 := 0#32
  let v2340 : BitVec 1 := Scalar.cmpi .slt v2338 c0_i32_1203
  let c0_i32_1204 : BitVec 32 := 0#32
  let v2341 : BitVec 1 := Scalar.cmpi .slt v2337 c0_i32_1204
  let v2342 : BitVec 1 := Scalar.xori v2340 v2341
  let c0_i32_1202 : BitVec 32 := 0#32
  let v2339 : BitVec 1 := Scalar.cmpi .ne v2338 c0_i32_1202
  let v2343 : BitVec 1 := Scalar.andi v2342 v2339
  let v2344 : BitVec 32 := Scalar.addi v2338 v2337
  let v2345 : BitVec 32 := Scalar.select v2343 v2344 v2338
  ![v2345.toNat]
def k0_off2 (i : grid0.Coords) : Fin 5 → Nat :=
  let arg1 : BitVec 32 := BitVec.ofNat 32 (i 1).val
  let c2_i32_1198 : BitVec 32 := 2#32
  let v2335 : BitVec 32 := Scalar.addi arg1 c2_i32_1198
  let c3_i32_1199 : BitVec 32 := 3#32
  let c0_i32_1200 : BitVec 32 := 0#32
  let v2336 : BitVec 1 := Scalar.cmpi .eq c3_i32_1199 c0_i32_1200
  let c1_i32_1201 : BitVec 32 := 1#32
  let v2337 : BitVec 32 := Scalar.select v2336 c1_i32_1201 c3_i32_1199
  let v2338 : BitVec 32 := Scalar.remsi v2335 v2337
  let c0_i32_1203 : BitVec 32 := 0#32
  let v2340 : BitVec 1 := Scalar.cmpi .slt v2338 c0_i32_1203
  let c0_i32_1204 : BitVec 32 := 0#32
  let v2341 : BitVec 1 := Scalar.cmpi .slt v2337 c0_i32_1204
  let v2342 : BitVec 1 := Scalar.xori v2340 v2341
  let c0_i32_1202 : BitVec 32 := 0#32
  let v2339 : BitVec 1 := Scalar.cmpi .ne v2338 c0_i32_1202
  let v2343 : BitVec 1 := Scalar.andi v2342 v2339
  let v2344 : BitVec 32 := Scalar.addi v2338 v2337
  let v2345 : BitVec 32 := Scalar.select v2343 v2344 v2338
  let c0_i32_1207 : BitVec 32 := 0#32
  let c0_i32_1208 : BitVec 32 := 0#32
  let c0_i32_1209 : BitVec 32 := 0#32
  let c0_i32_1210 : BitVec 32 := 0#32
  ![v2345.toNat, 0, 0, 0, 0]
def k0_off3 (i : grid0.Coords) : Fin 5 → Nat :=
  let c1_i32_1206 : BitVec 32 := 1#32
  let arg1 : BitVec 32 := BitVec.ofNat 32 (i 1).val
  let c2_i32_1198 : BitVec 32 := 2#32
  let v2335 : BitVec 32 := Scalar.addi arg1 c2_i32_1198
  let c8_i32_1205 : BitVec 32 := 8#32
  let v2346 : BitVec 32 := Scalar.muli v2335 c8_i32_1205
  let c0_i32_1211 : BitVec 32 := 0#32
  let c0_i32_1212 : BitVec 32 := 0#32
  let c0_i32_1213 : BitVec 32 := 0#32
  ![1, v2346.toNat, 0, 0, 0]
def k0_mult1 (i : grid0.Coords) : BitVec 32 :=
  let arg1 : BitVec 32 := BitVec.ofNat 32 (i 1).val
  let c8_i32 : BitVec 32 := 8#32
  let v16 : BitVec 32 := Scalar.muli arg1 c8_i32
  v16
def k0_off4 (i : grid0.Coords) : Fin 3 → Nat :=
  let c0 : Index := 0#32
  let arg1 : BitVec 32 := BitVec.ofNat 32 (i 1).val
  let c8_i32 : BitVec 32 := 8#32
  let v16 : BitVec 32 := Scalar.muli arg1 c8_i32
  let v17 : BitVec 32 := v16
  let v18 : Index := Scalar.indexCast v17
  let c0_8 : Index := 0#32
  ![0, v18.toNat, 0]
def k0_off5 (i : grid0.Coords) : Fin 3 → Nat :=
  let c1 : Index := 1#32
  let arg1 : BitVec 32 := BitVec.ofNat 32 (i 1).val
  let c8_i32 : BitVec 32 := 8#32
  let v16 : BitVec 32 := Scalar.muli arg1 c8_i32
  let v17 : BitVec 32 := v16
  let v21 : Index := Scalar.indexCast v17
  let c0_9 : Index := 0#32
  ![1, v21.toNat, 0]
def k0_off6 (i : grid0.Coords) : Fin 3 → Nat :=
  let c2 : Index := 2#32
  let arg1 : BitVec 32 := BitVec.ofNat 32 (i 1).val
  let c8_i32 : BitVec 32 := 8#32
  let v16 : BitVec 32 := Scalar.muli arg1 c8_i32
  let v17 : BitVec 32 := v16
  let v24 : Index := Scalar.indexCast v17
  let c0_10 : Index := 0#32
  ![2, v24.toNat, 0]
def k0_off7 (i : grid0.Coords) : Fin 2 → Nat :=
  let arg1 : BitVec 32 := BitVec.ofNat 32 (i 1).val
  let c8_i32 : BitVec 32 := 8#32
  let v16 : BitVec 32 := Scalar.muli arg1 c8_i32
  let v17 : BitVec 32 := v16
  let v27 : Index := Scalar.indexCast v17
  let c0_11 : Index := 0#32
  ![v27.toNat, 0]
def k0_off8 (i : grid0.Coords) : Fin 1 → Nat :=
  let arg1 : BitVec 32 := BitVec.ofNat 32 (i 1).val
  let c3_i32 : BitVec 32 := 3#32
  let c0_i32_15 : BitVec 32 := 0#32
  let v76 : BitVec 1 := Scalar.cmpi .eq c3_i32 c0_i32_15
  let c1_i32 : BitVec 32 := 1#32
  let v77 : BitVec 32 := Scalar.select v76 c1_i32 c3_i32
  let v78 : BitVec 32 := Scalar.remsi arg1 v77
  let c0_i32_17 : BitVec 32 := 0#32
  let v80 : BitVec 1 := Scalar.cmpi .slt v78 c0_i32_17
  let c0_i32_18 : BitVec 32 := 0#32
  let v81 : BitVec 1 := Scalar.cmpi .slt v77 c0_i32_18
  let v82 : BitVec 1 := Scalar.xori v80 v81
  let c0_i32_16 : BitVec 32 := 0#32
  let v79 : BitVec 1 := Scalar.cmpi .ne v78 c0_i32_16
  let v83 : BitVec 1 := Scalar.andi v82 v79
  let v84 : BitVec 32 := Scalar.addi v78 v77
  let v85 : BitVec 32 := Scalar.select v83 v84 v78
  ![v85.toNat]
def k0_off9 (i : grid0.Coords) : Fin 5 → Nat :=
  let arg1 : BitVec 32 := BitVec.ofNat 32 (i 1).val
  let c3_i32 : BitVec 32 := 3#32
  let c0_i32_15 : BitVec 32 := 0#32
  let v76 : BitVec 1 := Scalar.cmpi .eq c3_i32 c0_i32_15
  let c1_i32 : BitVec 32 := 1#32
  let v77 : BitVec 32 := Scalar.select v76 c1_i32 c3_i32
  let v78 : BitVec 32 := Scalar.remsi arg1 v77
  let c0_i32_17 : BitVec 32 := 0#32
  let v80 : BitVec 1 := Scalar.cmpi .slt v78 c0_i32_17
  let c0_i32_18 : BitVec 32 := 0#32
  let v81 : BitVec 1 := Scalar.cmpi .slt v77 c0_i32_18
  let v82 : BitVec 1 := Scalar.xori v80 v81
  let c0_i32_16 : BitVec 32 := 0#32
  let v79 : BitVec 1 := Scalar.cmpi .ne v78 c0_i32_16
  let v83 : BitVec 1 := Scalar.andi v82 v79
  let v84 : BitVec 32 := Scalar.addi v78 v77
  let v85 : BitVec 32 := Scalar.select v83 v84 v78
  let c0_i32_21 : BitVec 32 := 0#32
  let c0_i32_22 : BitVec 32 := 0#32
  let c0_i32_23 : BitVec 32 := 0#32
  let c0_i32_24 : BitVec 32 := 0#32
  ![v85.toNat, 0, 0, 0, 0]
def k0_off10 (i : grid0.Coords) : Fin 5 → Nat :=
  let c1_i32_20 : BitVec 32 := 1#32
  let arg1 : BitVec 32 := BitVec.ofNat 32 (i 1).val
  let c8_i32_19 : BitVec 32 := 8#32
  let v86 : BitVec 32 := Scalar.muli arg1 c8_i32_19
  let c0_i32_25 : BitVec 32 := 0#32
  let c0_i32_26 : BitVec 32 := 0#32
  let c0_i32_27 : BitVec 32 := 0#32
  ![1, v86.toNat, 0, 0, 0]
def k0_off11 (c0_i32_37 : BitVec 32) : Fin 4 → Nat :=
  let c0_i32_35 : BitVec 32 := 0#32
  let c8_i32_36 : BitVec 32 := 8#32
  let v104 : BitVec 32 := Scalar.muli c0_i32_35 c8_i32_36
  let v105 : BitVec 32 := Scalar.addi v104 c0_i32_37
  let v138 : Index := Scalar.indexCast v105
  let c0_52 : Index := 0#32
  let c0_53 : Index := 0#32
  let c0_54 : Index := 0#32
  ![v138.toNat, 0, 0, 0]
def k0_off12 (c0_i32_37 : BitVec 32) : Fin 4 → Nat :=
  let c0_i32_35 : BitVec 32 := 0#32
  let c8_i32_36 : BitVec 32 := 8#32
  let v104 : BitVec 32 := Scalar.muli c0_i32_35 c8_i32_36
  let v105 : BitVec 32 := Scalar.addi v104 c0_i32_37
  let v143 : Index := Scalar.indexCast v105
  let c1_59 : Index := 1#32
  let c0_60 : Index := 0#32
  let c0_61 : Index := 0#32
  ![v143.toNat, 1, 0, 0]
def k0_off13 (c0_i32_37 : BitVec 32) : Fin 4 → Nat :=
  let c0_i32_35 : BitVec 32 := 0#32
  let c8_i32_36 : BitVec 32 := 8#32
  let v104 : BitVec 32 := Scalar.muli c0_i32_35 c8_i32_36
  let v105 : BitVec 32 := Scalar.addi v104 c0_i32_37
  let v148 : Index := Scalar.indexCast v105
  let c2_66 : Index := 2#32
  let c0_67 : Index := 0#32
  let c0_68 : Index := 0#32
  ![v148.toNat, 2, 0, 0]
def k0_off14 (c0_i32_37 : BitVec 32) : Fin 4 → Nat :=
  let c0_i32_35 : BitVec 32 := 0#32
  let c8_i32_36 : BitVec 32 := 8#32
  let v104 : BitVec 32 := Scalar.muli c0_i32_35 c8_i32_36
  let v105 : BitVec 32 := Scalar.addi v104 c0_i32_37
  let v153 : Index := Scalar.indexCast v105
  let c3 : Index := 3#32
  let c0_73 : Index := 0#32
  let c0_74 : Index := 0#32
  ![v153.toNat, 3, 0, 0]
def k0_off15 (c0_i32_37 : BitVec 32) : Fin 4 → Nat :=
  let c0_i32_35 : BitVec 32 := 0#32
  let c8_i32_36 : BitVec 32 := 8#32
  let v104 : BitVec 32 := Scalar.muli c0_i32_35 c8_i32_36
  let v105 : BitVec 32 := Scalar.addi v104 c0_i32_37
  let v158 : Index := Scalar.indexCast v105
  let c4 : Index := 4#32
  let c0_79 : Index := 0#32
  let c0_80 : Index := 0#32
  ![v158.toNat, 4, 0, 0]
def k0_off16 (c0_i32_37 : BitVec 32) : Fin 4 → Nat :=
  let c0_i32_35 : BitVec 32 := 0#32
  let c8_i32_36 : BitVec 32 := 8#32
  let v104 : BitVec 32 := Scalar.muli c0_i32_35 c8_i32_36
  let v105 : BitVec 32 := Scalar.addi v104 c0_i32_37
  let v163 : Index := Scalar.indexCast v105
  let c5 : Index := 5#32
  let c0_85 : Index := 0#32
  let c0_86 : Index := 0#32
  ![v163.toNat, 5, 0, 0]
def k0_off17 (c0_i32_37 : BitVec 32) : Fin 4 → Nat :=
  let c0_i32_35 : BitVec 32 := 0#32
  let c8_i32_36 : BitVec 32 := 8#32
  let v104 : BitVec 32 := Scalar.muli c0_i32_35 c8_i32_36
  let v105 : BitVec 32 := Scalar.addi v104 c0_i32_37
  let v168 : Index := Scalar.indexCast v105
  let c6 : Index := 6#32
  let c0_91 : Index := 0#32
  let c0_92 : Index := 0#32
  ![v168.toNat, 6, 0, 0]
def k0_off18 (c0_i32_37 : BitVec 32) : Fin 4 → Nat :=
  let c0_i32_35 : BitVec 32 := 0#32
  let c8_i32_36 : BitVec 32 := 8#32
  let v104 : BitVec 32 := Scalar.muli c0_i32_35 c8_i32_36
  let v105 : BitVec 32 := Scalar.addi v104 c0_i32_37
  let v173 : Index := Scalar.indexCast v105
  let c7 : Index := 7#32
  let c0_97 : Index := 0#32
  let c0_98 : Index := 0#32
  ![v173.toNat, 7, 0, 0]
def k0_off19 (c0_i32_37 : BitVec 32) : Fin 5 → Nat :=
  let c0_939 : Index := 0#32
  let c0_i32_35 : BitVec 32 := 0#32
  let c8_i32_36 : BitVec 32 := 8#32
  let v104 : BitVec 32 := Scalar.muli c0_i32_35 c8_i32_36
  let v105 : BitVec 32 := Scalar.addi v104 c0_i32_37
  let v2056 : Index := Scalar.indexCast v105
  let c0_940 : Index := 0#32
  let c0_941 : Index := 0#32
  let c0_942 : Index := 0#32
  ![0, v2056.toNat, 0, 0, 0]
def k0_off20 (c0_i32_37 : BitVec 32) : Fin 5 → Nat :=
  let c0_943 : Index := 0#32
  let c0_i32_35 : BitVec 32 := 0#32
  let c8_i32_36 : BitVec 32 := 8#32
  let v104 : BitVec 32 := Scalar.muli c0_i32_35 c8_i32_36
  let v105 : BitVec 32 := Scalar.addi v104 c0_i32_37
  let v2060 : Index := Scalar.indexCast v105
  let c1_944 : Index := 1#32
  let c0_945 : Index := 0#32
  let c0_946 : Index := 0#32
  ![0, v2060.toNat, 1, 0, 0]
def k0_off21 (c0_i32_37 : BitVec 32) : Fin 5 → Nat :=
  let c0_947 : Index := 0#32
  let c0_i32_35 : BitVec 32 := 0#32
  let c8_i32_36 : BitVec 32 := 8#32
  let v104 : BitVec 32 := Scalar.muli c0_i32_35 c8_i32_36
  let v105 : BitVec 32 := Scalar.addi v104 c0_i32_37
  let v2064 : Index := Scalar.indexCast v105
  let c2_948 : Index := 2#32
  let c0_949 : Index := 0#32
  let c0_950 : Index := 0#32
  ![0, v2064.toNat, 2, 0, 0]
def k0_off22 (c0_i32_37 : BitVec 32) : Fin 5 → Nat :=
  let c0_951 : Index := 0#32
  let c0_i32_35 : BitVec 32 := 0#32
  let c8_i32_36 : BitVec 32 := 8#32
  let v104 : BitVec 32 := Scalar.muli c0_i32_35 c8_i32_36
  let v105 : BitVec 32 := Scalar.addi v104 c0_i32_37
  let v2068 : Index := Scalar.indexCast v105
  let c3_952 : Index := 3#32
  let c0_953 : Index := 0#32
  let c0_954 : Index := 0#32
  ![0, v2068.toNat, 3, 0, 0]
def k0_off23 (c0_i32_37 : BitVec 32) : Fin 5 → Nat :=
  let c0_955 : Index := 0#32
  let c0_i32_35 : BitVec 32 := 0#32
  let c8_i32_36 : BitVec 32 := 8#32
  let v104 : BitVec 32 := Scalar.muli c0_i32_35 c8_i32_36
  let v105 : BitVec 32 := Scalar.addi v104 c0_i32_37
  let v2072 : Index := Scalar.indexCast v105
  let c4_956 : Index := 4#32
  let c0_957 : Index := 0#32
  let c0_958 : Index := 0#32
  ![0, v2072.toNat, 4, 0, 0]
def k0_off24 (c0_i32_37 : BitVec 32) : Fin 5 → Nat :=
  let c0_959 : Index := 0#32
  let c0_i32_35 : BitVec 32 := 0#32
  let c8_i32_36 : BitVec 32 := 8#32
  let v104 : BitVec 32 := Scalar.muli c0_i32_35 c8_i32_36
  let v105 : BitVec 32 := Scalar.addi v104 c0_i32_37
  let v2076 : Index := Scalar.indexCast v105
  let c5_960 : Index := 5#32
  let c0_961 : Index := 0#32
  let c0_962 : Index := 0#32
  ![0, v2076.toNat, 5, 0, 0]
def k0_off25 (c0_i32_37 : BitVec 32) : Fin 5 → Nat :=
  let c0_963 : Index := 0#32
  let c0_i32_35 : BitVec 32 := 0#32
  let c8_i32_36 : BitVec 32 := 8#32
  let v104 : BitVec 32 := Scalar.muli c0_i32_35 c8_i32_36
  let v105 : BitVec 32 := Scalar.addi v104 c0_i32_37
  let v2080 : Index := Scalar.indexCast v105
  let c6_964 : Index := 6#32
  let c0_965 : Index := 0#32
  let c0_966 : Index := 0#32
  ![0, v2080.toNat, 6, 0, 0]
def k0_off26 (c0_i32_37 : BitVec 32) : Fin 5 → Nat :=
  let c0_967 : Index := 0#32
  let c0_i32_35 : BitVec 32 := 0#32
  let c8_i32_36 : BitVec 32 := 8#32
  let v104 : BitVec 32 := Scalar.muli c0_i32_35 c8_i32_36
  let v105 : BitVec 32 := Scalar.addi v104 c0_i32_37
  let v2084 : Index := Scalar.indexCast v105
  let c7_968 : Index := 7#32
  let c0_969 : Index := 0#32
  let c0_970 : Index := 0#32
  ![0, v2084.toNat, 7, 0, 0]
def k0_cond5 (i : grid0.Coords) : BitVec 1 :=
  let arg1 : BitVec 32 := BitVec.ofNat 32 (i 1).val
  let c15_i32 : BitVec 32 := 15#32
  let v2332 : BitVec 1 := Scalar.cmpi .eq arg1 c15_i32
  let v2333 : BitVec 32 := Scalar.extui v2332
  let c0_i32_1197 : BitVec 32 := 0#32
  let v2334 : BitVec 1 := Scalar.cmpi .ne v2333 c0_i32_1197
  v2334

def k0_cond6 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  let c0_i32_2 : BitVec 32 := 0#32
  ![v0.toNat, arg1.toNat, c0_i32.toNat, c0_i32_0.toNat, c0_i32_1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DecodeRefIdeal.lean ====
abbrev S128x1024 : Shape := ⟨2, ![128, 1024]⟩
abbrev S2x128x8x128x128 : Shape := ⟨5, ![2, 128, 8, 128, 128]⟩
abbrev S4x1024 : Shape := ⟨2, ![4, 1024]⟩
abbrev S2x1024x4096 : Shape := ⟨3, ![2, 1024, 4096]⟩
abbrev S2x128 : Shape := ⟨2, ![2, 128]⟩
abbrev S2x1024x1024 : Shape := ⟨3, ![2, 1024, 1024]⟩
abbrev S_ : Shape := ⟨0, ![]⟩
abbrev S1024 : Shape := ⟨1, ![1024]⟩
abbrev S1x1024 : Shape := ⟨2, ![1, 1024]⟩
abbrev S128x1x1024 : Shape := ⟨3, ![128, 1, 1024]⟩
abbrev S1x1024x4096 : Shape := ⟨3, ![1, 1024, 4096]⟩
abbrev S1024x4096 : Shape := ⟨2, ![1024, 4096]⟩
abbrev S1x128 : Shape := ⟨2, ![1, 128]⟩
abbrev S128 : Shape := ⟨1, ![128]⟩
abbrev S1x1024x1024 : Shape := ⟨3, ![1, 1024, 1024]⟩
abbrev S1024x1024 : Shape := ⟨2, ![1024, 1024]⟩
abbrev S1x128x8x128x128 : Shape := ⟨5, ![1, 128, 8, 128, 128]⟩
abbrev S128x8x128x128 : Shape := ⟨4, ![128, 8, 128, 128]⟩
abbrev S128x1x4096 : Shape := ⟨3, ![128, 1, 4096]⟩
abbrev S128x1x8x128 : Shape := ⟨4, ![128, 1, 8, 128]⟩
abbrev S1x1x1024 : Shape := ⟨3, ![1, 1, 1024]⟩
abbrev S1x1 : Shape := ⟨2, ![1, 1]⟩
abbrev S1x1x1 : Shape := ⟨3, ![1, 1, 1]⟩
abbrev S128x1x1x8x128 : Shape := ⟨5, ![128, 1, 1, 8, 128]⟩
abbrev S1x128x8x1x128 : Shape := ⟨5, ![1, 128, 8, 1, 128]⟩
abbrev S0x128x8x1x128 : Shape := ⟨5, ![0, 128, 8, 1, 128]⟩
abbrev S128x8x1x128 : Shape := ⟨4, ![128, 8, 1, 128]⟩
abbrev S128x8x1x1x128 : Shape := ⟨5, ![128, 8, 1, 1, 128]⟩
abbrev S128x8x1x1 : Shape := ⟨4, ![128, 8, 1, 1]⟩
abbrev S128x8x128 : Shape := ⟨3, ![128, 8, 128]⟩
abbrev S128x8x128x1 : Shape := ⟨4, ![128, 8, 128, 1]⟩
abbrev S128x1x8 : Shape := ⟨3, ![128, 1, 8]⟩
abbrev S128x1x8x1 : Shape := ⟨4, ![128, 1, 8, 1]⟩
abbrev S1x1x1x128 : Shape := ⟨4, ![1, 1, 1, 128]⟩
abbrev S128x1 : Shape := ⟨2, ![128, 1]⟩
abbrev S128x1x1 : Shape := ⟨3, ![128, 1, 1]⟩
abbrev S1 : Shape := ⟨1, ![1]⟩

abbrev nBuf : Space → Nat
  | .hbm => 227
  | .vmem => 0
  | .smem => 0
  | _ => 0

abbrev hbmTy0_0 (i : Nat) : BufTy := match i % 128 with
  | 0 => ⟨S128x1024, .f32⟩
  | 1 => ⟨S2x128x8x128x128, .f32⟩
  | 2 => ⟨S2x128x8x128x128, .f32⟩
  | 3 => ⟨S4x1024, .f32⟩
  | 4 => ⟨S2x1024x4096, .f32⟩
  | 5 => ⟨S2x128, .f32⟩
  | 6 => ⟨S2x1024x1024, .f32⟩
  | 7 => ⟨S4x1024, .f32⟩
  | 8 => ⟨S4x1024, .f32⟩
  | 9 => ⟨S_, .f32⟩
  | 10 => ⟨S1024, .f32⟩
  | 11 => ⟨S_, .f32⟩
  | 12 => ⟨S1024, .f32⟩
  | 13 => ⟨S1024, .f32⟩
  | 14 => ⟨S1x1024, .f32⟩
  | 15 => ⟨S4x1024, .f32⟩
  | 16 => ⟨S4x1024, .f32⟩
  | 17 => ⟨S4x1024, .f32⟩
  | 18 => ⟨S_, .f32⟩
  | 19 => ⟨S1024, .f32⟩
  | 20 => ⟨S1x1024, .f32⟩
  | 21 => ⟨S4x1024, .f32⟩
  | 22 => ⟨S4x1024, .f32⟩
  | 23 => ⟨S_, .f32⟩
  | 24 => ⟨S_, .f32⟩
  | 25 => ⟨S4x1024, .f32⟩
  | 26 => ⟨S1x1024, .f32⟩
  | 27 => ⟨S1024, .f32⟩
  | 28 => ⟨S1x1024, .f32⟩
  | 29 => ⟨S4x1024, .f32⟩
  | 30 => ⟨S4x1024, .f32⟩
  | 31 => ⟨S128x1x1024, .f32⟩
  | 32 => ⟨S1x1024, .f32⟩
  | 33 => ⟨S1024, .f32⟩
  | 34 => ⟨S1x1024x4096, .f32⟩
  | 35 => ⟨S1024x4096, .f32⟩
  | 36 => ⟨S1x128, .f32⟩
  | 37 => ⟨S128, .f32⟩
  | 38 => ⟨S1x1024x1024, .f32⟩
  | 39 => ⟨S1024x1024, .f32⟩
  | 40 => ⟨S1x128x8x128x128, .f32⟩
  | 41 => ⟨S128x8x128x128, .f32⟩
  | 42 => ⟨S128x1x4096, .f32⟩
  | 43 => ⟨S128x1x1024, .f32⟩
  | 44 => ⟨S128x1x1024, .f32⟩
  | 45 => ⟨S128x1x1024, .f32⟩
  | 46 => ⟨S128x1x1024, .f32⟩
  | 47 => ⟨S128x1x1024, .f32⟩
  | 48 => ⟨S128x1x1024, .f32⟩
  | 49 => ⟨S_, .f32⟩
  | 50 => ⟨S128x1x1024, .f32⟩
  | 51 => ⟨S128x1x1024, .f32⟩
  | 52 => ⟨S_, .f32⟩
  | 53 => ⟨S128x1x1024, .f32⟩
  | 54 => ⟨S128x1x1024, .f32⟩
  | 55 => ⟨S128x1x1024, .f32⟩
  | 56 => ⟨S128x1x8x128, .f32⟩
  | 57 => ⟨S_, .f32⟩
  | 58 => ⟨S128x1x8x128, .f32⟩
  | 59 => ⟨S128x1x8x128, .f32⟩
  | 60 => ⟨S_, .f32⟩
  | 61 => ⟨S1024, .f32⟩
  | 62 => ⟨S1024, .f32⟩
  | 63 => ⟨S128x1x1024, .f32⟩
  | 64 => ⟨S128x1x1024, .f32⟩
  | 65 => ⟨S_, .f32⟩
  | 66 => ⟨S128x1x1024, .f32⟩
  | 67 => ⟨S128x1x1024, .f32⟩
  | 68 => ⟨S_, .f32⟩
  | 69 => ⟨S128x1x1024, .f32⟩
  | 70 => ⟨S128x1x1024, .f32⟩
  | 71 => ⟨S1x1x1024, .f32⟩
  | 72 => ⟨S128x1x1024, .f32⟩
  | 73 => ⟨S128x1x1024, .f32⟩
  | 74 => ⟨S1x1x1024, .f32⟩
  | 75 => ⟨S128x1x1024, .f32⟩
  | 76 => ⟨S128x1x1024, .f32⟩
  | 77 => ⟨S_, .f32⟩
  | 78 => ⟨S128x1x1024, .f32⟩
  | 79 => ⟨S128x1x1024, .f32⟩
  | 80 => ⟨S128x1x8x128, .f32⟩
  | 81 => ⟨S128x1x1024, .f32⟩
  | 82 => ⟨S128x1x8x128, .f32⟩
  | 83 => ⟨S128x1x8x128, .f32⟩
  | 84 => ⟨S_, .i1⟩
  | 85 => ⟨S1x1, .i1⟩
  | 86 => ⟨S1x1, .i32⟩
  | 87 => ⟨S_, .i32⟩
  | 88 => ⟨S1x1, .i32⟩
  | 89 => ⟨S1x1, .i32⟩
  | 90 => ⟨S1x1, .i32⟩
  | 91 => ⟨S1x1, .i1⟩
  | 92 => ⟨S_, .i1⟩
  | 93 => ⟨S1x1, .i1⟩
  | 94 => ⟨S1x1, .i1⟩
  | 95 => ⟨S1x1x1, .i1⟩
  | 96 => ⟨S128x1x1x8x128, .f32⟩
  | 97 => ⟨S1x128x8x1x128, .f32⟩
  | 98 => ⟨S128x1x1x8x128, .f32⟩
  | 99 => ⟨S1x128x8x1x128, .f32⟩
  | 100 => ⟨S128x1x1x8x128, .f32⟩
  | 101 => ⟨S1x128x8x1x128, .f32⟩
  | 102 => ⟨S128x1x1x8x128, .f32⟩
  | 103 => ⟨S1x128x8x1x128, .f32⟩
  | 104 => ⟨S0x128x8x1x128, .f32⟩
  | 105 => ⟨S1x128x8x1x128, .f32⟩
  | 106 => ⟨S0x128x8x1x128, .f32⟩
  | 107 => ⟨S1x128x8x1x128, .f32⟩
  | 108 => ⟨S0x128x8x1x128, .f32⟩
  | 109 => ⟨S1x128x8x1x128, .f32⟩
  | 110 => ⟨S0x128x8x1x128, .f32⟩
  | 111 => ⟨S1x128x8x1x128, .f32⟩
  | 112 => ⟨S_, .f32⟩
  | 113 => ⟨S0x128x8x1x128, .f32⟩
  | 114 => ⟨S1x128x8x1x128, .f32⟩
  | 115 => ⟨S128x8x1x128, .f32⟩
  | 116 => ⟨S1x128x8x1x128, .f32⟩
  | 117 => ⟨S128x8x1x128, .f32⟩
  | 118 => ⟨S1x128x8x1x128, .f32⟩
  | 119 => ⟨S128x8x1x128, .f32⟩
  | 120 => ⟨S1x128x8x1x128, .f32⟩
  | 121 => ⟨S128x8x1x128, .f32⟩
  | 122 => ⟨S_, .f32⟩
  | 123 => ⟨S_, .f32⟩
  | 124 => ⟨S128x8x1x128, .f32⟩
  | 125 => ⟨S128x8x1x128, .f32⟩
  | 126 => ⟨S128x8x1x128, .f32⟩
  | 127 => ⟨S128x8x1x128, .f32⟩
  | _ => ⟨S128x1024, .f32⟩

abbrev hbmTy0_1 (i : Nat) : BufTy := match i % 128 with
  | 0 => ⟨S128x8x1x1x128, .f32⟩
  | 1 => ⟨S128x8x1x1x128, .f32⟩
  | 2 => ⟨S128x8x1x1x128, .f32⟩
  | 3 => ⟨S_, .f32⟩
  | 4 => ⟨S_, .f32⟩
  | 5 => ⟨S128x8x1x1x128, .i1⟩
  | 6 => ⟨S128x8x1x1x128, .f32⟩
  | 7 => ⟨S128x8x1x1x128, .f32⟩
  | 8 => ⟨S128x8x1x1x128, .f32⟩
  | 9 => ⟨S128x8x1x1x128, .f32⟩
  | 10 => ⟨S128x8x1x1x128, .f32⟩
  | 11 => ⟨S128x8x1x1x128, .f32⟩
  | 12 => ⟨S128x8x1x1, .f32⟩
  | 13 => ⟨S128x8x1x128, .f32⟩
  | 14 => ⟨S128x8x128, .f32⟩
  | 15 => ⟨S128x8x128x1, .f32⟩
  | 16 => ⟨S128x8x128x1, .f32⟩
  | 17 => ⟨S128x8x128x128, .f32⟩
  | 18 => ⟨S128x8x128x128, .f32⟩
  | 19 => ⟨S128x8x1x128, .f32⟩
  | 20 => ⟨S128x8x1x128, .f32⟩
  | 21 => ⟨S128x8x1x128, .f32⟩
  | 22 => ⟨S128x8x128x128, .f32⟩
  | 23 => ⟨S128x8x128x128, .f32⟩
  | 24 => ⟨S128x8x1x128, .f32⟩
  | 25 => ⟨S1x128x8x1x128, .f32⟩
  | 26 => ⟨S1x128x8x1x128, .f32⟩
  | 27 => ⟨S128x1x1x8x128, .f32⟩
  | 28 => ⟨S128x1x8x128, .f32⟩
  | 29 => ⟨S128x1x8x128, .f32⟩
  | 30 => ⟨S_, .f32⟩
  | 31 => ⟨S128x1x8, .f32⟩
  | 32 => ⟨S128x1x8x1, .f32⟩
  | 33 => ⟨S_, .f32⟩
  | 34 => ⟨S128x1x8x1, .f32⟩
  | 35 => ⟨S128x1x8x1, .f32⟩
  | 36 => ⟨S_, .f32⟩
  | 37 => ⟨S128x1x8x1, .f32⟩
  | 38 => ⟨S128x1x8x1, .f32⟩
  | 39 => ⟨S128x1x8x1, .f32⟩
  | 40 => ⟨S128x1x8x128, .f32⟩
  | 41 => ⟨S128x1x8x128, .f32⟩
  | 42 => ⟨S1x1x1x128, .f32⟩
  | 43 => ⟨S128x1x8x128, .f32⟩
  | 44 => ⟨S128x1x8x128, .f32⟩
  | 45 => ⟨S128x1x1024, .f32⟩
  | 46 => ⟨S128x1x1024, .f32⟩
  | 47 => ⟨S_, .f32⟩
  | 48 => ⟨S128x1x1024, .f32⟩
  | 49 => ⟨S128x1x1024, .f32⟩
  | 50 => ⟨S_, .f32⟩
  | 51 => ⟨S128x1x1024, .f32⟩
  | 52 => ⟨S128x1x1024, .f32⟩
  | 53 => ⟨S128x1x1024, .f32⟩
  | 54 => ⟨S128x1x8x128, .f32⟩
  | 55 => ⟨S128x1x8x128, .f32⟩
  | 56 => ⟨S128x1x1024, .f32⟩
  | 57 => ⟨S128x1x1024, .f32⟩
  | 58 => ⟨S_, .f32⟩
  | 59 => ⟨S128x1x1024, .f32⟩
  | 60 => ⟨S128x1x1024, .f32⟩
  | 61 => ⟨S128x1x1024, .f32⟩
  | 62 => ⟨S1x1024, .f32⟩
  | 63 => ⟨S1024, .f32⟩
  | 64 => ⟨S1x1024, .f32⟩
  | 65 => ⟨S1024, .f32⟩
  | 66 => ⟨S_, .f32⟩
  | 67 => ⟨S128x1, .f32⟩
  | 68 => ⟨S128x1x1, .f32⟩
  | 69 => ⟨S_, .f32⟩
  | 70 => ⟨S128x1x1, .f32⟩
  | 71 => ⟨S128x1x1, .f32⟩
  | 72 => ⟨S128x1x1024, .f32⟩
  | 73 => ⟨S128x1x1024, .f32⟩
  | 74 => ⟨S128x1x1024, .f32⟩
  | 75 => ⟨S_, .f32⟩
  | 76 => ⟨S128x1, .f32⟩
  | 77 => ⟨S128x1x1, .f32⟩
  | 78 => ⟨S_, .f32⟩
  | 79 => ⟨S128x1x1, .f32⟩
  | 80 => ⟨S128x1x1, .f32⟩
  | 81 => ⟨S128x1x1024, .f32⟩
  | 82 => ⟨S128x1x1024, .f32⟩
  | 83 => ⟨S_, .f32⟩
  | 84 => ⟨S128x1x1, .f32⟩
  | 85 => ⟨S128x1x1, .f32⟩
  | 86 => ⟨S128x1x1, .f32⟩
  | 87 => ⟨S128x1x1024, .f32⟩
  | 88 => ⟨S128x1x1024, .f32⟩
  | 89 => ⟨S1x1x1024, .f32⟩
  | 90 => ⟨S128x1x1024, .f32⟩
  | 91 => ⟨S128x1x1024, .f32⟩
  | 92 => ⟨S1x1x1024, .f32⟩
  | 93 => ⟨S128x1x1024, .f32⟩
  | 94 => ⟨S128x1x1024, .f32⟩
  | 95 => ⟨S128x1024, .f32⟩
  | 96 => ⟨S_, .i32⟩
  | 97 => ⟨S1, .i32⟩
  | 98 => ⟨S2x128x8x128x128, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_call0_cst : Ref sig .tc := ⟨.hbm, 23, rfl⟩
abbrev main_call0_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c : Ref sig .tc := ⟨.hbm, 84, rfl⟩
abbrev main_v57 : Ref sig .tc := ⟨.hbm, 85, rfl⟩
abbrev main_call2_v0 : Ref sig .tc := ⟨.hbm, 86, rfl⟩
abbrev main_call2_c : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_0 : Ref sig .tc := ⟨.hbm, 92, rfl⟩
abbrev main_call2_v5 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_7 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call3_call0_cst : Ref sig .tc := ⟨.hbm, 122, rfl⟩
abbrev main_call3_call0_v0 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_8 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_9 : Ref sig .tc := ⟨.hbm, 158, rfl⟩
abbrev main_v115 : Ref sig .tc := ⟨.hbm, 159, rfl⟩
abbrev main_v116 : Ref sig .tc := ⟨.hbm, 160, rfl⟩
abbrev main_cst_10 : Ref sig .tc := ⟨.hbm, 161, rfl⟩
abbrev main_v117 : Ref sig .tc := ⟨.hbm, 162, rfl⟩
abbrev main_v118 : Ref sig .tc := ⟨.hbm, 163, rfl⟩
abbrev main_cst_11 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_call5_v0 : Ref sig .tc := ⟨.hbm, 173, rfl⟩
abbrev main_call5_v1 : Ref sig .tc := ⟨.hbm, 174, rfl⟩
abbrev main_call5_cst : Ref sig .tc := ⟨.hbm, 175, rfl⟩
abbrev main_call5_v2 : Ref sig .tc := ⟨.hbm, 176, rfl⟩
abbrev main_call5_v3 : Ref sig .tc := ⟨.hbm, 177, rfl⟩
abbrev main_call5_cst_0 : Ref sig .tc := ⟨.hbm, 178, rfl⟩
abbrev main_call5_v4 : Ref sig .tc := ⟨.hbm, 179, rfl⟩
abbrev main_call5_v5 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_12 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_13 : Ref sig .tc := ⟨.hbm, 194, rfl⟩
abbrev main_v139 : Ref sig .tc := ⟨.hbm, 195, rfl⟩
abbrev main_v140 : Ref sig .tc := ⟨.hbm, 196, rfl⟩
abbrev main_cst_14 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_15 : Ref sig .tc := ⟨.hbm, 203, rfl⟩
abbrev main_v146 : Ref sig .tc := ⟨.hbm, 204, rfl⟩
abbrev main_v147 : Ref sig .tc := ⟨.hbm, 205, rfl⟩
abbrev main_cst_16 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_cst_17 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_c_18 : Ref sig .tc := ⟨.hbm, 224, rfl⟩
abbrev main_v164 : Ref sig .tc := ⟨.hbm, 225, rfl⟩
abbrev main_v165 : Ref sig .tc := ⟨.hbm, 226, rfl⟩

abbrev nD : Nat := 1
abbrev τ : Topo := Topo.v7x

variable {F : FTy → Type} [FloatOps F]
-- ==== Proof.DecodeRing.lean ====
/-
  What the runs of the decode kernel share: the conditions of its branches at each grid point, its staging and
  scratch memory, and the ring of three slots through which it streams the blocks of the carried state.
-/
module

public import proofs.«01_k».proof.Proof.Gen.DecodeIdeal.Launch
public import proofs.«01_k».proof.Proof.Gen.DecodeIdeal.Skeleton
public import proofs.«01_k».proof.Proof.Gen.DecodeIdeal.Points
public import proofs.«01_k».proof.Proof.Gen.DecodeIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## From the start of the program to the kernel call -/

set_option maxHeartbeats 800000 in
theorem to_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What an input window holds before the body: its block -/

theorem block_before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem block_before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem block_before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem block_before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem block_before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem block_before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem block_before_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arrays after the run, from the run of the pipeline -/

/-- A run that leaves every input array as it was proves the frame claim. -/
theorem frame_from (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).1 4).trans (((dats 0 c).arrAt_in 4 rfl _).trans ((hA c 4).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

abbrev onPass (i : grid0.Coords) : Prop := k0_cond1 i = 1#1
theorem honPass : ∀ t : Fin cfg0.N, onPass (grid0.coords t) :=
  (fun t => by
    have ht : t.val < 16 := Nat.lt_of_lt_of_eq t.isLt N_0
    have e0 : (grid0.coords t 0).val = t.val / 16 % 1 := Pipeline.Grid.coords_val t 0 (by decide) rfl
    have e1 : (grid0.coords t 1).val = t.val / 1 % 16 := Pipeline.Grid.coords_val t 1 (by decide) rfl
    simp only [onPass, k0_cond1, e0, e1]
    word_cmp
   : ∀ t : Fin grid0.N, onPass (grid0.coords t))

abbrev opens (i : grid0.Coords) : Prop := (Scalar.cmpi .ne (Scalar.extui (Scalar.cmpi .eq (BitVec.ofNat 32 (i 1).val) 0#32)) 0#32) = 1#1
theorem hopens : ∀ t : Fin cfg0.N, opens (grid0.coords t) ↔ t.val % 16 = 0 :=
  (fun t => by
    have ht : t.val < 16 := Nat.lt_of_lt_of_eq t.isLt N_0
    have e0 : (grid0.coords t 0).val = t.val / 16 % 1 := Pipeline.Grid.coords_val t 0 (by decide) rfl
    have e1 : (grid0.coords t 1).val = t.val / 1 % 16 := Pipeline.Grid.coords_val t 1 (by decide) rfl
    simp only [opens, e0, e1]
    word_cmp
   : ∀ t : Fin grid0.N, opens (grid0.coords t) ↔ t.val % 16 = 0)

abbrev fetches (i : grid0.Coords) : Prop := k0_cond3 i = 1#1
theorem hfetches : ∀ t : Fin cfg0.N, fetches (grid0.coords t) ↔ t.val < 14 :=
  (by decide +kernel : ∀ t : Fin grid0.N, fetches (grid0.coords t) ↔ t.val < 14)

abbrev gating (i : grid0.Coords) : Prop := (Scalar.cmpi .ne (Scalar.extui (Scalar.cmpi .eq (BitVec.ofNat 32 (i 1).val) 0#32)) 0#32) = 1#1
theorem hgating : ∀ t : Fin cfg0.N, gating (grid0.coords t) ↔ t.val % 16 = 0 :=
  (fun t => by
    have ht : t.val < 16 := Nat.lt_of_lt_of_eq t.isLt N_0
    have e0 : (grid0.coords t 0).val = t.val / 16 % 1 := Pipeline.Grid.coords_val t 0 (by decide) rfl
    have e1 : (grid0.coords t 1).val = t.val / 1 % 16 := Pipeline.Grid.coords_val t 1 (by decide) rfl
    simp only [gating, e0, e1]
    word_cmp
   : ∀ t : Fin grid0.N, gating (grid0.coords t) ↔ t.val % 16 = 0)

abbrev closing (i : grid0.Coords) : Prop := k0_cond5 i = 1#1
theorem hclosing : ∀ t : Fin cfg0.N, closing (grid0.coords t) ↔ t.val % 16 = 15 :=
  (fun t => by
    have ht : t.val < 16 := Nat.lt_of_lt_of_eq t.isLt N_0
    have e0 : (grid0.coords t 0).val = t.val / 16 % 1 := Pipeline.Grid.coords_val t 0 (by decide) rfl
    have e1 : (grid0.coords t 1).val = t.val / 1 % 16 := Pipeline.Grid.coords_val t 1 (by decide) rfl
    simp only [closing, k0_cond5, e0, e1]
    word_cmp
   : ∀ t : Fin grid0.N, closing (grid0.coords t) ↔ t.val % 16 = 15)

abbrev blanking (i : grid0.Coords) : Prop := k0_cond6 i = 1#1
theorem hblanking : ∀ t : Fin cfg0.N, ¬blanking (grid0.coords t) :=
  (by decide +kernel : ∀ t : Fin grid0.N, ¬blanking (grid0.coords t))

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl

abbrev stg0 (t : Fin cfg0.N) : Memref sig .tc .vmem S128x1024 .f32 := win0_0.stage (cfg0.slots t 0)
abbrev stgWhole0 (t : Fin cfg0.N) : (stg0 t).IsWhole := hstage0_0 ((cfg0.slots t 0).cast nbuf0_0)
abbrev stg1 (t : Fin cfg0.N) : Memref sig .tc .vmem S4x1024 .f32 := win0_1.stage (cfg0.slots t 1)
abbrev stgWhole1 (t : Fin cfg0.N) : (stg1 t).IsWhole := hstage0_1 ((cfg0.slots t 1).cast nbuf0_1)
abbrev stg2 (t : Fin cfg0.N) : Memref sig .tc .vmem S1x1024x4096 .f32 := win0_2.stage (cfg0.slots t 2)
abbrev stgWhole2 (t : Fin cfg0.N) : (stg2 t).IsWhole := hstage0_2 ((cfg0.slots t 2).cast nbuf0_2)
abbrev stg3 (t : Fin cfg0.N) : Memref sig .tc .vmem S1x1x128 .f32 := win0_3.stage (cfg0.slots t 3)
abbrev stgWhole3 (t : Fin cfg0.N) : (stg3 t).IsWhole := hstage0_3 ((cfg0.slots t 3).cast nbuf0_3)
abbrev stg4 (t : Fin cfg0.N) : Memref sig .tc .vmem S1x1024x1024 .f32 := win0_4.stage (cfg0.slots t 4)
abbrev stgWhole4 (t : Fin cfg0.N) : (stg4 t).IsWhole := hstage0_4 ((cfg0.slots t 4).cast nbuf0_4)
abbrev stg5 (t : Fin cfg0.N) : Memref sig .tc .vmem S1x1x1024 .f32 := win0_5.stage (cfg0.slots t 5)
abbrev stgWhole5 (t : Fin cfg0.N) : (stg5 t).IsWhole := hstage0_5 ((cfg0.slots t 5).cast nbuf0_5)
abbrev stg6 (t : Fin cfg0.N) : Memref sig .tc .vmem S1x1x1024 .f32 := win0_6.stage (cfg0.slots t 6)
abbrev stgWhole6 (t : Fin cfg0.N) : (stg6 t).IsWhole := hstage0_6 ((cfg0.slots t 6).cast nbuf0_6)
abbrev stg7 (t : Fin cfg0.N) : Memref sig .tc .vmem S128x1024 .f32 := win0_7.stage (cfg0.slots t 7)
abbrev stgWhole7 (t : Fin cfg0.N) : (stg7 t).IsWhole := hstage0_7 ((cfg0.slots t 7).cast nbuf0_7)
abbrev stg8 (t : Fin cfg0.N) : Memref sig .tc .vmem S1x8x8x128x128 .f32 := win0_8.stage (cfg0.slots t 8)
abbrev stgWhole8 (t : Fin cfg0.N) : (stg8 t).IsWhole := hstage0_8 ((cfg0.slots t 8).cast nbuf0_8)
abbrev scr0 : Memref sig .tc .vmem S3x128x1024 .f32 := Memref.whole cc0_scratch0
abbrev scr1 : Memref sig .tc .vmem S128x1024 .f32 := Memref.whole cc0_scratch1
abbrev scr2 : Memref sig .tc .vmem S128x1024 .f32 := Memref.whole cc0_scratch2
abbrev scr3 : Memref sig .tc .vmem S128x1024 .f32 := Memref.whole cc0_scratch3
abbrev scr4 : Memref sig .tc .vmem S128x1024 .f32 := Memref.whole cc0_scratch4
abbrev scr5 : Memref sig .tc .vmem S128x1024 .f32 := Memref.whole cc0_scratch5
abbrev scr6 : Memref sig .tc .vmem S3x8x8x128x128 .f32 := Memref.whole cc0_scratch6
abbrev hbm0 : Memref sig .tc .hbm S2x128x8x128x128 .f32 := Memref.whole main_arg1
abbrev hbm1 : Memref sig .tc .hbm S2x128x8x128x128 .f32 := Memref.whole main_arg2
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev cellList : Fin 3 → SemLoc sig := fun j => (![SemLoc.dma 10, SemLoc.dma 11, SemLoc.dma 12] : Fin 3 → SemLoc sig) j
theorem cell_facts : Pipeline.OwnSemFacts spec0 cellList := by decide
theorem cells_eq (c : Dev nD) :
    (Pipeline.ownSems0 (Ix := Unit) (Name := ℕ) (U := Pipeline.UD sig nD τ) (Lvl := ℕ) (Val := Elt F) (τ := τ) cellList c : sProp 𝕄)
      = iprop(semVal ((c : Thread nD τ), SemLoc.dma 10) 0 ∗ semVal ((c : Thread nD τ), SemLoc.dma 11) 0 ∗ semVal ((c : Thread nD τ), SemLoc.dma 12) 0) := by
  rw [Pipeline.ownSems0_eq_of_list c cellList [0, 1, 2] (by decide) (by decide)]; rfl
def moved : Finset (Ref sig .tc) := {main_arg1, main_arg2}
theorem arrays_sub : moved ⊆ Pipeline.restRefs sig spec0 := by decide
theorem arrays_eq (c : Dev nD) :
    (bigSep moved (fun b => ((c : Thread nD τ).loc b) ↦{fullShare} V m c b) : sProp 𝕄) = iprop(hbPt c hbm0 (V m c main_arg1) ∗ hbPt c hbm1 (V m c main_arg2)) := by
  rw [BI.bigSep_eq_bigSepL_of_eq [main_arg1, main_arg2] (by decide) (by decide)]; rfl

theorem held_eq (c : Dev nD) :
    (Pipeline.ΦD cellList spec0 moved (V m) c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0) ∗ iprop(hbPt c hbm0 (V m c main_arg1) ∗ hbPt c hbm1 (V m c main_arg2))) := by
  rw [Pipeline.ΦD_eq, scopedRest0_eq, cells_eq, arrays_eq]; simp only [scr0, scr1, scr2, scr3, scr4, scr5, scr6, owns_whole]; try rfl

instance : NeZero grid0.N := ⟨by rw [N_0]; decide⟩
theorem inb_slot (s : Fin 3) : ∀ a, (![s.val, 0, 0, 0, 0] : Fin 5 → Nat) a + S1x8x8x128x128.size a ≤ S3x8x8x128x128.size a := by
  have := s.isLt; intro a; fin_cases a <;> simp <;> omega
theorem inb_block (b : Fin 16) : ∀ a, (![1, 8 * b.val, 0, 0, 0] : Fin 5 → Nat) a + S1x8x8x128x128.size a ≤ S2x128x8x128x128.size a := by
  have := b.isLt; intro a; fin_cases a <;> simp <;> omega
theorem inb_cell (s : Fin 3) : ∀ a, (![s.val] : Fin 1 → Nat) a + S1.size a ≤ S3.size a := by
  have := s.isLt; intro a; fin_cases a <;> simp <;> omega
def ringSlot (s : Fin 3) : Memref sig .tc .vmem S8x8x128x128 .f32 :=
  (scr6.slice (Rect.unit (s := S3x8x8x128x128) ![s.val, 0, 0, 0, 0] S1x8x8x128x128.size (inb_slot s)) (fun _ => rfl)).squeeze S8x8x128x128 squeezes_S1x8x8x128x128_S8x8x128x128
def ringBlock (b : Fin 16) : Memref sig .tc .hbm S8x8x128x128 .f32 :=
  (hbm0.slice (Rect.unit (s := S2x128x8x128x128) ![1, 8 * b.val, 0, 0, 0] S1x8x8x128x128.size (inb_block b)) (fun _ => rfl)).squeeze S8x8x128x128 squeezes_S1x8x8x128x128_S8x8x128x128
def ringCell (s : Fin 3) : DmaSems sig S_ := (cc0_scratch7.slice (Rect.unit (s := S3) ![s.val] S1.size (inb_cell s))).squeeze S_ squeezes_S1_S_
abbrev cellLoc (s : Fin 3) : SemLoc sig := SemLoc.dma (ringCell s).sem
theorem cellLoc_0 : cellLoc 0 = SemLoc.dma 10 := by decide
theorem cellLoc_1 : cellLoc 1 = SemLoc.dma 11 := by decide
theorem cellLoc_2 : cellLoc 2 = SemLoc.dma 12 := by decide

section Ring
variable (c : Dev nD) (W : HbBuf (F := F) c hbm0)
abbrev lend (s : Fin 3) : PosShare TreeShare := if s.val = 0 then fullShare.left else if s.val = 1 then fullShare.right.left else fullShare.right.right
abbrev slotAt (s : Fin 3) (f : HbBuf (F := F) c (ringSlot s)) : sProp 𝕄 := (ringSlot s).view.loc (c : Thread nD τ) ↦[(ringSlot s).view.set]{fullShare} f
abbrev cellZero (s : Fin 3) : sProp 𝕄 := semVal ((c : Thread nD τ), cellLoc s) 0
abbrev blockAt (s : Fin 3) (b : Fin 16) : sProp 𝕄 := (ringBlock b).view.loc (c : Thread nD τ) ↦[(ringBlock b).view.set]{lend s} W
def restAt (s : Fin 3) (b : Fin 16) : sProp 𝕄 := ((c : Thread nD τ).loc main_arg1) ↦[Finset.univ \ (ringBlock b).view.set]{lend s} W
abbrev copyAt (s : Fin 3) : sProp 𝕄 := ((c : Thread nD τ).loc main_arg1) ↦[Finset.univ]{lend s} W
abbrev landed (s : Fin 3) (b : Fin 16) (f : HbBuf (F := F) c (ringSlot s)) : HbBuf (F := F) c (ringSlot s) :=
  (ringSlot s).view.writes (Elt F) f [⟨Rect.whole S8x8x128x128, ReadAs.same.apply ((ringBlock b).view.read (Elt F) W)⟩]
abbrev flying (s : Fin 3) (b : Fin 16) (f : HbBuf (F := F) c (ringSlot s)) : sProp 𝕄 :=
  Transfers.Flight countersEmb (c : Thread nD τ) (cellLoc s) default ((ringSlot s).view.amount (cellLoc s))
    iprop(slotAt c s (landed c W s b f) ∗ blockAt c W s b)
abbrev slotKeep (s : Fin 3) (f : HbBuf (F := F) c (ringSlot s)) : sProp 𝕄 := iprop(slotAt c s f ∗ copyAt c W s)
abbrev flyKeep (s : Fin 3) (b : Fin 16) (f : HbBuf (F := F) c (ringSlot s)) : sProp 𝕄 := iprop(flying c W s b f ∗ restAt c W s b)
abbrev noHome (b : Fin 16) : sProp 𝕄 := iprop(emp)
def ringAt (k : ℕ) : sProp 𝕄 :=
  if k = 0 then Ring.At₀ (cellZero c) (slotKeep c W) noHome
  else Ring.At 2 (cellZero c) (slotKeep c W) noHome (flyKeep c W) k
omit [FloatOps F] in
theorem cellZero_0 : cellZero (F := F) c 0 = semVal ((c : Thread nD τ), SemLoc.dma 10) 0 := congrArg (fun x => (semVal ((c : Thread nD τ), x) 0 : sProp 𝕄)) cellLoc_0
omit [FloatOps F] in
theorem cellZero_1 : cellZero (F := F) c 1 = semVal ((c : Thread nD τ), SemLoc.dma 11) 0 := congrArg (fun x => (semVal ((c : Thread nD τ), x) 0 : sProp 𝕄)) cellLoc_1
omit [FloatOps F] in
theorem cellZero_2 : cellZero (F := F) c 2 = semVal ((c : Thread nD τ), SemLoc.dma 12) 0 := congrArg (fun x => (semVal ((c : Thread nD τ), x) 0 : sProp 𝕄)) cellLoc_2
end Ring

abbrev slotSet (s : Fin 3) : Finset S3x8x8x128x128.Idx := (Rect.unit (s := S3x8x8x128x128) ![s.val, 0, 0, 0, 0] S1x8x8x128x128.size (inb_slot s)).set
theorem slotSet_eq (s : Fin 3) : (ringSlot s).view.set = slotSet s := by
  simp only [ringSlot, Memref.view_squeeze, View.set_reshape]; exact View.set_slice_whole _ _
theorem slots_disjoint (s s' : Fin 3) (h : s ≠ s') : Disjoint (slotSet s) (slotSet s') :=
  Ring.lead_disjoint (s := S3x8x8x128x128) (0 : Fin 5) 1 (fun s : Fin 3 => (![s.val, 0, 0, 0, 0] : Fin 5 → Nat)) S1x8x8x128x128.size inb_slot (fun s => by simp) rfl s s' h
theorem slots_cover : Finset.univ.biUnion slotSet = Finset.univ :=
  Ring.lead_cover (s := S3x8x8x128x128) (0 : Fin 5) 1 (fun s : Fin 3 => (![s.val, 0, 0, 0, 0] : Fin 5 → Nat)) S1x8x8x128x128.size inb_slot (fun s => by simp)
    (fun s a ha => by fin_cases a <;> first | exact absurd rfl ha | rfl) rfl (fun a ha => by fin_cases a <;> first | exact absurd rfl ha | rfl) rfl

section InOut
variable (c : Dev nD) (W : HbBuf (F := F) c hbm0)
theorem slotAt_eq (s : Fin 3) (f) : slotAt (F := F) c s f = (((c : Thread nD τ).loc cc0_scratch6) ↦[slotSet s]{fullShare} f : sProp 𝕄) := by
  unfold slotAt; rw [slotSet_eq]; rfl
theorem block_split (s : Fin 3) (b : Fin 16) : copyAt (F := F) c W s ⊣⊢ iprop(blockAt c W s b ∗ restAt c W s b) := by
  unfold restAt; exact pointsTo_split_subset (Finset.subset_univ _)
theorem copies_split : (hbPt c hbm0 W : sProp 𝕄) ⊣⊢ iprop(copyAt c W 0 ∗ copyAt c W 1 ∗ copyAt c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
theorem slots_in : iprop(∃ d, owns (c : Thread nD τ) scr6 fullShare d) ⊢ (iprop((∃ f, slotAt (F := F) c 0 f) ∗ (∃ f, slotAt (F := F) c 1 f) ∗ ∃ f, slotAt (F := F) c 2 f) : sProp 𝕄) := by
  simp only [scr6, owns_whole]
  exact Ring.slots3_split (U := Pipeline.UD sig nD τ) (ℓ := (c : Thread nD τ).loc cc0_scratch6) (q := fullShare) slotSet slots_disjoint slots_cover
    (slotAt c 0) (slotAt c 1) (slotAt c 2) (slotAt_eq c 0) (slotAt_eq c 1) (slotAt_eq c 2)
set_option maxHeartbeats 1000000 in
theorem slots_out : (iprop((∃ f, slotAt (F := F) c 0 f) ∗ (∃ f, slotAt (F := F) c 1 f) ∗ ∃ f, slotAt (F := F) c 2 f) : sProp 𝕄) ⊢ iprop(∃ d, owns (c : Thread nD τ) scr6 fullShare d) := by
  simp only [scr6, owns_whole]
  exact Ring.slots3_join (U := Pipeline.UD sig nD τ) (ℓ := (c : Thread nD τ).loc cc0_scratch6) (q := fullShare) slotSet slots_disjoint slots_cover
    (slotAt c 0) (slotAt c 1) (slotAt c 2) (slotAt_eq c 0) (slotAt_eq c 1) (slotAt_eq c 2)
end InOut

theorem into_ring (c : Dev nD) :
    iprop((∃ d, owns (c : Thread nD τ) scr6 fullShare d) ∗ (semVal ((c : Thread nD τ), SemLoc.dma 10) 0 ∗ semVal ((c : Thread nD τ), SemLoc.dma 11) 0 ∗ semVal ((c : Thread nD τ), SemLoc.dma 12) 0) ∗ hbPt c hbm0 (V m c main_arg1))
      ⊢ ringAt c (V m c main_arg1) 0 := by
  unfold ringAt; rw [if_pos rfl]; unfold Ring.At₀
  rw [Ring.bigSep_fin3]
  simp only [Ring.free, cellZero_0, cellZero_1, cellZero_2]
  iintro ⟨HS, Hc, HW⟩
  iapply Ring.with_homes₀
  icases Hc with ⟨H0, H1, H2⟩
  ihave HS' := (slots_in (F := F) c) $$ HS
  icases HS' with ⟨⟨%d0, HS0⟩, ⟨%d1, HS1⟩, ⟨%d2, HS2⟩⟩
  ihave HW' := (copies_split (F := F) c (V m c main_arg1)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem out_of_ring (c : Dev nD) :
    ringAt c (V m c main_arg1) 16
      ⊢ iprop((∃ d, owns (c : Thread nD τ) scr6 fullShare d) ∗ (semVal ((c : Thread nD τ), SemLoc.dma 10) 0 ∗ semVal ((c : Thread nD τ), SemLoc.dma 11) 0 ∗ semVal ((c : Thread nD τ), SemLoc.dma 12) 0) ∗ hbPt c hbm0 (V m c main_arg1)) := by
  unfold ringAt; rw [if_neg (by decide)]
  iintro H
  ihave H' := (Ring.free3_of_At_last _ _ _ _) $$ H
  simp only [Ring.free, cellZero_0, cellZero_1, cellZero_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (copies_split (F := F) c (V m c main_arg1)).2; isplitl [HW0]; · iexact HW0
    isplitl [HW1]; · iexact HW1
    iexact HW2

section Canon
omit [FloatOps F]
set_option synthInstance.maxSize 4096 in
theorem offset_1 : ∀ t : Fin grid0.N, opens (grid0.coords t) → (![0, 0, 0, 0, 0] : Fin 5 → Nat) = ![(Ring.sl 3 t.val).val, 0, 0, 0, 0] := by decide +kernel
@[sl_canon] theorem named_1 (t : Fin grid0.N) (h1 : opens (grid0.coords t)) :
    (scr6.slice (Rect.unit (s := S3x8x8x128x128) ![0, 0, 0, 0, 0] S1x8x8x128x128.size inb_S3x8x8x128x128_S1x8x8x128x128_0_0_0_0_0) (fun _ => rfl)).squeeze S8x8x128x128 squeezes_S1x8x8x128x128_S8x8x128x128 = ringSlot (Ring.sl 3 t.val) :=
  congrArg (fun M : Memref sig .tc .vmem S1x8x8x128x128 .f32 => M.squeeze S8x8x128x128 squeezes_S1x8x8x128x128_S8x8x128x128) (Memref.slice_unit_congr _ (offset_1 t h1) _ _ (fun _ => rfl) (fun _ => rfl))
set_option synthInstance.maxSize 4096 in
theorem offset_2 : ∀ t : Fin grid0.N, opens (grid0.coords t) → (![0] : Fin 1 → Nat) = ![(Ring.sl 3 t.val).val] := by decide +kernel
@[sl_canon] theorem named_2 (t : Fin grid0.N) (h1 : opens (grid0.coords t)) :
    (cc0_scratch7.slice (Rect.unit (s := S3) ![0] S1.size inb_S3_S1_0)).squeeze S_ squeezes_S1_S_ = ringCell (Ring.sl 3 t.val) :=
  congrArg (fun A : DmaSems sig S1 => A.squeeze S_ squeezes_S1_S_) (SemArray.slice_unit_congr _ (offset_2 t h1) _ _)
set_option synthInstance.maxSize 4096 in
theorem offset_3 : ∀ t : Fin grid0.N, opens (grid0.coords t) → (![1, 0, 0, 0, 0] : Fin 5 → Nat) = ![1, 8 * (Ring.bk 16 t.val).val, 0, 0, 0] := by decide +kernel
@[sl_canon] theorem named_3 (t : Fin grid0.N) (h1 : opens (grid0.coords t)) :
    (hbm0.slice (Rect.unit (s := S2x128x8x128x128) ![1, 0, 0, 0, 0] S1x8x8x128x128.size inb_S2x128x8x128x128_S1x8x8x128x128_1_0_0_0_0) (fun _ => rfl)).squeeze S8x8x128x128 squeezes_S1x8x8x128x128_S8x8x128x128 = ringBlock (Ring.bk 16 t.val) :=
  congrArg (fun M : Memref sig .tc .hbm S1x8x8x128x128 .f32 => M.squeeze S8x8x128x128 squeezes_S1x8x8x128x128_S8x8x128x128) (Memref.slice_unit_congr _ (offset_3 t h1) _ _ (fun _ => rfl) (fun _ => rfl))
set_option synthInstance.maxSize 4096 in
theorem offset_4 : ∀ t : Fin grid0.N, opens (grid0.coords t) → (![1, 0, 0, 0, 0] : Fin 5 → Nat) = ![(Ring.sl 3 (t.val + 1)).val, 0, 0, 0, 0] := by decide +kernel
@[sl_canon] theorem named_4 (t : Fin grid0.N) (h1 : opens (grid0.coords t)) :
    (scr6.slice (Rect.unit (s := S3x8x8x128x128) ![1, 0, 0, 0, 0] S1x8x8x128x128.size inb_S3x8x8x128x128_S1x8x8x128x128_1_0_0_0_0) (fun _ => rfl)).squeeze S8x8x128x128 squeezes_S1x8x8x128x128_S8x8x128x128 = ringSlot (Ring.sl 3 (t.val + 1)) :=
  congrArg (fun M : Memref sig .tc .vmem S1x8x8x128x128 .f32 => M.squeeze S8x8x128x128 squeezes_S1x8x8x128x128_S8x8x128x128) (Memref.slice_unit_congr _ (offset_4 t h1) _ _ (fun _ => rfl) (fun _ => rfl))
set_option synthInstance.maxSize 4096 in
theorem offset_5 : ∀ t : Fin grid0.N, opens (grid0.coords t) → (![1] : Fin 1 → Nat) = ![(Ring.sl 3 (t.val + 1)).val] := by decide +kernel
@[sl_canon] theorem named_5 (t : Fin grid0.N) (h1 : opens (grid0.coords t)) :
    (cc0_scratch7.slice (Rect.unit (s := S3) ![1] S1.size inb_S3_S1_1)).squeeze S_ squeezes_S1_S_ = ringCell (Ring.sl 3 (t.val + 1)) :=
  congrArg (fun A : DmaSems sig S1 => A.squeeze S_ squeezes_S1_S_) (SemArray.slice_unit_congr _ (offset_5 t h1) _ _)
set_option synthInstance.maxSize 4096 in
theorem offset_6 : ∀ t : Fin grid0.N, opens (grid0.coords t) → (![1, 8, 0, 0, 0] : Fin 5 → Nat) = ![1, 8 * (Ring.bk 16 (t.val + 1)).val, 0, 0, 0] := by decide +kernel
@[sl_canon] theorem named_6 (t : Fin grid0.N) (h1 : opens (grid0.coords t)) :
    (hbm0.slice (Rect.unit (s := S2x128x8x128x128) ![1, 8, 0, 0, 0] S1x8x8x128x128.size inb_S2x128x8x128x128_S1x8x8x128x128_1_8_0_0_0) (fun _ => rfl)).squeeze S8x8x128x128 squeezes_S1x8x8x128x128_S8x8x128x128 = ringBlock (Ring.bk 16 (t.val + 1)) :=
  congrArg (fun M : Memref sig .tc .hbm S1x8x8x128x128 .f32 => M.squeeze S8x8x128x128 squeezes_S1x8x8x128x128_S8x8x128x128) (Memref.slice_unit_congr _ (offset_6 t h1) _ _ (fun _ => rfl) (fun _ => rfl))
set_option synthInstance.maxSize 4096 in
theorem offset_7 : ∀ t : Fin grid0.N, k0_off2 (grid0.coords t) = ![(Ring.sl 3 (t.val + 2)).val, 0, 0, 0, 0] := by decide +kernel
@[sl_canon] theorem named_7 (t : Fin grid0.N) (h0 : onPass (grid0.coords t)) (h2 : fetches (grid0.coords t)) :
    (scr6.slice (Rect.unit (s := S3x8x8x128x128) (k0_off2 (grid0.coords t)) S1x8x8x128x128.size (k0_off2_inb (grid0.coords t) h0 h2)) (fun _ => rfl)).squeeze S8x8x128x128 squeezes_S1x8x8x128x128_S8x8x128x128 = ringSlot (Ring.sl 3 (t.val + 2)) :=
  congrArg (fun M : Memref sig .tc .vmem S1x8x8x128x128 .f32 => M.squeeze S8x8x128x128 squeezes_S1x8x8x128x128_S8x8x128x128) (Memref.slice_unit_congr _ (offset_7 t ) _ _ (fun _ => rfl) (fun _ => rfl))
set_option synthInstance.maxSize 4096 in
theorem offset_8 : ∀ t : Fin grid0.N, k0_off1 (grid0.coords t) = ![(Ring.sl 3 (t.val + 2)).val] := by decide +kernel
@[sl_canon] theorem named_8 (t : Fin grid0.N) (h0 : onPass (grid0.coords t)) (h2 : fetches (grid0.coords t)) :
    (cc0_scratch7.slice (Rect.unit (s := S3) (k0_off1 (grid0.coords t)) S1.size (k0_off1_inb (grid0.coords t) h0 h2))).squeeze S_ squeezes_S1_S_ = ringCell (Ring.sl 3 (t.val + 2)) :=
  congrArg (fun A : DmaSems sig S1 => A.squeeze S_ squeezes_S1_S_) (SemArray.slice_unit_congr _ (offset_8 t ) _ _)
set_option synthInstance.maxSize 4096 in
theorem offset_9 : ∀ t : Fin grid0.N, fetches (grid0.coords t) → k0_off3 (grid0.coords t) = ![1, 8 * (Ring.bk 16 (t.val + 2)).val, 0, 0, 0] := by decide +kernel
@[sl_canon] theorem named_9 (t : Fin grid0.N) (h0 : onPass (grid0.coords t)) (h2 : fetches (grid0.coords t)) :
    (hbm0.slice (Rect.unit (s := S2x128x8x128x128) (k0_off3 (grid0.coords t)) S1x8x8x128x128.size (k0_off3_inb (grid0.coords t) h0 h2)) (fun _ => rfl)).squeeze S8x8x128x128 squeezes_S1x8x8x128x128_S8x8x128x128 = ringBlock (Ring.bk 16 (t.val + 2)) :=
  congrArg (fun M : Memref sig .tc .hbm S1x8x8x128x128 .f32 => M.squeeze S8x8x128x128 squeezes_S1x8x8x128x128_S8x8x128x128) (Memref.slice_unit_congr _ (offset_9 t h2) _ _ (fun _ => rfl) (fun _ => rfl))
set_option synthInstance.maxSize 4096 in
theorem offset_10 : ∀ t : Fin grid0.N, k0_off9 (grid0.coords t) = ![(Ring.sl 3 t.val).val, 0, 0, 0, 0] := by decide +kernel
@[sl_canon] theorem named_10 (t : Fin grid0.N) (h0 : onPass (grid0.coords t)) :
    (scr6.slice (Rect.unit (s := S3x8x8x128x128) (k0_off9 (grid0.coords t)) S1x8x8x128x128.size (k0_off9_inb (grid0.coords t) h0)) (fun _ => rfl)).squeeze S8x8x128x128 squeezes_S1x8x8x128x128_S8x8x128x128 = ringSlot (Ring.sl 3 t.val) :=
  congrArg (fun M : Memref sig .tc .vmem S1x8x8x128x128 .f32 => M.squeeze S8x8x128x128 squeezes_S1x8x8x128x128_S8x8x128x128) (Memref.slice_unit_congr _ (offset_10 t ) _ _ (fun _ => rfl) (fun _ => rfl))
set_option synthInstance.maxSize 4096 in
theorem offset_11 : ∀ t : Fin grid0.N, k0_off8 (grid0.coords t) = ![(Ring.sl 3 t.val).val] := by decide +kernel
@[sl_canon] theorem named_11 (t : Fin grid0.N) (h0 : onPass (grid0.coords t)) :
    (cc0_scratch7.slice (Rect.unit (s := S3) (k0_off8 (grid0.coords t)) S1.size (k0_off8_inb (grid0.coords t) h0))).squeeze S_ squeezes_S1_S_ = ringCell (Ring.sl 3 t.val) :=
  congrArg (fun A : DmaSems sig S1 => A.squeeze S_ squeezes_S1_S_) (SemArray.slice_unit_congr _ (offset_11 t ) _ _)
end Canon

end Cert.DecodeIdeal.Own

end
-- ==== Proof.DecodeStep.lean ====
/-
  One grid point of the decode kernel's recurrence, as functions of the eight rows and the block of eight states it reads:
  the new states, and the eight rows of results.
-/
module

public import proofs.«01_k».proof.Proof.DecodeRing

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic Idealize.SL.Sem

variable {F : FTy → Type} [FloatOps F]

/-- A head's lanes begin at its number times 128. -/
theorem headSlices (h : Fin 8) : S8x1024.Slices ![0, 128 * h.val] S8x128 := by
  refine ⟨rfl, fun a => ?_⟩
  match a with
  | ⟨0, _⟩ => exact le_refl 8
  | ⟨1, _⟩ => have := h.isLt; show 128 * h.val + 128 ≤ 1024; omega

/-- A head's lanes of eight rows. -/
def headOf (h : Fin 8) (x : FVec F S8x1024 .f32) : FVec F S8x128 .f32 :=
  extractStridedSlice S8x128 ![0, 128 * h.val] x (headSlices h)

/-- Eight rows of zeros. -/
def noRows : FVec F S8x128 .f32 := broadcast S8x128 (Scalar.ofBits .f32 0x00000000#32)

/-- Eight rows of ones. -/
def oneRows : FVec F S8x128 .f32 := broadcast S8x128 (Scalar.ofBits .f32 0x3F800000#32)

/-- A head's lanes of one of the eight rows, the other rows zero. -/
def pick (i h : Fin 8) (x : FVec F S8x1024 .f32) : FVec F S8x128 .f32 :=
  select (cmpi .eq (iota .tc S8x128 32 [0] iota_S8x128_d0_w32) (broadcast S8x128 (BitVec.ofNat 32 i.val))) (headOf h x) noRows

/-- The left factor of a sequence's outer products: the three parts of its forget gate, and its key. -/
def leftOf (i h : Fin 8) (hi mid lo k : FVec F S8x1024 .f32) : FVec F S32x128 .bf16 :=
  truncf .bf16 (concatenate S32x128 0 [⟨S8x128, pick i h hi⟩, ⟨S8x128, pick i h mid⟩, ⟨S8x128, pick i h lo⟩, ⟨S8x128, pick i h k⟩]
    concatenates_S8x128_S8x128_S8x128_S8x128_S32x128_d0) bitsLt_bf16_f32

/-- The right factor: ones against the gate's parts, the value against the key. -/
def rightOf (h : Fin 8) (v : FVec F S8x1024 .f32) : FVec F S32x256 .bf16 :=
  truncf .bf16 (concatenate S32x256 1 [⟨S32x128, concatenate S32x128 0 [⟨S8x128, oneRows (F := F)⟩, ⟨S8x128, oneRows (F := F)⟩, ⟨S8x128, oneRows (F := F)⟩, ⟨S8x128, noRows (F := F)⟩]
      concatenates_S8x128_S8x128_S8x128_S8x128_S32x128_d0⟩,
    ⟨S32x128, concatenate S32x128 0 [⟨S8x128, noRows (F := F)⟩, ⟨S8x128, noRows (F := F)⟩, ⟨S8x128, noRows (F := F)⟩, ⟨S8x128, headOf h v⟩]
      concatenates_S8x128_S8x128_S8x128_S8x128_S32x128_d0⟩] concatenates_S32x128_S32x128_S32x256_d1) bitsLt_bf16_f32

/-- The gate and the key-value product of a sequence and a head, side by side. -/
def gateKv (i h : Fin 8) (hi mid lo k v : FVec F S8x1024 .f32) : FVec F S128x256 .f32 :=
  matmul dot_S32x128_S32x256_S128x256_0_0_1_1_n_n none (leftOf i h hi mid lo k) (rightOf h v) (constant S128x256 .f32 0x00000000#32)

/-- The new state of a sequence and a head. -/
def newState (hi mid lo k v : FVec F S8x1024 .f32) (old : Fin 8 → Fin 8 → Vec F S1x1x128x128 .f32) (i h : Fin 8) : FVec F S128x128 .f32 :=
  addf (mulf (extractStridedSlice S128x128 ![0, 0] (gateKv i h hi mid lo k v) slices_S128x256_o0_0_S128x128)
      (shapeCast S128x128 (old i h) shapeCasts_S1x1x128x128_S128x128))
    (extractStridedSlice S128x128 ![0, 128] (gateKv i h hi mid lo k v) slices_S128x256_o0_128_S128x128)

/-- The eight rows of a sequence's and a head's result: its own row, the others zero. -/
def outOf (hi mid lo k q v : FVec F S8x1024 .f32) (old : Fin 8 → Fin 8 → Vec F S1x1x128x128 .f32) (i h : Fin 8) : FVec F S8x128 .f32 :=
  matmul dot_S8x128_S128x128_S8x128_1_0_0_1_n_n none (truncf .bf16 (pick i h q) bitsLt_bf16_f32)
    (truncf .bf16 (newState hi mid lo k v old i h) bitsLt_bf16_f32) (constant S8x128 .f32 0x00000000#32)

/-- A sequence's eight heads side by side. -/
def outSeq (hi mid lo k q v : FVec F S8x1024 .f32) (old : Fin 8 → Fin 8 → Vec F S1x1x128x128 .f32) (i : Fin 8) : FVec F S8x1024 .f32 :=
  concatenate S8x1024 1 [⟨S8x128, outOf hi mid lo k q v old i 0⟩, ⟨S8x128, outOf hi mid lo k q v old i 1⟩, ⟨S8x128, outOf hi mid lo k q v old i 2⟩, ⟨S8x128, outOf hi mid lo k q v old i 3⟩, ⟨S8x128, outOf hi mid lo k q v old i 4⟩, ⟨S8x128, outOf hi mid lo k q v old i 5⟩, ⟨S8x128, outOf hi mid lo k q v old i 6⟩, ⟨S8x128, outOf hi mid lo k q v old i 7⟩]
    concatenates_S8x128_S8x128_S8x128_S8x128_S8x128_S8x128_S8x128_S8x128_S8x1024_d1

/-- The eight rows of results: the sequences' rows added up. -/
def outRows (hi mid lo k q v : FVec F S8x1024 .f32) (old : Fin 8 → Fin 8 → Vec F S1x1x128x128 .f32) : FVec F S8x1024 .f32 :=
  addf (addf (addf (addf (addf (addf (addf (addf (broadcast S8x1024 (Scalar.ofBits .f32 0x00000000#32)) (outSeq hi mid lo k q v old 0)) (outSeq hi mid lo k q v old 1)) (outSeq hi mid lo k q v old 2)) (outSeq hi mid lo k q v old 3)) (outSeq hi mid lo k q v old 4)) (outSeq hi mid lo k q v old 5)) (outSeq hi mid lo k q v old 6)) (outSeq hi mid lo k q v old 7)

theorem stateFits (n : ℕ) : ∀ a, (![0, n / 8 % 8, n % 8, 0, 0] : Fin 5 → ℕ) a + S1x1x1x128x128.size a ≤ S1x8x8x128x128.size a := by
  intro a
  match a with
  | ⟨0, _⟩ => exact le_refl 1
  | ⟨1, _⟩ => have := Nat.mod_lt (n / 8) (show 0 < 8 by decide); show n / 8 % 8 + 1 ≤ 8; omega
  | ⟨2, _⟩ => have := Nat.mod_lt n (show 0 < 8 by decide); show n % 8 + 1 ≤ 8; omega
  | ⟨3, _⟩ => exact le_refl 128
  | ⟨4, _⟩ => exact le_refl 128

/-- The stores of the first `n` new states, the last first. -/
def statePieces (st : Fin 8 → Fin 8 → FVec F S128x128 .f32) : ℕ → List (View.Piece (Elt F) S1x8x8x128x128 .f32)
  | 0 => []
  | n + 1 => ⟨Rect.unit ![0, n / 8 % 8, n % 8, 0, 0] S1x1x1x128x128.size (stateFits n),
      shapeCast S1x1x1x128x128 (st ⟨n / 8 % 8, Nat.mod_lt _ (by decide)⟩ ⟨n % 8, Nat.mod_lt _ (by decide)⟩) shapeCasts_S128x128_S1x1x1x128x128⟩ :: statePieces st n

theorem oldFits (i h : Fin 8) : ∀ a, (![i.val, h.val, 0, 0] : Fin 4 → ℕ) a + S1x1x128x128.size a ≤ S8x8x128x128.size a := by
  intro a
  match a with
  | ⟨0, _⟩ => have := i.isLt; show i.val + 1 ≤ 8; omega
  | ⟨1, _⟩ => have := h.isLt; show h.val + 1 ≤ 8; omega
  | ⟨2, _⟩ => exact le_refl 128
  | ⟨3, _⟩ => exact le_refl 128

/-- The states that a landed block holds. -/
def oldAt (c : Dev nD) (t : Fin cfg0.N) (W : HbBuf (F := F) c hbm0) (i h : Fin 8) : Vec F S1x1x128x128 .f32 :=
  (ringSlot (Ring.sl 3 t.val)).view.readCov
    [⟨Rect.whole S8x8x128x128, ReadAs.same.apply ((ringBlock (Ring.bk 16 t.val)).view.read (Elt F) W)⟩]
    (Rect.unit (s := S8x8x128x128) ![i.val, h.val, 0, 0] S1x1x128x128.size (oldFits i h)).toLoadRect

/-- The three parts of the forget gate, as the first point leaves them. -/
def f3Pieces (f : FVec F S128x1024 .f32) : List (View.Piece (Elt F) S3x128x1024 .f32) :=
  [⟨Rect.unit (s := S3x128x1024) ![2, 0, 0] S1x128x1024.size inb_S3x128x1024_S1x128x1024_2_0_0, k0_pay15 f⟩,
   ⟨Rect.unit (s := S3x128x1024) ![1, 0, 0] S1x128x1024.size inb_S3x128x1024_S1x128x1024_1_0_0, k0_pay14 f⟩,
   ⟨Rect.unit (s := S3x128x1024) ![0, 0, 0] S1x128x1024.size inb_S3x128x1024_S1x128x1024_0_0_0, k0_pay13 f⟩]

/-- One store of all rows. -/
def wholePiece (w : FVec F S128x1024 .f32) : List (View.Piece (Elt F) S128x1024 .f32) :=
  [⟨Rect.unit (s := S128x1024) ![0, 0] S128x1024.size inb_S128x1024_S128x1024_0_0, w⟩]

/-- What the last point stores, from all rows of results: each head normed and gated, projected, added to the activations, normed. -/
def finalOf (o : Vec F S128x1024 .f32) (ng : Vec F S1x1x128 .f32) (gate : Vec F S128x1024 .f32) (wo : Vec F S1x1024x1024 .f32)
    (x : Vec F S128x1024 .f32) (lg lb : Vec F S1x1x1024 .f32) : FVec F S128x1024 .f32 :=
  k0_pay2 (k0_pay29 lg) (k0_pay30 lb)
    (k0_pay31 o (k0_pay19 ng) (k0_pay20 o ng) (k0_pay21 o ng) (k0_pay22 o ng) (k0_pay25 (k0_pay19 ng) (k0_pay23 o) (k0_pay24 o))
      (k0_pay26 o (k0_pay19 ng)) (k0_pay27 o (k0_pay19 ng)) (k0_pay28 o (k0_pay19 ng)) gate wo x)
    (k0_pay32 o (k0_pay19 ng) (k0_pay20 o ng) (k0_pay21 o ng) (k0_pay22 o ng) (k0_pay25 (k0_pay19 ng) (k0_pay23 o) (k0_pay24 o))
      (k0_pay26 o (k0_pay19 ng)) (k0_pay27 o (k0_pay19 ng)) (k0_pay28 o (k0_pay19 ng)) gate wo x)
    k0_pay33

end Cert.DecodeIdeal.Own
-- ==== Proof.DecodeFirst.lean ====
/-
  The body of the decode kernel at the first grid point: it starts the transfers of the first three blocks of the
  carried state, computes the gates of all rows and keeps them in scratch, and advances the first eight sequences.
-/
module

public import proofs.«01_k».proof.Proof.DecodeRing

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 20000000 in
/-- What this point stores is what the run finds: the new states of eight sequences, and their eight rows of results. -/
def runFirst (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : opens (grid0.coords t)) (hc2 : fetches (grid0.coords t)) (hc3 : gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y18 : Vec F S128x1024 .f32) (W : HbBuf (F := F) c hbm0) (g : HbBuf (F := F) c (ringSlot (Ring.sl 3 t.val))) :
    Σ' (L12 : List (View.Piece (Elt F) S1x8x8x128x128 .f32)), Σ' (L13 : List (View.Piece (Elt F) S3x128x1024 .f32)), Σ' (L14 : List (View.Piece (Elt F) S128x1024 .f32)), Σ' (L15 : List (View.Piece (Elt F) S128x1024 .f32)), Σ' (L16 : List (View.Piece (Elt F) S128x1024 .f32)), Σ' (L17 : List (View.Piece (Elt F) S128x1024 .f32)), { L18 : List (View.Piece (Elt F) S128x1024 .f32) // ∀ (x11 : Vec F S128x1024 .f32), ∀ (B : HbBuf (F := F) c hbm1) (Ws : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare y18 ∗ hbPt c hbm1 B ∗ iprop(cellZero c (Ring.sl 3 t.val) ∗ slotKeep c W (Ring.sl 3 t.val) g) ∗ Ring.free (cellZero c) (slotKeep c W) (Ring.sl 3 (t.val + 1)) ∗ Ring.free (cellZero c) (slotKeep c W) (Ring.sl 3 (t.val + 2)) ∗ owes (c : Thread nD τ) 0 Ws
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare x11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (arg18.view.loc (c : Thread nD τ) ↦[arg18.view.set]{fullShare} arg18.view.writes (Elt F) (harg18.unread y18) L18) ∗ hbPt c hbm1 B ∗ Ring.inflight (flyKeep c W) (Ring.sl 3 (t.val + 1)) (Ring.bk 16 (t.val + 1)) ∗ Ring.inflight (flyKeep c W) (Ring.sl 3 (t.val + 2)) (Ring.bk 16 (t.val + 2)) ∗ Ring.free (cellZero c) (slotKeep c W) (Ring.sl 3 t.val) ∗ (∃ W', owes (c : Thread nD τ) 0 W')) -∗ K ⟨⟩))
          ⊢ wp frame (wpE (defs₀ (F := F)) Variants.none c none) Set.univ (cc0_hgrn_decode (grid0.coords t) arg2 harg2 arg3 harg3 arg4 harg4 arg5 harg5 arg6 harg6 arg7 harg7 arg8 harg8 (Memref.whole main_arg1) (Memref.isWhole_whole _) (Memref.whole main_arg2) (Memref.isWhole_whole _) arg11 harg11 arg12 harg12 arg13 harg13 arg14 harg14 arg15 harg15 arg16 harg16 arg17 harg17 arg18 harg18 scr6 (Memref.isWhole_whole _) cc0_scratch7) K } := by
  refine ⟨?_, ?_, ?_, ?_, ?_, ?_, ?_, fun x11 B Ws K => ?run⟩
  case run =>
    haveI : Fact (onPass (grid0.coords t)) := ⟨hc0⟩
    haveI : Fact (opens (grid0.coords t)) := ⟨hc1⟩
    haveI : Fact (fetches (grid0.coords t)) := ⟨hc2⟩
    haveI : Fact (gating (grid0.coords t)) := ⟨hc3⟩
    haveI : Fact (¬closing (grid0.coords t)) := ⟨hc4⟩
    haveI : Fact (¬blanking (grid0.coords t)) := ⟨hc5⟩
    simp only [cc0_hgrn_decode_eq_skeleton]; unfold cc0_hgrn_decode_skel
    simp only [k0_part66_eq_skeleton, k0_part1_eq_skeleton, k0_part2_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    have at1 := named_1 t hc1
    have at2 := named_2 t hc1
    have at3 := named_3 t hc1
    have at4 := named_4 t hc1
    have at5 := named_5 t hc1
    have at6 := named_6 t hc1
    have at10 := named_10 t hc0
    unfold owns Ring.free Ring.inflight
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, HB, ⟨Hc0, ⟨Hs0, Hw0⟩⟩, ⟨Hc1, ⟨%g1, Hs1, Hw1⟩⟩, ⟨Hc2, ⟨%g2, Hs2, Hw2⟩⟩, HW, Hk⟩
    ihave Hp0 := (block_split c W (Ring.sl 3 t.val) (Ring.bk 16 t.val)).1 $$ Hw0
    icases Hp0 with ⟨Hb0, Hr0⟩
    ihave Hp1 := (block_split c W (Ring.sl 3 (t.val + 1)) (Ring.bk 16 (t.val + 1))).1 $$ Hw1
    icases Hp1 with ⟨Hb1, Hr1⟩
    ihave Hp2 := (block_split c W (Ring.sl 3 (t.val + 2)) (Ring.bk 16 (t.val + 2))).1 $$ Hw2
    icases Hp2 with ⟨Hb2, Hr2⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg18.eq_unread hf18
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H11]
    · iexists _; isplitr; · ipureintro; exact harg11.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexact H18
    isplitl [HB]; · iexact HB
    isplitl [Hc1 Hr1]
    · iexists _; isplitl [Hc1]; · iexact Hc1
      iexact Hr1
    isplitl [Hc2 Hr2]
    · iexists _; isplitl [Hc2]; · iexact Hc2
      iexact Hr2
    isplitl [Hc0 Hs0 Hb0 Hr0]
    · isplitl [Hc0]; · iexact Hc0
      iexists _; isplitl [Hs0]; · iexact Hs0
      iapply (block_split c W (Ring.sl 3 t.val) (Ring.bk 16 t.val)).2; isplitl [Hb0]; · iexact Hb0
      iexact Hr0
    iexists _; iexact HW

end Cert.DecodeIdeal.Own

end
-- ==== Proof.DecodeFirstNames.lean ====
/-
  What the runs store, as the step's functions of what they read.
-/
module

public import proofs.«01_k».proof.Proof.DecodeStep
public import proofs.«01_k».proof.Proof.DecodeFirst

@[expose] public section

set_option maxRecDepth 65536

noncomputable section

namespace Cert.DecodeIdeal.Own

open Cert.DecodeIdeal Cert.DecodeIdeal.Gen
open Idealize.ShloMosaic Idealize.ShloMosaic.TcCoe Idealize.ShloMosaic.Tactic Idealize.SL.Sem

variable {F : FTy → Type} [FloatOps F]

set_option maxHeartbeats 4000000 in
theorem first_states (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : opens (grid0.coords t)) (hc2 : fetches (grid0.coords t)) (hc3 : gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y18 : Vec F S128x1024 .f32) (W : HbBuf (F := F) c hbm0) (g : HbBuf (F := F) c (ringSlot (Ring.sl 3 t.val))) :
    (runFirst c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y18 W g).1 = statePieces (newState (k0_pay35 (arg13.view.readCov (f3Pieces (k0_pay5 (View.readAt (Elt F) arg2.view (Rect.unit (s := S128x1024) ![0, 0] S128x1024.size inb_S128x1024_S128x1024_0_0).toLoadRect (harg2.unread x0)) (View.readAt (Elt F) arg3.view (Rect.unit (s := S4x1024) ![0, 0] S4x1024.size inb_S4x1024_S4x1024_0_0).toLoadRect (harg3.unread x1)) (View.readAt (Elt F) arg4.view (Rect.unit (s := S1x1024x4096) ![0, 0, 1024] S1x1024x1024.size inb_S1x1024x4096_S1x1024x1024_0_0_1024).toLoadRect (harg4.unread x2)))) (Rect.unit (s := S3x128x1024) (k0_off4 (grid0.coords t)) S1x8x1024.size (k0_off4_inb (grid0.coords t) hc0)).toLoadRect)) (k0_pay36 (arg13.view.readCov (f3Pieces (k0_pay5 (View.readAt (Elt F) arg2.view (Rect.unit (s := S128x1024) ![0, 0] S128x1024.size inb_S128x1024_S128x1024_0_0).toLoadRect (harg2.unread x0)) (View.readAt (Elt F) arg3.view (Rect.unit (s := S4x1024) ![0, 0] S4x1024.size inb_S4x1024_S4x1024_0_0).toLoadRect (harg3.unread x1)) (View.readAt (Elt F) arg4.view (Rect.unit (s := S1x1024x4096) ![0, 0, 1024] S1x1024x1024.size inb_S1x1024x4096_S1x1024x1024_0_0_1024).toLoadRect (harg4.unread x2)))) (Rect.unit (s := S3x128x1024) (k0_off5 (grid0.coords t)) S1x8x1024.size (k0_off5_inb (grid0.coords t) hc0)).toLoadRect)) (k0_pay37 (arg13.view.readCov (f3Pieces (k0_pay5 (View.readAt (Elt F) arg2.view (Rect.unit (s := S128x1024) ![0, 0] S128x1024.size inb_S128x1024_S128x1024_0_0).toLoadRect (harg2.unread x0)) (View.readAt (Elt F) arg3.view (Rect.unit (s := S4x1024) ![0, 0] S4x1024.size inb_S4x1024_S4x1024_0_0).toLoadRect (harg3.unread x1)) (View.readAt (Elt F) arg4.view (Rect.unit (s := S1x1024x4096) ![0, 0, 1024] S1x1024x1024.size inb_S1x1024x4096_S1x1024x1024_0_0_1024).toLoadRect (harg4.unread x2)))) (Rect.unit (s := S3x128x1024) (k0_off6 (grid0.coords t)) S1x8x1024.size (k0_off6_inb (grid0.coords t) hc0)).toLoadRect)) (arg14.view.readCov (wholePiece (k0_pay16 (k0_pay5 (View.readAt (Elt F) arg2.view (Rect.unit (s := S128x1024) ![0, 0] S128x1024.size inb_S128x1024_S128x1024_0_0).toLoadRect (harg2.unread x0)) (View.readAt (Elt F) arg3.view (Rect.unit (s := S4x1024) ![0, 0] S4x1024.size inb_S4x1024_S4x1024_0_0).toLoadRect (harg3.unread x1)) (View.readAt (Elt F) arg4.view (Rect.unit (s := S1x1024x4096) ![0, 0, 1024] S1x1024x1024.size inb_S1x1024x4096_S1x1024x1024_0_0_1024).toLoadRect (harg4.unread x2))))) (Rect.unit (s := S128x1024) (k0_off7 (grid0.coords t)) S8x1024.size (k0_off7_inb (grid0.coords t) hc0)).toLoadRect) (arg16.view.readCov (wholePiece (k0_pay18 (k0_pay4 (View.readAt (Elt F) arg2.view (Rect.unit (s := S128x1024) ![0, 0] S128x1024.size inb_S128x1024_S128x1024_0_0).toLoadRect (harg2.unread x0))) (View.readAt (Elt F) arg4.view (Rect.unit (s := S1x1024x4096) ![0, 0, 2048] S1x1024x1024.size inb_S1x1024x4096_S1x1024x1024_0_0_2048).toLoadRect (harg4.unread x2)))) (Rect.unit (s := S128x1024) (k0_off7 (grid0.coords t)) S8x1024.size (k0_off7_inb (grid0.coords t) hc0)).toLoadRect) (oldAt c t W)) 64 := by sl_kernel_rfl

set_option maxHeartbeats 4000000 in
theorem first_rows (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : opens (grid0.coords t)) (hc2 : fetches (grid0.coords t)) (hc3 : gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y18 : Vec F S128x1024 .f32) (W : HbBuf (F := F) c hbm0) (g : HbBuf (F := F) c (ringSlot (Ring.sl 3 t.val))) :
    (runFirst c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y18 W g).2.2.2.2.2.2.1 = [⟨Rect.unit (s := S128x1024) (k0_off7 (grid0.coords t)) S8x1024.size (k0_off7_inb (grid0.coords t) hc0), k0_pay1 (outRows (k0_pay35 (arg13.view.readCov (f3Pieces (k0_pay5 (View.readAt (Elt F) arg2.view (Rect.unit (s := S128x1024) ![0, 0] S128x1024.size inb_S128x1024_S128x1024_0_0).toLoadRect (harg2.unread x0)) (View.readAt (Elt F) arg3.view (Rect.unit (s := S4x1024) ![0, 0] S4x1024.size inb_S4x1024_S4x1024_0_0).toLoadRect (harg3.unread x1)) (View.readAt (Elt F) arg4.view (Rect.unit (s := S1x1024x4096) ![0, 0, 1024] S1x1024x1024.size inb_S1x1024x4096_S1x1024x1024_0_0_1024).toLoadRect (harg4.unread x2)))) (Rect.unit (s := S3x128x1024) (k0_off4 (grid0.coords t)) S1x8x1024.size (k0_off4_inb (grid0.coords t) hc0)).toLoadRect)) (k0_pay36 (arg13.view.readCov (f3Pieces (k0_pay5 (View.readAt (Elt F) arg2.view (Rect.unit (s := S128x1024) ![0, 0] S128x1024.size inb_S128x1024_S128x1024_0_0).toLoadRect (harg2.unread x0)) (View.readAt (Elt F) arg3.view (Rect.unit (s := S4x1024) ![0, 0] S4x1024.size inb_S4x1024_S4x1024_0_0).toLoadRect (harg3.unread x1)) (View.readAt (Elt F) arg4.view (Rect.unit (s := S1x1024x4096) ![0, 0, 1024] S1x1024x1024.size inb_S1x1024x4096_S1x1024x1024_0_0_1024).toLoadRect (harg4.unread x2)))) (Rect.unit (s := S3x128x1024) (k0_off5 (grid0.coords t)) S1x8x1024.size (k0_off5_inb (grid0.coords t) hc0)).toLoadRect)) (k0_pay37 (arg13.view.readCov (f3Pieces (k0_pay5 (View.readAt (Elt F) arg2.view (Rect.unit (s := S128x1024) ![0, 0] S128x1024.size inb_S128x1024_S128x1024_0_0).toLoadRect (harg2.unread x0)) (View.readAt (Elt F) arg3.view (Rect.unit (s := S4x1024) ![0, 0] S4x1024.size inb_S4x1024_S4x1024_0_0).toLoadRect (harg3.unread x1)) (View.readAt (Elt F) arg4.view (Rect.unit (s := S1x1024x4096) ![0, 0, 1024] S1x1024x1024.size inb_S1x1024x4096_S1x1024x1024_0_0_1024).toLoadRect (harg4.unread x2)))) (Rect.unit (s := S3x128x1024) (k0_off6 (grid0.coords t)) S1x8x1024.size (k0_off6_inb (grid0.coords t) hc0)).toLoadRect)) (arg14.view.readCov (wholePiece (k0_pay16 (k0_pay5 (View.readAt (Elt F) arg2.view (Rect.unit (s := S128x1024) ![0, 0] S128x1024.size inb_S128x1024_S128x1024_0_0).toLoadRect (harg2.unread x0)) (View.readAt (Elt F) arg3.view (Rect.unit (s := S4x1024) ![0, 0] S4x1024.size inb_S4x1024_S4x1024_0_0).toLoadRect (harg3.unread x1)) (View.readAt (Elt F) arg4.view (Rect.unit (s := S1x1024x4096) ![0, 0, 1024] S1x1024x1024.size inb_S1x1024x4096_S1x1024x1024_0_0_1024).toLoadRect (harg4.unread x2))))) (Rect.unit (s := S128x1024) (k0_off7 (grid0.coords t)) S8x1024.size (k0_off7_inb (grid0.coords t) hc0)).toLoadRect) (arg15.view.readCov (wholePiece (k0_pay17 (k0_pay6 (View.readAt (Elt F) arg2.view (Rect.unit (s := S128x1024) ![0, 0] S128x1024.size inb_S128x1024_S128x1024_0_0).toLoadRect (harg2.unread x0)) (View.readAt (Elt F) arg4.view (Rect.unit (s := S1x1024x4096) ![0, 0, 0] S1x1024x1024.size inb_S1x1024x4096_S1x1024x1024_0_0_0).toLoadRect (harg4.unread x2))))) (Rect.unit (s := S128x1024) (k0_off7 (grid0.coords t)) S8x1024.size (k0_off7_inb (grid0.coords t) hc0)).toLoadRect) (arg16.view.readCov (wholePiece (k0_pay18 (k0_pay4 (View.readAt (Elt F) arg2.view (Rect.unit (s := S128x1024) ![0, 0] S128x1024.size inb_S128x1024_S128x1024_0_0).toLoadRect (harg2.unread x0))) (View.readAt (Elt F) arg4.view (Rect.unit (s := S1x1024x4096) ![0, 0, 2048] S1x1024x1024.size inb_S1x1024x4096_S1x1024x1024_0_0_2048).toLoadRect (harg4.unread x2)))) (Rect.unit (s := S128x1024) (k0_off7 (grid0.coords t)) S8x1024.size (k0_off7_inb (grid0.coords t) hc0)).toLoadRect) (oldAt c t W))⟩] := by sl_kernel_rfl

set_option maxHeartbeats 4000000 in
theorem first_gate (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : opens (grid0.coords t)) (hc2 : fetches (grid0.coords t)) (hc3 : gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y18 : Vec F S128x1024 .f32) (W : HbBuf (F := F) c hbm0) (g : HbBuf (F := F) c (ringSlot (Ring.sl 3 t.val))) :
    (runFirst c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y18 W g).2.1 = f3Pieces (k0_pay5 (View.readAt (Elt F) arg2.view (Rect.unit (s := S128x1024) ![0, 0] S128x1024.size inb_S128x1024_S128x1024_0_0).toLoadRect (harg2.unread x0)) (View.readAt (Elt F) arg3.view (Rect.unit (s := S4x1024) ![0, 0] S4x1024.size inb_S4x1024_S4x1024_0_0).toLoadRect (harg3.unread x1)) (View.readAt (Elt F) arg4.view (Rect.unit (s := S1x1024x4096) ![0, 0, 1024] S1x1024x1024.size inb_S1x1024x4096_S1x1024x1024_0_0_1024).toLoadRect (harg4.unread x2))) := by sl_kernel_rfl

set_option maxHeartbeats 4000000 in
theorem first_key (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : opens (grid0.coords t)) (hc2 : fetches (grid0.coords t)) (hc3 : gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y18 : Vec F S128x1024 .f32) (W : HbBuf (F := F) c hbm0) (g : HbBuf (F := F) c (ringSlot (Ring.sl 3 t.val))) :
    (runFirst c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y18 W g).2.2.1 = wholePiece (k0_pay16 (k0_pay5 (View.readAt (Elt F) arg2.view (Rect.unit (s := S128x1024) ![0, 0] S128x1024.size inb_S128x1024_S128x1024_0_0).toLoadRect (harg2.unread x0)) (View.readAt (Elt F) arg3.view (Rect.unit (s := S4x1024) ![0, 0] S4x1024.size inb_S4x1024_S4x1024_0_0).toLoadRect (harg3.unread x1)) (View.readAt (Elt F) arg4.view (Rect.unit (s := S1x1024x4096) ![0, 0, 1024] S1x1024x1024.size inb_S1x1024x4096_S1x1024x1024_0_0_1024).toLoadRect (harg4.unread x2)))) := by sl_kernel_rfl

set_option maxHeartbeats 4000000 in
theorem first_query (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : opens (grid0.coords t)) (hc2 : fetches (grid0.coords t)) (hc3 : gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y18 : Vec F S128x1024 .f32) (W : HbBuf (F := F) c hbm0) (g : HbBuf (F := F) c (ringSlot (Ring.sl 3 t.val))) :
    (runFirst c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y18 W g).2.2.2.1 = wholePiece (k0_pay17 (k0_pay6 (View.readAt (Elt F) arg2.view (Rect.unit (s := S128x1024) ![0, 0] S128x1024.size inb_S128x1024_S128x1024_0_0).toLoadRect (harg2.unread x0)) (View.readAt (Elt F) arg4.view (Rect.unit (s := S1x1024x4096) ![0, 0, 0] S1x1024x1024.size inb_S1x1024x4096_S1x1024x1024_0_0_0).toLoadRect (harg4.unread x2)))) := by sl_kernel_rfl

set_option maxHeartbeats 4000000 in
theorem first_value (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : opens (grid0.coords t)) (hc2 : fetches (grid0.coords t)) (hc3 : gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y18 : Vec F S128x1024 .f32) (W : HbBuf (F := F) c hbm0) (g : HbBuf (F := F) c (ringSlot (Ring.sl 3 t.val))) :
    (runFirst c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y18 W g).2.2.2.2.1 = wholePiece (k0_pay18 (k0_pay4 (View.readAt (Elt F) arg2.view (Rect.unit (s := S128x1024) ![0, 0] S128x1024.size inb_S128x1024_S128x1024_0_0).toLoadRect (harg2.unread x0))) (View.readAt (Elt F) arg4.view (Rect.unit (s := S1x1024x4096) ![0, 0, 2048] S1x1024x1024.size inb_S1x1024x4096_S1x1024x1024_0_0_2048).toLoadRect (harg4.unread x2))) := by sl_kernel_rfl

set_option maxHeartbeats 4000000 in
theorem first_silu (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : opens (grid0.coords t)) (hc2 : fetches (grid0.coords t)) (hc3 : gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y18 : Vec F S128x1024 .f32) (W : HbBuf (F := F) c hbm0) (g : HbBuf (F := F) c (ringSlot (Ring.sl 3 t.val))) :
    (runFirst c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y18 W g).2.2.2.2.2.1 = wholePiece (k0_pay34 (k0_pay9 (k0_pay7 (View.readAt (Elt F) arg2.view (Rect.unit (s := S128x1024) ![0, 0] S128x1024.size inb_S128x1024_S128x1024_0_0).toLoadRect (harg2.unread x0)) (View.readAt (Elt F) arg4.view (Rect.unit (s := S1x1024x4096) ![0, 0, 3072] S1x1024x1024.size inb_S1x1024x4096_S1x1024x1024_0_0_3072).toLoadRect (harg4.unread x2))) (k0_pay8 (View.readAt (Elt F) arg2.view (Rect.unit (s := S128x1024) ![0, 0] S128x1024.size inb_S128x1024_S128x1024_0_0).toLoadRect (harg2.unread x0)) (View.readAt (Elt F) arg4.view (Rect.unit (s := S1x1024x4096) ![0, 0, 3072] S1x1024x1024.size inb_S1x1024x4096_S1x1024x1024_0_0_3072).toLoadRect (harg4.unread x2))))) := by sl_kernel_rfl

end Cert.DecodeIdeal.Own
-- ==== Proof.DecodeMid.lean ====
/-
  The body of the decode kernel at a grid point that starts one further transfer and advances eight sequences.
-/
module

public import proofs.«01_k».proof.Proof.DecodeRing

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 20000000 in
/-- What this point stores is what the run finds: the new states of eight sequences, and their eight rows of results. -/
def runMid (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : ¬opens (grid0.coords t)) (hc2 : fetches (grid0.coords t)) (hc3 : ¬gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y13 : Vec F S3x128x1024 .f32) (y14 : Vec F S128x1024 .f32) (y15 : Vec F S128x1024 .f32) (y16 : Vec F S128x1024 .f32) (y17 : Vec F S128x1024 .f32) (y18 : Vec F S128x1024 .f32) (W : HbBuf (F := F) c hbm0) (g : HbBuf (F := F) c (ringSlot (Ring.sl 3 t.val))) :
    Σ' (L12 : List (View.Piece (Elt F) S1x8x8x128x128 .f32)), { L18 : List (View.Piece (Elt F) S128x1024 .f32) // ∀ (x11 : Vec F S128x1024 .f32), ∀ (B : HbBuf (F := F) c hbm1) (Ws : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare x11 ∗ (∃ d, owns (c : Thread nD τ) arg12 fullShare d) ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17 ∗ owns (c : Thread nD τ) arg18 fullShare y18 ∗ hbPt c hbm1 B ∗ flyKeep c W (Ring.sl 3 t.val) (Ring.bk 16 t.val) g ∗ Ring.inflight (flyKeep c W) (Ring.sl 3 (t.val + 1)) (Ring.bk 16 (t.val + 1)) ∗ Ring.free (cellZero c) (slotKeep c W) (Ring.sl 3 (t.val + 2)) ∗ owes (c : Thread nD τ) 0 Ws
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare x11 ∗ (∃ f, arg12.view.loc (c : Thread nD τ) ↦[arg12.view.set]{fullShare} arg12.view.writes (Elt F) f L12) ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17 ∗ (arg18.view.loc (c : Thread nD τ) ↦[arg18.view.set]{fullShare} arg18.view.writes (Elt F) (harg18.unread y18) L18) ∗ hbPt c hbm1 B ∗ Ring.inflight (flyKeep c W) (Ring.sl 3 (t.val + 1)) (Ring.bk 16 (t.val + 1)) ∗ Ring.inflight (flyKeep c W) (Ring.sl 3 (t.val + 2)) (Ring.bk 16 (t.val + 2)) ∗ Ring.free (cellZero c) (slotKeep c W) (Ring.sl 3 t.val) ∗ (∃ W', owes (c : Thread nD τ) 0 W')) -∗ K ⟨⟩))
          ⊢ wp frame (wpE (defs₀ (F := F)) Variants.none c none) Set.univ (cc0_hgrn_decode (grid0.coords t) arg2 harg2 arg3 harg3 arg4 harg4 arg5 harg5 arg6 harg6 arg7 harg7 arg8 harg8 (Memref.whole main_arg1) (Memref.isWhole_whole _) (Memref.whole main_arg2) (Memref.isWhole_whole _) arg11 harg11 arg12 harg12 arg13 harg13 arg14 harg14 arg15 harg15 arg16 harg16 arg17 harg17 arg18 harg18 scr6 (Memref.isWhole_whole _) cc0_scratch7) K } := by
  refine ⟨?_, ?_, fun x11 B Ws K => ?run⟩
  case run =>
    haveI : Fact (onPass (grid0.coords t)) := ⟨hc0⟩
    haveI : Fact (¬opens (grid0.coords t)) := ⟨hc1⟩
    haveI : Fact (fetches (grid0.coords t)) := ⟨hc2⟩
    haveI : Fact (¬gating (grid0.coords t)) := ⟨hc3⟩
    haveI : Fact (¬closing (grid0.coords t)) := ⟨hc4⟩
    haveI : Fact (¬blanking (grid0.coords t)) := ⟨hc5⟩
    simp only [cc0_hgrn_decode_eq_skeleton]; unfold cc0_hgrn_decode_skel
    simp only [k0_part66_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    have at10 := named_10 t hc0
    unfold owns Ring.free Ring.inflight
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, HB, ⟨Hfly0, Hrest0⟩, ⟨%g1, Hfly1, Hrest1⟩, ⟨Hc2, ⟨%g2, Hs2, Hw2⟩⟩, HW, Hk⟩
    ihave Hp2 := (block_split c W (Ring.sl 3 (t.val + 2)) (Ring.bk 16 (t.val + 2))).1 $$ Hw2
    icases Hp2 with ⟨Hb2, Hr2⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H11]
    · iexists _; isplitr; · ipureintro; exact harg11.read_unread _
      iexact H11
    isplitl [H12]; · iexists _; iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexact H18
    isplitl [HB]; · iexact HB
    isplitl [Hfly1 Hrest1]
    · iexists g1; isplitl [Hfly1]; · iexact Hfly1
      iexact Hrest1
    isplitl [Hc2 Hr2]
    · iexists _; isplitl [Hc2]; · iexact Hc2
      iexact Hr2
    isplitl [Hfly0 Hfly0_dst Hfly0_src Hrest0]
    · isplitl [Hfly0]; · iexact Hfly0
      iexists _; isplitl [Hfly0_dst]; · iexact Hfly0_dst
      iapply (block_split c W (Ring.sl 3 t.val) (Ring.bk 16 t.val)).2; isplitl [Hfly0_src]; · iexact Hfly0_src
      iexact Hrest0
    iexists _; iexact HW

end Cert.DecodeIdeal.Own

end
-- ==== Proof.DecodeMidNames.lean ====
/-
  What the runs store, as the step's functions of what they read.
-/
module

public import proofs.«01_k».proof.Proof.DecodeStep
public import proofs.«01_k».proof.Proof.DecodeMid

@[expose] public section

set_option maxRecDepth 65536

noncomputable section

namespace Cert.DecodeIdeal.Own

open Cert.DecodeIdeal Cert.DecodeIdeal.Gen
open Idealize.ShloMosaic Idealize.ShloMosaic.TcCoe Idealize.ShloMosaic.Tactic Idealize.SL.Sem

variable {F : FTy → Type} [FloatOps F]

set_option maxHeartbeats 4000000 in
theorem mid_states (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : ¬opens (grid0.coords t)) (hc2 : fetches (grid0.coords t)) (hc3 : ¬gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y13 : Vec F S3x128x1024 .f32) (y14 : Vec F S128x1024 .f32) (y15 : Vec F S128x1024 .f32) (y16 : Vec F S128x1024 .f32) (y17 : Vec F S128x1024 .f32) (y18 : Vec F S128x1024 .f32) (W : HbBuf (F := F) c hbm0) (g : HbBuf (F := F) c (ringSlot (Ring.sl 3 t.val))) :
    (runMid c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y13 y14 y15 y16 y17 y18 W g).1 = statePieces (newState (k0_pay35 (View.readAt (Elt F) arg13.view (Rect.unit (s := S3x128x1024) (k0_off4 (grid0.coords t)) S1x8x1024.size (k0_off4_inb (grid0.coords t) hc0)).toLoadRect (harg13.unread y13))) (k0_pay36 (View.readAt (Elt F) arg13.view (Rect.unit (s := S3x128x1024) (k0_off5 (grid0.coords t)) S1x8x1024.size (k0_off5_inb (grid0.coords t) hc0)).toLoadRect (harg13.unread y13))) (k0_pay37 (View.readAt (Elt F) arg13.view (Rect.unit (s := S3x128x1024) (k0_off6 (grid0.coords t)) S1x8x1024.size (k0_off6_inb (grid0.coords t) hc0)).toLoadRect (harg13.unread y13))) (View.readAt (Elt F) arg14.view (Rect.unit (s := S128x1024) (k0_off7 (grid0.coords t)) S8x1024.size (k0_off7_inb (grid0.coords t) hc0)).toLoadRect (harg14.unread y14)) (View.readAt (Elt F) arg16.view (Rect.unit (s := S128x1024) (k0_off7 (grid0.coords t)) S8x1024.size (k0_off7_inb (grid0.coords t) hc0)).toLoadRect (harg16.unread y16)) (oldAt c t W)) 64 := by sl_kernel_rfl

set_option maxHeartbeats 4000000 in
theorem mid_rows (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : ¬opens (grid0.coords t)) (hc2 : fetches (grid0.coords t)) (hc3 : ¬gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y13 : Vec F S3x128x1024 .f32) (y14 : Vec F S128x1024 .f32) (y15 : Vec F S128x1024 .f32) (y16 : Vec F S128x1024 .f32) (y17 : Vec F S128x1024 .f32) (y18 : Vec F S128x1024 .f32) (W : HbBuf (F := F) c hbm0) (g : HbBuf (F := F) c (ringSlot (Ring.sl 3 t.val))) :
    (runMid c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y13 y14 y15 y16 y17 y18 W g).2.1 = [⟨Rect.unit (s := S128x1024) (k0_off7 (grid0.coords t)) S8x1024.size (k0_off7_inb (grid0.coords t) hc0), k0_pay1 (outRows (k0_pay35 (View.readAt (Elt F) arg13.view (Rect.unit (s := S3x128x1024) (k0_off4 (grid0.coords t)) S1x8x1024.size (k0_off4_inb (grid0.coords t) hc0)).toLoadRect (harg13.unread y13))) (k0_pay36 (View.readAt (Elt F) arg13.view (Rect.unit (s := S3x128x1024) (k0_off5 (grid0.coords t)) S1x8x1024.size (k0_off5_inb (grid0.coords t) hc0)).toLoadRect (harg13.unread y13))) (k0_pay37 (View.readAt (Elt F) arg13.view (Rect.unit (s := S3x128x1024) (k0_off6 (grid0.coords t)) S1x8x1024.size (k0_off6_inb (grid0.coords t) hc0)).toLoadRect (harg13.unread y13))) (View.readAt (Elt F) arg14.view (Rect.unit (s := S128x1024) (k0_off7 (grid0.coords t)) S8x1024.size (k0_off7_inb (grid0.coords t) hc0)).toLoadRect (harg14.unread y14)) (View.readAt (Elt F) arg15.view (Rect.unit (s := S128x1024) (k0_off7 (grid0.coords t)) S8x1024.size (k0_off7_inb (grid0.coords t) hc0)).toLoadRect (harg15.unread y15)) (View.readAt (Elt F) arg16.view (Rect.unit (s := S128x1024) (k0_off7 (grid0.coords t)) S8x1024.size (k0_off7_inb (grid0.coords t) hc0)).toLoadRect (harg16.unread y16)) (oldAt c t W))⟩] := by sl_kernel_rfl

end Cert.DecodeIdeal.Own
-- ==== Proof.DecodeTail.lean ====
/-
  The body of the decode kernel at the last point but one: no transfer is left to start.
-/
module

public import proofs.«01_k».proof.Proof.DecodeRing

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 20000000 in
/-- What this point stores is what the run finds: the new states of eight sequences, and their eight rows of results. -/
def runTail (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : ¬opens (grid0.coords t)) (hc2 : ¬fetches (grid0.coords t)) (hc3 : ¬gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y13 : Vec F S3x128x1024 .f32) (y14 : Vec F S128x1024 .f32) (y15 : Vec F S128x1024 .f32) (y16 : Vec F S128x1024 .f32) (y17 : Vec F S128x1024 .f32) (y18 : Vec F S128x1024 .f32) (W : HbBuf (F := F) c hbm0) (g : HbBuf (F := F) c (ringSlot (Ring.sl 3 t.val))) :
    Σ' (L12 : List (View.Piece (Elt F) S1x8x8x128x128 .f32)), { L18 : List (View.Piece (Elt F) S128x1024 .f32) // ∀ (x11 : Vec F S128x1024 .f32), ∀ (B : HbBuf (F := F) c hbm1) (Ws : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare x11 ∗ (∃ d, owns (c : Thread nD τ) arg12 fullShare d) ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17 ∗ owns (c : Thread nD τ) arg18 fullShare y18 ∗ hbPt c hbm1 B ∗ flyKeep c W (Ring.sl 3 t.val) (Ring.bk 16 t.val) g ∗ Ring.slotAt 2 (cellZero c) (slotKeep c W) (flyKeep c W) t.val 1 ∗ Ring.free (cellZero c) (slotKeep c W) (Ring.sl 3 (t.val + 2)) ∗ owes (c : Thread nD τ) 0 Ws
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare x11 ∗ (∃ f, arg12.view.loc (c : Thread nD τ) ↦[arg12.view.set]{fullShare} arg12.view.writes (Elt F) f L12) ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17 ∗ (arg18.view.loc (c : Thread nD τ) ↦[arg18.view.set]{fullShare} arg18.view.writes (Elt F) (harg18.unread y18) L18) ∗ hbPt c hbm1 B ∗ Ring.slotAt 2 (cellZero c) (slotKeep c W) (flyKeep c W) t.val 1 ∗ Ring.free (cellZero c) (slotKeep c W) (Ring.sl 3 (t.val + 2)) ∗ Ring.free (cellZero c) (slotKeep c W) (Ring.sl 3 t.val) ∗ (∃ W', owes (c : Thread nD τ) 0 W')) -∗ K ⟨⟩))
          ⊢ wp frame (wpE (defs₀ (F := F)) Variants.none c none) Set.univ (cc0_hgrn_decode (grid0.coords t) arg2 harg2 arg3 harg3 arg4 harg4 arg5 harg5 arg6 harg6 arg7 harg7 arg8 harg8 (Memref.whole main_arg1) (Memref.isWhole_whole _) (Memref.whole main_arg2) (Memref.isWhole_whole _) arg11 harg11 arg12 harg12 arg13 harg13 arg14 harg14 arg15 harg15 arg16 harg16 arg17 harg17 arg18 harg18 scr6 (Memref.isWhole_whole _) cc0_scratch7) K } := by
  refine ⟨?_, ?_, fun x11 B Ws K => ?run⟩
  case run =>
    haveI : Fact (onPass (grid0.coords t)) := ⟨hc0⟩
    haveI : Fact (¬opens (grid0.coords t)) := ⟨hc1⟩
    haveI : Fact (¬fetches (grid0.coords t)) := ⟨hc2⟩
    haveI : Fact (¬gating (grid0.coords t)) := ⟨hc3⟩
    haveI : Fact (¬closing (grid0.coords t)) := ⟨hc4⟩
    haveI : Fact (¬blanking (grid0.coords t)) := ⟨hc5⟩
    simp only [cc0_hgrn_decode_eq_skeleton]; unfold cc0_hgrn_decode_skel
    simp only [k0_part66_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    have at10 := named_10 t hc0
    unfold owns Ring.free
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, HB, ⟨Hfly0, Hrest0⟩, Hro, ⟨Hc2, ⟨%g2, Hs2, Hw2⟩⟩, HW, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H11]
    · iexists _; isplitr; · ipureintro; exact harg11.read_unread _
      iexact H11
    isplitl [H12]; · iexists _; iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexact H18
    isplitl [HB]; · iexact HB
    isplitl [Hro]; · iexact Hro
    isplitl [Hc2 Hs2 Hw2]
    · isplitl [Hc2]; · iexact Hc2
      iexists g2; isplitl [Hs2]; · iexact Hs2
      iexact Hw2
    isplitl [Hfly0 Hfly0_dst Hfly0_src Hrest0]
    · isplitl [Hfly0]; · iexact Hfly0
      iexists _; isplitl [Hfly0_dst]; · iexact Hfly0_dst
      iapply (block_split c W (Ring.sl 3 t.val) (Ring.bk 16 t.val)).2; isplitl [Hfly0_src]; · iexact Hfly0_src
      iexact Hrest0
    iexists _; iexact HW

end Cert.DecodeIdeal.Own

end
-- ==== Proof.DecodeTailNames.lean ====
/-
  What the runs store, as the step's functions of what they read.
-/
module

public import proofs.«01_k».proof.Proof.DecodeStep
public import proofs.«01_k».proof.Proof.DecodeTail

@[expose] public section

set_option maxRecDepth 65536

noncomputable section

namespace Cert.DecodeIdeal.Own

open Cert.DecodeIdeal Cert.DecodeIdeal.Gen
open Idealize.ShloMosaic Idealize.ShloMosaic.TcCoe Idealize.ShloMosaic.Tactic Idealize.SL.Sem

variable {F : FTy → Type} [FloatOps F]

set_option maxHeartbeats 4000000 in
theorem tail_states (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : ¬opens (grid0.coords t)) (hc2 : ¬fetches (grid0.coords t)) (hc3 : ¬gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y13 : Vec F S3x128x1024 .f32) (y14 : Vec F S128x1024 .f32) (y15 : Vec F S128x1024 .f32) (y16 : Vec F S128x1024 .f32) (y17 : Vec F S128x1024 .f32) (y18 : Vec F S128x1024 .f32) (W : HbBuf (F := F) c hbm0) (g : HbBuf (F := F) c (ringSlot (Ring.sl 3 t.val))) :
    (runTail c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y13 y14 y15 y16 y17 y18 W g).1 = statePieces (newState (k0_pay35 (View.readAt (Elt F) arg13.view (Rect.unit (s := S3x128x1024) (k0_off4 (grid0.coords t)) S1x8x1024.size (k0_off4_inb (grid0.coords t) hc0)).toLoadRect (harg13.unread y13))) (k0_pay36 (View.readAt (Elt F) arg13.view (Rect.unit (s := S3x128x1024) (k0_off5 (grid0.coords t)) S1x8x1024.size (k0_off5_inb (grid0.coords t) hc0)).toLoadRect (harg13.unread y13))) (k0_pay37 (View.readAt (Elt F) arg13.view (Rect.unit (s := S3x128x1024) (k0_off6 (grid0.coords t)) S1x8x1024.size (k0_off6_inb (grid0.coords t) hc0)).toLoadRect (harg13.unread y13))) (View.readAt (Elt F) arg14.view (Rect.unit (s := S128x1024) (k0_off7 (grid0.coords t)) S8x1024.size (k0_off7_inb (grid0.coords t) hc0)).toLoadRect (harg14.unread y14)) (View.readAt (Elt F) arg16.view (Rect.unit (s := S128x1024) (k0_off7 (grid0.coords t)) S8x1024.size (k0_off7_inb (grid0.coords t) hc0)).toLoadRect (harg16.unread y16)) (oldAt c t W)) 64 := by sl_kernel_rfl

set_option maxHeartbeats 4000000 in
theorem tail_rows (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : ¬opens (grid0.coords t)) (hc2 : ¬fetches (grid0.coords t)) (hc3 : ¬gating (grid0.coords t)) (hc4 : ¬closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y13 : Vec F S3x128x1024 .f32) (y14 : Vec F S128x1024 .f32) (y15 : Vec F S128x1024 .f32) (y16 : Vec F S128x1024 .f32) (y17 : Vec F S128x1024 .f32) (y18 : Vec F S128x1024 .f32) (W : HbBuf (F := F) c hbm0) (g : HbBuf (F := F) c (ringSlot (Ring.sl 3 t.val))) :
    (runTail c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y13 y14 y15 y16 y17 y18 W g).2.1 = [⟨Rect.unit (s := S128x1024) (k0_off7 (grid0.coords t)) S8x1024.size (k0_off7_inb (grid0.coords t) hc0), k0_pay1 (outRows (k0_pay35 (View.readAt (Elt F) arg13.view (Rect.unit (s := S3x128x1024) (k0_off4 (grid0.coords t)) S1x8x1024.size (k0_off4_inb (grid0.coords t) hc0)).toLoadRect (harg13.unread y13))) (k0_pay36 (View.readAt (Elt F) arg13.view (Rect.unit (s := S3x128x1024) (k0_off5 (grid0.coords t)) S1x8x1024.size (k0_off5_inb (grid0.coords t) hc0)).toLoadRect (harg13.unread y13))) (k0_pay37 (View.readAt (Elt F) arg13.view (Rect.unit (s := S3x128x1024) (k0_off6 (grid0.coords t)) S1x8x1024.size (k0_off6_inb (grid0.coords t) hc0)).toLoadRect (harg13.unread y13))) (View.readAt (Elt F) arg14.view (Rect.unit (s := S128x1024) (k0_off7 (grid0.coords t)) S8x1024.size (k0_off7_inb (grid0.coords t) hc0)).toLoadRect (harg14.unread y14)) (View.readAt (Elt F) arg15.view (Rect.unit (s := S128x1024) (k0_off7 (grid0.coords t)) S8x1024.size (k0_off7_inb (grid0.coords t) hc0)).toLoadRect (harg15.unread y15)) (View.readAt (Elt F) arg16.view (Rect.unit (s := S128x1024) (k0_off7 (grid0.coords t)) S8x1024.size (k0_off7_inb (grid0.coords t) hc0)).toLoadRect (harg16.unread y16)) (oldAt c t W))⟩] := by sl_kernel_rfl

end Cert.DecodeIdeal.Own
-- ==== Proof.DecodeLast.lean ====
/-
  The body of the decode kernel at the last grid point: after the last eight sequences it normalizes, gates and projects
  the rows of all of them and stores the block of results.
-/
module

public import proofs.«01_k».proof.Proof.DecodeRing

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 20000000 in
/-- What this point stores is what the run finds: the new states of eight sequences, and their eight rows of results. -/
def runLast (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : ¬opens (grid0.coords t)) (hc2 : ¬fetches (grid0.coords t)) (hc3 : ¬gating (grid0.coords t)) (hc4 : closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y13 : Vec F S3x128x1024 .f32) (y14 : Vec F S128x1024 .f32) (y15 : Vec F S128x1024 .f32) (y16 : Vec F S128x1024 .f32) (y17 : Vec F S128x1024 .f32) (y18 : Vec F S128x1024 .f32) (W : HbBuf (F := F) c hbm0) (g : HbBuf (F := F) c (ringSlot (Ring.sl 3 t.val))) :
    Σ' (L12 : List (View.Piece (Elt F) S1x8x8x128x128 .f32)), Σ' (L11 : List (View.Piece (Elt F) S128x1024 .f32)), { L18 : List (View.Piece (Elt F) S128x1024 .f32) // ∀ (B : HbBuf (F := F) c hbm1) (Ws : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg11 fullShare d) ∗ (∃ d, owns (c : Thread nD τ) arg12 fullShare d) ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17 ∗ owns (c : Thread nD τ) arg18 fullShare y18 ∗ hbPt c hbm1 B ∗ flyKeep c W (Ring.sl 3 t.val) (Ring.bk 16 t.val) g ∗ Ring.slotAt 2 (cellZero c) (slotKeep c W) (flyKeep c W) t.val 1 ∗ Ring.free (cellZero c) (slotKeep c W) (Ring.sl 3 (t.val + 2)) ∗ owes (c : Thread nD τ) 0 Ws
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17 ∗ (arg18.view.loc (c : Thread nD τ) ↦[arg18.view.set]{fullShare} arg18.view.writes (Elt F) (harg18.unread y18) L18) ∗ hbPt c hbm1 B ∗ Ring.slotAt 2 (cellZero c) (slotKeep c W) (flyKeep c W) t.val 1 ∗ Ring.free (cellZero c) (slotKeep c W) (Ring.sl 3 (t.val + 2)) ∗ Ring.free (cellZero c) (slotKeep c W) (Ring.sl 3 t.val) ∗ (∃ W', owes (c : Thread nD τ) 0 W')) -∗ K ⟨⟩))
          ⊢ wp frame (wpE (defs₀ (F := F)) Variants.none c none) Set.univ (cc0_hgrn_decode (grid0.coords t) arg2 harg2 arg3 harg3 arg4 harg4 arg5 harg5 arg6 harg6 arg7 harg7 arg8 harg8 (Memref.whole main_arg1) (Memref.isWhole_whole _) (Memref.whole main_arg2) (Memref.isWhole_whole _) arg11 harg11 arg12 harg12 arg13 harg13 arg14 harg14 arg15 harg15 arg16 harg16 arg17 harg17 arg18 harg18 scr6 (Memref.isWhole_whole _) cc0_scratch7) K } := by
  refine ⟨?_, ?_, ?_, fun B Ws K => ?run⟩
  case run =>
    haveI : Fact (onPass (grid0.coords t)) := ⟨hc0⟩
    haveI : Fact (¬opens (grid0.coords t)) := ⟨hc1⟩
    haveI : Fact (¬fetches (grid0.coords t)) := ⟨hc2⟩
    haveI : Fact (¬gating (grid0.coords t)) := ⟨hc3⟩
    haveI : Fact (closing (grid0.coords t)) := ⟨hc4⟩
    haveI : Fact (¬blanking (grid0.coords t)) := ⟨hc5⟩
    simp only [cc0_hgrn_decode_eq_skeleton]; unfold cc0_hgrn_decode_skel
    simp only [k0_part66_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    have at10 := named_10 t hc0
    unfold owns Ring.free
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, HB, ⟨Hfly0, Hrest0⟩, Hro, ⟨Hc2, ⟨%g2, Hs2, Hw2⟩⟩, HW, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H11]; · iexists _; iexact H11
    isplitl [H12]; · iexists _; iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexact H18
    isplitl [HB]; · iexact HB
    isplitl [Hro]; · iexact Hro
    isplitl [Hc2 Hs2 Hw2]
    · isplitl [Hc2]; · iexact Hc2
      iexists g2; isplitl [Hs2]; · iexact Hs2
      iexact Hw2
    isplitl [Hfly0 Hfly0_dst Hfly0_src Hrest0]
    · isplitl [Hfly0]; · iexact Hfly0
      iexists _; isplitl [Hfly0_dst]; · iexact Hfly0_dst
      iapply (block_split c W (Ring.sl 3 t.val) (Ring.bk 16 t.val)).2; isplitl [Hfly0_src]; · iexact Hfly0_src
      iexact Hrest0
    iexists _; iexact HW

end Cert.DecodeIdeal.Own

end
-- ==== Proof.DecodeLastNames.lean ====
/-
  What the runs store, as the step's functions of what they read.
-/
module

public import proofs.«01_k».proof.Proof.DecodeStep
public import proofs.«01_k».proof.Proof.DecodeLast

@[expose] public section

set_option maxRecDepth 65536

noncomputable section

namespace Cert.DecodeIdeal.Own

open Cert.DecodeIdeal Cert.DecodeIdeal.Gen
open Idealize.ShloMosaic Idealize.ShloMosaic.TcCoe Idealize.ShloMosaic.Tactic Idealize.SL.Sem

variable {F : FTy → Type} [FloatOps F]

set_option maxHeartbeats 4000000 in
theorem last_states (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : ¬opens (grid0.coords t)) (hc2 : ¬fetches (grid0.coords t)) (hc3 : ¬gating (grid0.coords t)) (hc4 : closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y13 : Vec F S3x128x1024 .f32) (y14 : Vec F S128x1024 .f32) (y15 : Vec F S128x1024 .f32) (y16 : Vec F S128x1024 .f32) (y17 : Vec F S128x1024 .f32) (y18 : Vec F S128x1024 .f32) (W : HbBuf (F := F) c hbm0) (g : HbBuf (F := F) c (ringSlot (Ring.sl 3 t.val))) :
    (runLast c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y13 y14 y15 y16 y17 y18 W g).1 = statePieces (newState (k0_pay35 (View.readAt (Elt F) arg13.view (Rect.unit (s := S3x128x1024) (k0_off4 (grid0.coords t)) S1x8x1024.size (k0_off4_inb (grid0.coords t) hc0)).toLoadRect (harg13.unread y13))) (k0_pay36 (View.readAt (Elt F) arg13.view (Rect.unit (s := S3x128x1024) (k0_off5 (grid0.coords t)) S1x8x1024.size (k0_off5_inb (grid0.coords t) hc0)).toLoadRect (harg13.unread y13))) (k0_pay37 (View.readAt (Elt F) arg13.view (Rect.unit (s := S3x128x1024) (k0_off6 (grid0.coords t)) S1x8x1024.size (k0_off6_inb (grid0.coords t) hc0)).toLoadRect (harg13.unread y13))) (View.readAt (Elt F) arg14.view (Rect.unit (s := S128x1024) (k0_off7 (grid0.coords t)) S8x1024.size (k0_off7_inb (grid0.coords t) hc0)).toLoadRect (harg14.unread y14)) (View.readAt (Elt F) arg16.view (Rect.unit (s := S128x1024) (k0_off7 (grid0.coords t)) S8x1024.size (k0_off7_inb (grid0.coords t) hc0)).toLoadRect (harg16.unread y16)) (oldAt c t W)) 64 := by sl_kernel_rfl

set_option maxHeartbeats 4000000 in
theorem last_rows (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : ¬opens (grid0.coords t)) (hc2 : ¬fetches (grid0.coords t)) (hc3 : ¬gating (grid0.coords t)) (hc4 : closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y13 : Vec F S3x128x1024 .f32) (y14 : Vec F S128x1024 .f32) (y15 : Vec F S128x1024 .f32) (y16 : Vec F S128x1024 .f32) (y17 : Vec F S128x1024 .f32) (y18 : Vec F S128x1024 .f32) (W : HbBuf (F := F) c hbm0) (g : HbBuf (F := F) c (ringSlot (Ring.sl 3 t.val))) :
    (runLast c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y13 y14 y15 y16 y17 y18 W g).2.2.1 = [⟨Rect.unit (s := S128x1024) (k0_off7 (grid0.coords t)) S8x1024.size (k0_off7_inb (grid0.coords t) hc0), k0_pay1 (outRows (k0_pay35 (View.readAt (Elt F) arg13.view (Rect.unit (s := S3x128x1024) (k0_off4 (grid0.coords t)) S1x8x1024.size (k0_off4_inb (grid0.coords t) hc0)).toLoadRect (harg13.unread y13))) (k0_pay36 (View.readAt (Elt F) arg13.view (Rect.unit (s := S3x128x1024) (k0_off5 (grid0.coords t)) S1x8x1024.size (k0_off5_inb (grid0.coords t) hc0)).toLoadRect (harg13.unread y13))) (k0_pay37 (View.readAt (Elt F) arg13.view (Rect.unit (s := S3x128x1024) (k0_off6 (grid0.coords t)) S1x8x1024.size (k0_off6_inb (grid0.coords t) hc0)).toLoadRect (harg13.unread y13))) (View.readAt (Elt F) arg14.view (Rect.unit (s := S128x1024) (k0_off7 (grid0.coords t)) S8x1024.size (k0_off7_inb (grid0.coords t) hc0)).toLoadRect (harg14.unread y14)) (View.readAt (Elt F) arg15.view (Rect.unit (s := S128x1024) (k0_off7 (grid0.coords t)) S8x1024.size (k0_off7_inb (grid0.coords t) hc0)).toLoadRect (harg15.unread y15)) (View.readAt (Elt F) arg16.view (Rect.unit (s := S128x1024) (k0_off7 (grid0.coords t)) S8x1024.size (k0_off7_inb (grid0.coords t) hc0)).toLoadRect (harg16.unread y16)) (oldAt c t W))⟩] := by sl_kernel_rfl

set_option maxHeartbeats 4000000 in
theorem last_out (c : Dev nD) (t : Fin cfg0.N) (arg2 : Memref sig .tc .vmem S128x1024 .f32) (harg2 : arg2.IsWhole) (arg3 : Memref sig .tc .vmem S4x1024 .f32) (harg3 : arg3.IsWhole) (arg4 : Memref sig .tc .vmem S1x1024x4096 .f32) (harg4 : arg4.IsWhole) (arg5 : Memref sig .tc .vmem S1x1x128 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S128x1024 .f32) (harg11 : arg11.IsWhole) (arg12 : Memref sig .tc .vmem S1x8x8x128x128 .f32) (harg12 : arg12.IsWhole) (arg13 : Memref sig .tc .vmem S3x128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (hc0 : onPass (grid0.coords t)) (hc1 : ¬opens (grid0.coords t)) (hc2 : ¬fetches (grid0.coords t)) (hc3 : ¬gating (grid0.coords t)) (hc4 : closing (grid0.coords t)) (hc5 : ¬blanking (grid0.coords t))
    (x0 : Vec F S128x1024 .f32) (x1 : Vec F S4x1024 .f32) (x2 : Vec F S1x1024x4096 .f32) (x3 : Vec F S1x1x128 .f32) (x4 : Vec F S1x1024x1024 .f32) (x5 : Vec F S1x1x1024 .f32) (x6 : Vec F S1x1x1024 .f32) (y13 : Vec F S3x128x1024 .f32) (y14 : Vec F S128x1024 .f32) (y15 : Vec F S128x1024 .f32) (y16 : Vec F S128x1024 .f32) (y17 : Vec F S128x1024 .f32) (y18 : Vec F S128x1024 .f32) (W : HbBuf (F := F) c hbm0) (g : HbBuf (F := F) c (ringSlot (Ring.sl 3 t.val))) :
    (runLast c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y13 y14 y15 y16 y17 y18 W g).2.1 = [⟨(Rect.unit (s := S128x1024) ![0, 0] S128x1024.size inb_S128x1024_S128x1024_0_0), finalOf (View.readAt (Elt F) arg18.view (Rect.unit (s := S128x1024) ![0, 0] S128x1024.size inb_S128x1024_S128x1024_0_0).toLoadRect (arg18.view.writes (Elt F) (harg18.unread y18) (runLast c t arg2 harg2 arg3 harg3 arg4 harg4 arg5 harg5 arg6 harg6 arg7 harg7 arg8 harg8 arg11 harg11 arg12 harg12 arg13 harg13 arg14 harg14 arg15 harg15 arg16 harg16 arg17 harg17 arg18 harg18 hc0 hc1 hc2 hc3 hc4 hc5 x0 x1 x2 x3 x4 x5 x6 y13 y14 y15 y16 y17 y18 W g).2.2.1)) (View.readAt (Elt F) arg5.view (Rect.unit (s := S1x1x128) ![0, 0, 0] S1x1x128.size inb_S1x1x128_S1x1x128_0_0_0).toLoadRect (harg5.unread x3)) (View.readAt (Elt F) arg17.view (Rect.unit (s := S128x1024) ![0, 0] S128x1024.size inb_S128x1024_S128x1024_0_0).toLoadRect (harg17.unread y17)) (View.readAt (Elt F) arg6.view (Rect.unit (s := S1x1024x1024) ![0, 0, 0] S1x1024x1024.size inb_S1x1024x1024_S1x1024x1024_0_0_0).toLoadRect (harg6.unread x4)) (View.readAt (Elt F) arg2.view (Rect.unit (s := S128x1024) ![0, 0] S128x1024.size inb_S128x1024_S128x1024_0_0).toLoadRect (harg2.unread x0)) (View.readAt (Elt F) arg7.view (Rect.unit (s := S1x1x1024) ![0, 0, 0] S1x1x1024.size inb_S1x1x1024_S1x1x1024_0_0_0).toLoadRect (harg7.unread x5)) (View.readAt (Elt F) arg8.view (Rect.unit (s := S1x1x1024) ![0, 0, 0] S1x1x1024.size inb_S1x1x1024_S1x1x1024_0_0_0).toLoadRect (harg8.unread x6))⟩] := by sl_kernel_rfl

end Cert.DecodeIdeal.Own
-- ==== Proof.DecodeNames.lean ====
/-
  The runs at the grid points, with the staging and scratch buffers the pipeline gives them, and what they store.
-/
module

public import proofs.«01_k».proof.Proof.DecodeFirstNames
public import proofs.«01_k».proof.Proof.DecodeMidNames
public import proofs.«01_k».proof.Proof.DecodeTailNames
public import proofs.«01_k».proof.Proof.DecodeLastNames
public import Idealize.ShloMosaic.Lib.Pipeline.ValueKit
public import Idealize.ShloMosaic.Lib.Pipeline.ReadBack
public import Idealize.ShloMosaic.Lib.WritesUnit

@[expose] public section

set_option maxRecDepth 65536

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The stores of the new states -/

/-- Every store of a new state is the store of one of them, -/
theorem mem_states (st : Fin 8 → Fin 8 → FVec F S128x128 .f32) : ∀ n j, j < n →
    (⟨Rect.unit (s := S1x8x8x128x128) ![0, j / 8 % 8, j % 8, 0, 0] S1x1x1x128x128.size (stateFits j),
      shapeCast S1x1x1x128x128 (st ⟨j / 8 % 8, Nat.mod_lt _ (by decide)⟩ ⟨j % 8, Nat.mod_lt _ (by decide)⟩) shapeCasts_S128x128_S1x1x1x128x128⟩ : View.Piece (Elt F) S1x8x8x128x128 .f32) ∈ statePieces st n
  | 0, j, h => absurd h (Nat.not_lt_zero j)
  | n + 1, j, h => by
    unfold statePieces
    rcases Nat.lt_succ_iff_lt_or_eq.mp h with h | rfl
    · exact List.mem_cons_of_mem _ (mem_states st n j h)
    · exact List.mem_cons_self
/-- and conversely. -/
theorem of_mem_states (st : Fin 8 → Fin 8 → FVec F S128x128 .f32) : ∀ n (p : View.Piece (Elt F) S1x8x8x128x128 .f32), p ∈ statePieces st n →
    ∃ j, p = ⟨Rect.unit (s := S1x8x8x128x128) ![0, j / 8 % 8, j % 8, 0, 0] S1x1x1x128x128.size (stateFits j),
      shapeCast S1x1x1x128x128 (st ⟨j / 8 % 8, Nat.mod_lt _ (by decide)⟩ ⟨j % 8, Nat.mod_lt _ (by decide)⟩) shapeCasts_S128x128_S1x1x1x128x128⟩
  | 0, p, h => absurd h List.not_mem_nil
  | n + 1, p, h => by
    unfold statePieces at h
    rcases List.mem_cons.mp h with h | h
    · exact ⟨n, h⟩
    · exact of_mem_states st n p h
/-- The sixty-four stores fill the block. -/
theorem cover_states (st : Fin 8 → Fin 8 → FVec F S128x128 .f32) (y : S1x8x8x128x128.Idx) : ∃ p ∈ statePieces st 64, y ∈ p.1.set := by
  have h0 : (y 0).val < 1 := (y 0).isLt
  have h1 : (y 1).val < 8 := (y 1).isLt
  have h2 : (y 2).val < 8 := (y 2).isLt
  have h3 : (y 3).val < 128 := (y 3).isLt
  have h4 : (y 4).val < 128 := (y 4).isLt
  refine ⟨_, mem_states st 64 (8 * (y 1).val + (y 2).val) (by omega), ?_⟩
  rw [Rect.mem_set_unit]
  intro a
  match a with
  | ⟨0, _⟩ => show 0 ≤ (y 0).val ∧ (y 0).val < 0 + 1; omega
  | ⟨1, _⟩ => show (8 * (y 1).val + (y 2).val) / 8 % 8 ≤ (y 1).val ∧ (y 1).val < (8 * (y 1).val + (y 2).val) / 8 % 8 + 1; omega
  | ⟨2, _⟩ => show (8 * (y 1).val + (y 2).val) % 8 ≤ (y 2).val ∧ (y 2).val < (8 * (y 1).val + (y 2).val) % 8 + 1; omega
  | ⟨3, _⟩ => show 0 ≤ (y 3).val ∧ (y 3).val < 0 + 128; omega
  | ⟨4, _⟩ => show 0 ≤ (y 4).val ∧ (y 4).val < 0 + 128; omega

/-! ## What the first point leaves in the scratch -/

/-- The first point of the grid. -/
abbrev t₀ : Fin cfg0.N := ⟨0, by rw [show cfg0.N = 16 from N_0]; decide⟩
/-- The last point of the grid. -/
abbrev t₁ : Fin cfg0.N := ⟨15, by rw [show cfg0.N = 16 from N_0]; decide⟩

/-- A quarter of the projection's columns. -/
abbrev quarter0 (w : Vec F S1x1024x4096 .f32) : Vec F S1x1024x1024 .f32 :=
  View.ld w (Rect.unit (s := S1x1024x4096) ![0, 0, 0] S1x1024x1024.size inb_S1x1024x4096_S1x1024x1024_0_0_0)
/-- The second quarter, -/
abbrev quarter1 (w : Vec F S1x1024x4096 .f32) : Vec F S1x1024x1024 .f32 :=
  View.ld w (Rect.unit (s := S1x1024x4096) ![0, 0, 1024] S1x1024x1024.size inb_S1x1024x4096_S1x1024x1024_0_0_1024)
/-- the third, -/
abbrev quarter2 (w : Vec F S1x1024x4096 .f32) : Vec F S1x1024x1024 .f32 :=
  View.ld w (Rect.unit (s := S1x1024x4096) ![0, 0, 2048] S1x1024x1024.size inb_S1x1024x4096_S1x1024x1024_0_0_2048)
/-- and the fourth. -/
abbrev quarter3 (w : Vec F S1x1024x4096 .f32) : Vec F S1x1024x1024 .f32 :=
  View.ld w (Rect.unit (s := S1x1024x4096) ![0, 0, 3072] S1x1024x1024.size inb_S1x1024x4096_S1x1024x1024_0_0_3072)

/-- The forget gate of every row. -/
def gateOf (x : Vec F S128x1024 .f32) (l : Vec F S4x1024 .f32) (w : Vec F S1x1024x4096 .f32) : FVec F S128x1024 .f32 := k0_pay5 x l (quarter1 w)
/-- Its three parts, -/
def partsOf (x : Vec F S128x1024 .f32) (l : Vec F S4x1024 .f32) (w : Vec F S1x1024x4096 .f32) : Vec F S3x128x1024 .f32 := View.canon (f3Pieces (gateOf x l w))
/-- the keys, -/
def keysOf (x : Vec F S128x1024 .f32) (l : Vec F S4x1024 .f32) (w : Vec F S1x1024x4096 .f32) : Vec F S128x1024 .f32 := k0_pay16 (gateOf x l w)
/-- the queries, -/
def queriesOf (x : Vec F S128x1024 .f32) (w : Vec F S1x1024x4096 .f32) : Vec F S128x1024 .f32 := k0_pay17 (k0_pay6 x (quarter0 w))
/-- the values, -/
def valuesOf (x : Vec F S128x1024 .f32) (w : Vec F S1x1024x4096 .f32) : Vec F S128x1024 .f32 := k0_pay18 (k0_pay4 x) (quarter2 w)
/-- and the output gate. -/
def siluOf (x : Vec F S128x1024 .f32) (w : Vec F S1x1024x4096 .f32) : Vec F S128x1024 .f32 := k0_pay34 (k0_pay9 (k0_pay7 x (quarter3 w)) (k0_pay8 x (quarter3 w)))

/-- The three parts fill their buffer. -/
theorem cover_parts (f : FVec F S128x1024 .f32) (y : S3x128x1024.Idx) : ∃ p ∈ f3Pieces f, y ∈ p.1.set := by
  have h0 : (y 0).val < 3 := (y 0).isLt
  have h1 : (y 1).val < 128 := (y 1).isLt
  have h2 : (y 2).val < 1024 := (y 2).isLt
  unfold f3Pieces
  rcases (by omega : (y 0).val = 2 ∨ (y 0).val = 1 ∨ (y 0).val = 0) with h | h | h
  · refine ⟨_, List.mem_cons_self, ?_⟩
    rw [Rect.mem_set_unit]
    intro a
    match a with
    | ⟨0, _⟩ => show 2 ≤ (y 0).val ∧ (y 0).val < 2 + 1; omega
    | ⟨1, _⟩ => show 0 ≤ (y 1).val ∧ (y 1).val < 0 + 128; omega
    | ⟨2, _⟩ => show 0 ≤ (y 2).val ∧ (y 2).val < 0 + 1024; omega
  · refine ⟨_, List.mem_cons_of_mem _ List.mem_cons_self, ?_⟩
    rw [Rect.mem_set_unit]
    intro a
    match a with
    | ⟨0, _⟩ => show 1 ≤ (y 0).val ∧ (y 0).val < 1 + 1; omega
    | ⟨1, _⟩ => show 0 ≤ (y 1).val ∧ (y 1).val < 0 + 128; omega
    | ⟨2, _⟩ => show 0 ≤ (y 2).val ∧ (y 2).val < 0 + 1024; omega
  · refine ⟨_, List.mem_cons_of_mem _ (List.mem_cons_of_mem _ List.mem_cons_self), ?_⟩
    rw [Rect.mem_set_unit]
    intro a
    match a with
    | ⟨0, _⟩ => show 0 ≤ (y 0).val ∧ (y 0).val < 0 + 1; omega
    | ⟨1, _⟩ => show 0 ≤ (y 1).val ∧ (y 1).val < 0 + 128; omega
    | ⟨2, _⟩ => show 0 ≤ (y 2).val ∧ (y 2).val < 0 + 1024; omega

/-- One store of all rows fills their buffer, -/
theorem cover_whole (w : FVec F S128x1024 .f32) (y : S128x1024.Idx) : ∃ p ∈ wholePiece w, y ∈ p.1.set := by
  have h0 : (y 0).val < 128 := (y 0).isLt
  have h1 : (y 1).val < 1024 := (y 1).isLt
  unfold wholePiece
  refine ⟨_, List.mem_cons_self, ?_⟩
  rw [Rect.mem_set_unit]
  intro a
  match a with
  | ⟨0, _⟩ => show 0 ≤ (y 0).val ∧ (y 0).val < 0 + 128; omega
  | ⟨1, _⟩ => show 0 ≤ (y 1).val ∧ (y 1).val < 0 + 1024; omega
/-- and leaves its rows. -/
theorem canon_whole (w : FVec F S128x1024 .f32) : View.canon (wholePiece w) = w := by
  unfold wholePiece
  exact View.canon_cons_unit_lit' _ _ _ (by decide)

/-! ## What one point reads and stores -/

/-- The eight rows of a point, of the gate's first part, -/
def hiAt (x : Vec F S3x128x1024 .f32) (t : Fin cfg0.N) : FVec F S8x1024 .f32 :=
  k0_pay35 (View.ld x (Rect.unit (s := S3x128x1024) (k0_off4 (grid0.coords t)) S1x8x1024.size (k0_off4_inb (grid0.coords t) (honPass t))))
/-- of its second, -/
def midAt (x : Vec F S3x128x1024 .f32) (t : Fin cfg0.N) : FVec F S8x1024 .f32 :=
  k0_pay36 (View.ld x (Rect.unit (s := S3x128x1024) (k0_off5 (grid0.coords t)) S1x8x1024.size (k0_off5_inb (grid0.coords t) (honPass t))))
/-- of its third, -/
def loAt (x : Vec F S3x128x1024 .f32) (t : Fin cfg0.N) : FVec F S8x1024 .f32 :=
  k0_pay37 (View.ld x (Rect.unit (s := S3x128x1024) (k0_off6 (grid0.coords t)) S1x8x1024.size (k0_off6_inb (grid0.coords t) (honPass t))))
/-- and of a buffer of rows. -/
def rowAt (x : Vec F S128x1024 .f32) (t : Fin cfg0.N) : Vec F S8x1024 .f32 :=
  View.ld x (Rect.unit (s := S128x1024) (k0_off7 (grid0.coords t)) S8x1024.size (k0_off7_inb (grid0.coords t) (honPass t)))

/-- The new states of a point. -/
def stateAt (c : Dev nD) (t : Fin cfg0.N) (f : Vec F S3x128x1024 .f32) (k v : Vec F S128x1024 .f32) (W : HbBuf (F := F) c hbm0) : Fin 8 → Fin 8 → FVec F S128x128 .f32 :=
  newState (hiAt f t) (midAt f t) (loAt f t) (rowAt k t) (rowAt v t) (oldAt c t W)
/-- The eight rows of results of a point. -/
def resultAt (c : Dev nD) (t : Fin cfg0.N) (f : Vec F S3x128x1024 .f32) (k q v : Vec F S128x1024 .f32) (W : HbBuf (F := F) c hbm0) : FVec F S8x1024 .f32 :=
  k0_pay1 (outRows (hiAt f t) (midAt f t) (loAt f t) (rowAt k t) (rowAt q t) (rowAt v t) (oldAt c t W))
/-- The store of those rows. -/
def rowPiece (t : Fin cfg0.N) (w : FVec F S8x1024 .f32) : View.Piece (Elt F) S128x1024 .f32 :=
  ⟨Rect.unit (s := S128x1024) (k0_off7 (grid0.coords t)) S8x1024.size (k0_off7_inb (grid0.coords t) (honPass t)), w⟩
theorem row_offset : ∀ t : Fin grid0.N, k0_off7 (grid0.coords t) = ![8 * t.val, 0] := by decide +kernel

/-! ## The runs at the points -/

/-- The run of the body at the first point, -/
abbrev atFirst (c : Dev nD) (t : Fin cfg0.N) (ht : t.val = 0) (y18 : Vec F S128x1024 .f32) (g : HbBuf (F := F) c (ringSlot (Ring.sl 3 t.val))) :=
  runFirst c t (stg0 t) (stgWhole0 t) (stg1 t) (stgWhole1 t) (stg2 t) (stgWhole2 t) (stg3 t) (stgWhole3 t) (stg4 t) (stgWhole4 t) (stg5 t) (stgWhole5 t) (stg6 t) (stgWhole6 t) (stg7 t) (stgWhole7 t) (stg8 t) (stgWhole8 t) scr0 (Memref.isWhole_whole _) scr1 (Memref.isWhole_whole _) scr2 (Memref.isWhole_whole _) scr3 (Memref.isWhole_whole _) scr4 (Memref.isWhole_whole _) scr5 (Memref.isWhole_whole _) (honPass t) ((hopens t).2 (by omega)) ((hfetches t).2 (by omega)) ((hgating t).2 (by omega)) (fun h => by have := (hclosing t).1 h; omega) (hblanking t) (iblk m c 0 t) (iblk m c 1 t) (iblk m c 2 t) (iblk m c 3 t) (iblk m c 4 t) (iblk m c 5 t) (iblk m c 6 t) y18 (V m c main_arg1) g
/-- at a middle point, -/
abbrev atMid (c : Dev nD) (t : Fin cfg0.N) (ht : 0 < t.val ∧ t.val < 14) (y13 : Vec F S3x128x1024 .f32) (y14 y15 y16 y17 y18 : Vec F S128x1024 .f32) (g : HbBuf (F := F) c (ringSlot (Ring.sl 3 t.val))) :=
  runMid c t (stg0 t) (stgWhole0 t) (stg1 t) (stgWhole1 t) (stg2 t) (stgWhole2 t) (stg3 t) (stgWhole3 t) (stg4 t) (stgWhole4 t) (stg5 t) (stgWhole5 t) (stg6 t) (stgWhole6 t) (stg7 t) (stgWhole7 t) (stg8 t) (stgWhole8 t) scr0 (Memref.isWhole_whole _) scr1 (Memref.isWhole_whole _) scr2 (Memref.isWhole_whole _) scr3 (Memref.isWhole_whole _) scr4 (Memref.isWhole_whole _) scr5 (Memref.isWhole_whole _) (honPass t) (fun h => by have := (hopens t).1 h; omega) ((hfetches t).2 (by omega)) (fun h => by have := (hgating t).1 h; omega) (fun h => by have := (hclosing t).1 h; omega) (hblanking t) (iblk m c 0 t) (iblk m c 1 t) (iblk m c 2 t) (iblk m c 3 t) (iblk m c 4 t) (iblk m c 5 t) (iblk m c 6 t) y13 y14 y15 y16 y17 y18 (V m c main_arg1) g
/-- at the last point but one, -/
abbrev atTail (c : Dev nD) (t : Fin cfg0.N) (ht : t.val = 14) (y13 : Vec F S3x128x1024 .f32) (y14 y15 y16 y17 y18 : Vec F S128x1024 .f32) (g : HbBuf (F := F) c (ringSlot (Ring.sl 3 t.val))) :=
  runTail c t (stg0 t) (stgWhole0 t) (stg1 t) (stgWhole1 t) (stg2 t) (stgWhole2 t) (stg3 t) (stgWhole3 t) (stg4 t) (stgWhole4 t) (stg5 t) (stgWhole5 t) (stg6 t) (stgWhole6 t) (stg7 t) (stgWhole7 t) (stg8 t) (stgWhole8 t) scr0 (Memref.isWhole_whole _) scr1 (Memref.isWhole_whole _) scr2 (Memref.isWhole_whole _) scr3 (Memref.isWhole_whole _) scr4 (Memref.isWhole_whole _) scr5 (Memref.isWhole_whole _) (honPass t) (fun h => by have := (hopens t).1 h; omega) (fun h => by have := (hfetches t).1 h; omega) (fun h => by have := (hgating t).1 h; omega) (fun h => by have := (hclosing t).1 h; omega) (hblanking t) (iblk m c 0 t) (iblk m c 1 t) (iblk m c 2 t) (iblk m c 3 t) (iblk m c 4 t) (iblk m c 5 t) (iblk m c 6 t) y13 y14 y15 y16 y17 y18 (V m c main_arg1) g
/-- and at the last point. -/
abbrev atLast (c : Dev nD) (t : Fin cfg0.N) (ht : t.val = 15) (y13 : Vec F S3x128x1024 .f32) (y14 y15 y16 y17 y18 : Vec F S128x1024 .f32) (g : HbBuf (F := F) c (ringSlot (Ring.sl 3 t.val))) :=
  runLast c t (stg0 t) (stgWhole0 t) (stg1 t) (stgWhole1 t) (stg2 t) (stgWhole2 t) (stg3 t) (stgWhole3 t) (stg4 t) (stgWhole4 t) (stg5 t) (stgWhole5 t) (stg6 t) (stgWhole6 t) (stg7 t) (stgWhole7 t) (stg8 t) (stgWhole8 t) scr0 (Memref.isWhole_whole _) scr1 (Memref.isWhole_whole _) scr2 (Memref.isWhole_whole _) scr3 (Memref.isWhole_whole _) scr4 (Memref.isWhole_whole _) scr5 (Memref.isWhole_whole _) (honPass t) (fun h => by have := (hopens t).1 h; omega) (fun h => by have := (hfetches t).1 h; omega) (fun h => by have := (hgating t).1 h; omega) ((hclosing t).2 (by omega)) (hblanking t) (iblk m c 0 t) (iblk m c 1 t) (iblk m c 2 t) (iblk m c 3 t) (iblk m c 4 t) (iblk m c 5 t) (iblk m c 6 t) y13 y14 y15 y16 y17 y18 (V m c main_arg1) g

theorem states_mid (c : Dev nD) (t : Fin cfg0.N) (ht : 0 < t.val ∧ t.val < 14) (y13 : Vec F S3x128x1024 .f32) (y14 y15 y16 y17 y18 : Vec F S128x1024 .f32) (g : HbBuf (F := F) c (ringSlot (Ring.sl 3 t.val))) :
    (atMid m c t ht y13 y14 y15 y16 y17 y18 g).1 = statePieces (stateAt c t y13 y14 y16 (V m c main_arg1)) 64 := by
  unfold atMid; rw [mid_states]; simp only [View.readAt_eq_ld, Memref.IsWhole.read_unread, read_unread_whole]; rfl
theorem rows_mid (c : Dev nD) (t : Fin cfg0.N) (ht : 0 < t.val ∧ t.val < 14) (y13 : Vec F S3x128x1024 .f32) (y14 y15 y16 y17 y18 : Vec F S128x1024 .f32) (g : HbBuf (F := F) c (ringSlot (Ring.sl 3 t.val))) :
    (atMid m c t ht y13 y14 y15 y16 y17 y18 g).2.1 = [rowPiece t (resultAt c t y13 y14 y15 y16 (V m c main_arg1))] := by
  unfold atMid; rw [mid_rows]; simp only [View.readAt_eq_ld, Memref.IsWhole.read_unread, read_unread_whole]; rfl

theorem states_tail (c : Dev nD) (t : Fin cfg0.N) (ht : t.val = 14) (y13 : Vec F S3x128x1024 .f32) (y14 y15 y16 y17 y18 : Vec F S128x1024 .f32) (g : HbBuf (F := F) c (ringSlot (Ring.sl 3 t.val))) :
    (atTail m c t ht y13 y14 y15 y16 y17 y18 g).1 = statePieces (stateAt c t y13 y14 y16 (V m c main_arg1)) 64 := by
  unfold atTail; rw [tail_states]; simp only [View.readAt_eq_ld, Memref.IsWhole.read_unread, read_unread_whole]; rfl
theorem rows_tail (c : Dev nD) (t : Fin cfg0.N) (ht : t.val = 14) (y13 : Vec F S3x128x1024 .f32) (y14 y15 y16 y17 y18 : Vec F S128x1024 .f32) (g : HbBuf (F := F) c (ringSlot (Ring.sl 3 t.val))) :
    (atTail m c t ht y13 y14 y15 y16 y17 y18 g).2.1 = [rowPiece t (resultAt c t y13 y14 y15 y16 (V m c main_arg1))] := by
  unfold atTail; rw [tail_rows]; simp only [View.readAt_eq_ld, Memref.IsWhole.read_unread, read_unread_whole]; rfl

theorem states_last (c : Dev nD) (t : Fin cfg0.N) (ht : t.val = 15) (y13 : Vec F S3x128x1024 .f32) (y14 y15 y16 y17 y18 : Vec F S128x1024 .f32) (g : HbBuf (F := F) c (ringSlot (Ring.sl 3 t.val))) :
    (atLast m c t ht y13 y14 y15 y16 y17 y18 g).1 = statePieces (stateAt c t y13 y14 y16 (V m c main_arg1)) 64 := by
  unfold atLast; rw [last_states]; simp only [View.readAt_eq_ld, Memref.IsWhole.read_unread, read_unread_whole]; rfl
theorem rows_last (c : Dev nD) (t : Fin cfg0.N) (ht : t.val = 15) (y13 : Vec F S3x128x1024 .f32) (y14 y15 y16 y17 y18 : Vec F S128x1024 .f32) (g : HbBuf (F := F) c (ringSlot (Ring.sl 3 t.val))) :
    (atLast m c t ht y13 y14 y15 y16 y17 y18 g).2.2.1 = [rowPiece t (resultAt c t y13 y14 y15 y16 (V m c main_arg1))] := by
  unfold atLast; rw [last_rows]; simp only [View.readAt_eq_ld, Memref.IsWhole.read_unread, read_unread_whole]; rfl

theorem parts_first (c : Dev nD) (t : Fin cfg0.N) (ht : t.val = 0) (y18 : Vec F S128x1024 .f32) (g : HbBuf (F := F) c (ringSlot (Ring.sl 3 t.val))) :
    (atFirst m c t ht y18 g).2.1 = f3Pieces (gateOf (iblk m c 0 t) (iblk m c 1 t) (iblk m c 2 t)) := by
  unfold atFirst; rw [first_gate]; simp (disch := decide) only [View.readAt_eq_ld, View.ld_unit_lit', Memref.IsWhole.read_unread, read_unread_whole]; rfl

theorem keys_first (c : Dev nD) (t : Fin cfg0.N) (ht : t.val = 0) (y18 : Vec F S128x1024 .f32) (g : HbBuf (F := F) c (ringSlot (Ring.sl 3 t.val))) :
    (atFirst m c t ht y18 g).2.2.1 = wholePiece (keysOf (iblk m c 0 t) (iblk m c 1 t) (iblk m c 2 t)) := by
  unfold atFirst; rw [first_key]; simp (disch := decide) only [View.readAt_eq_ld, View.ld_unit_lit', Memref.IsWhole.read_unread, read_unread_whole]; rfl

theorem queries_first (c : Dev nD) (t : Fin cfg0.N) (ht : t.val = 0) (y18 : Vec F S128x1024 .f32) (g : HbBuf (F := F) c (ringSlot (Ring.sl 3 t.val))) :
    (atFirst m c t ht y18 g).2.2.2.1 = wholePiece (queriesOf (iblk m c 0 t) (iblk m c 2 t)) := by
  unfold atFirst; rw [first_query]; simp (disch := decide) only [View.readAt_eq_ld, View.ld_unit_lit', Memref.IsWhole.read_unread, read_unread_whole]; rfl

theorem values_first (c : Dev nD) (t : Fin cfg0.N) (ht : t.val = 0) (y18 : Vec F S128x1024 .f32) (g : HbBuf (F := F) c (ringSlot (Ring.sl 3 t.val))) :
    (atFirst m c t ht y18 g).2.2.2.2.1 = wholePiece (valuesOf (iblk m c 0 t) (iblk m c 2 t)) := by
  unfold atFirst; rw [first_value]; simp (disch := decide) only [View.readAt_eq_ld, View.ld_unit_lit', Memref.IsWhole.read_unread, read_unread_whole]; rfl

theorem silu_first (c : Dev nD) (t : Fin cfg0.N) (ht : t.val = 0) (y18 : Vec F S128x1024 .f32) (g : HbBuf (F := F) c (ringSlot (Ring.sl 3 t.val))) :
    (atFirst m c t ht y18 g).2.2.2.2.2.1 = wholePiece (siluOf (iblk m c 0 t) (iblk m c 2 t)) := by
  unfold atFirst; rw [first_silu]; simp (disch := decide) only [View.readAt_eq_ld, View.ld_unit_lit', Memref.IsWhole.read_unread, read_unread_whole]; rfl

/-- A covered load through a rectangle reads what the stores leave. -/
theorem readCov_ld {sp : Space} {s : Shape} {e : EltTy} (v : View sig .tc sp s e) (L : List (View.Piece (Elt F) s e)) (r : Rect s) :
    v.readCov L r.toLoadRect = View.ld (View.canon L) r := View.readCov_eq_canon' v L r.toLoadRect

set_option maxHeartbeats 4000000 in
theorem states_first (c : Dev nD) (t : Fin cfg0.N) (ht : t.val = 0) (y18 : Vec F S128x1024 .f32) (g : HbBuf (F := F) c (ringSlot (Ring.sl 3 t.val))) :
    (atFirst m c t ht y18 g).1 = statePieces (stateAt c t (partsOf (iblk m c 0 t) (iblk m c 1 t) (iblk m c 2 t)) (keysOf (iblk m c 0 t) (iblk m c 1 t) (iblk m c 2 t)) (valuesOf (iblk m c 0 t) (iblk m c 2 t)) (V m c main_arg1)) 64 := by
  unfold atFirst; refine (first_states ..).trans ?_
  simp (disch := decide) only [readCov_ld, canon_whole, View.readAt_eq_ld, View.ld_unit_lit', Memref.IsWhole.read_unread, read_unread_whole]; rfl
set_option maxHeartbeats 4000000 in
theorem rows_first (c : Dev nD) (t : Fin cfg0.N) (ht : t.val = 0) (y18 : Vec F S128x1024 .f32) (g : HbBuf (F := F) c (ringSlot (Ring.sl 3 t.val))) :
    (atFirst m c t ht y18 g).2.2.2.2.2.2.1 = [rowPiece t (resultAt c t (partsOf (iblk m c 0 t) (iblk m c 1 t) (iblk m c 2 t)) (keysOf (iblk m c 0 t) (iblk m c 1 t) (iblk m c 2 t)) (queriesOf (iblk m c 0 t) (iblk m c 2 t)) (valuesOf (iblk m c 0 t) (iblk m c 2 t)) (V m c main_arg1))] := by
  unfold atFirst; refine (first_rows ..).trans ?_
  simp (disch := decide) only [readCov_ld, canon_whole, View.readAt_eq_ld, View.ld_unit_lit', Memref.IsWhole.read_unread, read_unread_whole]; rfl

theorem final_last (c : Dev nD) (t : Fin cfg0.N) (ht : t.val = 15) (y13 : Vec F S3x128x1024 .f32) (y14 y15 y16 y17 y18 : Vec F S128x1024 .f32) (g : HbBuf (F := F) c (ringSlot (Ring.sl 3 t.val))) :
    (atLast m c t ht y13 y14 y15 y16 y17 y18 g).2.1 = wholePiece (finalOf (scr5.view.read (Elt F) (scr5.view.writes (Elt F) ((Memref.isWhole_whole _).unread y18) [rowPiece t (resultAt c t y13 y14 y15 y16 (V m c main_arg1))])) (iblk m c 3 t) y17 (iblk m c 4 t) (iblk m c 0 t) (iblk m c 5 t) (iblk m c 6 t)) := by
  have e := rows_last m c t ht y13 y14 y15 y16 y17 y18 g
  unfold atLast at e ⊢
  rw [last_out, e]; simp (disch := decide) only [View.readAt_eq_ld, View.ld_unit_lit', Memref.IsWhole.read_unread, read_unread_whole]; rfl

end Cert.DecodeIdeal.Own

end
-- ==== Proof.DecodeRun.lean ====
/-
  The decode kernel's run, point by point: what its scratch holds between the points, what each point writes back, and what
  the whole program leaves.
-/
module

public import proofs.«01_k».proof.Proof.DecodeNames

@[expose] public section

set_option maxRecDepth 65536

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the scratch holds, and what is written back -/

/-- The gate's parts, as the first point leaves them; -/
def parts (c : Dev nD) : Vec F S3x128x1024 .f32 := partsOf (iblk m c 0 t₀) (iblk m c 1 t₀) (iblk m c 2 t₀)
/-- the keys, -/
def keys (c : Dev nD) : Vec F S128x1024 .f32 := keysOf (iblk m c 0 t₀) (iblk m c 1 t₀) (iblk m c 2 t₀)
/-- the queries, -/
def queries (c : Dev nD) : Vec F S128x1024 .f32 := queriesOf (iblk m c 0 t₀) (iblk m c 2 t₀)
/-- the values, -/
def values (c : Dev nD) : Vec F S128x1024 .f32 := valuesOf (iblk m c 0 t₀) (iblk m c 2 t₀)
/-- and the output gate. -/
def silu (c : Dev nD) : Vec F S128x1024 .f32 := siluOf (iblk m c 0 t₀) (iblk m c 2 t₀)

/-- The eight rows of results of a point, -/
def rowsOf (c : Dev nD) (t : Fin cfg0.N) : FVec F S8x1024 .f32 := resultAt c t (parts m c) (keys m c) (queries m c) (values m c) (V m c main_arg1)
/-- the point that stores a row, -/
def pointOf (r : Fin 128) : Fin cfg0.N := ⟨r.val / 8, by rw [show cfg0.N = 16 from N_0]; have := r.isLt; omega⟩
/-- and all rows of results. -/
def results (c : Dev nD) : Vec F S128x1024 .f32 := fun y =>
  rowsOf m c (pointOf (y 0)) (ix2 ⟨(y 0).val % 8, Nat.mod_lt _ (by decide)⟩ (y 1))

/-- The new states' block after a point. -/
def out8 (c : Dev nD) (t : Fin cfg0.N) : Vec F S1x8x8x128x128 .f32 :=
  View.canon (statePieces (stateAt c t (parts m c) (keys m c) (values m c) (V m c main_arg1)) 64)
/-- The activations that the last point stores. -/
def out7 (c : Dev nD) : Vec F S128x1024 .f32 :=
  finalOf (results m c) (iblk m c 3 t₁) (silu m c) (iblk m c 4 t₁) (iblk m c 0 t₁) (iblk m c 5 t₁) (iblk m c 6 t₁)

/-- Between the points: from the first point on the gates are in the scratch, and of the results the rows of the points passed;
    the copies in flight are the ring's. -/
def between (c : Dev nD) (k : ℕ) : sProp 𝕄 := iprop(
  (∃ d, ⌜k ≠ 0 → d = parts m c⌝ ∗ owns (c : Thread nD τ) scr0 fullShare d)
  ∗ (∃ d, ⌜k ≠ 0 → d = keys m c⌝ ∗ owns (c : Thread nD τ) scr1 fullShare d)
  ∗ (∃ d, ⌜k ≠ 0 → d = queries m c⌝ ∗ owns (c : Thread nD τ) scr2 fullShare d)
  ∗ (∃ d, ⌜k ≠ 0 → d = values m c⌝ ∗ owns (c : Thread nD τ) scr3 fullShare d)
  ∗ (∃ d, ⌜k ≠ 0 → d = silu m c⌝ ∗ owns (c : Thread nD τ) scr4 fullShare d)
  ∗ (∃ d, ⌜∀ y : S128x1024.Idx, (y 0).val < 8 * k → d y = results m c y⌝ ∗ owns (c : Thread nD τ) scr5 fullShare d)
  ∗ (∃ r, prngReg c r) ∗ hbPt c hbm1 (V m c main_arg2) ∗ ringAt c (V m c main_arg1) k)

/-- The window of the activations is idle before the last point, -/
theorem idle7 : ∀ t : Fin grid0.N, cfg0.idle 7 (grid0.coords t) = decide (t.val ≠ 15) := by decide +kernel
/-- that of the states never. -/
theorem idle8 : ∀ t : Fin grid0.N, cfg0.idle 8 (grid0.coords t) = false := by decide +kernel
/-- The activations are written back after the last point. -/
theorem flush7 : ∀ t : Fin cfg0.N, (cfg0.win 7).flush t = decide (t.val = 15) := by decide +kernel

/-- The proof data of the pipeline: the arrays as the region finds them; after the body at a point each input's buffer at its
    block, each result's at what the body stores. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c
    | ⟨8, _⟩ => out8 m c t
    | ⟨_ + 9, h⟩ => absurd h (Nat.not_lt.2 (Nat.le_add_left _ _))
  Φ t := between m c t.val
  q _ := fullShare
  owed _ := 0

/-- The proof data's arrays are those the region finds. -/
theorem A_eq (c : Dev nD) (w : Fin cfg0.W) : (dats m 0 c).A w = V m c (Pipeline.arrRef spec0 w) := by
  dsimp only [dats]
/-- The invariant before a point, -/
theorem before_point (c : Dev nD) (t : Fin cfg0.N) : (dats m 0 c).Φ t.castSucc = between m c t.val := by
  dsimp only [dats]; simp only [Fin.coe_castSucc]
/-- and after it. -/
theorem after_point (c : Dev nD) (t : Fin cfg0.N) : (dats m 0 c).Φ t.succ = between m c (t.val + 1) := by
  dsimp only [dats]; simp only [Fin.val_succ]
/-- Input 0's buffer after the body, -/
theorem after_0 (c : Dev nD) (t : Fin cfg0.N) : (dats m 0 c).after 0 t = iblk m c 0 t := by dsimp only [dats]
/-- before it, -/
theorem before_0 (c : Dev nD) (t : Fin cfg0.N) (d) : (dats m 0 c).before 0 t d = iblk m c 0 t :=
  block_before_0 m (dats m 0 c) (A_eq m c 0) (after_0 m c) t d
/-- and as the point gives it back. -/
theorem leaves_0 (c : Dev nD) (t : Fin cfg0.N) : (dats m 0 c).leavesExact 0 t = owns (c : Thread nD τ) (stg0 t) fullShare (iblk m c 0 t) := by
  unfold Dat.leavesExact; rw [show cfg0.idle 0 (cfg0.grid.coords t) = false from live_0 t, after_0]
/-- Input 1's buffer after the body, -/
theorem after_1 (c : Dev nD) (t : Fin cfg0.N) : (dats m 0 c).after 1 t = iblk m c 1 t := by dsimp only [dats]
/-- before it, -/
theorem before_1 (c : Dev nD) (t : Fin cfg0.N) (d) : (dats m 0 c).before 1 t d = iblk m c 1 t :=
  block_before_1 m (dats m 0 c) (A_eq m c 1) (after_1 m c) t d
/-- and as the point gives it back. -/
theorem leaves_1 (c : Dev nD) (t : Fin cfg0.N) : (dats m 0 c).leavesExact 1 t = owns (c : Thread nD τ) (stg1 t) fullShare (iblk m c 1 t) := by
  unfold Dat.leavesExact; rw [show cfg0.idle 1 (cfg0.grid.coords t) = false from live_1 t, after_1]
/-- Input 2's buffer after the body, -/
theorem after_2 (c : Dev nD) (t : Fin cfg0.N) : (dats m 0 c).after 2 t = iblk m c 2 t := by dsimp only [dats]
/-- before it, -/
theorem before_2 (c : Dev nD) (t : Fin cfg0.N) (d) : (dats m 0 c).before 2 t d = iblk m c 2 t :=
  block_before_2 m (dats m 0 c) (A_eq m c 2) (after_2 m c) t d
/-- and as the point gives it back. -/
theorem leaves_2 (c : Dev nD) (t : Fin cfg0.N) : (dats m 0 c).leavesExact 2 t = owns (c : Thread nD τ) (stg2 t) fullShare (iblk m c 2 t) := by
  unfold Dat.leavesExact; rw [show cfg0.idle 2 (cfg0.grid.coords t) = false from live_2 t, after_2]
/-- Input 3's buffer after the body, -/
theorem after_3 (c : Dev nD) (t : Fin cfg0.N) : (dats m 0 c).after 3 t = iblk m c 3 t := by dsimp only [dats]
/-- before it, -/
theorem before_3 (c : Dev nD) (t : Fin cfg0.N) (d) : (dats m 0 c).before 3 t d = iblk m c 3 t :=
  block_before_3 m (dats m 0 c) (A_eq m c 3) (after_3 m c) t d
/-- and as the point gives it back. -/
theorem leaves_3 (c : Dev nD) (t : Fin cfg0.N) : (dats m 0 c).leavesExact 3 t = owns (c : Thread nD τ) (stg3 t) fullShare (iblk m c 3 t) := by
  unfold Dat.leavesExact; rw [show cfg0.idle 3 (cfg0.grid.coords t) = false from live_3 t, after_3]
/-- Input 4's buffer after the body, -/
theorem after_4 (c : Dev nD) (t : Fin cfg0.N) : (dats m 0 c).after 4 t = iblk m c 4 t := by dsimp only [dats]
/-- before it, -/
theorem before_4 (c : Dev nD) (t : Fin cfg0.N) (d) : (dats m 0 c).before 4 t d = iblk m c 4 t :=
  block_before_4 m (dats m 0 c) (A_eq m c 4) (after_4 m c) t d
/-- and as the point gives it back. -/
theorem leaves_4 (c : Dev nD) (t : Fin cfg0.N) : (dats m 0 c).leavesExact 4 t = owns (c : Thread nD τ) (stg4 t) fullShare (iblk m c 4 t) := by
  unfold Dat.leavesExact; rw [show cfg0.idle 4 (cfg0.grid.coords t) = false from live_4 t, after_4]
/-- Input 5's buffer after the body, -/
theorem after_5 (c : Dev nD) (t : Fin cfg0.N) : (dats m 0 c).after 5 t = iblk m c 5 t := by dsimp only [dats]
/-- before it, -/
theorem before_5 (c : Dev nD) (t : Fin cfg0.N) (d) : (dats m 0 c).before 5 t d = iblk m c 5 t :=
  block_before_5 m (dats m 0 c) (A_eq m c 5) (after_5 m c) t d
/-- and as the point gives it back. -/
theorem leaves_5 (c : Dev nD) (t : Fin cfg0.N) : (dats m 0 c).leavesExact 5 t = owns (c : Thread nD τ) (stg5 t) fullShare (iblk m c 5 t) := by
  unfold Dat.leavesExact; rw [show cfg0.idle 5 (cfg0.grid.coords t) = false from live_5 t, after_5]
/-- Input 6's buffer after the body, -/
theorem after_6 (c : Dev nD) (t : Fin cfg0.N) : (dats m 0 c).after 6 t = iblk m c 6 t := by dsimp only [dats]
/-- before it, -/
theorem before_6 (c : Dev nD) (t : Fin cfg0.N) (d) : (dats m 0 c).before 6 t d = iblk m c 6 t :=
  block_before_6 m (dats m 0 c) (A_eq m c 6) (after_6 m c) t d
/-- and as the point gives it back. -/
theorem leaves_6 (c : Dev nD) (t : Fin cfg0.N) : (dats m 0 c).leavesExact 6 t = owns (c : Thread nD τ) (stg6 t) fullShare (iblk m c 6 t) := by
  unfold Dat.leavesExact; rw [show cfg0.idle 6 (cfg0.grid.coords t) = false from live_6 t, after_6]
/-- The activations after the body. -/
theorem after_7 (c : Dev nD) (t : Fin cfg0.N) : (dats m 0 c).after 7 t = out7 m c := by dsimp only [dats]
/-- The states after the body, -/
theorem after_8 (c : Dev nD) (t : Fin cfg0.N) : (dats m 0 c).after 8 t = out8 m c t := by dsimp only [dats]
/-- as every point gives them back. -/
theorem leaves_8 (c : Dev nD) (t : Fin cfg0.N) : (dats m 0 c).leavesExact 8 t = owns (c : Thread nD τ) (stg8 t) fullShare (out8 m c t) := by
  unfold Dat.leavesExact; rw [show cfg0.idle 8 (cfg0.grid.coords t) = false from idle8 t, after_8]
/-- The activations at the last point, -/
theorem leaves_7 (c : Dev nD) (t : Fin cfg0.N) (ht : t.val = 15) : (dats m 0 c).leavesExact 7 t = owns (c : Thread nD τ) (stg7 t) fullShare (out7 m c) := by
  unfold Dat.leavesExact; rw [show cfg0.idle 7 (cfg0.grid.coords t) = false from (idle7 t).trans (by simp [ht]), after_7]
/-- and at the others. -/
theorem passes_7 (c : Dev nD) (t : Fin cfg0.N) (ht : t.val ≠ 15) (d) :
    owns (c : Thread nD τ) (stg7 t) fullShare ((dats m 0 c).before 7 t d) ⊢ ((dats m 0 c).leavesExact 7 t : sProp 𝕄) := by
  rw [(dats m 0 c).leavesExact_idle 7 t ((idle7 t).trans (by simp [ht])) (by rw [flush7]; simp [ht])]
  iintro H
  iexists _; iexact H

/-- A store of eight rows read back. -/
theorem read_rows (f : (scr5.view).ty.Contents (Elt F)) {off : Fin 2 → ℕ} {o : ℕ} (hoff : off = ![o, 0])
    (inb : ∀ a, off a + S8x1024.size a ≤ S128x1024.size a) (w : FVec F S8x1024 .f32) (y : S128x1024.Idx) (x : S8x1024.Idx)
    (hx0 : (y 0).val = o + (x 0).val) (hx1 : (y 1).val = (x 1).val) :
    scr5.view.read (Elt F) (scr5.view.writes (Elt F) f [⟨Rect.unit (s := S128x1024) off S8x1024.size inb, w⟩]) y = w x := by
  have hy : (Rect.unit (s := S128x1024) off S8x1024.size inb).emb x = y := funext fun a => Fin.ext (by
    subst hoff
    match a with
    | ⟨0, _⟩ => show o + 1 * (x 0).val = (y 0).val; omega
    | ⟨1, _⟩ => show 0 + 1 * (x 1).val = (y 1).val; omega)
  rw [← hy]
  exact View.read_writes_cons_emb scr5.view f (Rect.unit (s := S128x1024) off S8x1024.size inb) w [] x

/-- The results' buffer after a point's store: the rows before the point's as they were, then the point's. -/
theorem rows_after (c : Dev nD) (t : Fin cfg0.N) (d : Vec F S128x1024 .f32)
    (hd : ∀ y : S128x1024.Idx, (y 0).val < 8 * t.val → d y = results m c y) (y : S128x1024.Idx) (hy : (y 0).val < 8 * (t.val + 1)) :
    scr5.view.read (Elt F) (scr5.view.writes (Elt F) ((Memref.isWhole_whole cc0_scratch5).unread d) [rowPiece t (rowsOf m c t)]) y = results m c y := by
  unfold rowPiece
  by_cases h : (y 0).val < 8 * t.val
  · rw [View.read_writes_cons_unit_of_not_mem _ _ _ _ _ y (row_offset t) 0 (Or.inl h)]
    exact (congrFun (read_unread_whole cc0_scratch5 _ d) y).trans (hd y h)
  · have h1 : (y 0).val - 8 * t.val < 8 := by omega
    obtain ⟨x, hx0, hx1, hx⟩ : ∃ x : S8x1024.Idx, (y 0).val = 8 * t.val + (x 0).val ∧ (y 1).val = (x 1).val ∧ results m c y = rowsOf m c t x := by
      have e : pointOf (y 0) = t := Fin.ext (by show (y 0).val / 8 = t.val; omega)
      refine ⟨ix2 ⟨(y 0).val - 8 * t.val, h1⟩ (y 1), ?_, rfl, ?_⟩
      · show (y 0).val = 8 * t.val + ((y 0).val - 8 * t.val); omega
      · unfold results
        rw [e]
        exact congrArg (rowsOf m c t) (congrArg (fun i : Fin 8 => (ix2 i (y 1) : S8x1024.Idx)) (Fin.ext (by show (y 0).val % 8 = (y 0).val - 8 * t.val; omega)))
    rw [hx]
    exact read_rows _ (row_offset t) _ (rowsOf m c t) y x hx0 hx1

/-! ## The body at every point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
/-- The body at the first point. -/
theorem soundFirst (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6, leaves_8]
  rw [before_point m c t, after_point m c t]
  unfold Dat.owesAt Pipeline.owesWithin
  rw [show (dats m 0 c).owed t.castSucc = 0 from rfl, show (dats m 0 c).owed t.succ = 0 from rfl]
  unfold between ringAt
  have hgN : grid0.N = 16 := N_0
  have hN : t.val < 16 := lt_of_lt_of_eq t.isLt (show cfg0.N = 16 from N_0)
  rw [if_pos ht, if_neg (show ¬t.val + 1 = 0 by omega)]
  rw [Ring.At₀_eq3' _ _ _ t.val ht (by decide : 3 ≤ 16), Ring.At3_one' _ _ _ _ t.val ht (by decide : 3 ≤ 16)]
  iintro ⟨⟨⟨%e0, %h0, HS0⟩, ⟨%e1, %h1, HS1⟩, ⟨%e2, %h2, HS2⟩, ⟨%e3, %h3, HS3⟩, ⟨%e4, %h4, HS4⟩, ⟨%e5, %h5, HS5⟩, Hg, Hh1, ⟨-, Hr0, Hr1, Hr2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold Ring.free
  icases Hr0 with ⟨Hc, ⟨%g, Hk⟩⟩
  obtain rfl : t = t₀ := Fin.ext ht
  iapply ((atFirst m c t₀ ht e5 g).2.2.2.2.2.2.2 ((dats m 0 c).before 7 t₀ d7) (V m c main_arg2) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexact HS5
  isplitl [Hh1]; · iexact Hh1
  isplitl [Hc Hk]
  · isplitl [Hc]; · iexact Hc
    iexact Hk
  isplitl [Hr1]; · iexact Hr1
  isplitl [Hr2]; · iexact Hr2
  isplitl [HW]; · iexact HW
  iintro ⟨H0, H1, H2, H3, H4, H5, H6, H7, ⟨%f8, H8⟩, ⟨%f13, HS0⟩, ⟨%f14, HS1⟩, ⟨%f15, HS2⟩, ⟨%f16, HS3⟩, ⟨%f17, HS4⟩, HS5, Hh1, Hr0, Hr1, Hr2, ⟨%W', HW'⟩⟩
  isplitl [HS0 HS1 HS2 HS3 HS4 HS5 Hg Hh1 Hr0 Hr1 Hr2]
  · isplitl [HS0]
    · iexists (parts m c); isplitr; · ipureintro; exact fun _ => rfl
      unfold owns; iexists _; isplitr; swap; · iexact HS0
      ipureintro
      rw [parts_first m c t₀ ht e5 g, View.read_writes_eq_canon _ _ _ (cover_parts _)]; rfl
    isplitl [HS1]
    · iexists (keys m c); isplitr; · ipureintro; exact fun _ => rfl
      unfold owns; iexists _; isplitr; swap; · iexact HS1
      ipureintro
      rw [keys_first m c t₀ ht e5 g, View.read_writes_eq_canon _ _ _ (cover_whole _)]; exact canon_whole _
    isplitl [HS2]
    · iexists (queries m c); isplitr; · ipureintro; exact fun _ => rfl
      unfold owns; iexists _; isplitr; swap; · iexact HS2
      ipureintro
      rw [queries_first m c t₀ ht e5 g, View.read_writes_eq_canon _ _ _ (cover_whole _)]; exact canon_whole _
    isplitl [HS3]
    · iexists (values m c); isplitr; · ipureintro; exact fun _ => rfl
      unfold owns; iexists _; isplitr; swap; · iexact HS3
      ipureintro
      rw [values_first m c t₀ ht e5 g, View.read_writes_eq_canon _ _ _ (cover_whole _)]; exact canon_whole _
    isplitl [HS4]
    · iexists (silu m c); isplitr; · ipureintro; exact fun _ => rfl
      unfold owns; iexists _; isplitr; swap; · iexact HS4
      ipureintro
      rw [silu_first m c t₀ ht e5 g, View.read_writes_eq_canon _ _ _ (cover_whole _)]; exact canon_whole _
    isplitl [HS5]
    · iexists _; isplitr; swap
      · unfold owns; iexists _; isplitr; swap; · iexact HS5
        ipureintro; rfl
      ipureintro
      rw [rows_first m c t₀ ht e5 g]
      exact rows_after m c t₀ e5 h5
    isplitl [Hg]; · iexact Hg
    isplitl [Hh1]; · iexact Hh1
    iapply (Ring.with_homes (Idealize.SL.BI.Entails.refl _))
    isplitl [Hr0]; · iexact Hr0
    isplitl [Hr1]; · iexact Hr1
    iexact Hr2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (passes_7 m c t₀ (by decide) d7); iexact H7
  unfold owns; iexists _; isplitr; swap; · iexact H8
  ipureintro
  rw [states_first m c t₀ ht e5 g, View.read_writes_eq_canon _ _ _ (cover_states _)]; rfl

set_option maxHeartbeats 6400000 in
/-- The body at a middle point. -/
theorem soundMid (c : Dev nD) (t : Fin cfg0.N) (ht : 0 < t.val ∧ t.val < 14) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6, leaves_8]
  rw [before_point m c t, after_point m c t]
  unfold Dat.owesAt Pipeline.owesWithin
  rw [show (dats m 0 c).owed t.castSucc = 0 from rfl, show (dats m 0 c).owed t.succ = 0 from rfl]
  unfold between ringAt
  have hgN : grid0.N = 16 := N_0
  have hN : t.val < 16 := lt_of_lt_of_eq t.isLt (show cfg0.N = 16 from N_0)
  rw [if_neg (show ¬t.val = 0 by omega), if_neg (show ¬t.val + 1 = 0 by omega)]
  rw [Ring.At3_here _ _ _ _ t.val (by omega), Ring.At3_next _ _ _ _ t.val (by omega), Ring.slotAt3_next0 _ _ _ t.val (by omega), Ring.slotAt3_next1 _ _ _ t.val (by omega)]
  iintro ⟨⟨⟨%e0, %h0, HS0⟩, ⟨%e1, %h1, HS1⟩, ⟨%e2, %h2, HS2⟩, ⟨%e3, %h3, HS3⟩, ⟨%e4, %h4, HS4⟩, ⟨%e5, %h5, HS5⟩, Hg, Hh1, ⟨-, Hr0, Hr1, Hr2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold Ring.inflight
  icases Hr0 with ⟨%g, Hr0⟩
  obtain rfl := h0 (by omega)
  obtain rfl := h1 (by omega)
  obtain rfl := h2 (by omega)
  obtain rfl := h3 (by omega)
  obtain rfl := h4 (by omega)
  iapply ((atMid m c t ht (parts m c) (keys m c) (queries m c) (values m c) (silu m c) e5 g).2.2 ((dats m 0 c).before 7 t d7) (V m c main_arg2) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [Hh1]; · iexact Hh1
  isplitl [Hr0]; · iexact Hr0
  isplitl [Hr1]; · iexact Hr1
  isplitl [Hr2]; · iexact Hr2
  isplitl [HW]; · iexact HW
  iintro ⟨H0, H1, H2, H3, H4, H5, H6, H7, ⟨%f8, H8⟩, HS0, HS1, HS2, HS3, HS4, HS5, Hh1, Hr0, Hr1, Hr2, ⟨%W', HW'⟩⟩
  isplitl [HS0 HS1 HS2 HS3 HS4 HS5 Hg Hh1 Hr0 Hr1 Hr2]
  · isplitl [HS0]
    · iexists (parts m c); isplitr; · ipureintro; exact fun _ => rfl
      iexact HS0
    isplitl [HS1]
    · iexists (keys m c); isplitr; · ipureintro; exact fun _ => rfl
      iexact HS1
    isplitl [HS2]
    · iexists (queries m c); isplitr; · ipureintro; exact fun _ => rfl
      iexact HS2
    isplitl [HS3]
    · iexists (values m c); isplitr; · ipureintro; exact fun _ => rfl
      iexact HS3
    isplitl [HS4]
    · iexists (silu m c); isplitr; · ipureintro; exact fun _ => rfl
      iexact HS4
    isplitl [HS5]
    · iexists _; isplitr; swap
      · unfold owns; iexists _; isplitr; swap; · iexact HS5
        ipureintro; rfl
      ipureintro
      rw [rows_mid m c t ht (parts m c) (keys m c) (queries m c) (values m c) (silu m c) e5 g]
      exact rows_after m c t e5 h5
    isplitl [Hg]; · iexact Hg
    isplitl [Hh1]; · iexact Hh1
    iapply (Ring.with_homes (Idealize.SL.BI.Entails.refl _))
    isplitl [Hr0]; · iexact Hr0
    isplitl [Hr1]; · iexact Hr1
    iexact Hr2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (passes_7 m c t (by omega) d7); iexact H7
  unfold owns; iexists _; isplitr; swap; · iexact H8
  ipureintro
  rw [states_mid m c t ht (parts m c) (keys m c) (queries m c) (values m c) (silu m c) e5 g, View.read_writes_eq_canon _ _ _ (cover_states _)]; rfl

set_option maxHeartbeats 6400000 in
/-- The body at the last point but one. -/
theorem soundTail (c : Dev nD) (t : Fin cfg0.N) (ht : t.val = 14) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6, leaves_8]
  rw [before_point m c t, after_point m c t]
  unfold Dat.owesAt Pipeline.owesWithin
  rw [show (dats m 0 c).owed t.castSucc = 0 from rfl, show (dats m 0 c).owed t.succ = 0 from rfl]
  unfold between ringAt
  have hgN : grid0.N = 16 := N_0
  have hN : t.val < 16 := lt_of_lt_of_eq t.isLt (show cfg0.N = 16 from N_0)
  rw [if_neg (show ¬t.val = 0 by omega), if_neg (show ¬t.val + 1 = 0 by omega)]
  rw [Ring.At3_here_tail _ _ _ _ t.val (by omega), Ring.At3_next_tail _ _ _ _ t.val (by omega) (by omega), Ring.slotAt3_tail_role _ _ _ t.val]
  iintro ⟨⟨⟨%e0, %h0, HS0⟩, ⟨%e1, %h1, HS1⟩, ⟨%e2, %h2, HS2⟩, ⟨%e3, %h3, HS3⟩, ⟨%e4, %h4, HS4⟩, ⟨%e5, %h5, HS5⟩, Hg, Hh1, ⟨-, Hr0, Hr1, Hr2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold Ring.inflight
  icases Hr0 with ⟨%g, Hr0⟩
  obtain rfl := h0 (by omega)
  obtain rfl := h1 (by omega)
  obtain rfl := h2 (by omega)
  obtain rfl := h3 (by omega)
  obtain rfl := h4 (by omega)
  iapply ((atTail m c t ht (parts m c) (keys m c) (queries m c) (values m c) (silu m c) e5 g).2.2 ((dats m 0 c).before 7 t d7) (V m c main_arg2) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [Hh1]; · iexact Hh1
  isplitl [Hr0]; · iexact Hr0
  isplitl [Hr1]; · iexact Hr1
  isplitl [Hr2]; · iexact Hr2
  isplitl [HW]; · iexact HW
  iintro ⟨H0, H1, H2, H3, H4, H5, H6, H7, ⟨%f8, H8⟩, HS0, HS1, HS2, HS3, HS4, HS5, Hh1, Hr0, Hr1, Hr2, ⟨%W', HW'⟩⟩
  isplitl [HS0 HS1 HS2 HS3 HS4 HS5 Hg Hh1 Hr0 Hr1 Hr2]
  · isplitl [HS0]
    · iexists (parts m c); isplitr; · ipureintro; exact fun _ => rfl
      iexact HS0
    isplitl [HS1]
    · iexists (keys m c); isplitr; · ipureintro; exact fun _ => rfl
      iexact HS1
    isplitl [HS2]
    · iexists (queries m c); isplitr; · ipureintro; exact fun _ => rfl
      iexact HS2
    isplitl [HS3]
    · iexists (values m c); isplitr; · ipureintro; exact fun _ => rfl
      iexact HS3
    isplitl [HS4]
    · iexists (silu m c); isplitr; · ipureintro; exact fun _ => rfl
      iexact HS4
    isplitl [HS5]
    · iexists _; isplitr; swap
      · unfold owns; iexists _; isplitr; swap; · iexact HS5
        ipureintro; rfl
      ipureintro
      rw [rows_tail m c t ht (parts m c) (keys m c) (queries m c) (values m c) (silu m c) e5 g]
      exact rows_after m c t e5 h5
    isplitl [Hg]; · iexact Hg
    isplitl [Hh1]; · iexact Hh1
    iapply (Ring.with_homes (Idealize.SL.BI.Entails.refl _))
    isplitl [Hr0]; · iexact Hr0
    isplitl [Hr1]; · iexact Hr1
    iexact Hr2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (passes_7 m c t (by omega) d7); iexact H7
  unfold owns; iexists _; isplitr; swap; · iexact H8
  ipureintro
  rw [states_tail m c t ht (parts m c) (keys m c) (queries m c) (values m c) (silu m c) e5 g, View.read_writes_eq_canon _ _ _ (cover_states _)]; rfl

set_option maxHeartbeats 6400000 in
/-- The body at the last point. -/
theorem soundLast (c : Dev nD) (t : Fin cfg0.N) (ht : t.val = 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6, leaves_8, leaves_7 m c t ht]
  rw [before_point m c t, after_point m c t]
  unfold Dat.owesAt Pipeline.owesWithin
  rw [show (dats m 0 c).owed t.castSucc = 0 from rfl, show (dats m 0 c).owed t.succ = 0 from rfl]
  unfold between ringAt
  have hgN : grid0.N = 16 := N_0
  have hN : t.val < 16 := lt_of_lt_of_eq t.isLt (show cfg0.N = 16 from N_0)
  rw [if_neg (show ¬t.val = 0 by omega), if_neg (show ¬t.val + 1 = 0 by omega)]
  rw [Ring.At3_here_tail _ _ _ _ t.val (by omega), Ring.At3_next_tail _ _ _ _ t.val (by omega) (by omega), Ring.slotAt3_tail_role _ _ _ t.val]
  iintro ⟨⟨⟨%e0, %h0, HS0⟩, ⟨%e1, %h1, HS1⟩, ⟨%e2, %h2, HS2⟩, ⟨%e3, %h3, HS3⟩, ⟨%e4, %h4, HS4⟩, ⟨%e5, %h5, HS5⟩, Hg, Hh1, ⟨-, Hr0, Hr1, Hr2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold Ring.inflight
  icases Hr0 with ⟨%g, Hr0⟩
  obtain rfl := h0 (by omega)
  obtain rfl := h1 (by omega)
  obtain rfl := h2 (by omega)
  obtain rfl := h3 (by omega)
  obtain rfl := h4 (by omega)
  iapply ((atLast m c t ht (parts m c) (keys m c) (queries m c) (values m c) (silu m c) e5 g).2.2.2 (V m c main_arg2) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [Hh1]; · iexact Hh1
  isplitl [Hr0]; · iexact Hr0
  isplitl [Hr1]; · iexact Hr1
  isplitl [Hr2]; · iexact Hr2
  isplitl [HW]; · iexact HW
  iintro ⟨H0, H1, H2, H3, H4, H5, H6, ⟨%f7, H7⟩, ⟨%f8, H8⟩, HS0, HS1, HS2, HS3, HS4, HS5, Hh1, Hr0, Hr1, Hr2, ⟨%W', HW'⟩⟩
  isplitl [HS0 HS1 HS2 HS3 HS4 HS5 Hg Hh1 Hr0 Hr1 Hr2]
  · isplitl [HS0]
    · iexists (parts m c); isplitr; · ipureintro; exact fun _ => rfl
      iexact HS0
    isplitl [HS1]
    · iexists (keys m c); isplitr; · ipureintro; exact fun _ => rfl
      iexact HS1
    isplitl [HS2]
    · iexists (queries m c); isplitr; · ipureintro; exact fun _ => rfl
      iexact HS2
    isplitl [HS3]
    · iexists (values m c); isplitr; · ipureintro; exact fun _ => rfl
      iexact HS3
    isplitl [HS4]
    · iexists (silu m c); isplitr; · ipureintro; exact fun _ => rfl
      iexact HS4
    isplitl [HS5]
    · iexists _; isplitr; swap
      · unfold owns; iexists _; isplitr; swap; · iexact HS5
        ipureintro; rfl
      ipureintro
      rw [rows_last m c t ht (parts m c) (keys m c) (queries m c) (values m c) (silu m c) e5 g]
      exact rows_after m c t e5 h5
    isplitl [Hg]; · iexact Hg
    isplitl [Hh1]; · iexact Hh1
    iapply (Ring.with_homes (Idealize.SL.BI.Entails.refl _))
    isplitl [Hr0]; · iexact Hr0
    isplitl [Hr1]; · iexact Hr1
    iexact Hr2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro
    rw [final_last m c t ht (parts m c) (keys m c) (queries m c) (values m c) (silu m c) e5 g, View.read_writes_eq_canon _ _ _ (cover_whole _), canon_whole]
    obtain rfl : t = t₁ := Fin.ext ht
    unfold out7
    refine congrArg (fun o => finalOf o (iblk m c 3 t₁) (silu m c) (iblk m c 4 t₁) (iblk m c 0 t₁) (iblk m c 5 t₁) (iblk m c 6 t₁)) (funext fun y => ?_)
    exact rows_after m c t₁ e5 h5 y (by have : (y 0).val < 128 := (y 0).isLt; show (y 0).val < 8 * (15 + 1); omega)
  unfold owns; iexists _; isplitr; swap; · iexact H8
  ipureintro
  rw [states_last m c t ht (parts m c) (keys m c) (queries m c) (values m c) (silu m c) e5 g, View.read_writes_eq_canon _ _ _ (cover_states _)]; rfl

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  rcases (by omega : t.val = 0 ∨ (0 < t.val ∧ t.val < 14) ∨ t.val = 14 ∨ t.val = 15) with h | h | h | h
  · exact soundFirst m c t h
  · exact soundMid m c t h
  · exact soundTail m c t h
  · exact soundLast m c t h

/-- The body table's row at a point's slots is the body called with that point's staging buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what holds before the first point, -/
theorem hin (c : Dev nD) : Pipeline.ΦD cellList spec0 moved (V m) c ⊢ (dats m 0 c).Φ 0 := by
  rw [held_eq, show (dats m 0 c).Φ 0 = between m c 0 from rfl]
  unfold between
  iintro ⟨⟨⟨%d0, HS0⟩, ⟨%d1, HS1⟩, ⟨%d2, HS2⟩, ⟨%d3, HS3⟩, ⟨%d4, HS4⟩, ⟨%d5, HS5⟩, HR⟩, Hg, Hq, Hh0, Hh1⟩
  isplitl [HS0]
  · iexists d0; isplitr
    · ipureintro; exact fun h => absurd rfl h
    iexact HS0
  isplitl [HS1]
  · iexists d1; isplitr
    · ipureintro; exact fun h => absurd rfl h
    iexact HS1
  isplitl [HS2]
  · iexists d2; isplitr
    · ipureintro; exact fun h => absurd rfl h
    iexact HS2
  isplitl [HS3]
  · iexists d3; isplitr
    · ipureintro; exact fun h => absurd rfl h
    iexact HS3
  isplitl [HS4]
  · iexists d4; isplitr
    · ipureintro; exact fun h => absurd rfl h
    iexact HS4
  isplitl [HS5]
  · iexists d5; isplitr
    · ipureintro; exact fun y h => absurd h (by omega)
    iexact HS5
  isplitl [Hg]; · iexact Hg
  isplitl [Hh1]; · iexact Hh1
  iapply (into_ring (F := F) m c)
  isplitl [HR]; · iexact HR
  isplitl [Hq]; · iexact Hq
  iexact Hh0
/-- and after the last point it goes back. -/
theorem hout (c : Dev nD) : (dats m 0 c).Φ (Fin.last cfg0.N) ⊢ Pipeline.ΦD cellList spec0 moved (V m) c := by
  rw [held_eq, show (dats m 0 c).Φ (Fin.last cfg0.N) = between m c grid0.N from rfl]
  unfold between
  rw [show grid0.N = 16 by rw [N_0]]
  iintro ⟨⟨%d0, -, HS0⟩, ⟨%d1, -, HS1⟩, ⟨%d2, -, HS2⟩, ⟨%d3, -, HS3⟩, ⟨%d4, -, HS4⟩, ⟨%d5, -, HS5⟩, Hg, Hh1, HR⟩
  ihave HX := (out_of_ring (F := F) m c) $$ HR
  icases HX with ⟨HR, Hq, Hh0⟩
  isplitl [HS0 HS1 HS2 HS3 HS4 HS5 HR]
  · isplitl [HS0]; · iexists d0; iexact HS0
    isplitl [HS1]; · iexists d1; iexact HS1
    isplitl [HS2]; · iexists d2; iexact HS2
    isplitl [HS3]; · iexists d3; iexact HS3
    isplitl [HS4]; · iexists d4; iexact HS4
    isplitl [HS5]; · iexists d5; iexact HS5
    iexact HR
  isplitl [Hg]; · iexact Hg
  isplitl [Hq]; · iexact Hq
  isplitl [Hh0]; · iexact Hh0
  iexact Hh1

set_option backward.isDefEq.respectTransparency.types false in
/-- The launch: every array of the pipeline ends at what its proof data says, and every counter at zero. -/
theorem run_main_quiescent : θ_run defs (onTc (τ := τ) (main (F := F))) (s₀ m ρ) (fun r => (Pipeline.FramePost cfgs (dats m) (0 : Fin 1) (V m)) r ∧ r.2.sem = fun _ => 0) :=
  Pipeline.θ_run_frame_dma (Q' := _) cfgs (dats m) (0 : Fin 1) launch0 cellList defs₀ Variants.none cell_facts moved arrays_sub m ρ main
    (hbody := fun c => (body_obligation m c).loose) (hshare := fun c => (dats m 0 c).share_full fun _ => rfl)
    (howed := fun _ _ => rfl) (V := V m) (hmain := to_region m Variants.none) (hA := A_eq m) (hin := hin m) (hout := hout m)

end Cert.DecodeIdeal.Own

end
-- ==== Proof.Rows.lean ====
/-
  The layer's row-wise functions: a layer norm over 1024 features and the gated feed-forward block, as functions of a row of
  extended reals; and the same as operations on whole blocks of rows, read at an entry.
-/
module

public import Idealize.ShloMosaic.Lib.Pointwise
public import Idealize.ShloMosaic.Lib.Tactic

@[expose] public section

noncomputable section

namespace Cert.Rows

open Idealize.ShloMosaic

/-- The shape of a block of `n` rows of `k` entries. -/
abbrev Mat (n k : ℕ) : Shape := ⟨2, ![n, k]⟩

/-- The layer norm of a row: its mean taken off, divided by the root of its mean square, scaled and shifted. -/
def lnRow (y g b : Fin 1024 → EReal) (j : Fin 1024) : EReal :=
  (y j - Ideal.div (∑ k, y k) (Scalar.ofBits (F := Ideal) .f32 0x44800000#32))
    * Ideal.rsqrt (Ideal.div (∑ k, (y k - Ideal.div (∑ l, y l) (Scalar.ofBits (F := Ideal) .f32 0x44800000#32))
        * (y k - Ideal.div (∑ l, y l) (Scalar.ofBits (F := Ideal) .f32 0x44800000#32))) (Scalar.ofBits (F := Ideal) .f32 0x44800000#32)
      + Scalar.ofBits (F := Ideal) .f32 0x3727C5AC#32) * g j + b j

/-- What the operations on a block of `n` rows ask of its shapes. -/
structure RowFacts (n : ℕ) : Prop where
  red : (Mat n 1024).Reduces [1] ⟨1, ![n]⟩
  cast : (⟨1, ![n]⟩ : Shape).ShapeCasts (Mat n 1)
  col : (Mat n 1).Broadcasts (Mat n 1024)
  row : (Mat 1 1024).Broadcasts (Mat n 1024)

/-- The layer norm of every row of a block. -/
def lnV {n : ℕ} (h : RowFacts n) (y : FVec Ideal (Mat n 1024) .f32) (g b : FVec Ideal (Mat 1 1024) .f32) : FVec Ideal (Mat n 1024) .f32 :=
  have s : FVec Ideal ⟨1, ![n]⟩ .f32 := multiReduction .add [1] ⟨1, ![n]⟩ y 0x00000000#32 h.red (.inl rfl) rfl
  have μ : FVec Ideal (Mat n 1) .f32 := divf (shapeCast (Mat n 1) s h.cast) (broadcast (Mat n 1) (Scalar.ofBits .f32 0x44800000#32))
  have z : FVec Ideal (Mat n 1024) .f32 := subf y (broadcastTo (Mat n 1024) μ h.col)
  have v : FVec Ideal ⟨1, ![n]⟩ .f32 := multiReduction .add [1] ⟨1, ![n]⟩ (mulf z z) 0x00000000#32 h.red (.inl rfl) rfl
  have σ : FVec Ideal (Mat n 1) .f32 := divf (shapeCast (Mat n 1) v h.cast) (broadcast (Mat n 1) (Scalar.ofBits .f32 0x44800000#32))
  have ρ : FVec Ideal (Mat n 1) .f32 := rsqrt (addf σ (broadcast (Mat n 1) (Scalar.ofBits .f32 0x3727C5AC#32)))
  addf (mulf (mulf z (broadcastTo (Mat n 1024) ρ h.col)) (broadcastTo (Mat n 1024) g h.row)) (broadcastTo (Mat n 1024) b h.row)

/-- Read at an entry, for 512 rows. -/
theorem lnV_apply_512 (h : RowFacts 512) (y : FVec Ideal (Mat 512 1024) .f32) (g b : FVec Ideal (Mat 1 1024) .f32) (r : Fin 512) (j : Fin 1024) :
    lnV h y g b (ix2 r j) = lnRow (fun k => y (ix2 r k)) (fun k => g (ix2 0 k)) (fun k => b (ix2 0 k)) j := by
  pointwise [lnV, lnRow]

/-- Read at an entry, for 128 rows. -/
theorem lnV_apply_128 (h : RowFacts 128) (y : FVec Ideal (Mat 128 1024) .f32) (g b : FVec Ideal (Mat 1 1024) .f32) (r : Fin 128) (j : Fin 1024) :
    lnV h y g b (ix2 r j) = lnRow (fun k => y (ix2 r k)) (fun k => g (ix2 0 k)) (fun k => b (ix2 0 k)) j := by
  pointwise [lnV, lnRow]

/-- One block of the feed-forward's hidden units: 256 of them added to what the earlier ones gave. -/
def ffTile {n : ℕ} (xb : FVec Ideal (Mat n 1024) .bf16) (w₁ w₂ : FVec Ideal (Mat 1024 256) .bf16) (wo : FVec Ideal (Mat 256 1024) .bf16)
    (h₁ : (Mat 1024 256).ShapeCasts (Mat 1024 256)) (h₂ : (Mat 256 1024).ShapeCasts (Mat 256 1024))
    (acc : FVec Ideal (Mat n 1024) .f32) : FVec Ideal (Mat n 1024) .f32 :=
  have u : FVec Ideal (Mat n 256) .f32 := matmul (DotDims.plain n 1024 256) none xb (shapeCast (Mat 1024 256) w₁ h₁) (constant (Mat n 256) .f32 0x00000000#32)
  have v : FVec Ideal (Mat n 256) .f32 := matmul (DotDims.plain n 1024 256) none xb (shapeCast (Mat 1024 256) w₂ h₁) (constant (Mat n 256) .f32 0x00000000#32)
  have p : FVec Ideal (Mat n 256) .bf16 := truncf .bf16 (mulf (mulf u (logistic u)) v) (by decide)
  addf acc (matmul (DotDims.plain n 256 1024) none p (shapeCast (Mat 256 1024) wo h₂) (constant (Mat n 1024) .f32 0x00000000#32))

/-- A hidden unit: the gated product of the two sums. -/
def unit (u v : EReal) : EReal := u * Ideal.logistic u * v

/-- Read at an entry, for 512 rows. -/
theorem ffTile_apply_512 (xb : FVec Ideal (Mat 512 1024) .bf16) (w₁ w₂ : FVec Ideal (Mat 1024 256) .bf16) (wo : FVec Ideal (Mat 256 1024) .bf16)
    (h₁ h₂) (acc : FVec Ideal (Mat 512 1024) .f32) (r : Fin 512) (j : Fin 1024) :
    ffTile xb w₁ w₂ wo h₁ h₂ acc (ix2 r j)
      = acc (ix2 r j) + ∑ q : Fin 256, unit (∑ d : Fin 1024, xb (ix2 r d) * w₁ (ix2 d q)) (∑ d : Fin 1024, xb (ix2 r d) * w₂ (ix2 d q)) * wo (ix2 q j) := by
  pointwise [ffTile, unit]

/-- Read at an entry, for 128 rows. -/
theorem ffTile_apply_128 (xb : FVec Ideal (Mat 128 1024) .bf16) (w₁ w₂ : FVec Ideal (Mat 1024 256) .bf16) (wo : FVec Ideal (Mat 256 1024) .bf16)
    (h₁ h₂) (acc : FVec Ideal (Mat 128 1024) .f32) (r : Fin 128) (j : Fin 1024) :
    ffTile xb w₁ w₂ wo h₁ h₂ acc (ix2 r j)
      = acc (ix2 r j) + ∑ q : Fin 256, unit (∑ d : Fin 1024, xb (ix2 r d) * w₁ (ix2 d q)) (∑ d : Fin 1024, xb (ix2 r d) * w₂ (ix2 d q)) * wo (ix2 q j) := by
  pointwise [ffTile, unit]

end Cert.Rows

end
-- ==== Proof.DecodeRows.lean ====
/-
  The decode step's functions of a row: the lower bounds' share, the forget gate, the key, query and value, the new state, the
  row's result against it, and the normed, gated and projected row; and the recurrence in the reference's order, equal to it on
  finite rows.
-/
module

public import proofs.«01_k».proof.Proof.Rows

@[expose] public section

set_option maxRecDepth 16384

noncomputable section

namespace Cert.Rows

open Idealize.ShloMosaic

/-- The greatest of a column's four entries. -/
def topOf (l : Fin 4 → EReal) : EReal := Finset.univ.fold max ⊥ l

/-- An entry's exponential, the greatest entry taken off, -/
def expOf (l : Fin 4 → EReal) (n : Fin 4) : EReal := Ideal.exp (l n - topOf l)

/-- and its share of the four. -/
def shareOf (l : Fin 4 → EReal) (n : Fin 4) : EReal := Ideal.div (expOf l n) (∑ k, expOf l k)

/-- The third layer's lower bound: the first three shares added up, the first taken off. -/
def lowOf (l : Fin 4 → EReal) : EReal := shareOf l 0 + shareOf l 1 + shareOf l 2 - shareOf l 0

/-- The forget gate, from a column of the lower bounds' table and the projected entry. -/
def forget (l : Fin 4 → EReal) (d : EReal) : EReal := lowOf l + (1 - lowOf l) * Ideal.logistic d

/-- An entry gated by itself. -/
def selfGate (d : EReal) : EReal := d * Ideal.logistic d

/-- The query of a projected entry. -/
def queryOf (d : EReal) : EReal := selfGate d * Scalar.ofBits (F := Ideal) .f32 0x3DB504F3#32

/-- A state's new entry. -/
def stepOf (f s v : EReal) : EReal := f * s + (1 - f) * v

/-- A projected entry. -/
def projOf (x : Fin 1024 → EReal) (w : Fin 1024 → Fin 4096 → EReal) (k : Fin 4096) : EReal := ∑ d, x d * w d k

/-- A row's forget gate, -/
def gateAt (x : Fin 1024 → EReal) (l : Fin 4 → Fin 1024 → EReal) (w : Fin 1024 → Fin 4096 → EReal) (j : Fin 1024) : EReal :=
  forget (fun n => l n j) (projOf x w ⟨1024 + j.val, by omega⟩)
/-- query -/
def queryAt (x : Fin 1024 → EReal) (w : Fin 1024 → Fin 4096 → EReal) (j : Fin 1024) : EReal := queryOf (projOf x w ⟨j.val, by omega⟩)
/-- and value at an entry. -/
def valueAt (x : Fin 1024 → EReal) (w : Fin 1024 → Fin 4096 → EReal) (j : Fin 1024) : EReal := projOf x w ⟨2048 + j.val, by omega⟩

/-- Lane `e` of head `h`. -/
abbrev laneOf (h : Fin 8) (e : Fin 128) : Fin 1024 := ⟨128 * h.val + e.val, by omega⟩

/-- The new state of a row and a head. -/
def stateOf (x : Fin 1024 → EReal) (l : Fin 4 → Fin 1024 → EReal) (w : Fin 1024 → Fin 4096 → EReal)
    (s : Fin 8 → Fin 128 → Fin 128 → EReal) (h : Fin 8) (e d : Fin 128) : EReal :=
  stepOf (gateAt x l w (laneOf h e)) (s h e d) (valueAt x w (laneOf h d))

/-- The row's result, of a head. -/
def readOf (x : Fin 1024 → EReal) (l : Fin 4 → Fin 1024 → EReal) (w : Fin 1024 → Fin 4096 → EReal)
    (s : Fin 8 → Fin 128 → Fin 128 → EReal) (h : Fin 8) (d : Fin 128) : EReal :=
  ∑ e : Fin 128, queryAt x w (laneOf h e) * stateOf x l w s h e d

/-- A head of a row normed by the root of its mean square, scaled. -/
def rmsHead (o g : Fin 128 → EReal) (d : Fin 128) : EReal :=
  o d * Ideal.rsqrt (Ideal.div (∑ k, o k * o k) (Scalar.ofBits (F := Ideal) .f32 0x43000000#32) + Scalar.ofBits (F := Ideal) .f32 0x358637BD#32) * g d

/-- The output row: each head normed and gated, projected, added to the scaled row, normed. -/
def decodeRow (o : Fin 8 → Fin 128 → EReal) (x : Fin 1024 → EReal) (w : Fin 1024 → Fin 4096 → EReal) (ng : Fin 128 → EReal)
    (wo : Fin 1024 → Fin 1024 → EReal) (g b : Fin 1024 → EReal) (j : Fin 1024) : EReal :=
  lnRow (fun k => Scalar.ofBits (F := Ideal) .f32 0x3FD744FD#32 * x k
    + ∑ d : Fin 1024, rmsHead (o ⟨d.val / 128, by omega⟩) ng ⟨d.val % 128, by omega⟩ * selfGate (projOf x w ⟨3072 + d.val, by omega⟩) * wo d k) g b j

/-! ## Finite rows -/

/-- A finite number is a real one. -/
theorem real_of {a : EReal} (h : max a (-a) < ⊤) : ∃ r : ℝ, a = r := by
  induction a using EReal.rec with
  | bot => simp at h
  | coe r => exact ⟨r, rfl⟩
  | top => simp at h

/-- A sum of reals, read in the extended reals. -/
theorem coe_sum {n : ℕ} (f : Fin n → ℝ) : (∑ k, (f k : EReal)) = ((∑ k, f k : ℝ) : EReal) := by
  induction n with
  | zero => simp
  | succ n ih => rw [Fin.sum_univ_castSucc, Fin.sum_univ_castSucc, ih, EReal.coe_add]

/-- The projected entries of a finite row are real. -/
theorem projOf_real (x : Fin 1024 → EReal) (w : Fin 1024 → Fin 4096 → EReal) (hx : ∀ d, ∃ r : ℝ, x d = r) (hw : ∀ d k, ∃ r : ℝ, w d k = r)
    (k : Fin 4096) : ∃ r : ℝ, projOf x w k = r := by
  choose x' hx using hx
  choose w' hw using hw
  refine ⟨∑ d, x' d * w' d k, ?_⟩
  unfold projOf
  rw [← coe_sum]
  exact Finset.sum_congr rfl fun d _ => by rw [hx, hw, EReal.coe_mul]

/-- The greatest of four reals is real. -/
theorem topOf_real (l : Fin 4 → EReal) (hl : ∀ n, ∃ r : ℝ, l n = r) : ∃ r : ℝ, topOf l = r := by
  have two : ∀ a b : EReal, (∃ r : ℝ, a = r) → (∃ r : ℝ, b = r) → ∃ r : ℝ, max a b = r := fun a b ha hb => by
    rcases le_total a b with h | h
    · rw [max_eq_right h]; exact hb
    · rw [max_eq_left h]; exact ha
  have e : (Finset.univ : Finset (Fin 4)) = insert 0 (insert 1 (insert 2 {3})) := by decide
  unfold topOf
  rw [e, Finset.fold_insert (by decide), Finset.fold_insert (by decide), Finset.fold_insert (by decide), Finset.fold_singleton,
    max_eq_left (bot_le : (⊥ : EReal) ≤ _)]
  exact two _ _ (hl 0) (two _ _ (hl 1) (two _ _ (hl 2) (hl 3)))

/-- The lower bound of a finite column lies strictly between zero and one. -/
theorem lowOf_real (l : Fin 4 → EReal) (hl : ∀ n, ∃ r : ℝ, l n = r) : ∃ r : ℝ, lowOf l = r ∧ 0 < r ∧ r < 1 := by
  obtain ⟨t, ht⟩ := topOf_real l hl
  choose l' hl using hl
  have he : ∀ n, expOf l n = ((Real.exp (l' n - t) : ℝ) : EReal) := fun n => by
    unfold expOf; rw [ht, hl, ← EReal.coe_sub, Ideal.exp_coe]
  have hs : (∑ k, expOf l k) = ((∑ k, Real.exp (l' k - t) : ℝ) : EReal) := by
    rw [← coe_sum]; exact Finset.sum_congr rfl fun k _ => he k
  have hpos : ∀ n, 0 < Real.exp (l' n - t) := fun n => Real.exp_pos _
  generalize hz : (fun n => Real.exp (l' n - t)) = z at *
  have hz' : ∀ n, Real.exp (l' n - t) = z n := fun n => congrFun hz n
  simp only [hz'] at he hs hpos
  have hS : 0 < ∑ k, z k := Finset.sum_pos (fun k _ => hpos k) ⟨0, Finset.mem_univ _⟩
  have hsh : ∀ n, shareOf l n = ((z n / ∑ k, z k : ℝ) : EReal) := fun n => by
    unfold shareOf; rw [hs, Ideal.div_coe hS.ne', he, ← EReal.coe_mul, mul_one_div]
  refine ⟨(z 1 + z 2) / ∑ k, z k, ?_, div_pos (add_pos (hpos 1) (hpos 2)) hS, ?_⟩
  · unfold lowOf
    rw [hsh, hsh, hsh, ← EReal.coe_add, ← EReal.coe_add, ← EReal.coe_sub]
    congr 1; ring
  · rw [div_lt_one hS, Fin.sum_univ_four]
    have h0 := hpos 0; have h3 := hpos 3
    linarith

/-- The forget gate of a finite column is real and positive. -/
theorem forget_real (l : Fin 4 → EReal) (hl : ∀ n, ∃ r : ℝ, l n = r) (d : EReal) (hd : ∃ r : ℝ, d = r) : ∃ r : ℝ, forget l d = r ∧ 0 < r := by
  obtain ⟨b, hb, hb0, hb1⟩ := lowOf_real l hl
  obtain ⟨d, rfl⟩ := hd
  have hσ : 0 < (1 + Real.exp (-d))⁻¹ := inv_pos.2 (add_pos one_pos (Real.exp_pos _))
  refine ⟨b + (1 - b) * (1 + Real.exp (-d))⁻¹, ?_, add_pos hb0 (mul_pos (sub_pos.2 hb1) hσ)⟩
  unfold forget
  rw [hb, Ideal.logistic_coe, EReal.coe_add, EReal.coe_mul, EReal.coe_sub, EReal.coe_one]

/-- A real entry gated by itself is real. -/
theorem selfGate_real (d : EReal) (hd : ∃ r : ℝ, d = r) : ∃ r : ℝ, selfGate d = r := by
  obtain ⟨d, rfl⟩ := hd
  exact ⟨d * (1 + Real.exp (-d))⁻¹, by unfold selfGate; rw [Ideal.logistic_coe, EReal.coe_mul]⟩

/-- The exponential of a positive real's logarithm is that real. -/
theorem exp_log_real (f : ℝ) (hf : 0 < f) : Ideal.exp (Ideal.log f) = f := by
  rw [Ideal.log_coe, if_neg (not_le.2 hf), Ideal.exp_coe, Real.exp_log hf]

/-- The exponential of nothing: a positive real's logarithm taken off itself. -/
theorem exp_log_sub (f : ℝ) (hf : 0 < f) : Ideal.exp (Ideal.log f - Ideal.log f) = 1 := by
  rw [Ideal.log_coe, if_neg (not_le.2 hf), ← EReal.coe_sub, sub_self, Ideal.exp_coe, Real.exp_zero, EReal.coe_one]

/-- A real factor goes over a sum whose second term is real. -/
theorem coe_mul_add_coe (q b : ℝ) (a : EReal) : (q : EReal) * (a + b) = q * a + q * b := by
  induction a with
  | bot =>
    rw [EReal.bot_add, ← EReal.coe_mul]
    rcases lt_trichotomy q 0 with h | rfl | h
    · rw [EReal.coe_mul_bot_of_neg h, EReal.top_add_coe]
    · simp
    · rw [EReal.coe_mul_bot_of_pos h, EReal.bot_add]
  | coe a => rw [← EReal.coe_add, ← EReal.coe_mul, ← EReal.coe_mul, ← EReal.coe_mul, ← EReal.coe_add, mul_add]
  | top =>
    rw [EReal.top_add_coe, ← EReal.coe_mul]
    rcases lt_trichotomy q 0 with h | rfl | h
    · rw [EReal.coe_mul_top_of_neg h, EReal.bot_add]
    · simp
    · rw [EReal.coe_mul_top_of_pos h, EReal.top_add_coe]

/-- The result in the reference's order: the decayed query against the old state, and the query's product with the key times
    the value. The old state may be infinite. -/
theorem read_split (q f s : Fin 128 → EReal) (v : EReal) (hq : ∀ e, ∃ r : ℝ, q e = r) (hf : ∀ e, ∃ r : ℝ, f e = r)
    (hv : ∃ r : ℝ, v = r) :
    (∑ e, q e * f e * s e) + (∑ e, (1 - f e) * q e) * v = ∑ e, q e * stepOf (f e) (s e) v := by
  choose q' hq using hq
  choose f' hf using hf
  obtain ⟨v, rfl⟩ := hv
  have h2 : (∑ e, (1 - f e) * q e) * v = ∑ e, q e * ((1 - f e) * v) := by
    have h3 : (∑ e, (1 - f e) * q e) = ((∑ e, (1 - f' e) * q' e : ℝ) : EReal) := by
      rw [← coe_sum]; exact Finset.sum_congr rfl fun e _ => by rw [hq, hf, EReal.coe_mul, EReal.coe_sub, EReal.coe_one]
    have h4 : (∑ e, q e * ((1 - f e) * v)) = ((∑ e, q' e * ((1 - f' e) * v) : ℝ) : EReal) := by
      rw [← coe_sum]; exact Finset.sum_congr rfl fun e _ => by rw [hq, hf, EReal.coe_mul, EReal.coe_mul, EReal.coe_sub, EReal.coe_one]
    rw [h3, h4, ← EReal.coe_mul, Finset.sum_mul]
    exact congrArg _ (Finset.sum_congr rfl fun e _ => by ring)
  rw [h2, ← Finset.sum_add_distrib]
  refine Finset.sum_congr rfl fun e _ => ?_
  have h5 : (1 - f e) * (v : EReal) = (((1 - f' e) * v : ℝ) : EReal) := by rw [hf, EReal.coe_mul, EReal.coe_sub, EReal.coe_one]
  unfold stepOf
  rw [h5, hq, coe_mul_add_coe, mul_assoc]

/-- The three parts of a real number add up to it. -/
theorem parts_add (f : EReal) (hf : ∃ r : ℝ, f = r) : f + (f - f) + ((f - f) - (f - f)) = f := by
  obtain ⟨f, rfl⟩ := hf
  rw [← EReal.coe_sub, sub_self, ← EReal.coe_sub, sub_self, ← EReal.coe_add, ← EReal.coe_add, add_zero, add_zero]

end Cert.Rows

end
-- ==== Proof.DecodePoint.lean ====
/-
  One grid point of the decode kernel's recurrence, read at an entry: the new states and the rows of results.
-/
module

public import proofs.«01_k».proof.Proof.DecodeNames
public import proofs.«01_k».proof.Proof.DecodeRows
public import Idealize.ShloMosaic.Lib.Pipeline.ValueKit

@[expose] public section

set_option maxRecDepth 16384

noncomputable section

namespace Cert.DecodeIdeal.Own

open Cert.DecodeIdeal Cert.DecodeIdeal.Gen Cert.Rows
open Idealize.ShloMosaic Idealize.ShloMosaic.TcCoe Idealize.ShloMosaic.Tactic

/-! ## The gates -/

/-- A quarter of the input projection, read at an entry. -/
theorem ld_quarter (w : Vec Ideal S1x1024x4096 .f32) (o : ℕ) (inb) (d k : Fin 1024) (i : Fin 4096) (hi : i.val = o + k.val) :
    View.ld w (Rect.unit (s := S1x1024x4096) ![0, 0, o] ![1, 1024, 1024] inb) (ix3 0 d k) = w (ix3 0 d i) :=
  View.ld_unit_apply_of w _ _ _ _ _ fun a => match a with
    | ⟨0, _⟩ => rfl
    | ⟨1, _⟩ => (Nat.zero_add _).symm
    | ⟨2, _⟩ => hi

theorem quarter0_apply (w : Vec Ideal S1x1024x4096 .f32) (d k : Fin 1024) : quarter0 w (ix3 0 d k) = w (ix3 0 d ⟨k.val, by omega⟩) :=
  ld_quarter w 0 _ d k _ (Nat.zero_add _).symm
theorem quarter1_apply (w : Vec Ideal S1x1024x4096 .f32) (d k : Fin 1024) : quarter1 w (ix3 0 d k) = w (ix3 0 d ⟨1024 + k.val, by omega⟩) :=
  ld_quarter w 1024 _ d k _ rfl
theorem quarter2_apply (w : Vec Ideal S1x1024x4096 .f32) (d k : Fin 1024) : quarter2 w (ix3 0 d k) = w (ix3 0 d ⟨2048 + k.val, by omega⟩) :=
  ld_quarter w 2048 _ d k _ rfl
theorem quarter3_apply (w : Vec Ideal S1x1024x4096 .f32) (d k : Fin 1024) : quarter3 w (ix3 0 d k) = w (ix3 0 d ⟨3072 + k.val, by omega⟩) :=
  ld_quarter w 3072 _ d k _ rfl

/-- A product of the rows with a square of weights. -/
theorem pay7_apply (x : Vec Ideal S128x1024 .f32) (w : Vec Ideal S1x1024x1024 .f32) (r : Fin 128) (j : Fin 1024) :
    k0_pay7 x w (ix2 r j) = ∑ d : Fin 1024, x (ix2 r d) * w (ix3 0 d j) := by
  pointwise [k0_pay7, k0_pay4]

/-- The greatest entry's start. -/
theorem least_bits : Ideal.ofBits .f32 0xFF800000#32 = ⊥ := by simp [Ideal.ofBits, Ideal.ieee]

/-- The lower bounds' share and the forget gate. -/
theorem pay5_apply (x : Vec Ideal S128x1024 .f32) (l : Vec Ideal S4x1024 .f32) (w : Vec Ideal S1x1024x1024 .f32) (r : Fin 128) (j : Fin 1024) :
    k0_pay5 x l w (ix2 r j) = forget (fun n => l (ix2 n j)) (∑ d : Fin 1024, x (ix2 r d) * w (ix3 0 d j)) := by
  rw [← pay7_apply]
  generalize hy : k0_pay7 x w = y
  unfold k0_pay7 at hy
  pointwise [k0_pay5, hy, forget, lowOf, shareOf, expOf, topOf, least_bits]

/-- A row of the forget gates, -/
theorem gateOf_apply (x : Vec Ideal S128x1024 .f32) (l : Vec Ideal S4x1024 .f32) (w : Vec Ideal S1x1024x4096 .f32) (r : Fin 128) (j : Fin 1024) :
    gateOf x l w (ix2 r j) = gateAt (fun d => x (ix2 r d)) (fun n j => l (ix2 n j)) (fun d k => w (ix3 0 d k)) j := by
  unfold gateOf gateAt projOf
  rw [pay5_apply]
  exact congrArg _ (Finset.sum_congr rfl fun d _ => congrArg (x (ix2 r d) * ·) (quarter1_apply w d j))
/-- of the keys, -/
theorem keysOf_apply (x : Vec Ideal S128x1024 .f32) (l : Vec Ideal S4x1024 .f32) (w : Vec Ideal S1x1024x4096 .f32) (r : Fin 128) (j : Fin 1024) :
    keysOf x l w (ix2 r j) = 1 - gateAt (fun d => x (ix2 r d)) (fun n j => l (ix2 n j)) (fun d k => w (ix3 0 d k)) j := by
  rw [← gateOf_apply]
  pointwise [keysOf, k0_pay16]
/-- of the queries, -/
theorem queriesOf_apply (x : Vec Ideal S128x1024 .f32) (w : Vec Ideal S1x1024x4096 .f32) (r : Fin 128) (j : Fin 1024) :
    queriesOf x w (ix2 r j) = queryAt (fun d => x (ix2 r d)) (fun d k => w (ix3 0 d k)) j := by
  unfold queriesOf queryAt projOf
  have e : (∑ d : Fin 1024, x (ix2 r d) * w (ix3 0 d ⟨j.val, by omega⟩)) = k0_pay7 x (quarter0 w) (ix2 r j) := by
    rw [pay7_apply]; exact Finset.sum_congr rfl fun d _ => congrArg (x (ix2 r d) * ·) (quarter0_apply w d j).symm
  rw [e]
  generalize hy : k0_pay7 x (quarter0 w) = y
  unfold k0_pay7 at hy
  pointwise [k0_pay17, k0_pay6, hy, queryOf, selfGate]
/-- of the values -/
theorem valuesOf_apply (x : Vec Ideal S128x1024 .f32) (w : Vec Ideal S1x1024x4096 .f32) (r : Fin 128) (j : Fin 1024) :
    valuesOf x w (ix2 r j) = valueAt (fun d => x (ix2 r d)) (fun d k => w (ix3 0 d k)) j := by
  unfold valuesOf valueAt projOf
  have e : (∑ d : Fin 1024, x (ix2 r d) * w (ix3 0 d ⟨2048 + j.val, by omega⟩)) = k0_pay7 x (quarter2 w) (ix2 r j) := by
    rw [pay7_apply]; exact Finset.sum_congr rfl fun d _ => congrArg (x (ix2 r d) * ·) (quarter2_apply w d j).symm
  rw [e]
  generalize hy : k0_pay7 x (quarter2 w) = y
  unfold k0_pay7 at hy
  pointwise [k0_pay18, hy]
/-- and of the output gate. -/
theorem siluOf_apply (x : Vec Ideal S128x1024 .f32) (w : Vec Ideal S1x1024x4096 .f32) (r : Fin 128) (j : Fin 1024) :
    siluOf x w (ix2 r j) = selfGate (projOf (fun d => x (ix2 r d)) (fun d k => w (ix3 0 d k)) ⟨3072 + j.val, by omega⟩) := by
  unfold siluOf projOf
  have e : (∑ d : Fin 1024, x (ix2 r d) * w (ix3 0 d ⟨3072 + j.val, by omega⟩)) = k0_pay7 x (quarter3 w) (ix2 r j) := by
    rw [pay7_apply]; exact Finset.sum_congr rfl fun d _ => congrArg (x (ix2 r d) * ·) (quarter3_apply w d j).symm
  rw [e]
  generalize hy : k0_pay7 x (quarter3 w) = y
  pointwise [k0_pay34, k0_pay9, k0_pay8, hy, selfGate]

/-- The gate's three parts. -/
def partOf (p : Fin 3) (f : EReal) : EReal := match p with | 0 => f | 1 => f - f | 2 => (f - f) - (f - f)

theorem parts_apply (f : FVec Ideal S128x1024 .f32) (p : Fin 3) (r : Fin 128) (j : Fin 1024) :
    View.canon (f3Pieces f) (ix3 p r j) = partOf p (f (ix2 r j)) := by
  refine View.canon_apply_of_pieces (fun y : S3x128x1024.Idx => partOf (y 0) (f (ix2 (y 1) (y 2)))) (f3Pieces f) ?_ (ix3 p r j) (cover_parts f _)
  intro q hq x
  unfold f3Pieces at hq
  simp only [List.mem_cons, List.not_mem_nil, or_false] at hq
  obtain rfl | rfl | rfl := hq
  · obtain ⟨r, j, rfl⟩ : ∃ (r : Fin 128) (j : Fin 1024), x = ix3 0 r j := ⟨x 1, x 2, by ext a; match a with | ⟨0, _⟩ => exact Nat.lt_one_iff.1 (x 0).isLt | ⟨1, _⟩ => rfl | ⟨2, _⟩ => rfl⟩
    have e : (Rect.unit (s := S3x128x1024) ![2, 0, 0] S1x128x1024.size inb_S3x128x1024_S1x128x1024_2_0_0).emb (ix3 0 r j) = ix3 2 r j := by
      ext a; match a with | ⟨0, _⟩ => rfl | ⟨1, _⟩ => exact (ValueKit.rect_emb_unit_val ..).trans (Nat.zero_add _) | ⟨2, _⟩ => exact (ValueKit.rect_emb_unit_val ..).trans (Nat.zero_add _)
    rw [e]
    pointwise [k0_pay15, k0_pay12, k0_pay11, k0_pay10, partOf]
  · obtain ⟨r, j, rfl⟩ : ∃ (r : Fin 128) (j : Fin 1024), x = ix3 0 r j := ⟨x 1, x 2, by ext a; match a with | ⟨0, _⟩ => exact Nat.lt_one_iff.1 (x 0).isLt | ⟨1, _⟩ => rfl | ⟨2, _⟩ => rfl⟩
    have e : (Rect.unit (s := S3x128x1024) ![1, 0, 0] S1x128x1024.size inb_S3x128x1024_S1x128x1024_1_0_0).emb (ix3 0 r j) = ix3 1 r j := by
      ext a; match a with | ⟨0, _⟩ => rfl | ⟨1, _⟩ => exact (ValueKit.rect_emb_unit_val ..).trans (Nat.zero_add _) | ⟨2, _⟩ => exact (ValueKit.rect_emb_unit_val ..).trans (Nat.zero_add _)
    rw [e]
    pointwise [k0_pay14, k0_pay12, k0_pay11, k0_pay10, partOf]
  · obtain ⟨r, j, rfl⟩ : ∃ (r : Fin 128) (j : Fin 1024), x = ix3 0 r j := ⟨x 1, x 2, by ext a; match a with | ⟨0, _⟩ => exact Nat.lt_one_iff.1 (x 0).isLt | ⟨1, _⟩ => rfl | ⟨2, _⟩ => rfl⟩
    have e : (Rect.unit (s := S3x128x1024) ![0, 0, 0] S1x128x1024.size inb_S3x128x1024_S1x128x1024_0_0_0).emb (ix3 0 r j) = ix3 0 r j := by
      ext a; match a with | ⟨0, _⟩ => rfl | ⟨1, _⟩ => exact (ValueKit.rect_emb_unit_val ..).trans (Nat.zero_add _) | ⟨2, _⟩ => exact (ValueKit.rect_emb_unit_val ..).trans (Nat.zero_add _)
    rw [e]
    pointwise [k0_pay13, k0_pay10, partOf]

/-! ## The rows of a point -/

theorem offset_hi : ∀ t : Fin grid0.N, k0_off4 (grid0.coords t) = ![0, 8 * t.val, 0] := by decide +kernel
theorem offset_mid : ∀ t : Fin grid0.N, k0_off5 (grid0.coords t) = ![1, 8 * t.val, 0] := by decide +kernel
theorem offset_lo : ∀ t : Fin grid0.N, k0_off6 (grid0.coords t) = ![2, 8 * t.val, 0] := by decide +kernel

/-- The row of all rows that a point's row is. -/
def rowIx (t : Fin cfg0.N) (s : Fin 8) : Fin 128 := ⟨8 * t.val + s.val, by have := t.isLt; have e : cfg0.N = 16 := N_0; have := s.isLt; omega⟩

/-- Eight rows of a part, read at an entry. -/
theorem ld_part (x : Vec Ideal S3x128x1024 .f32) (t : Fin cfg0.N) (p : Fin 3) (off : Fin 3 → ℕ) (inb) (hoff : off = ![p.val, 8 * t.val, 0]) (s : Fin 8) (j : Fin 1024) :
    View.ld x (Rect.unit (s := S3x128x1024) off S1x8x1024.size inb) (ix3 0 s j) = x (ix3 p (rowIx t s) j) := by
  subst hoff
  exact View.ld_unit_apply_of x _ _ _ _ _ fun a => match a with | ⟨0, _⟩ => rfl | ⟨1, _⟩ => rfl | ⟨2, _⟩ => (Nat.zero_add _).symm

theorem hiAt_apply (x : Vec Ideal S3x128x1024 .f32) (t : Fin cfg0.N) (s : Fin 8) (j : Fin 1024) : hiAt x t (ix2 s j) = x (ix3 0 (rowIx t s) j) := by
  rw [← ld_part x t 0 _ (k0_off4_inb (grid0.coords t) (honPass t)) (offset_hi t) s j]
  generalize hy : View.ld x (Rect.unit (s := S3x128x1024) (k0_off4 (grid0.coords t)) S1x8x1024.size (k0_off4_inb (grid0.coords t) (honPass t))) = y
  unfold hiAt; rw [hy]
  pointwise [k0_pay35]
theorem midAt_apply (x : Vec Ideal S3x128x1024 .f32) (t : Fin cfg0.N) (s : Fin 8) (j : Fin 1024) : midAt x t (ix2 s j) = x (ix3 1 (rowIx t s) j) := by
  rw [← ld_part x t 1 _ (k0_off5_inb (grid0.coords t) (honPass t)) (offset_mid t) s j]
  generalize hy : View.ld x (Rect.unit (s := S3x128x1024) (k0_off5 (grid0.coords t)) S1x8x1024.size (k0_off5_inb (grid0.coords t) (honPass t))) = y
  unfold midAt; rw [hy]
  pointwise [k0_pay36]
theorem loAt_apply (x : Vec Ideal S3x128x1024 .f32) (t : Fin cfg0.N) (s : Fin 8) (j : Fin 1024) : loAt x t (ix2 s j) = x (ix3 2 (rowIx t s) j) := by
  rw [← ld_part x t 2 _ (k0_off6_inb (grid0.coords t) (honPass t)) (offset_lo t) s j]
  generalize hy : View.ld x (Rect.unit (s := S3x128x1024) (k0_off6 (grid0.coords t)) S1x8x1024.size (k0_off6_inb (grid0.coords t) (honPass t))) = y
  unfold loAt; rw [hy]
  pointwise [k0_pay37]
theorem rowAt_apply (x : Vec Ideal S128x1024 .f32) (t : Fin cfg0.N) (s : Fin 8) (j : Fin 1024) : rowAt x t (ix2 s j) = x (ix2 (rowIx t s) j) := by
  unfold rowAt
  refine View.ld_unit_apply_of x _ _ _ _ _ fun a => ?_
  have e := congrFun (row_offset t) a
  match a with
  | ⟨0, _⟩ => exact (congrArg (· + s.val) e).symm
  | ⟨1, _⟩ => exact ((congrArg (· + j.val) e).trans (Nat.zero_add _)).symm

/-- A store of the whole, read back. -/
theorem canon_all (w : Vec Ideal S8x8x128x128 .f32) (y : S8x8x128x128.Idx) :
    View.canon ([⟨Rect.whole S8x8x128x128, w⟩] : List (View.Piece (Elt Ideal) S8x8x128x128 .f32)) y = w y := by
  refine View.canon_apply_of_pieces (fun y => w y) _ ?_ y ⟨_, List.mem_cons_self, ?_⟩
  · intro q hq x
    obtain rfl := List.mem_singleton.1 hq
    exact congrArg w (Rect.emb_whole_apply _ x).symm
  · show y ∈ (Rect.whole S8x8x128x128).set
    rw [Rect.set_whole]; exact Finset.mem_univ _

/-- A block of eight states, read at an entry. -/
theorem block_apply (W : S2x128x8x128x128.Idx → EReal) (b : Fin 16) (i h : Fin 8) (e d : Fin 128) :
    (ringBlock b).view.read (Elt Ideal) W (ix4 i h e d) = W (ix5 1 ⟨8 * b.val + i.val, by omega⟩ h e d) := by
  have e1 : (ringBlock b).view.read (Elt Ideal) W
      = shapeCast S8x8x128x128 (fun y : S1x8x8x128x128.Idx => W ((Rect.unit (s := S2x128x8x128x128) ![1, 8 * b.val, 0, 0, 0] S1x8x8x128x128.size (inb_block b)).emb y)) squeezes_S1x8x8x128x128_S8x8x128x128.numel_eq := rfl
  rw [e1]
  pointwise
  refine congrArg W ?_
  ext a
  match a with
  | ⟨0, _⟩ => exact ValueKit.rect_emb_unit_val ..
  | ⟨1, _⟩ => exact ValueKit.rect_emb_unit_val ..
  | ⟨2, _⟩ => exact (ValueKit.rect_emb_unit_val ..).trans (Nat.zero_add _)
  | ⟨3, _⟩ => exact (ValueKit.rect_emb_unit_val ..).trans (Nat.zero_add _)
  | ⟨4, _⟩ => exact (ValueKit.rect_emb_unit_val ..).trans (Nat.zero_add _)

/-- The old states of a point, read at an entry. -/
theorem oldAt_apply (c : Dev nD) (t : Fin cfg0.N) (W : HbBuf (F := Ideal) c hbm0) (i h : Fin 8) (e d : Fin 128) :
    oldAt c t W i h (ix4 0 0 e d) = W (ix5 1 (rowIx t i) h e d) := by
  have ht : (Ring.bk 16 t.val).val = t.val := Nat.mod_eq_of_lt (by have := t.isLt; have e : cfg0.N = 16 := N_0; omega)
  unfold oldAt
  rw [readCov_ld]
  refine (View.ld_unit_apply_of (S := S8x8x128x128) _ ![i.val, h.val, 0, 0] S1x1x128x128.size (oldFits i h) (ix4 0 0 e d) (ix4 i h e d) fun a => match a with | ⟨0, _⟩ => rfl | ⟨1, _⟩ => rfl | ⟨2, _⟩ => (Nat.zero_add _).symm | ⟨3, _⟩ => (Nat.zero_add _).symm).trans ?_
  refine (canon_all _ _).trans ((block_apply W _ i h e d).trans (congrArg W ?_))
  have e0 : (⟨8 * (Ring.bk 16 t.val).val + i.val, by omega⟩ : Fin 128) = rowIx t i := Fin.ext (by show 8 * (Ring.bk 16 t.val).val + i.val = 8 * t.val + i.val; rw [ht])
  rw [e0]

/-! ## The new states -/

/-- A head's picked row, read at an entry. -/
theorem pick_apply (i h : Fin 8) (x : FVec Ideal S8x1024 .f32) (s : Fin 8) (e : Fin 128) :
    pick i h x (ix2 s e) = if s = i then x (ix2 s (laneOf h e)) else 0 := by
  have hc : IntOp.cmpi .eq (BitVec.ofNat 32 s.val) (BitVec.ofNat 32 i.val) = BitVec.ofBool (decide (s.val = i.val)) :=
    WordCmp.cmpi_eq_ofNat (by have := s.isLt; omega) (by have := i.isLt; omega)
  by_cases hs : s = i
  · rw [if_pos hs]; subst hs
    pointwise [pick, headOf, noRows]
  · rw [if_neg hs]
    have hs' : s.val ≠ i.val := fun h => hs (Fin.ext h)
    pointwise [pick, headOf, noRows, hc, hs']

/-- Row `s` of piece `p` of four. -/
abbrev rowOf (p : Fin 4) (s : Fin 8) : Fin 32 := ⟨8 * p.val + s.val, by omega⟩

/-- Four pieces of eight rows, one on the other, read at an entry. -/
theorem stack_apply (f : Fin 4 → FVec Ideal S8x128 .f32) (p : Fin 4) (s : Fin 8) (e : Fin 128) :
    concatenate S32x128 0 [⟨S8x128, f 0⟩, ⟨S8x128, f 1⟩, ⟨S8x128, f 2⟩, ⟨S8x128, f 3⟩] concatenates_S8x128_S8x128_S8x128_S8x128_S32x128_d0 (ix2 (rowOf p s) e) = f p (ix2 s e) :=
  concatenate_ofFn_apply (t := S32x128) (s₁ := S8x128) 0 f concatenates_S8x128_S8x128_S8x128_S8x128_S32x128_d0 rfl 8 rfl (ix2 (rowOf p s) e) p (by show (8 * p.val + s.val) / 8 = p.val; omega)
    (ix2 s e) (by show s.val = (8 * p.val + s.val) % 8; omega) (fun b hb => match b with | ⟨0, _⟩ => absurd rfl hb | ⟨1, _⟩ => rfl)

/-- A sum over the thirty-two rows, piece by piece. -/
theorem sum_rows (f : Fin 32 → EReal) : ∑ r, f r = ∑ p : Fin 4, ∑ s : Fin 8, f (rowOf p s) := by
  rw [← Fintype.sum_prod_type' (fun (p : Fin 4) (s : Fin 8) => f (rowOf p s))]
  exact (Fintype.sum_equiv (finProdFinEquiv (m := 4) (n := 8)) (fun x => f (rowOf x.1 x.2)) f fun x => congrArg f (Fin.ext (by
    show 8 * x.1.val + x.2.val = x.2.val + 8 * x.1.val; omega))).symm

/-- The gate's three parts and the key, -/
def lefts (i h : Fin 8) (hi mid lo k : FVec Ideal S8x1024 .f32) : Fin 4 → FVec Ideal S8x128 .f32 := ![pick i h hi, pick i h mid, pick i h lo, pick i h k]

theorem leftOf_apply (i h : Fin 8) (hi mid lo k : FVec Ideal S8x1024 .f32) (p : Fin 4) (s : Fin 8) (e : Fin 128) :
    leftOf i h hi mid lo k (ix2 (rowOf p s) e) = if s = i then (![hi, mid, lo, k] : Fin 4 → FVec Ideal S8x1024 .f32) p (ix2 s (laneOf h e)) else 0 := by
  unfold leftOf
  refine (stack_apply (lefts i h hi mid lo k) p s e).trans ?_
  match p with
  | 0 => exact pick_apply i h hi s e
  | 1 => exact pick_apply i h mid s e
  | 2 => exact pick_apply i h lo s e
  | 3 => exact pick_apply i h k s e

/-- the ones against them, -/
theorem rightOf_gate (h : Fin 8) (v : FVec Ideal S8x1024 .f32) (p : Fin 4) (s : Fin 8) (d : Fin 128) :
    rightOf h v (ix2 (rowOf p s) (⟨d.val, by omega⟩ : Fin 256)) = if p = 3 then 0 else 1 := by
  unfold rightOf
  refine (concatenate_ofFn_apply (t := S32x256) (s₁ := S32x128) 1 ![concatenate S32x128 0 [⟨S8x128, oneRows (F := Ideal)⟩, ⟨S8x128, oneRows (F := Ideal)⟩, ⟨S8x128, oneRows (F := Ideal)⟩, ⟨S8x128, noRows (F := Ideal)⟩]
      concatenates_S8x128_S8x128_S8x128_S8x128_S32x128_d0, concatenate S32x128 0 [⟨S8x128, noRows (F := Ideal)⟩, ⟨S8x128, noRows (F := Ideal)⟩, ⟨S8x128, noRows (F := Ideal)⟩, ⟨S8x128, headOf h v⟩]
      concatenates_S8x128_S8x128_S8x128_S8x128_S32x128_d0] concatenates_S32x128_S32x128_S32x256_d1 rfl 128 rfl (ix2 (rowOf p s) (⟨d.val, by omega⟩ : Fin 256)) 0 (Nat.div_eq_of_lt d.isLt)
    (ix2 (rowOf p s) d) (Nat.mod_eq_of_lt d.isLt).symm (fun b hb => match b with | ⟨0, _⟩ => rfl | ⟨1, _⟩ => absurd rfl hb)).trans ?_
  refine (stack_apply ![oneRows, oneRows, oneRows, noRows] p s d).trans ?_
  match p with
  | 0 => show oneRows (F := Ideal) (ix2 s d) = 1; pointwise [oneRows]
  | 1 => show oneRows (F := Ideal) (ix2 s d) = 1; pointwise [oneRows]
  | 2 => show oneRows (F := Ideal) (ix2 s d) = 1; pointwise [oneRows]
  | 3 => show noRows (F := Ideal) (ix2 s d) = 0; pointwise [noRows]

/-- and the value against the key. -/
theorem rightOf_kv (h : Fin 8) (v : FVec Ideal S8x1024 .f32) (p : Fin 4) (s : Fin 8) (d : Fin 128) :
    rightOf h v (ix2 (rowOf p s) (⟨128 + d.val, by omega⟩ : Fin 256)) = if p = 3 then v (ix2 s (laneOf h d)) else 0 := by
  unfold rightOf
  refine (concatenate_ofFn_apply (t := S32x256) (s₁ := S32x128) 1 ![concatenate S32x128 0 [⟨S8x128, oneRows (F := Ideal)⟩, ⟨S8x128, oneRows (F := Ideal)⟩, ⟨S8x128, oneRows (F := Ideal)⟩, ⟨S8x128, noRows (F := Ideal)⟩]
      concatenates_S8x128_S8x128_S8x128_S8x128_S32x128_d0, concatenate S32x128 0 [⟨S8x128, noRows (F := Ideal)⟩, ⟨S8x128, noRows (F := Ideal)⟩, ⟨S8x128, noRows (F := Ideal)⟩, ⟨S8x128, headOf h v⟩]
      concatenates_S8x128_S8x128_S8x128_S8x128_S32x128_d0] concatenates_S32x128_S32x128_S32x256_d1 rfl 128 rfl (ix2 (rowOf p s) (⟨128 + d.val, by omega⟩ : Fin 256)) 1
    (by show (128 + d.val) / 128 = 1; omega)
    (ix2 (rowOf p s) d) (by show d.val = (128 + d.val) % 128; omega) (fun b hb => match b with | ⟨0, _⟩ => rfl | ⟨1, _⟩ => absurd rfl hb)).trans ?_
  refine (stack_apply ![noRows, noRows, noRows, headOf h v] p s d).trans ?_
  match p with
  | 0 => show noRows (F := Ideal) (ix2 s d) = 0; pointwise [noRows]
  | 1 => show noRows (F := Ideal) (ix2 s d) = 0; pointwise [noRows]
  | 2 => show noRows (F := Ideal) (ix2 s d) = 0; pointwise [noRows]
  | 3 => show headOf h v (ix2 s d) = v (ix2 s (laneOf h d)); pointwise [headOf]

theorem gateKv_sum (i h : Fin 8) (hi mid lo k v : FVec Ideal S8x1024 .f32) (e : Fin 128) (d : Fin 256) :
    gateKv i h hi mid lo k v (ix2 e d) = ∑ r : Fin 32, leftOf i h hi mid lo k (ix2 r e) * rightOf h v (ix2 r d) := by
  unfold gateKv
  generalize leftOf i h hi mid lo k = a
  generalize rightOf h v = b
  pointwise

theorem gateKv_gate (i h : Fin 8) (hi mid lo k v : FVec Ideal S8x1024 .f32) (e d : Fin 128) :
    gateKv i h hi mid lo k v (ix2 e (⟨d.val, by omega⟩ : Fin 256)) = hi (ix2 i (laneOf h e)) + mid (ix2 i (laneOf h e)) + lo (ix2 i (laneOf h e)) := by
  rw [gateKv_sum, sum_rows]
  simp only [leftOf_apply, rightOf_gate, Fin.sum_univ_four, ite_mul, zero_mul, Finset.sum_ite_eq', Finset.sum_ite_eq, Finset.mem_univ, if_true]
  simp

theorem gateKv_kv (i h : Fin 8) (hi mid lo k v : FVec Ideal S8x1024 .f32) (e d : Fin 128) :
    gateKv i h hi mid lo k v (ix2 e (⟨128 + d.val, by omega⟩ : Fin 256)) = k (ix2 i (laneOf h e)) * v (ix2 i (laneOf h d)) := by
  rw [gateKv_sum, sum_rows]
  simp only [leftOf_apply, rightOf_kv, Fin.sum_univ_four, ite_mul, zero_mul, Finset.sum_ite_eq', Finset.sum_ite_eq, Finset.mem_univ, if_true]
  simp

/-- The new state of a sequence and a head, read at an entry. -/
theorem newState_apply (hi mid lo k v : FVec Ideal S8x1024 .f32) (old : Fin 8 → Fin 8 → Vec Ideal S1x1x128x128 .f32) (i h : Fin 8) (e d : Fin 128) :
    newState hi mid lo k v old i h (ix2 e d) = (hi (ix2 i (laneOf h e)) + mid (ix2 i (laneOf h e)) + lo (ix2 i (laneOf h e))) * old i h (ix4 0 0 e d)
      + k (ix2 i (laneOf h e)) * v (ix2 i (laneOf h d)) := by
  rw [← gateKv_gate i h hi mid lo k v e d, ← gateKv_kv i h hi mid lo k v e d]
  unfold newState
  generalize gateKv i h hi mid lo k v = g
  pointwise

/-! ## The rows of results -/

/-- The rows of a sequence's and a head's result: its own row, the others zero. -/
theorem outOf_apply (hi mid lo k q v : FVec Ideal S8x1024 .f32) (old : Fin 8 → Fin 8 → Vec Ideal S1x1x128x128 .f32) (i h s : Fin 8) (d : Fin 128) :
    outOf hi mid lo k q v old i h (ix2 s d) = if s = i then ∑ e : Fin 128, q (ix2 s (laneOf h e)) * newState hi mid lo k v old i h (ix2 e d) else 0 := by
  have e1 : outOf hi mid lo k q v old i h (ix2 s d) = ∑ e : Fin 128, pick i h q (ix2 s e) * newState hi mid lo k v old i h (ix2 e d) := by
    unfold outOf
    generalize pick i h q = a
    generalize newState hi mid lo k v old i h = b
    pointwise
  rw [e1]
  simp only [pick_apply]
  by_cases hs : s = i <;> simp [hs]

theorem outSeq_apply (hi mid lo k q v : FVec Ideal S8x1024 .f32) (old : Fin 8 → Fin 8 → Vec Ideal S1x1x128x128 .f32) (i s : Fin 8) (j : Fin 1024) :
    outSeq hi mid lo k q v old i (ix2 s j) = outOf hi mid lo k q v old i ⟨j.val / 128, by omega⟩ (ix2 s ⟨j.val % 128, by omega⟩) :=
  concatenate_ofFn_apply (t := S8x1024) (s₁ := S8x128) 1 (outOf hi mid lo k q v old i) concatenates_S8x128_S8x128_S8x128_S8x128_S8x128_S8x128_S8x128_S8x128_S8x1024_d1
    rfl 128 rfl (ix2 s j) ⟨j.val / 128, by omega⟩ rfl (ix2 s ⟨j.val % 128, by omega⟩) rfl (fun b hb => match b with | ⟨0, _⟩ => rfl | ⟨1, _⟩ => absurd rfl hb)

/-- The rows of results of a point, read at an entry. -/
theorem outRows_apply (hi mid lo k q v : FVec Ideal S8x1024 .f32) (old : Fin 8 → Fin 8 → Vec Ideal S1x1x128x128 .f32) (s : Fin 8) (j : Fin 1024) :
    outRows hi mid lo k q v old (ix2 s j) = ∑ e : Fin 128, q (ix2 s (laneOf ⟨j.val / 128, by omega⟩ e)) * newState hi mid lo k v old s ⟨j.val / 128, by omega⟩ (ix2 e ⟨j.val % 128, by omega⟩) := by
  have e1 : outRows hi mid lo k q v old (ix2 s j) = ∑ i : Fin 8, outSeq hi mid lo k q v old i (ix2 s j) := by
    unfold outRows
    rw [Fin.sum_univ_eight]
    generalize outSeq hi mid lo k q v old = f
    pointwise
  rw [e1]
  simp only [outSeq_apply, outOf_apply, Finset.sum_ite_eq, Finset.mem_univ, if_true]

/-! ## The output rows -/

/-- A head of all rows normed. -/
def headV (o : FVec Ideal S128x1024 .f32) (n : FVec Ideal S1x128 .f32) (h : Fin 8) : FVec Ideal S128x128 .f32 :=
  have x : FVec Ideal S128x128 .f32 := extractStridedSlice S128x128 ![0, 128 * h.val] o ⟨rfl, fun a => match a with | ⟨0, _⟩ => le_refl 128 | ⟨1, _⟩ => (by have := h.isLt; show 128 * h.val + 128 ≤ 1024; omega)⟩
  have s : FVec Ideal S128 .f32 := multiReduction .add [1] S128 (mulf x x) 0x00000000#32 reduces_S128x128_S128 (.inl rfl) rfl
  have μ : FVec Ideal S128x1 .f32 := divf (shapeCast S128x1 s shapeCasts_S128_S128x1) (broadcast S128x1 (Scalar.ofBits .f32 0x43000000#32))
  have ρ : FVec Ideal S128x1 .f32 := rsqrt (addf μ (broadcast S128x1 (Scalar.ofBits .f32 0x358637BD#32)))
  mulf (mulf x (broadcastTo S128x128 ρ broadcasts_S128x1_S128x128)) (broadcastTo S128x128 n broadcasts_S1x128_S128x128)

theorem headV_apply (o : FVec Ideal S128x1024 .f32) (n : FVec Ideal S1x128 .f32) (h : Fin 8) (r d : Fin 128) :
    headV o n h (ix2 r d) = rmsHead (fun k => o (ix2 r (laneOf h k))) (fun k => n (ix2 0 k)) d := by
  pointwise [headV, rmsHead]

/-- All heads normed, side by side. -/
def headsV (o : FVec Ideal S128x1024 .f32) (n : FVec Ideal S1x128 .f32) : FVec Ideal S128x1024 .f32 :=
  concatenate S128x1024 1 [⟨S128x128, headV o n 0⟩, ⟨S128x128, headV o n 1⟩, ⟨S128x128, headV o n 2⟩, ⟨S128x128, headV o n 3⟩, ⟨S128x128, headV o n 4⟩, ⟨S128x128, headV o n 5⟩, ⟨S128x128, headV o n 6⟩, ⟨S128x128, headV o n 7⟩]
    concatenates_S128x128_S128x128_S128x128_S128x128_S128x128_S128x128_S128x128_S128x128_S128x1024_d1

theorem headsV_apply (o : FVec Ideal S128x1024 .f32) (n : FVec Ideal S1x128 .f32) (r : Fin 128) (j : Fin 1024) :
    headsV o n (ix2 r j) = rmsHead (fun k => o (ix2 r (laneOf ⟨j.val / 128, by omega⟩ k))) (fun k => n (ix2 0 k)) ⟨j.val % 128, by omega⟩ := by
  refine (concatenate_ofFn_apply (t := S128x1024) (s₁ := S128x128) 1 (headV o n) concatenates_S128x128_S128x128_S128x128_S128x128_S128x128_S128x128_S128x128_S128x128_S128x1024_d1
    rfl 128 rfl (ix2 r j) ⟨j.val / 128, by omega⟩ rfl (ix2 r ⟨j.val % 128, by omega⟩) rfl (fun b hb => match b with | ⟨0, _⟩ => rfl | ⟨1, _⟩ => absurd rfl hb)).trans ?_
  exact headV_apply ..

/-- The gated rows projected, added to the scaled rows. -/
def sumOf (o : FVec Ideal S128x1024 .f32) (n : FVec Ideal S1x128 .f32) (gate : FVec Ideal S128x1024 .f32) (wo : Vec Ideal S1x1024x1024 .f32)
    (x : FVec Ideal S128x1024 .f32) : FVec Ideal S128x1024 .f32 :=
  addf (mulf (broadcast S128x1024 (Scalar.ofBits .f32 0x3FD744FD#32)) x)
    (matmul dot_S128x1024_S1024x1024_S128x1024_1_0_0_1_n_n none (truncf .bf16 (mulf (headsV o n) gate) bitsLt_bf16_f32 : FVec Ideal S128x1024 .bf16)
      (shapeCast S1024x1024 wo shapeCasts_S1x1024x1024_S1024x1024 : FVec Ideal S1024x1024 .f32) (constant S128x1024 .f32 0x00000000#32))

theorem sumOf_apply (o : FVec Ideal S128x1024 .f32) (n : FVec Ideal S1x128 .f32) (gate : FVec Ideal S128x1024 .f32) (wo : Vec Ideal S1x1024x1024 .f32)
    (x : FVec Ideal S128x1024 .f32) (r : Fin 128) (k : Fin 1024) :
    sumOf o n gate wo x (ix2 r k) = Scalar.ofBits (F := Ideal) .f32 0x3FD744FD#32 * x (ix2 r k)
      + ∑ d : Fin 1024, headsV o n (ix2 r d) * gate (ix2 r d) * wo (ix3 0 d k) := by
  unfold sumOf
  generalize headsV o n = y
  pointwise

/-- What a block of 128 rows asks. -/
theorem rows128 : RowFacts 128 := ⟨reduces_S128x1024_S128, shapeCasts_S128_S128x1, broadcasts_S128x1_S128x1024, broadcasts_S1x1024_S128x1024⟩

theorem head_0 (o : Vec Ideal S128x1024 .f32) (ng : Vec Ideal S1x1x128 .f32) : k0_pay20 o ng = headV o (k0_pay19 ng) 0 := rfl
theorem head_1 (o : Vec Ideal S128x1024 .f32) (ng : Vec Ideal S1x1x128 .f32) : k0_pay21 o ng = headV o (k0_pay19 ng) 1 := rfl
theorem head_2 (o : Vec Ideal S128x1024 .f32) (ng : Vec Ideal S1x1x128 .f32) : k0_pay22 o ng = headV o (k0_pay19 ng) 2 := rfl
theorem head_3 (o : Vec Ideal S128x1024 .f32) (ng : Vec Ideal S1x1x128 .f32) : k0_pay25 (k0_pay19 ng) (k0_pay23 o) (k0_pay24 o) = headV o (k0_pay19 ng) 3 := rfl
theorem head_4 (o : Vec Ideal S128x1024 .f32) (ng : Vec Ideal S1x1x128 .f32) : k0_pay26 o (k0_pay19 ng) = headV o (k0_pay19 ng) 4 := rfl
theorem head_5 (o : Vec Ideal S128x1024 .f32) (ng : Vec Ideal S1x1x128 .f32) : k0_pay27 o (k0_pay19 ng) = headV o (k0_pay19 ng) 5 := rfl
theorem head_6 (o : Vec Ideal S128x1024 .f32) (ng : Vec Ideal S1x1x128 .f32) : k0_pay28 o (k0_pay19 ng) = headV o (k0_pay19 ng) 6 := rfl

/-- The last head is normed where the rows are gated. -/
theorem centred (o : Vec Ideal S128x1024 .f32) (n : FVec Ideal S1x128 .f32) (gate : Vec Ideal S128x1024 .f32) (wo : Vec Ideal S1x1024x1024 .f32)
    (x : Vec Ideal S128x1024 .f32) :
    k0_pay31 o n (headV o n 0) (headV o n 1) (headV o n 2) (headV o n 3) (headV o n 4) (headV o n 5) (headV o n 6) gate wo x
      = subf (sumOf o n gate wo x) (broadcastTo S128x1024 (divf (shapeCast S128x1 (multiReduction .add [1] S128 (sumOf o n gate wo x) 0x00000000#32 reduces_S128x1024_S128 (.inl rfl) rfl : FVec Ideal S128 .f32) shapeCasts_S128_S128x1) (broadcast S128x1 (Scalar.ofBits .f32 0x44800000#32))) broadcasts_S128x1_S128x1024) := by
  unfold k0_pay31 sumOf headsV
  generalize headV o n 0 = h0
  generalize headV o n 1 = h1
  generalize headV o n 2 = h2
  generalize headV o n 3 = h3
  generalize headV o n 4 = h4
  generalize headV o n 5 = h5
  generalize headV o n 6 = h6
  rfl

theorem finalOf_eq (o : Vec Ideal S128x1024 .f32) (ng : Vec Ideal S1x1x128 .f32) (gate : Vec Ideal S128x1024 .f32) (wo : Vec Ideal S1x1024x1024 .f32)
    (x : Vec Ideal S128x1024 .f32) (lg lb : Vec Ideal S1x1x1024 .f32) :
    finalOf o ng gate wo x lg lb = lnV rows128 (sumOf o (k0_pay19 ng) gate wo x) (k0_pay29 lg) (k0_pay30 lb) := by
  unfold finalOf
  rw [head_0, head_1, head_2, head_3, head_4, head_5, head_6]
  unfold k0_pay32
  rw [centred]
  generalize sumOf o (k0_pay19 ng) gate wo x = y
  rfl

/-- What the last point stores, read at an entry. -/
theorem finalOf_apply (o : Vec Ideal S128x1024 .f32) (ng : Vec Ideal S1x1x128 .f32) (gate : Vec Ideal S128x1024 .f32) (wo : Vec Ideal S1x1024x1024 .f32)
    (x : Vec Ideal S128x1024 .f32) (lg lb : Vec Ideal S1x1x1024 .f32) (r : Fin 128) (j : Fin 1024) :
    finalOf o ng gate wo x lg lb (ix2 r j) = lnRow (fun k => Scalar.ofBits (F := Ideal) .f32 0x3FD744FD#32 * x (ix2 r k)
      + ∑ d : Fin 1024, rmsHead (fun e => o (ix2 r (laneOf ⟨d.val / 128, by omega⟩ e))) (fun e => ng (ix3 0 0 e)) ⟨d.val % 128, by omega⟩
          * gate (ix2 r d) * wo (ix3 0 d k)) (fun k => lg (ix3 0 0 k)) (fun k => lb (ix3 0 0 k)) j := by
  have h1 : (fun k => k0_pay29 lg (ix2 0 k)) = fun k => lg (ix3 0 0 k) := funext fun k => by pointwise [k0_pay29]
  have h2 : (fun k => k0_pay30 lb (ix2 0 k)) = fun k => lb (ix3 0 0 k) := funext fun k => by pointwise [k0_pay30]
  have h3 : (fun k => k0_pay19 ng (ix2 0 k)) = fun k => ng (ix3 0 0 k) := funext fun k => by pointwise [k0_pay19]
  rw [finalOf_eq]
  refine (lnV_apply_128 ..).trans ?_
  rw [h1, h2]
  simp only [sumOf_apply, headsV_apply, h3]

end Cert.DecodeIdeal.Own

end
-- ==== Proof.DecodeValue.lean ====
/-
  The decode kernel's two result arrays, read off the memory the program was started on: the new states and the activations.
-/
module

public import proofs.«01_k».proof.Proof.DecodeRun
public import proofs.«01_k».proof.Proof.DecodePoint

@[expose] public section

set_option maxRecDepth 16384

noncomputable section

namespace Cert.DecodeIdeal.Own

open Cert.DecodeIdeal Cert.DecodeIdeal.Gen Cert.Rows
open Idealize.ShloMosaic Idealize.ShloMosaic.TcCoe Idealize.ShloMosaic.Tactic Idealize.SL.Sem

variable (m : (ℓ : Loc nD τ sig) → Buf (Elt Ideal) ℓ)

/-! ## The operands, as the program finds them -/

/-- A row of the activations, -/
def memRow (c : Dev nD) (r : Fin 128) (d : Fin 1024) : EReal := m ((c : Thread nD τ).loc main_arg0) (ix2 r d)
/-- the lower bounds' table, -/
def memLow (c : Dev nD) (n : Fin 4) (j : Fin 1024) : EReal := m ((c : Thread nD τ).loc main_arg3) (ix2 n j)
/-- the input projection, -/
def memIn (c : Dev nD) (d : Fin 1024) (k : Fin 4096) : EReal := m ((c : Thread nD τ).loc main_arg4) (ix3 1 d k)
/-- a row's old states, -/
def memOld (c : Dev nD) (r : Fin 128) (h : Fin 8) (e d : Fin 128) : EReal := m ((c : Thread nD τ).loc main_arg1) (ix5 1 r h e d)
/-- and its new states; -/
def memNew (c : Dev nD) (r : Fin 128) : Fin 8 → Fin 128 → Fin 128 → EReal := stateOf (memRow m c r) (memLow m c) (memIn m c) (memOld m c r)
/-- the row's result against them, -/
def memRead (c : Dev nD) (r : Fin 128) : Fin 8 → Fin 128 → EReal := readOf (memRow m c r) (memLow m c) (memIn m c) (memOld m c r)
/-- and the output row. -/
def memOut (c : Dev nD) (r : Fin 128) : Fin 1024 → EReal :=
  decodeRow (memRead m c r) (memRow m c r) (memIn m c) (fun e => m ((c : Thread nD τ).loc main_arg5) (ix2 1 e))
    (fun d k => m ((c : Thread nD τ).loc main_arg6) (ix3 1 d k)) (fun k => m ((c : Thread nD τ).loc main_arg7) (ix2 2 k))
    (fun k => m ((c : Thread nD τ).loc main_arg8) (ix2 2 k))

/-- What the activations' result holds. -/
def result7 (c : Dev nD) : Buf (Elt Ideal) ((c : Thread nD τ).loc main_v3_0) := fun i => memOut m c (i 0) (i 1)
/-- What the states' result holds: the second layer's new, the first's as they were. -/
def result8 (c : Dev nD) : Buf (Elt Ideal) ((c : Thread nD τ).loc main_v3_1) :=
  fun i => if (i 0).val = 1 then memNew m c (i 1) (i 2) (i 3) (i 4) else m ((c : Thread nD τ).loc main_arg2) i

/-! ## The windows' blocks -/

/-- Where the windows' blocks stand. -/
theorem idx : ∀ t : Fin grid0.N, win0_0.index t = ![0, 0] ∧ win0_1.index t = ![0, 0] ∧ win0_2.index t = ![1, 0, 0]
    ∧ win0_3.index t = ![1, 0, 0] ∧ win0_4.index t = ![1, 0, 0] ∧ win0_5.index t = ![2, 0, 0] ∧ win0_6.index t = ![2, 0, 0]
    ∧ win0_7.index t = ![0, 0] ∧ win0_8.index t = ![1, t.val, 0, 0, 0] := by decide +kernel

theorem blk0 (c : Dev nD) (t : Fin cfg0.N) (r : Fin 128) (k : Fin 1024) :
    iblk m c 0 t (ix2 r k) = m ((c : Thread nD τ).loc main_arg0) (ix2 r k) := by
  blk_ext! [iblk, V, idx t]
theorem blk1 (c : Dev nD) (t : Fin cfg0.N) (r : Fin 4) (k : Fin 1024) :
    iblk m c 1 t (ix2 r k) = m ((c : Thread nD τ).loc main_arg3) (ix2 r k) := by
  blk_ext! [iblk, V, idx t]
theorem blk2 (c : Dev nD) (t : Fin cfg0.N) (d : Fin 1024) (k : Fin 4096) :
    iblk m c 2 t (ix3 0 d k) = m ((c : Thread nD τ).loc main_arg4) (ix3 1 d k) := by
  blk_ext! [iblk, V, idx t]
theorem blk3 (c : Dev nD) (t : Fin cfg0.N) (k : Fin 128) :
    iblk m c 3 t (ix3 0 0 k) = m ((c : Thread nD τ).loc main_arg5) (ix2 1 k) := by
  blk_ext! [iblk, V, idx t]
theorem blk4 (c : Dev nD) (t : Fin cfg0.N) (d k : Fin 1024) :
    iblk m c 4 t (ix3 0 d k) = m ((c : Thread nD τ).loc main_arg6) (ix3 1 d k) := by
  blk_ext! [iblk, V, idx t]
theorem blk5 (c : Dev nD) (t : Fin cfg0.N) (k : Fin 1024) :
    iblk m c 5 t (ix3 0 0 k) = m ((c : Thread nD τ).loc main_arg7) (ix2 2 k) := by
  blk_ext! [iblk, V, idx t]
theorem blk6 (c : Dev nD) (t : Fin cfg0.N) (k : Fin 1024) :
    iblk m c 6 t (ix3 0 0 k) = m ((c : Thread nD τ).loc main_arg8) (ix2 2 k) := by
  blk_ext! [iblk, V, idx t]

/-- The old states stay where they were. -/
theorem V_arg1 (c : Dev nD) : V m c main_arg1 = m ((c : Thread nD τ).loc main_arg1) := rfl
/-- The states' result starts as a copy of its operand. -/
theorem V_states (c : Dev nD) (i) : V m c main_v3_1 i = m ((c : Thread nD τ).loc main_arg2) i := rfl

/-! ## The gates, read at an entry -/

theorem parts_at (c : Dev nD) (p : Fin 3) (r : Fin 128) (j : Fin 1024) :
    parts m c (ix3 p r j) = partOf p (gateAt (memRow m c r) (memLow m c) (memIn m c) j) := by
  unfold parts partsOf
  rw [parts_apply, gateOf_apply]
  simp only [blk0, blk1, blk2]
  rfl
theorem keys_at (c : Dev nD) (r : Fin 128) (j : Fin 1024) : keys m c (ix2 r j) = 1 - gateAt (memRow m c r) (memLow m c) (memIn m c) j := by
  unfold keys
  rw [keysOf_apply]
  simp only [blk0, blk1, blk2]
  rfl
theorem queries_at (c : Dev nD) (r : Fin 128) (j : Fin 1024) : queries m c (ix2 r j) = queryAt (memRow m c r) (memIn m c) j := by
  unfold queries
  rw [queriesOf_apply]
  simp only [blk0, blk2]
  rfl
theorem values_at (c : Dev nD) (r : Fin 128) (j : Fin 1024) : values m c (ix2 r j) = valueAt (memRow m c r) (memIn m c) j := by
  unfold values
  rw [valuesOf_apply]
  simp only [blk0, blk2]
  rfl
theorem silu_at (c : Dev nD) (r : Fin 128) (j : Fin 1024) : silu m c (ix2 r j) = selfGate (projOf (memRow m c r) (memIn m c) ⟨3072 + j.val, by omega⟩) := by
  unfold silu
  rw [siluOf_apply]
  simp only [blk0, blk2]
  rfl

/-! ## The new states and the results -/

/-- The gates of every row are finite. -/
def Gated (c : Dev nD) : Prop := ∀ r j, ∃ f : ℝ, gateAt (memRow m c r) (memLow m c) (memIn m c) j = f

theorem state_at (c : Dev nD) (hg : Gated m c) (t : Fin cfg0.N) (s h : Fin 8) (e d : Fin 128) :
    stateAt c t (parts m c) (keys m c) (values m c) (V m c main_arg1) s h (ix2 e d) = memNew m c (rowIx t s) h e d := by
  unfold stateAt
  rw [newState_apply, hiAt_apply, midAt_apply, loAt_apply, rowAt_apply, rowAt_apply, oldAt_apply, parts_at, parts_at, parts_at, keys_at, values_at, V_arg1]
  unfold memNew stateOf stepOf
  refine congrArg₂ (· + ·) (congrArg₂ (· * ·) ?_ rfl) rfl
  exact parts_add _ (hg _ _)

theorem row_at (c : Dev nD) (hg : Gated m c) (t : Fin cfg0.N) (s : Fin 8) (j : Fin 1024) :
    rowsOf m c t (ix2 s j) = memRead m c (rowIx t s) ⟨j.val / 128, by omega⟩ ⟨j.val % 128, by omega⟩ := by
  unfold rowsOf resultAt
  refine Eq.trans (b := outRows (hiAt (parts m c) t) (midAt (parts m c) t) (loAt (parts m c) t) (rowAt (keys m c) t) (rowAt (queries m c) t) (rowAt (values m c) t) (oldAt c t (V m c main_arg1)) (ix2 s j)) ?_ ?_
  · generalize outRows (hiAt (parts m c) t) (midAt (parts m c) t) (loAt (parts m c) t) (rowAt (keys m c) t) (rowAt (queries m c) t) (rowAt (values m c) t) (oldAt c t (V m c main_arg1)) = z
    pointwise [k0_pay1]
  rw [outRows_apply]
  unfold memRead readOf
  refine Finset.sum_congr rfl fun e _ => congrArg₂ (· * ·) ?_ ?_
  · rw [rowAt_apply, queries_at]
  · exact state_at m c hg t s _ e _

theorem results_at (c : Dev nD) (hg : Gated m c) (r : Fin 128) (j : Fin 1024) :
    results m c (ix2 r j) = memRead m c r ⟨j.val / 128, by omega⟩ ⟨j.val % 128, by omega⟩ := by
  unfold results
  refine (row_at m c hg (pointOf r) ⟨r.val % 8, Nat.mod_lt _ (by decide)⟩ j).trans ?_
  have e : rowIx (pointOf r) ⟨r.val % 8, Nat.mod_lt _ (by decide)⟩ = r := Fin.ext (by show 8 * (r.val / 8) + r.val % 8 = r.val; omega)
  rw [e]

theorem out7_at (c : Dev nD) (hg : Gated m c) (r : Fin 128) (j : Fin 1024) : out7 m c (ix2 r j) = memOut m c r j := by
  unfold out7
  rw [finalOf_apply]
  have e : ∀ (d : Fin 1024), (fun e => results m c (ix2 r (laneOf ⟨d.val / 128, by omega⟩ e))) = memRead m c r ⟨d.val / 128, by omega⟩ := fun d => funext fun e => by
    rw [results_at m c hg]
    exact congrArg₂ (memRead m c r) (Fin.ext (by show (128 * (d.val / 128) + e.val) / 128 = d.val / 128; omega)) (Fin.ext (by show (128 * (d.val / 128) + e.val) % 128 = e.val; omega))
  simp only [e, silu_at, blk0, blk3, blk4, blk5, blk6]
  rfl

theorem out8_at (c : Dev nD) (hg : Gated m c) (t : Fin cfg0.N) (s h : Fin 8) (e d : Fin 128) :
    out8 m c t (ix5 0 s h e d) = memNew m c (rowIx t s) h e d := by
  unfold out8
  refine View.canon_apply_of_pieces (fun y : S1x8x8x128x128.Idx => (memNew m c (rowIx t (y 1)) (y 2) (y 3) (y 4) : Elt Ideal .f32)) (statePieces (stateAt c t (parts m c) (keys m c) (values m c) (V m c main_arg1)) 64) ?_ (ix5 0 s h e d) (cover_states _ _)
  intro q hq x
  obtain ⟨n, rfl⟩ := of_mem_states _ _ _ hq
  obtain ⟨e, d, rfl⟩ : ∃ e d : Fin 128, x = ix5 0 0 0 e d := ⟨x 3, x 4, by
    ext a; match a with
    | ⟨0, _⟩ => exact Nat.lt_one_iff.1 (x 0).isLt
    | ⟨1, _⟩ => exact Nat.lt_one_iff.1 (x 1).isLt
    | ⟨2, _⟩ => exact Nat.lt_one_iff.1 (x 2).isLt
    | ⟨3, _⟩ => rfl
    | ⟨4, _⟩ => rfl⟩
  have e1 : (Rect.unit (s := S1x8x8x128x128) ![0, n / 8 % 8, n % 8, 0, 0] S1x1x1x128x128.size (stateFits n)).emb (ix5 0 0 0 e d)
      = ix5 0 ⟨n / 8 % 8, Nat.mod_lt _ (by decide)⟩ ⟨n % 8, Nat.mod_lt _ (by decide)⟩ e d := by
    ext a; match a with
    | ⟨0, _⟩ => rfl
    | ⟨1, _⟩ => rfl
    | ⟨2, _⟩ => rfl
    | ⟨3, _⟩ => exact (ValueKit.rect_emb_unit_val ..).trans (Nat.zero_add _)
    | ⟨4, _⟩ => exact (ValueKit.rect_emb_unit_val ..).trans (Nat.zero_add _)
  rw [e1]
  refine Eq.trans ?_ (state_at m c hg t ⟨n / 8 % 8, Nat.mod_lt _ (by decide)⟩ ⟨n % 8, Nat.mod_lt _ (by decide)⟩ e d)
  generalize stateAt c t (parts m c) (keys m c) (values m c) (V m c main_arg1) = z
  pointwise

/-! ## The arrays after the run -/

/-- The last point. -/
def tEnd : Fin cfg0.N := ⟨15, by decide +kernel⟩

theorem final7 (c : Dev nD) (hg : Gated m c) : (dats m 0 c).arrAt 7 cfg0.N = result7 m c := by
  refine (dats m 0 c).arrAt_eq_of_after_last 7 tEnd (by decide +kernel) _ fun y => ?_
  blk_simp
  rw [after_7]
  obtain ⟨r, j, rfl⟩ : ∃ (r : Fin 128) (j : Fin 1024), y = ix2 r j := ⟨y 0, y 1, by ext a; match a with | ⟨0, _⟩ => rfl | ⟨1, _⟩ => rfl⟩
  exact out7_at m c hg r j

theorem final8 (c : Dev nD) (hg : Gated m c) : (dats m 0 c).arrAt 8 cfg0.N = result8 m c := by
  refine (dats m 0 c).arrAt_eq_of_coversWhere_of_agree 8 _ (fun β => β (0 : Fin 5) = 1) (by decide +kernel) (fun t hf y => ?_) (fun j hj => ?_)
  · blk_simp
    rw [after_8]
    obtain ⟨s, h, e, d, rfl⟩ : ∃ (s h : Fin 8) (e d : Fin 128), y = ix5 0 s h e d := ⟨y 1, y 2, y 3, y 4, by
      ext a; match a with
      | ⟨0, _⟩ => exact Nat.lt_one_iff.1 (y 0).isLt
      | ⟨1, _⟩ => rfl
      | ⟨2, _⟩ => rfl
      | ⟨3, _⟩ => rfl
      | ⟨4, _⟩ => rfl⟩
    rw [out8_at m c hg]
    unfold result8
    rw [if_pos (by blk_simp [idx t]; rfl)]
    have e1 : ((cfg0.win 8).blk t).view.emb (ix5 0 s h e d) 1 = rowIx t s := Fin.ext (by blk_simp [idx t]; show _ = 8 * t.val + s.val; omega)
    have e2 : ((cfg0.win 8).blk t).view.emb (ix5 0 s h e d) 2 = h := Fin.ext (by blk_simp [idx t])
    have e3 : ((cfg0.win 8).blk t).view.emb (ix5 0 s h e d) 3 = e := Fin.ext (by blk_simp [idx t])
    have e4 : ((cfg0.win 8).blk t).view.emb (ix5 0 s h e d) 4 = d := Fin.ext (by blk_simp [idx t])
    rw [e1, e2, e3, e4]
  · rw [A_eq]
    refine (V_states m c _).trans ?_
    unfold result8
    rw [if_neg]
    blk_simp [Pipeline.Window.cell_apply] at hj ⊢
    rwa [Nat.div_one] at hj

end Cert.DecodeIdeal.Own

end
-- ==== Proof.DecodeRefValue.lean ====
/-
  The reference of the decode step, read at an entry: the same functions of the rows as the kernel's, on finite operands.
-/
module

public import proofs.«01_k».proof.Proof.DecodeRows
public import proofs.«01_k».proof.Proof.Gen.DecodeRefIdeal.Run
public import proofs.«01_k».proof.Proof.Gen.DecodeRefIdeal.Read
public import Idealize.ShloMosaic.Lib.Routing.OpsSet
public import Idealize.ShloMosaic.Lib.KernelVsHost

@[expose] public section

set_option maxRecDepth 16384

noncomputable section

namespace Cert.DecodeRefIdeal.Own

open Cert.DecodeRefIdeal Cert.DecodeRefIdeal.Gen Cert.DecodeRefIdeal.Read Cert.Rows
open Idealize.ShloMosaic Idealize.ShloMosaic.TcCoe Idealize.ShloMosaic.Tactic

variable (x0 : (⟨S128x1024, .f32⟩ : BufTy).Contents (Elt Ideal)) (x1 x2 : (⟨S2x128x8x128x128, .f32⟩ : BufTy).Contents (Elt Ideal))
  (x3 : (⟨S4x1024, .f32⟩ : BufTy).Contents (Elt Ideal)) (x4 : (⟨S2x1024x4096, .f32⟩ : BufTy).Contents (Elt Ideal))
  (x5 : (⟨S2x128, .f32⟩ : BufTy).Contents (Elt Ideal)) (x6 : (⟨S2x1024x1024, .f32⟩ : BufTy).Contents (Elt Ideal))
  (x7 x8 : (⟨S4x1024, .f32⟩ : BufTy).Contents (Elt Ideal))

/-- A row of the activations, -/
abbrev row (r : Fin 128) : Fin 1024 → EReal := fun d => x0 (ix2 r d)
/-- the lower bounds' table, -/
abbrev low : Fin 4 → Fin 1024 → EReal := fun n j => x3 (ix2 n j)
/-- the input projection -/
abbrev wIn : Fin 1024 → Fin 4096 → EReal := fun d k => x4 (ix3 1 d k)
/-- and a row's old states. -/
abbrev old (r : Fin 128) : Fin 8 → Fin 128 → Fin 128 → EReal := fun h e d => x1 (ix5 1 r h e d)

/-! ## The lower bounds -/

/-- The word of the least number. -/
theorem least : Ideal.ofBits .f32 0xFF800000#32 = ⊥ := by simp [Ideal.ofBits, Ideal.ieee]

/-- The greatest of a column. -/
theorem top_apply (j : Fin 1024) : val_main_v0 (F := Ideal) x3 (ix1 j) = topOf (fun n => x3 (ix2 n j)) := by
  unfold val_main_v0 val_main_cst
  refine (congrFun (hostReduce_maximumf_eq_multiReduction (F := Ideal) (φ := .f32) x3 0xFF800000#32 reducesTo_S4x1024_S1024_d0 h_S_ (by decide) (.inl rfl) rfl) (ix1 j)).trans ?_
  pointwise [topOf]
  rw [least]

/-- A column's share. -/
theorem share_apply (n : Fin 4) (j : Fin 1024) : val_main_v10 (F := Ideal) x3 (ix2 n j) = shareOf (fun n => x3 (ix2 n j)) n := by
  unfold shareOf expOf
  rw [← top_apply]
  generalize hy : val_main_v0 (F := Ideal) x3 = y
  pointwise [val_main_v10, val_main_v9, val_main_v8, val_main_v7, val_main_v6, val_main_v5, val_main_v4, val_main_v3, val_main_v2, val_main_v1, val_main_cst_0, val_main_cst_1, hy]
  simp only [least, bot_le, max_eq_right, zero_add]

/-- The query's scale is a real number. -/
theorem scale_real : ∃ c : ℝ, Scalar.ofBits (F := Ideal) .f32 0x3DB504F3#32 = (c : EReal) := by
  show ∃ c : ℝ, Ideal.ofBits .f32 0x3DB504F3#32 = (c : EReal)
  simp [Ideal.ofBits, Ideal.ieee]
  exact ⟨_, rfl⟩

/-- The shares added up, in the third row. -/
theorem cum_apply (j : Fin 1024) : val_main_v11 (F := Ideal) x3 (ix2 2 j)
    = shareOf (fun n => x3 (ix2 n j)) 0 + shareOf (fun n => x3 (ix2 n j)) 1 + shareOf (fun n => x3 (ix2 n j)) 2 := by
  simp only [← share_apply]
  unfold val_main_v11
  generalize val_main_v10 (F := Ideal) x3 = y
  have hv : val_main_call0_call0_v0 (F := Ideal) (Shape.Idx.first h_S_) = 0 := by
    rw [val_main_call0_call0_v0_apply, val_main_call0_call0_cst_apply]
    pointwise
  have hp : ∀ (n : Fin 4), ((⟨2, ![4, 1]⟩ : Shape).rowMajor.symm n 0).val = n.val ∧ ((⟨2, ![4, 1]⟩ : Shape).rowMajor.symm n 1).val = 0 := by decide +kernel
  have hl : ∀ f : EReal → Fin (⟨2, ![4, 1]⟩ : Shape).numel → EReal,
      List.foldl f 0 (List.finRange (⟨2, ![4, 1]⟩ : Shape).numel) = f (f (f (f 0 (0 : Fin 4)) (1 : Fin 4)) (2 : Fin 4)) (3 : Fin 4) := fun f => rfl
  show Host.reduceWindow (· + ·) ![4, 1] ![1, 1] ![3, 0] ![0, 0] y (fun _ : (⟨0, ![]⟩ : Shape).Idx => val_main_call0_call0_v0 (F := Ideal) (Shape.Idx.first h_S_)) reduceWindows_S4x1024_S4x1024_w4s1p3_0_w1s1p0_0 (by decide) (ix2 2 j) = _
  unfold Host.reduceWindow
  rw [hv]
  dsimp only
  rw [hl]
  have hin : ∀ n : Fin 4, 1 ≤ n.val → ∀ a : Fin 2,
      ![3, 0] a ≤ ((ix2 (2 : Fin 4) j : S4x1024.Idx) (Fin.cast rfl a)).val * ![1, 1] a + ((⟨2, ![4, 1]⟩ : Shape).rowMajor.symm n a).val
      ∧ ((ix2 (2 : Fin 4) j : S4x1024.Idx) (Fin.cast rfl a)).val * ![1, 1] a + ((⟨2, ![4, 1]⟩ : Shape).rowMajor.symm n a).val - ![3, 0] a < ![4, 1024] a := by
    intro n hn a
    obtain ⟨h0, h1⟩ := hp n
    have hn' := n.isLt
    have hj := j.isLt
    fin_cases a
    · show 3 ≤ 2 * 1 + ((⟨2, ![4, 1]⟩ : Shape).rowMajor.symm n 0).val ∧ 2 * 1 + ((⟨2, ![4, 1]⟩ : Shape).rowMajor.symm n 0).val - 3 < 4
      rw [h0]; omega
    · show 0 ≤ j.val * 1 + ((⟨2, ![4, 1]⟩ : Shape).rowMajor.symm n 1).val ∧ j.val * 1 + ((⟨2, ![4, 1]⟩ : Shape).rowMajor.symm n 1).val - 0 < 1024
      rw [h1]; omega
  have hat : ∀ (n k : Fin 4) (hk : k.val + 1 = n.val) (i : S4x1024.Idx)
      (hi : ∀ a : Fin 2, (i a).val = ((ix2 (2 : Fin 4) j : S4x1024.Idx) (Fin.cast rfl a)).val * ![1, 1] a + ((⟨2, ![4, 1]⟩ : Shape).rowMajor.symm n a).val - ![3, 0] a),
      y i = y (ix2 k j) := by
    intro n k hk i hi
    obtain ⟨h0, h1⟩ := hp n
    refine congrArg y (funext fun a => Fin.ext ((hi a).trans ?_))
    fin_cases a
    · show 2 * 1 + ((⟨2, ![4, 1]⟩ : Shape).rowMajor.symm n 0).val - 3 = k.val
      rw [h0]; omega
    · show j.val * 1 + ((⟨2, ![4, 1]⟩ : Shape).rowMajor.symm n 1).val - 0 = j.val
      rw [h1]; omega
  rw [dif_neg, dif_pos, dif_pos, dif_pos]
  · rw [zero_add, zero_add]
    exact congrArg₂ (· + ·) (congrArg₂ (· + ·) (hat 1 0 rfl _ fun _ => rfl) (hat 2 1 rfl _ fun _ => rfl)) (hat 3 2 rfl _ fun _ => rfl)
  · exact hin 3 (by decide)
  · exact hin 2 (by decide)
  · exact hin 1 (by decide)
  · intro h
    have h' := (h 0).1
    change 3 ≤ 2 * 1 + ((⟨2, ![4, 1]⟩ : Shape).rowMajor.symm (0 : Fin 4) 0).val at h'
    rw [(hp 0).1] at h'
    exact absurd h' (by decide)

/-- The third layer's lower bound. -/
theorem low_apply (j : Fin 1024) : val_main_v19 (F := Ideal) x3 (ix1 j) = lowOf (fun n => x3 (ix2 n j)) := by
  unfold lowOf
  rw [← cum_apply, ← share_apply]
  generalize hc : val_main_v11 (F := Ideal) x3 = c
  generalize hy : val_main_v10 (F := Ideal) x3 = y
  pointwise [val_main_v19, val_main_v18, val_main_v16, val_main_v15, val_main_v14, val_main_v13, val_main_v12, hc, hy]

/-! ## The row's gate, query, key and value -/

/-- A projected entry. -/
theorem proj_apply (r : Fin 128) (k : Fin 4096) : val_main_v28 (F := Ideal) x0 x4 (ix3 r 0 k) = projOf (row x0 r) (wIn x4) k := by
  pointwise [val_main_v28, val_main_v21, val_main_v20, val_main_v17, projOf]

/-- The forget gate. -/
theorem gate_apply (r : Fin 128) (j : Fin 1024) : val_main_v50 (F := Ideal) x0 x3 x4 (ix3 r 0 j) = gateAt (row x0 r) (low x3) (wIn x4) j := by
  unfold gateAt forget
  rw [← proj_apply, ← low_apply]
  generalize hy : val_main_v28 (F := Ideal) x0 x4 = y
  generalize hl : val_main_v19 (F := Ideal) x3 = l
  pointwise [val_main_v50, val_main_v49, val_main_v48, val_main_v47, val_main_v46, val_main_v45, val_main_v44, val_main_v43, val_main_v42, val_main_v41, val_main_v40, val_main_v39, val_main_v38, val_main_v37, val_main_v30, val_main_cst_3, val_main_cst_4, val_main_cst_5, hy, hl, Ideal.logistic]

/-- The query, -/
theorem query_apply (r : Fin 128) (h : Fin 8) (e : Fin 128) :
    val_main_v78 (F := Ideal) x0 x4 (ix4 r h 0 e) = queryAt (row x0 r) (wIn x4) (laneOf h e) := by
  unfold queryAt queryOf selfGate
  rw [← proj_apply]
  generalize hy : val_main_v28 (F := Ideal) x0 x4 = y
  pointwise [val_main_v78, val_main_v77, val_main_v69, val_main_v61, val_main_v60, val_main_v36, val_main_v35, val_main_v34, val_main_v33, val_main_v29, val_main_cst_2, val_main_call1_v0, val_main_call1_v1, val_main_call1_cst, val_main_call1_v2, val_main_call1_v3, val_main_call1_cst_0, val_main_call1_v4, val_main_call1_v5, hy, Ideal.logistic]
  all_goals simp only [laneOf, Nat.mul_comm 128 h.val]

/-- the key, -/
theorem key_apply (r : Fin 128) (h : Fin 8) (e : Fin 128) :
    val_main_v80 (F := Ideal) x0 x3 x4 (ix4 r h 0 e) = 1 - gateAt (row x0 r) (low x3) (wIn x4) (laneOf h e) := by
  rw [← gate_apply]
  generalize hy : val_main_v50 (F := Ideal) x0 x3 x4 = y
  pointwise [val_main_v80, val_main_v79, val_main_v71, val_main_v63, val_main_v62, val_main_v53, val_main_v52, val_main_v51, val_main_cst_6, hy]
  all_goals simp only [laneOf, Nat.mul_comm 128 h.val]

/-- the value -/
theorem value_apply (r : Fin 128) (h : Fin 8) (e : Fin 128) :
    val_main_v82 (F := Ideal) x0 x4 (ix4 r h 0 e) = valueAt (row x0 r) (wIn x4) (laneOf h e) := by
  unfold valueAt
  rw [← proj_apply]
  generalize hy : val_main_v28 (F := Ideal) x0 x4 = y
  pointwise [val_main_v82, val_main_v81, val_main_v73, val_main_v65, val_main_v64, val_main_v56, val_main_v31, hy]
  all_goals simp only [laneOf, Nat.mul_comm 128 h.val]

/-- and the gate's logarithm, -/
theorem log_apply (r : Fin 128) (h : Fin 8) (e : Fin 128) :
    val_main_v84 (F := Ideal) x0 x3 x4 (ix4 r h 0 e) = Ideal.log (gateAt (row x0 r) (low x3) (wIn x4) (laneOf h e)) := by
  rw [← gate_apply]
  generalize hy : val_main_v50 (F := Ideal) x0 x3 x4 = y
  pointwise [val_main_v84, val_main_v83, val_main_v75, val_main_v67, val_main_v66, val_main_v55, val_main_v54, hy]
  all_goals simp only [laneOf, Nat.mul_comm 128 h.val]

/-- which is its own running sum. -/
theorem sum_apply (r : Fin 128) (h : Fin 8) (e : Fin 128) :
    val_main_v85 (F := Ideal) x0 x3 x4 (ix4 r h 0 e) = Ideal.log (gateAt (row x0 r) (low x3) (wIn x4) (laneOf h e)) := by
  rw [← log_apply]
  unfold val_main_v85
  generalize val_main_v84 (F := Ideal) x0 x3 x4 = y
  have hv : val_main_call3_call0_v0 (F := Ideal) (Shape.Idx.first h_S_) = 0 := by
    rw [val_main_call3_call0_v0_apply, val_main_call3_call0_cst_apply]
    pointwise
  have hp : ∀ a : Fin 4, ((⟨4, ![1, 1, 1, 1]⟩ : Shape).rowMajor.symm (0 : Fin 1) a).val = 0 := by decide +kernel
  have hl : ∀ f : EReal → Fin (⟨4, ![1, 1, 1, 1]⟩ : Shape).numel → EReal,
      List.foldl f 0 (List.finRange (⟨4, ![1, 1, 1, 1]⟩ : Shape).numel) = f 0 (0 : Fin 1) := fun f => rfl
  show Host.reduceWindow (· + ·) ![1, 1, 1, 1] ![1, 1, 1, 1] ![0, 0, 0, 0] ![0, 0, 0, 0] y (fun _ : (⟨0, ![]⟩ : Shape).Idx => val_main_call3_call0_v0 (F := Ideal) (Shape.Idx.first h_S_)) reduceWindows_S128x8x1x128_S128x8x1x128_w1s1p0_0_w1s1p0_0_w1s1p0_0_w1s1p0_0 (by decide) (ix4 r h 0 e) = _
  unfold Host.reduceWindow
  rw [hv]
  dsimp only
  rw [hl]
  have hat : ∀ a : Fin 4, ((ix4 r h (0 : Fin 1) e : S128x8x1x128.Idx) a).val * (![1, 1, 1, 1] : Fin 4 → ℕ) a + ((⟨4, ![1, 1, 1, 1]⟩ : Shape).rowMajor.symm (0 : Fin 1) a).val - (![0, 0, 0, 0] : Fin 4 → ℕ) a
      = ((ix4 r h (0 : Fin 1) e : S128x8x1x128.Idx) a).val := by
    intro a
    rw [hp]
    fin_cases a <;> exact (Nat.sub_zero _).trans (Nat.mul_one _)
  rw [dif_pos, zero_add]
  · exact congrArg y (funext fun a => Fin.ext (hat a))
  · intro a
    refine ⟨?_, lt_of_eq_of_lt (hat a) ((ix4 r h (0 : Fin 1) e : S128x8x1x128.Idx) a).isLt⟩
    fin_cases a <;> exact Nat.zero_le _

/-! ## The new state and the result -/

/-- The mask of one row is set. -/
theorem mask_apply : val_main_v59 (F := Ideal) (ix3 0 0 0) = 1#1 := by
  pointwise [val_main_v59, val_main_v58, val_main_v57, val_main_c, val_main_call2_v0, val_main_call2_c, val_main_call2_v1, val_main_call2_v2, val_main_call2_v3, val_main_call2_v4, val_main_call2_c_0, val_main_call2_v5]
  rfl

/-- The decay over no step. -/
theorem decay_apply (r : Fin 128) (h : Fin 8) (e : Fin 128) : val_main_v93 (F := Ideal) x0 x3 x4 (ix5 r h 0 0 e)
    = Ideal.exp (val_main_v85 (F := Ideal) x0 x3 x4 (ix4 r h 0 e) - val_main_v85 (F := Ideal) x0 x3 x4 (ix4 r h 0 e)) := by
  have hm := mask_apply
  generalize hμ : val_main_v59 (F := Ideal) = μ at hm
  generalize hy : val_main_v85 (F := Ideal) x0 x3 x4 = y
  pointwise [val_main_v93, val_main_v92, val_main_v91, val_main_v90, val_main_v89, val_main_call4_v0, val_main_call4_v1, val_main_call4_v2, val_main_cst_8, hy, hμ, hm]

/-- The new state's entry, of the stages. -/
theorem state_stage (r : Fin 128) (h : Fin 8) (e d : Fin 128) : val_main_v108 (F := Ideal) x0 x1 x3 x4 (ix4 r h e d)
    = Ideal.exp (val_main_v85 (F := Ideal) x0 x3 x4 (ix4 r h 0 e)) * x1 (ix5 1 r h e d)
      + val_main_v80 (F := Ideal) x0 x3 x4 (ix4 r h 0 e)
        * Ideal.exp (val_main_v85 (F := Ideal) x0 x3 x4 (ix4 r h 0 e) - val_main_v85 (F := Ideal) x0 x3 x4 (ix4 r h 0 e))
        * val_main_v82 (F := Ideal) x0 x4 (ix4 r h 0 d) := by
  generalize hy : val_main_v85 (F := Ideal) x0 x3 x4 = y
  generalize hk : val_main_v80 (F := Ideal) x0 x3 x4 = k
  generalize hv : val_main_v82 (F := Ideal) x0 x4 = v
  pointwise [val_main_v108, val_main_v107, val_main_v106, val_main_v105, val_main_v104, val_main_v103, val_main_v102, val_main_v101, val_main_v100, val_main_v99, val_main_v27, val_main_v26, hy, hk, hv]
  rw [Fin.sum_univ_one]

/-- The result's entry, of the stages. -/
theorem read_stage (r : Fin 128) (h : Fin 8) (d : Fin 128) : val_main_v109 (F := Ideal) x0 x1 x3 x4 (ix4 r h 0 d)
    = (∑ e : Fin 128, val_main_v78 (F := Ideal) x0 x4 (ix4 r h 0 e) * Ideal.exp (val_main_v85 (F := Ideal) x0 x3 x4 (ix4 r h 0 e)) * x1 (ix5 1 r h e d))
      + (∑ e : Fin 128, val_main_v78 (F := Ideal) x0 x4 (ix4 r h 0 e) * val_main_v80 (F := Ideal) x0 x3 x4 (ix4 r h 0 e)
          * val_main_v93 (F := Ideal) x0 x3 x4 (ix5 r h 0 0 e)) * val_main_v82 (F := Ideal) x0 x4 (ix4 r h 0 d) := by
  generalize hy : val_main_v85 (F := Ideal) x0 x3 x4 = y
  generalize hq : val_main_v78 (F := Ideal) x0 x4 = q
  generalize hk : val_main_v80 (F := Ideal) x0 x3 x4 = k
  generalize hv : val_main_v82 (F := Ideal) x0 x4 = v
  generalize hz : val_main_v93 (F := Ideal) x0 x3 x4 = z
  pointwise [val_main_v109, val_main_v98, val_main_v97, val_main_v96, val_main_v95, val_main_v94, val_main_v88, val_main_v87, val_main_v86, val_main_v27, val_main_v26, hy, hq, hk, hv, hz]
  rw [Fin.sum_univ_one]

/-- The result laid out by rows. -/
theorem lay_apply (r : Fin 128) (h : Fin 8) (d : Fin 128) :
    val_main_v113 (F := Ideal) x0 x1 x3 x4 (ix4 r 0 h d) = val_main_v109 (F := Ideal) x0 x1 x3 x4 (ix4 r h 0 d) := by
  have e : val_main_v113 (F := Ideal) x0 x1 x3 x4 (ix4 r 0 h d) = val_main_v111 (F := Ideal) x0 x1 x3 x4 (ix5 0 r h 0 d) := by
    generalize hy : val_main_v111 (F := Ideal) x0 x1 x3 x4 = y
    pointwise [val_main_v113, val_main_v112, hy]
  rw [e]
  unfold val_main_v111
  refine (concatenate_pair_apply_right (t := S1x128x8x1x128) (s₁ := S0x128x8x1x128) (s₂ := S1x128x8x1x128) (0 : Fin 5) _ _ _ (ix5 0 r h 0 d) rfl rfl (ix5 0 r h 0 d) (fun a _ => rfl) rfl).trans ?_
  generalize hy : val_main_v109 (F := Ideal) x0 x1 x3 x4 = y
  pointwise [val_main_v110, hy]

/-- A head normed and gated. -/
theorem head_apply (r : Fin 128) (h : Fin 8) (d : Fin 128) : val_main_v129 (F := Ideal) x0 x1 x3 x4 x5 (ix4 r 0 h d)
    = rmsHead (fun d => val_main_v113 (F := Ideal) x0 x1 x3 x4 (ix4 r 0 h d)) (fun d => x5 (ix2 1 d)) d
      * selfGate (val_main_v28 (F := Ideal) x0 x4 (ix3 r 0 ⟨3072 + (laneOf h d).val, by omega⟩)) := by
  generalize hy : val_main_v113 (F := Ideal) x0 x1 x3 x4 = y
  generalize hz : val_main_v28 (F := Ideal) x0 x4 = z
  pointwise [val_main_v114, val_main_v115, val_main_v116, val_main_v117, val_main_v118, val_main_v119, val_main_v120, val_main_v121, val_main_v122, val_main_v123, val_main_v124, val_main_v125, val_main_v126, val_main_v127, val_main_v128, val_main_v129, val_main_v32, val_main_v23, val_main_v22, val_main_cst_9, val_main_cst_10, val_main_cst_11, val_main_call5_v0, val_main_call5_v1, val_main_call5_cst, val_main_call5_v2, val_main_call5_v3, val_main_call5_cst_0, val_main_call5_v4, val_main_call5_v5, hy, hz, rmsHead, selfGate, Ideal.logistic]
  all_goals simp only [laneOf, Nat.mul_comm 128 h.val]

/-- The row scaled, with the projected heads. -/
theorem total_apply (r : Fin 128) (k : Fin 1024) : val_main_v134 (F := Ideal) x0 x1 x3 x4 x5 x6 (ix3 r 0 k)
    = Scalar.ofBits (F := Ideal) .f32 0x3FD744FD#32 * x0 (ix2 r k)
      + ∑ d : Fin 1024, val_main_v129 (F := Ideal) x0 x1 x3 x4 x5 (ix4 r 0 ⟨d.val / 128, by omega⟩ ⟨d.val % 128, by omega⟩) * x6 (ix3 1 d k) := by
  generalize hy : val_main_v129 (F := Ideal) x0 x1 x3 x4 x5 = y
  pointwise [val_main_v134, val_main_v133, val_main_v132, val_main_v131, val_main_v130, val_main_v25, val_main_v24, val_main_v17, val_main_cst_12, hy]

/-- The row normed. -/
theorem norm_apply (r : Fin 128) (j : Fin 1024) : val_main_v163 (F := Ideal) x0 x1 x3 x4 x5 x6 x7 x8 (ix2 r j)
    = lnRow (fun k => val_main_v134 (F := Ideal) x0 x1 x3 x4 x5 x6 (ix3 r 0 k)) (fun k => x7 (ix2 2 k)) (fun k => x8 (ix2 2 k)) j := by
  generalize hy : val_main_v134 (F := Ideal) x0 x1 x3 x4 x5 x6 = y
  pointwise [val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_cst_13, val_main_cst_14, val_main_cst_15, val_main_cst_16, val_main_cst_17, hy, lnRow]

/-- The new state's entry. -/
theorem new_apply (r : Fin 128) (hf : ∀ j, ∃ f : ℝ, gateAt (row x0 r) (low x3) (wIn x4) j = f ∧ 0 < f) (h : Fin 8) (e d : Fin 128) :
    val_main_v108 (F := Ideal) x0 x1 x3 x4 (ix4 r h e d) = stateOf (row x0 r) (low x3) (wIn x4) (old x1 r) h e d := by
  rw [state_stage, sum_apply, key_apply, value_apply]
  unfold stateOf stepOf
  obtain ⟨f, hf, h0⟩ := hf (laneOf h e)
  rw [hf, exp_log_real f h0, exp_log_sub f h0, mul_one]

/-- The result's entry. -/
theorem read_apply (r : Fin 128) (hf : ∀ j, ∃ f : ℝ, gateAt (row x0 r) (low x3) (wIn x4) j = f ∧ 0 < f)
    (hp : ∀ k, ∃ p : ℝ, projOf (row x0 r) (wIn x4) k = p) (h : Fin 8) (d : Fin 128) :
    val_main_v109 (F := Ideal) x0 x1 x3 x4 (ix4 r h 0 d) = readOf (row x0 r) (low x3) (wIn x4) (old x1 r) h d := by
  have hq : ∀ j, ∃ q : ℝ, queryAt (row x0 r) (wIn x4) j = q := by
    intro j
    obtain ⟨q, hq⟩ := selfGate_real _ (hp ⟨j.val, by omega⟩)
    obtain ⟨c, hc⟩ : ∃ c : ℝ, Scalar.ofBits (F := Ideal) .f32 0x3DB504F3#32 = (c : EReal) := scale_real
    exact ⟨q * c, by unfold queryAt queryOf; rw [hq, hc, EReal.coe_mul]⟩
  rw [read_stage]
  simp only [decay_apply, sum_apply, query_apply, key_apply, value_apply]
  unfold readOf stateOf
  refine Eq.trans ?_ (read_split (fun e => queryAt (row x0 r) (wIn x4) (laneOf h e)) (fun e => gateAt (row x0 r) (low x3) (wIn x4) (laneOf h e))
    (fun e => old x1 r h e d) (valueAt (row x0 r) (wIn x4) (laneOf h d)) (fun e => hq _) (fun e => (hf _).imp fun _ h => h.1) (hp _))
  refine congrArg₂ (· + ·) (Finset.sum_congr rfl fun e _ => ?_) (congrArg (· * valueAt (row x0 r) (wIn x4) (laneOf h d)) (Finset.sum_congr rfl fun e _ => ?_))
  · obtain ⟨f, hf, h0⟩ := hf (laneOf h e)
    rw [hf, exp_log_real f h0]
  · obtain ⟨f, hf, h0⟩ := hf (laneOf h e)
    rw [hf, exp_log_sub f h0, mul_one, mul_comm]

/-- The output row's entry. -/
theorem out_apply (r : Fin 128) (hf : ∀ j, ∃ f : ℝ, gateAt (row x0 r) (low x3) (wIn x4) j = f ∧ 0 < f)
    (hp : ∀ k, ∃ p : ℝ, projOf (row x0 r) (wIn x4) k = p) (j : Fin 1024) :
    val_main_v163 (F := Ideal) x0 x1 x3 x4 x5 x6 x7 x8 (ix2 r j)
      = decodeRow (readOf (row x0 r) (low x3) (wIn x4) (old x1 r)) (row x0 r) (wIn x4) (fun d => x5 (ix2 1 d)) (fun d k => x6 (ix3 1 d k))
        (fun k => x7 (ix2 2 k)) (fun k => x8 (ix2 2 k)) j := by
  rw [norm_apply]
  unfold decodeRow
  refine congrArg (fun y => lnRow y (fun k => x7 (ix2 2 k)) (fun k => x8 (ix2 2 k)) j) (funext fun k => ?_)
  rw [total_apply]
  refine congrArg (_ + ·) (Finset.sum_congr rfl fun d _ => ?_)
  have e : (⟨3072 + (laneOf ⟨d.val / 128, by omega⟩ ⟨d.val % 128, by omega⟩).val, by omega⟩ : Fin 4096) = ⟨3072 + d.val, by omega⟩ :=
    Fin.ext (congrArg (3072 + ·) (Nat.div_add_mod d.val 128))
  rw [head_apply, proj_apply, e]
  refine congrArg (fun o => rmsHead o (fun d => x5 (ix2 1 d)) _ * _ * _) (funext fun d' => ?_)
  rw [lay_apply, read_apply x0 x1 x3 x4 r hf hp]

/-! ## The states written back -/

/-- Where an update's entry lands: in the second layer. -/
theorem lands (r : Fin 128) (h : Fin 8) (e d : Fin 128) :
    scatter_S2x128x8x128x128_S1_S128x8x128x128_0123_0_0_0.resultIdx? (ix4 r h e d) (val_main_v164 (F := Ideal)) = some (ix5 1 r h e d) := by
  have hs : ∀ a : Fin 5, scatter_S2x128x8x128x128_S1_S128x8x128x128_0123_0_0_0.start (ix4 r h e d) (val_main_v164 (F := Ideal)) a
      + scatter_S2x128x8x128x128_S1_S128x8x128x128_0123_0_0_0.window (ix4 r h e d) a = (((ix5 1 r h e d : S2x128x8x128x128.Idx) a).val : ℤ) := by
    intro a
    fin_cases a
    · rfl
    · exact zero_add _
    · exact zero_add _
    · exact zero_add _
    · exact zero_add _
  unfold ScatterDims.resultIdx?
  rw [dif_pos]
  · exact congrArg some (funext fun a => Fin.ext ((congrArg Int.toNat (hs a)).trans (Int.toNat_natCast _)))
  · intro a
    rw [hs a]
    exact ⟨Int.natCast_nonneg _, Int.ofNat_lt.2 ((ix5 1 r h e d : S2x128x8x128x128.Idx) a).isLt⟩

/-- The states' entry: the second layer's is new, the first's is the old buffer's. -/
theorem states_apply (l : Fin 2) (r : Fin 128) (h : Fin 8) (e d : Fin 128) : val_main_v165 (F := Ideal) x0 x1 x2 x3 x4 (ix5 l r h e d)
    = if l.val = 1 then val_main_v108 (F := Ideal) x0 x1 x3 x4 (ix4 r h e d) else x2 (ix5 l r h e d) := by
  unfold val_main_v165
  generalize val_main_v108 (F := Ideal) x0 x1 x3 x4 = y
  have at4 : ∀ k : S128x8x128x128.Idx, ∃ (r : Fin 128) (h : Fin 8) (e d : Fin 128), k = ix4 r h e d := fun k =>
    ⟨k 0, k 1, k 2, k 3, by funext a; fin_cases a <;> rfl⟩
  split
  · rename_i hl
    obtain rfl : l = 1 := Fin.ext hl
    refine Idealize.ShloMosaic.Routing.scatter_set_hit _ _ _ _ _ _ (fun k hk => ?_) (ix4 r h e d) (lands r h e d)
    obtain ⟨r', h', e', d', rfl⟩ := at4 k
    rw [lands] at hk
    have hk := Option.some.inj hk
    have h1 := congrFun hk 1
    have h2 := congrFun hk 2
    have h3 := congrFun hk 3
    have h4 := congrFun hk 4
    exact congrArg y (by funext a; fin_cases a <;> assumption)
  · rename_i hl
    refine Idealize.ShloMosaic.Routing.scatter_set_miss _ _ _ _ _ fun k hk => hl ?_
    obtain ⟨r', h', e', d', rfl⟩ := at4 k
    rw [lands] at hk
    exact congrArg Fin.val (congrFun (Option.some.inj hk) 0).symm

end Cert.DecodeRefIdeal.Own

end
-- ==== Proof.DecodeClaims.lean ====
/-
  The decode step's claims: the frames, and the equality of the kernel's and the reference's results on finite operands.
-/
module

public import proofs.«01_k».proof.Defs
public import proofs.«01_k».proof.Proof.DecodeValue
public import proofs.«01_k».proof.Proof.DecodeRefValue
public import proofs.«01_k».proof.Proof.Gen.Decode
public import proofs.«01_k».proof.Proof.Gen.Pre_finite_inputs
public import Idealize.ShloMosaic.Lib.Claim
public import Idealize.ShloMosaic.Lib.Quiescent
public import Idealize.ShloMosaic.Lib.Tactic

@[expose] public section

set_option maxRecDepth 16384

noncomputable section

namespace Cert.DecodeClaims

open Idealize.ShloMosaic Idealize.ShloMosaic.TcCoe Idealize.SL.Sem Cert.Rows

variable {F : FTy → Type} [FloatOps F]

/-- The kernel's run: what every array ends holding. -/
theorem kernel_run (m : (ℓ : Loc Cert.DecodeIdeal.nD Cert.DecodeIdeal.τ Cert.DecodeIdeal.sig) → Buf (Elt F) ℓ) (g : Dev Cert.DecodeIdeal.nD → PrngReg) :
    θ_run (Cert.DecodeIdeal.defs (F := F)) (onTc (τ := Cert.DecodeIdeal.τ) (Cert.DecodeIdeal.main (F := F))) ⟨m, fun _ => 0, g⟩
      (Pipeline.FramePost Cert.DecodeIdeal.cfgs (Cert.DecodeIdeal.Own.dats m) (0 : Fin 1) (Cert.DecodeIdeal.Gen.V m)) :=
  (θ_run _ _ _).mono (fun _ h => h.1) (Cert.DecodeIdeal.Own.run_main_quiescent m g)

/-- The kernel's frame, over any float values. -/
theorem kernel_frame (m : (ℓ : Loc Cert.DecodeIdeal.nD Cert.DecodeIdeal.τ Cert.DecodeIdeal.sig) → Buf (Elt F) ℓ) (g : Dev Cert.DecodeIdeal.nD → PrngReg) :
    θ_run (Cert.DecodeIdeal.defs (F := F)) (onTc (τ := Cert.DecodeIdeal.τ) (Cert.DecodeIdeal.main (F := F))) ⟨m, fun _ => 0, g⟩ (fun r =>
      (∀ c : Dev Cert.DecodeIdeal.nD, r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
      ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
      ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6)
      ∧ r.2.mem ((c.tc : Thread Cert.DecodeIdeal.nD Cert.DecodeIdeal.τ).loc Cert.DecodeIdeal.main_arg7) = m ((c.tc : Thread Cert.DecodeIdeal.nD Cert.DecodeIdeal.τ).loc Cert.DecodeIdeal.main_arg7)
      ∧ r.2.mem ((c.tc : Thread Cert.DecodeIdeal.nD Cert.DecodeIdeal.τ).loc Cert.DecodeIdeal.main_arg8) = m ((c.tc : Thread Cert.DecodeIdeal.nD Cert.DecodeIdeal.τ).loc Cert.DecodeIdeal.main_arg8))
      ∧ r.2.sem = fun _ => 0) := by
  refine θ_run_and ?_ ((θ_run _ _ _).mono (fun _ h => h.2) (Cert.DecodeIdeal.Own.run_main_quiescent m g))
  run_from kernel_run m g

/-- The kernel's frame over the extended reals, -/
theorem quiescent_ideal : @Cert.quiescent_DecodeIdeal Cert.DecodeIdeal.Gen.facts := fun m g _ => kernel_frame m g

/-- on finite operands too. -/
theorem quiescent_ideal_pre : @Cert.quiescent_DecodeIdeal_pre_finite_inputs Cert.DecodeIdeal.Gen.facts Cert.Pre_finite_inputs.Gen.facts := fun m g _ => kernel_frame m g

/-- The two programs' bodies have the same text, -/
theorem defs_eq : Cert.Decode.defs (F := Bits) = Cert.DecodeIdeal.defs (F := Bits) := by sl_kernel_rfl

/-- so the frame holds at the machine's words as well. -/
theorem quiescent_bits : @Cert.quiescent_Decode Cert.Decode.Gen.facts := fun m g _ => by
  rw [defs_eq]
  exact kernel_frame (F := Bits) m g

/-- The reference's frame, -/
theorem quiescent_ref : @Cert.quiescent_DecodeRefIdeal Cert.DecodeRefIdeal.Gen.facts := by
  intro m g hpre
  exact (θ_run _ _ _).mono (fun r h => ⟨fun c => (h c).2.2, sem_eq_zero_of_no_sems (by decide) r.2⟩) (Cert.DecodeRefIdeal.Value.run m g)

/-- on finite operands too. -/
theorem quiescent_ref_pre : @Cert.quiescent_DecodeRefIdeal_pre_finite_inputs Cert.DecodeRefIdeal.Gen.facts Cert.Pre_finite_inputs.Gen.facts := by
  intro m g hpre
  exact (θ_run _ _ _).mono (fun r h => ⟨fun c => (h c).2.2, sem_eq_zero_of_no_sems (by decide) r.2⟩) (Cert.DecodeRefIdeal.Value.run m g)

/-! ## Finite operands -/

/-- The word of the greatest number. -/
theorem most : Ideal.ofBits .f32 0x7F800000#32 = ⊤ := by simp [Ideal.ofBits, Ideal.ieee]

/-- An entry the precondition's comparison passes is a real number. -/
theorem real_entry (a : EReal) (h : Ideal.cmp .olt (max a (-a)) (Ideal.ofBits .f32 0x7F800000#32) = 1#1) : ∃ r : ℝ, a = r := by
  rw [most] at h
  refine real_of ?_
  by_contra hn
  simp [Ideal.cmp, hn] at h

variable (m : (ℓ : Loc Cert.DecodeIdeal.nD Cert.DecodeIdeal.τ Cert.DecodeIdeal.sig) → Buf (Elt Ideal) ℓ)

/-- The operands' entries, on a device, are real numbers. -/
theorem finite (hpre : @Cert.Pre_DecodeIdeal_finite_inputs Cert.Pre_finite_inputs.Gen.facts m) (c : Dev Cert.DecodeIdeal.nD) :
    (∀ r d, ∃ a : ℝ, Cert.DecodeIdeal.Own.memRow m c r d = a)
      ∧ (∀ n j, ∃ a : ℝ, Cert.DecodeIdeal.Own.memLow m c n j = a) ∧ (∀ d k, ∃ a : ℝ, Cert.DecodeIdeal.Own.memIn m c d k = a) := by
  obtain ⟨h0, h3, h4⟩ := hpre c
  refine ⟨fun r d => real_entry _ (congrFun h0 (ix2 r d)),
    fun n j => real_entry _ (congrFun h3 (ix2 n j)), fun d k => real_entry _ (congrFun h4 (ix3 1 d k))⟩

/-- Every gate of finite operands is a positive real. -/
theorem gates (hpre : @Cert.Pre_DecodeIdeal_finite_inputs Cert.Pre_finite_inputs.Gen.facts m) (c : Dev Cert.DecodeIdeal.nD) (r : Fin 128) (j : Fin 1024) :
    ∃ f : ℝ, gateAt (Cert.DecodeIdeal.Own.memRow m c r) (Cert.DecodeIdeal.Own.memLow m c) (Cert.DecodeIdeal.Own.memIn m c) j = f ∧ 0 < f := by
  obtain ⟨h0, h3, h4⟩ := finite m hpre c
  exact forget_real _ (fun n => h3 n j) _ (projOf_real _ _ (h0 r) h4 _)

set_option maxHeartbeats 8000000 in
/-- Equal results on equal finite arguments. -/
theorem algebraic : @Cert.algebraic_DecodeIdeal_DecodeRefIdeal_pre_finite_inputs Cert.DecodeIdeal.Gen.facts Cert.DecodeRefIdeal.Gen.facts Cert.Pre_finite_inputs.Gen.facts := by
  pair_intro
  · run_from kernel_run m g
  · have hgate := fun c r j => gates m hpre c r j
    have hgated : ∀ c, Cert.DecodeIdeal.Own.Gated m c := fun c r j => (hgate c r j).imp fun _ h => h.1
    refine (θ_run _ _ _).mono (fun r h c => ⟨(h c).1.trans ?_, (h c).2.1.trans ?_, (h c).2.2⟩) (Cert.DecodeRefIdeal.Value.run m' g')
    · obtain ⟨h0, h1, h2, h3, h4, h5, h6, h7, h8⟩ := hagree c
      obtain ⟨f0, f3, f4⟩ := finite m hpre c
      refine (Cert.DecodeRefIdeal.Read.val_main_v163_eq (StableHlo.launchContents m' c)).trans ?_
      have e0 : StableHlo.launchContents m' c (Proc.devRef .tc Cert.DecodeRefIdeal.main_arg0) = m ((c.tc : Thread Cert.DecodeIdeal.nD Cert.DecodeIdeal.τ).loc Cert.DecodeIdeal.main_arg0) := h0
      have e1 : StableHlo.launchContents m' c (Proc.devRef .tc Cert.DecodeRefIdeal.main_arg1) = m ((c.tc : Thread Cert.DecodeIdeal.nD Cert.DecodeIdeal.τ).loc Cert.DecodeIdeal.main_arg1) := h1
      have e3 : StableHlo.launchContents m' c (Proc.devRef .tc Cert.DecodeRefIdeal.main_arg3) = m ((c.tc : Thread Cert.DecodeIdeal.nD Cert.DecodeIdeal.τ).loc Cert.DecodeIdeal.main_arg3) := h3
      have e4 : StableHlo.launchContents m' c (Proc.devRef .tc Cert.DecodeRefIdeal.main_arg4) = m ((c.tc : Thread Cert.DecodeIdeal.nD Cert.DecodeIdeal.τ).loc Cert.DecodeIdeal.main_arg4) := h4
      have e5 : StableHlo.launchContents m' c (Proc.devRef .tc Cert.DecodeRefIdeal.main_arg5) = m ((c.tc : Thread Cert.DecodeIdeal.nD Cert.DecodeIdeal.τ).loc Cert.DecodeIdeal.main_arg5) := h5
      have e6 : StableHlo.launchContents m' c (Proc.devRef .tc Cert.DecodeRefIdeal.main_arg6) = m ((c.tc : Thread Cert.DecodeIdeal.nD Cert.DecodeIdeal.τ).loc Cert.DecodeIdeal.main_arg6) := h6
      have e7 : StableHlo.launchContents m' c (Proc.devRef .tc Cert.DecodeRefIdeal.main_arg7) = m ((c.tc : Thread Cert.DecodeIdeal.nD Cert.DecodeIdeal.τ).loc Cert.DecodeIdeal.main_arg7) := h7
      have e8 : StableHlo.launchContents m' c (Proc.devRef .tc Cert.DecodeRefIdeal.main_arg8) = m ((c.tc : Thread Cert.DecodeIdeal.nD Cert.DecodeIdeal.τ).loc Cert.DecodeIdeal.main_arg8) := h8
      rw [e0, e1, e3, e4, e5, e6, e7, e8]
      refine Eq.trans (funext fun i => ?_) (Cert.DecodeIdeal.Own.final7 m c (hgated c)).symm
      obtain ⟨r, j, rfl⟩ : ∃ (r : Fin 128) (j : Fin 1024), i = ix2 r j := ⟨i 0, i 1, by ext a; match a with | ⟨0, _⟩ => rfl | ⟨1, _⟩ => rfl⟩
      exact Cert.DecodeRefIdeal.Own.out_apply _ _ _ _ _ _ _ _ r (hgate c r) (projOf_real _ _ (f0 r) f4) j
    · obtain ⟨h0, h1, h2, h3, h4, h5, h6, h7, h8⟩ := hagree c
      refine (Cert.DecodeRefIdeal.Read.val_main_v165_eq (StableHlo.launchContents m' c)).trans ?_
      have e0 : StableHlo.launchContents m' c (Proc.devRef .tc Cert.DecodeRefIdeal.main_arg0) = m ((c.tc : Thread Cert.DecodeIdeal.nD Cert.DecodeIdeal.τ).loc Cert.DecodeIdeal.main_arg0) := h0
      have e1 : StableHlo.launchContents m' c (Proc.devRef .tc Cert.DecodeRefIdeal.main_arg1) = m ((c.tc : Thread Cert.DecodeIdeal.nD Cert.DecodeIdeal.τ).loc Cert.DecodeIdeal.main_arg1) := h1
      have e2 : StableHlo.launchContents m' c (Proc.devRef .tc Cert.DecodeRefIdeal.main_arg2) = m ((c.tc : Thread Cert.DecodeIdeal.nD Cert.DecodeIdeal.τ).loc Cert.DecodeIdeal.main_arg2) := h2
      have e3 : StableHlo.launchContents m' c (Proc.devRef .tc Cert.DecodeRefIdeal.main_arg3) = m ((c.tc : Thread Cert.DecodeIdeal.nD Cert.DecodeIdeal.τ).loc Cert.DecodeIdeal.main_arg3) := h3
      have e4 : StableHlo.launchContents m' c (Proc.devRef .tc Cert.DecodeRefIdeal.main_arg4) = m ((c.tc : Thread Cert.DecodeIdeal.nD Cert.DecodeIdeal.τ).loc Cert.DecodeIdeal.main_arg4) := h4
      rw [e0, e1, e2, e3, e4]
      refine Eq.trans (funext fun i => ?_) (Cert.DecodeIdeal.Own.final8 m c (hgated c)).symm
      obtain ⟨l, r, h, e, d, rfl⟩ : ∃ (l : Fin 2) (r : Fin 128) (h : Fin 8) (e d : Fin 128), i = ix5 l r h e d := ⟨i 0, i 1, i 2, i 3, i 4, by
        ext a; match a with | ⟨0, _⟩ => rfl | ⟨1, _⟩ => rfl | ⟨2, _⟩ => rfl | ⟨3, _⟩ => rfl | ⟨4, _⟩ => rfl⟩
      refine (Cert.DecodeRefIdeal.Own.states_apply _ _ _ _ _ l r h e d).trans ?_
      rw [Cert.DecodeRefIdeal.Own.new_apply _ _ _ _ r (hgate c r)]
      rfl

end Cert.DecodeClaims

end
-- ==== Proof.FfnBody.lean ====
/-
  The body of the feed-forward kernel, run once per case of its one branch, with what it stores named.
-/
module

public import proofs.«01_k».proof.Proof.Gen.FfnIdeal.Launch
public import proofs.«01_k».proof.Proof.Gen.FfnIdeal.Skeleton
public import proofs.«01_k».proof.Proof.Gen.FfnIdeal.Points
public import proofs.«01_k».proof.Proof.Gen.FfnIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch that the body takes at the first point of the grid alone. -/
abbrev first (i : grid0.Coords) : Prop := k0_cond1 i = 1#1

set_option maxHeartbeats 1600000 in
/-- The body at the first point: it stores the prompt rows' block and the decode rows' block; the pieces stored are what the run finds. -/
def runFirst (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S128x1024 .f32) (harg8 : arg8.IsWhole) (hc0 : first i)
    (x0 : Vec F S1024x1024 .f32) (x1 : Vec F S128x1024 .f32) (x2 : Vec F S1024x5632 .bf16) (x3 : Vec F S2816x1024 .bf16) (x4 : Vec F S1x1x1024 .f32) (x5 : Vec F S1x1x1024 .f32) :
    Σ' (L6 : List (View.Piece (Elt F) S1024x1024 .f32)), { L7 : List (View.Piece (Elt F) S128x1024 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_ffn i arg1 harg1 arg2 harg2 arg3 harg3 arg4 harg4 arg5 harg5 arg6 harg6 arg7 harg7 arg8 harg8) K } := by
  refine ⟨?_, ?_, fun E K => ?run⟩
  case run =>
    simp only [cc0_ffn_eq_skeleton]; unfold cc0_ffn_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1600000 in
/-- The body at the other points: it stores the prompt rows' block and hands the decode rows' block back as it came. -/
def runRest (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S128x1024 .f32) (harg8 : arg8.IsWhole) (hc0 : ¬first i)
    (x0 : Vec F S1024x1024 .f32) (x1 : Vec F S128x1024 .f32) (x2 : Vec F S1024x5632 .bf16) (x3 : Vec F S2816x1024 .bf16) (x4 : Vec F S1x1x1024 .f32) (x5 : Vec F S1x1x1024 .f32) :
    { L6 : List (View.Piece (Elt F) S1024x1024 .f32) // ∀ (x7 : Vec F S128x1024 .f32), ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare x7) -∗ K ⟨⟩))
          ⊢ wp frame (wpE (defs₀ (F := F)) Variants.none c none) E (cc0_ffn i arg1 harg1 arg2 harg2 arg3 harg3 arg4 harg4 arg5 harg5 arg6 harg6 arg7 harg7 arg8 harg8) K } := by
  refine ⟨?_, fun x7 E K => ?run⟩
  case run =>
    simp only [cc0_ffn_eq_skeleton]; unfold cc0_ffn_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact H7

end Cert.FfnIdeal.Own

end
-- ==== Proof.FfnRun.lean ====
/-
  The whole run of the feed-forward kernel: what each block of its two result arrays holds after every point of
  the grid, the body's triple at every point, and the launch.
-/
module

public import proofs.«01_k».proof.Proof.FfnBody
public import Idealize.ShloMosaic.Lib.Pipeline.ValueKit

@[expose] public section

set_option maxRecDepth 16384

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers, and the points at which the branch is taken -/

/-- The staging buffer of window 0 at a point, and that it is a whole buffer. -/
abbrev mem0 (t : Fin cfg0.N) : Memref sig .tc .vmem S1024x1024 .f32 := win0_0.stage (cfg0.slots t 0)
/-- Window 0's staging buffer is whole. -/
abbrev mem0_whole (t : Fin cfg0.N) : (mem0 t).IsWhole := hstage0_0 ((cfg0.slots t 0).cast nbuf0_0)
/-- The staging buffer of window 1 at a point, and that it is a whole buffer. -/
abbrev mem1 (t : Fin cfg0.N) : Memref sig .tc .vmem S128x1024 .f32 := win0_1.stage (cfg0.slots t 1)
/-- Window 1's staging buffer is whole. -/
abbrev mem1_whole (t : Fin cfg0.N) : (mem1 t).IsWhole := hstage0_1 ((cfg0.slots t 1).cast nbuf0_1)
/-- The staging buffer of window 2 at a point, and that it is a whole buffer. -/
abbrev mem2 (t : Fin cfg0.N) : Memref sig .tc .vmem S1024x5632 .bf16 := win0_2.stage (cfg0.slots t 2)
/-- Window 2's staging buffer is whole. -/
abbrev mem2_whole (t : Fin cfg0.N) : (mem2 t).IsWhole := hstage0_2 ((cfg0.slots t 2).cast nbuf0_2)
/-- The staging buffer of window 3 at a point, and that it is a whole buffer. -/
abbrev mem3 (t : Fin cfg0.N) : Memref sig .tc .vmem S2816x1024 .bf16 := win0_3.stage (cfg0.slots t 3)
/-- Window 3's staging buffer is whole. -/
abbrev mem3_whole (t : Fin cfg0.N) : (mem3 t).IsWhole := hstage0_3 ((cfg0.slots t 3).cast nbuf0_3)
/-- The staging buffer of window 4 at a point, and that it is a whole buffer. -/
abbrev mem4 (t : Fin cfg0.N) : Memref sig .tc .vmem S1x1x1024 .f32 := win0_4.stage (cfg0.slots t 4)
/-- Window 4's staging buffer is whole. -/
abbrev mem4_whole (t : Fin cfg0.N) : (mem4 t).IsWhole := hstage0_4 ((cfg0.slots t 4).cast nbuf0_4)
/-- The staging buffer of window 5 at a point, and that it is a whole buffer. -/
abbrev mem5 (t : Fin cfg0.N) : Memref sig .tc .vmem S1x1x1024 .f32 := win0_5.stage (cfg0.slots t 5)
/-- Window 5's staging buffer is whole. -/
abbrev mem5_whole (t : Fin cfg0.N) : (mem5 t).IsWhole := hstage0_5 ((cfg0.slots t 5).cast nbuf0_5)
/-- The staging buffer of window 6 at a point, and that it is a whole buffer. -/
abbrev mem6 (t : Fin cfg0.N) : Memref sig .tc .vmem S1024x1024 .f32 := win0_6.stage (cfg0.slots t 6)
/-- Window 6's staging buffer is whole. -/
abbrev mem6_whole (t : Fin cfg0.N) : (mem6 t).IsWhole := hstage0_6 ((cfg0.slots t 6).cast nbuf0_6)
/-- The staging buffer of window 7 at a point, and that it is a whole buffer. -/
abbrev mem7 (t : Fin cfg0.N) : Memref sig .tc .vmem S128x1024 .f32 := win0_7.stage (cfg0.slots t 7)
/-- Window 7's staging buffer is whole. -/
abbrev mem7_whole (t : Fin cfg0.N) : (mem7 t).IsWhole := hstage0_7 ((cfg0.slots t 7).cast nbuf0_7)

/-- The branch is taken at the first point of the grid alone. -/
theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [first, k0_cond1, e0]
    word_cmp
   : ∀ t : Fin grid0.N, first (grid0.coords t) ↔ t.val = 0)

/-- The first point of the grid. -/
abbrev t₀ : Fin cfg0.N := ⟨0, by rw [show cfg0.N = 16 from N_0]; decide⟩

/-- The branch is taken at the first point. -/
theorem first_t₀ : first (grid0.coords t₀) := (first_iff t₀).mpr rfl

/-- The window of the decode rows is idle at every point but the first. -/
theorem idle7 (t : Fin cfg0.N) (h : ¬t.val = 0) : cfg0.idle 7 (grid0.coords t) = true := by
  have : k0_cond1 (grid0.coords t) ≠ 1#1 := fun e => h ((first_iff t).mp e)
  show (!(k0_cond1 (grid0.coords t) == 1#1)) = true
  simp [this]

/-- It is live at the first. -/
theorem live7 (t : Fin cfg0.N) (h : t.val = 0) : cfg0.idle 7 (grid0.coords t) = false := by
  have : k0_cond1 (grid0.coords t) = 1#1 := (first_iff t).mpr h
  show (!(k0_cond1 (grid0.coords t) == 1#1)) = false
  simp [this]

/-- It is written back after the last point alone, -/
theorem flush7 : ∀ t : Fin cfg0.N, (cfg0.win 7).flush t = decide (t.val = 15) := by decide +kernel
/-- and fetched nowhere. -/
theorem fetch7 (t : Fin cfg0.N) : (cfg0.win 7).fetch t = false := rfl

/-! ## What the body leaves -/

/-- The prompt rows' block after the body at a point. -/
def out6 (c : Dev nD) (t : Fin cfg0.N) : Vec F S1024x1024 .f32 :=
  if h : t.val = 0 then
    View.canon (runFirst c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) ((first_iff t).mpr h) (iblk m c 0 t) (iblk m c 1 t) (iblk m c 2 t) (iblk m c 3 t) (iblk m c 4 t) (iblk m c 5 t)).1
  else
    View.canon (runRest c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) (fun e => h ((first_iff t).mp e)) (iblk m c 0 t) (iblk m c 1 t) (iblk m c 2 t) (iblk m c 3 t) (iblk m c 4 t) (iblk m c 5 t)).1

/-- The decode rows' block, stored at the first point. -/
def out7 (c : Dev nD) : Vec F S128x1024 .f32 :=
  View.canon (runFirst c (grid0.coords t₀) (mem0 t₀) (mem0_whole t₀) (mem1 t₀) (mem1_whole t₀) (mem2 t₀) (mem2_whole t₀) (mem3 t₀) (mem3_whole t₀) (mem4 t₀) (mem4_whole t₀) (mem5 t₀) (mem5_whole t₀) (mem6 t₀) (mem6_whole t₀) (mem7 t₀) (mem7_whole t₀) first_t₀ (iblk m c 0 t₀) (iblk m c 1 t₀) (iblk m c 2 t₀) (iblk m c 3 t₀) (iblk m c 4 t₀) (iblk m c 5 t₀)).2.1

/-- The proof data of the pipeline: the arrays as the region finds them; after the body at a point each input's
    buffer at its block, the prompt rows' at what the body stores there, the decode rows' at what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- After the body, input 0's buffer holds its block; -/
theorem after_0 (c : Dev nD) (t : Fin cfg0.N) : (dats m 0 c).after 0 t = iblk m c 0 t := by dsimp only [dats]
/-- and so it does before it. -/
theorem before_0 (c : Dev nD) (t : Fin cfg0.N) (d) : (dats m 0 c).before 0 t d = iblk m c 0 t :=
  before0_0_of m (dats m 0 c) (A_eq m c 0) (after_0 m c) t d
/-- Input 0 is live throughout. -/
theorem leaves_0 (c : Dev nD) (t : Fin cfg0.N) : (dats m 0 c).leavesExact 0 t = owns (c : Thread nD τ) (mem0 t) fullShare (iblk m c 0 t) := by
  unfold Dat.leavesExact; rw [show cfg0.idle 0 (cfg0.grid.coords t) = false from rfl, after_0]
/-- After the body, input 1's buffer holds its block; -/
theorem after_1 (c : Dev nD) (t : Fin cfg0.N) : (dats m 0 c).after 1 t = iblk m c 1 t := by dsimp only [dats]
/-- and so it does before it. -/
theorem before_1 (c : Dev nD) (t : Fin cfg0.N) (d) : (dats m 0 c).before 1 t d = iblk m c 1 t :=
  before0_1_of m (dats m 0 c) (A_eq m c 1) (after_1 m c) t d
/-- Input 1 is live throughout. -/
theorem leaves_1 (c : Dev nD) (t : Fin cfg0.N) : (dats m 0 c).leavesExact 1 t = owns (c : Thread nD τ) (mem1 t) fullShare (iblk m c 1 t) := by
  unfold Dat.leavesExact; rw [show cfg0.idle 1 (cfg0.grid.coords t) = false from rfl, after_1]
/-- After the body, input 2's buffer holds its block; -/
theorem after_2 (c : Dev nD) (t : Fin cfg0.N) : (dats m 0 c).after 2 t = iblk m c 2 t := by dsimp only [dats]
/-- and so it does before it. -/
theorem before_2 (c : Dev nD) (t : Fin cfg0.N) (d) : (dats m 0 c).before 2 t d = iblk m c 2 t :=
  before0_2_of m (dats m 0 c) (A_eq m c 2) (after_2 m c) t d
/-- Input 2 is live throughout. -/
theorem leaves_2 (c : Dev nD) (t : Fin cfg0.N) : (dats m 0 c).leavesExact 2 t = owns (c : Thread nD τ) (mem2 t) fullShare (iblk m c 2 t) := by
  unfold Dat.leavesExact; rw [show cfg0.idle 2 (cfg0.grid.coords t) = false from rfl, after_2]
/-- After the body, input 3's buffer holds its block; -/
theorem after_3 (c : Dev nD) (t : Fin cfg0.N) : (dats m 0 c).after 3 t = iblk m c 3 t := by dsimp only [dats]
/-- and so it does before it. -/
theorem before_3 (c : Dev nD) (t : Fin cfg0.N) (d) : (dats m 0 c).before 3 t d = iblk m c 3 t :=
  before0_3_of m (dats m 0 c) (A_eq m c 3) (after_3 m c) t d
/-- Input 3 is live throughout. -/
theorem leaves_3 (c : Dev nD) (t : Fin cfg0.N) : (dats m 0 c).leavesExact 3 t = owns (c : Thread nD τ) (mem3 t) fullShare (iblk m c 3 t) := by
  unfold Dat.leavesExact; rw [show cfg0.idle 3 (cfg0.grid.coords t) = false from rfl, after_3]
/-- After the body, input 4's buffer holds its block; -/
theorem after_4 (c : Dev nD) (t : Fin cfg0.N) : (dats m 0 c).after 4 t = iblk m c 4 t := by dsimp only [dats]
/-- and so it does before it. -/
theorem before_4 (c : Dev nD) (t : Fin cfg0.N) (d) : (dats m 0 c).before 4 t d = iblk m c 4 t :=
  before0_4_of m (dats m 0 c) (A_eq m c 4) (after_4 m c) t d
/-- Input 4 is live throughout. -/
theorem leaves_4 (c : Dev nD) (t : Fin cfg0.N) : (dats m 0 c).leavesExact 4 t = owns (c : Thread nD τ) (mem4 t) fullShare (iblk m c 4 t) := by
  unfold Dat.leavesExact; rw [show cfg0.idle 4 (cfg0.grid.coords t) = false from rfl, after_4]
/-- After the body, input 5's buffer holds its block; -/
theorem after_5 (c : Dev nD) (t : Fin cfg0.N) : (dats m 0 c).after 5 t = iblk m c 5 t := by dsimp only [dats]
/-- and so it does before it. -/
theorem before_5 (c : Dev nD) (t : Fin cfg0.N) (d) : (dats m 0 c).before 5 t d = iblk m c 5 t :=
  before0_5_of m (dats m 0 c) (A_eq m c 5) (after_5 m c) t d
/-- Input 5 is live throughout. -/
theorem leaves_5 (c : Dev nD) (t : Fin cfg0.N) : (dats m 0 c).leavesExact 5 t = owns (c : Thread nD τ) (mem5 t) fullShare (iblk m c 5 t) := by
  unfold Dat.leavesExact; rw [show cfg0.idle 5 (cfg0.grid.coords t) = false from rfl, after_5]

/-- The two results after the body. -/
theorem after_6 (c : Dev nD) (t : Fin cfg0.N) : (dats m 0 c).after 6 t = out6 m c t := by dsimp only [dats]
/-- The decode rows' block is the same at every point. -/
theorem after_7 (c : Dev nD) (t : Fin cfg0.N) : (dats m 0 c).after 7 t = out7 m c := by dsimp only [dats]

/-- From the second point on, the decode rows' buffer holds what the first point stored. -/
theorem before_7 (c : Dev nD) (d) : ∀ (n : ℕ) (h : n < cfg0.N), n ≠ 0 → (dats m 0 c).before 7 ⟨n, h⟩ d = out7 m c
  | 0, _, h0 => absurd rfl h0
  | n + 1, h, _ => by
    have hN : cfg0.N = 16 := N_0
    rw [(dats m 0 c).before_of_pos 7 ⟨n + 1, h⟩ (by simp) (fetch7 _) d]
    have hf : (cfg0.win 7).flush (⟨n, by omega⟩ : Fin cfg0.N) = false := by
      rw [flush7]; simp; omega
    show (if (cfg0.win 7).flush (⟨n, by omega⟩ : Fin cfg0.N) = true then d else (dats m 0 c).left 7 ⟨n, by omega⟩ d) = _
    rw [hf, if_neg Bool.false_ne_true]
    unfold Dat.left
    by_cases hn : n = 0
    · rw [show cfg0.idle 7 (cfg0.grid.coords (⟨n, by omega⟩ : Fin cfg0.N)) = false from live7 _ hn]
      show (dats m 0 c).kept 7 _ d = _
      unfold Dat.kept
      rw [Pipeline.fill_of_clip_none 7 _ (fun _ => rfl) d ((dats m 0 c).after 7 _), Pipeline.Window.fill_cut, after_7]
    · rw [show cfg0.idle 7 (cfg0.grid.coords (⟨n, by omega⟩ : Fin cfg0.N)) = true from idle7 _ hn]
      exact before_7 c d n (by omega) hn

/-- The prompt rows' stores fill their block at the first point, -/
theorem cover6_first (c : Dev nD) (t : Fin cfg0.N) (h : first (grid0.coords t)) (y : S1024x1024.Idx) :
    ∃ pc ∈ (runFirst c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) h (iblk m c 0 t) (iblk m c 1 t) (iblk m c 2 t) (iblk m c 3 t) (iblk m c 4 t) (iblk m c 5 t)).1, y ∈ pc.1.set :=
  View.cover_of_tiledL (runFirst c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) h (iblk m c 0 t) (iblk m c 1 t) (iblk m c 2 t) (iblk m c 3 t) (iblk m c 4 t) (iblk m c 5 t)).1 S512x1024.size (by sl_kernel_rfl) y
/-- and at the others; -/
theorem cover6_rest (c : Dev nD) (t : Fin cfg0.N) (h : ¬first (grid0.coords t)) (y : S1024x1024.Idx) :
    ∃ pc ∈ (runRest c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) h (iblk m c 0 t) (iblk m c 1 t) (iblk m c 2 t) (iblk m c 3 t) (iblk m c 4 t) (iblk m c 5 t)).1, y ∈ pc.1.set :=
  View.cover_of_tiledL (runRest c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) h (iblk m c 0 t) (iblk m c 1 t) (iblk m c 2 t) (iblk m c 3 t) (iblk m c 4 t) (iblk m c 5 t)).1 S512x1024.size (by sl_kernel_rfl) y
/-- the decode rows' store fills its own. -/
theorem cover7 (c : Dev nD) (t : Fin cfg0.N) (h : first (grid0.coords t)) (y : S128x1024.Idx) :
    ∃ pc ∈ (runFirst c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) h (iblk m c 0 t) (iblk m c 1 t) (iblk m c 2 t) (iblk m c 3 t) (iblk m c 4 t) (iblk m c 5 t)).2.1, y ∈ pc.1.set :=
  View.cover_of_tiledL (runFirst c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) h (iblk m c 0 t) (iblk m c 1 t) (iblk m c 2 t) (iblk m c 3 t) (iblk m c 4 t) (iblk m c 5 t)).2.1 S128x1024.size (by sl_kernel_rfl) y

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: at the first it stores both results' blocks; at the others it stores the prompt rows'
    and hands back the decode rows', which the last point writes out as the first point left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  rw [show (dats m 0 c).leavesExact 6 t = owns (c : Thread nD τ) (mem6 t) fullShare (out6 m c t) from by
    unfold Dat.leavesExact; rw [show cfg0.idle 6 (cfg0.grid.coords t) = false from rfl, after_6]]
  by_cases h0 : t.val = 0
  · rw [show (dats m 0 c).leavesExact 7 t = owns (c : Thread nD τ) (mem7 t) fullShare (out7 m c) from by
      unfold Dat.leavesExact; rw [show cfg0.idle 7 (cfg0.grid.coords t) = false from live7 t h0, after_7]]
    obtain rfl : t = t₀ := Fin.ext h0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t₀) (mem0 t₀) (mem0_whole t₀) (mem1 t₀) (mem1_whole t₀) (mem2 t₀) (mem2_whole t₀) (mem3 t₀) (mem3_whole t₀) (mem4 t₀) (mem4_whole t₀) (mem5 t₀) (mem5_whole t₀) (mem6 t₀) (mem6_whole t₀) (mem7 t₀) (mem7_whole t₀) first_t₀ (iblk m c 0 t₀) (iblk m c 1 t₀) (iblk m c 2 t₀) (iblk m c 3 t₀) (iblk m c 4 t₀) (iblk m c 5 t₀)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%g6, H6⟩, ⟨%g7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro
      rw [View.read_writes_eq_canon _ _ _ (cover6_first m c t₀ first_t₀)]
      unfold out6; rw [dif_pos h0]
    iexists _; isplitr; swap; · iexact H7
    ipureintro
    rw [View.read_writes_eq_canon _ _ _ (cover7 m c t₀ first_t₀)]
    rfl
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runRest c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) (fun e => h0 ((first_iff t).mp e)) (iblk m c 0 t) (iblk m c 1 t) (iblk m c 2 t) (iblk m c 3 t) (iblk m c 4 t) (iblk m c 5 t)).2 ((dats m 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%g6, H6⟩, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns
      iexists _; isplitr; swap; · iexact H6
      ipureintro
      rw [View.read_writes_eq_canon _ _ _ (cover6_rest m c t (fun e => h0 ((first_iff t).mp e)))]
      unfold out6; rw [dif_neg h0]
    by_cases h15 : t.val = 15
    · rw [show (dats m 0 c).leavesExact 7 t = owns (c : Thread nD τ) (mem7 t) fullShare ((dats m 0 c).before 7 t d7) from by
        unfold Dat.leavesExact
        rw [show cfg0.idle 7 (cfg0.grid.coords t) = true from idle7 t h0,
          show (cfg0.win 7).flush t = true from by rw [flush7]; simp [h15], after_7, ← before_7 m c d7 t.val t.isLt h0]]
      iexact H7
    · rw [(dats m 0 c).leavesExact_idle 7 t (idle7 t h0) (by rw [flush7]; simp [h15])]
      iexists _; iexact H7

/-- The body table's row at a point's slots is the body called with that point's staging buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what its proof data says, and every counter at zero. -/
theorem run_main_quiescent : θ_run defs (onTc (τ := τ) (main (F := F))) (s₀ m ρ) (fun r => (Pipeline.FramePost cfgs (dats m) (0 : Fin 1) (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.FfnIdeal.Own

end
-- ==== Proof.FfnValue.lean ====
/-
  What a point of the feed-forward kernel stores: the block of its rows through the gated unit and the layer norm.
-/
module

public import proofs.«01_k».proof.Proof.FfnRun
public import proofs.«01_k».proof.Proof.Rows
public import Idealize.ShloMosaic.Lib.Pipeline.ValueKit

@[expose] public section

set_option maxRecDepth 16384

noncomputable section

namespace Cert.FfnIdeal.Own

open Cert.FfnIdeal Cert.FfnIdeal.Gen Cert.Rows
open Idealize.ShloMosaic Idealize.ShloMosaic.TcCoe Idealize.ShloMosaic.Tactic

/-- The shapes of a half block of prompt rows, -/
theorem rows512 : RowFacts 512 := ⟨reduces_S512x1024_S512, shapeCasts_S512_S512x1, broadcasts_S512x1_S512x1024, broadcasts_S1x1024_S512x1024⟩
/-- and of the decode rows. -/
theorem rows128 : RowFacts 128 := ⟨reduces_S128x1024_S128, shapeCasts_S128_S128x1, broadcasts_S128x1_S128x1024, broadcasts_S1x1024_S128x1024⟩

/-- The feed-forward's sum over its eleven blocks of hidden units, in the order of the body. -/
def ffAll {n : ℕ} (xb : FVec Ideal (Mat n 1024) .bf16) (w : Vec Ideal S1024x5632 .bf16) (v : Vec Ideal S2816x1024 .bf16) : FVec Ideal (Mat n 1024) .f32 :=
  ffTile xb (View.ld w (Rect.unit ![0, 2560] ![1024, 256] inb_S1024x5632_S1024x256_0_2560)) (View.ld w (Rect.unit ![0, 5376] ![1024, 256] inb_S1024x5632_S1024x256_0_5376)) (View.ld v (Rect.unit ![2560, 0] ![256, 1024] inb_S2816x1024_S256x1024_2560_0)) shapeCasts_S1024x256_S1024x256 shapeCasts_S256x1024_S256x1024
    (ffTile xb (View.ld w (Rect.unit ![0, 2304] ![1024, 256] inb_S1024x5632_S1024x256_0_2304)) (View.ld w (Rect.unit ![0, 5120] ![1024, 256] inb_S1024x5632_S1024x256_0_5120)) (View.ld v (Rect.unit ![2304, 0] ![256, 1024] inb_S2816x1024_S256x1024_2304_0)) shapeCasts_S1024x256_S1024x256 shapeCasts_S256x1024_S256x1024
    (ffTile xb (View.ld w (Rect.unit ![0, 2048] ![1024, 256] inb_S1024x5632_S1024x256_0_2048)) (View.ld w (Rect.unit ![0, 4864] ![1024, 256] inb_S1024x5632_S1024x256_0_4864)) (View.ld v (Rect.unit ![2048, 0] ![256, 1024] inb_S2816x1024_S256x1024_2048_0)) shapeCasts_S1024x256_S1024x256 shapeCasts_S256x1024_S256x1024
    (ffTile xb (View.ld w (Rect.unit ![0, 1792] ![1024, 256] inb_S1024x5632_S1024x256_0_1792)) (View.ld w (Rect.unit ![0, 4608] ![1024, 256] inb_S1024x5632_S1024x256_0_4608)) (View.ld v (Rect.unit ![1792, 0] ![256, 1024] inb_S2816x1024_S256x1024_1792_0)) shapeCasts_S1024x256_S1024x256 shapeCasts_S256x1024_S256x1024
    (ffTile xb (View.ld w (Rect.unit ![0, 1536] ![1024, 256] inb_S1024x5632_S1024x256_0_1536)) (View.ld w (Rect.unit ![0, 4352] ![1024, 256] inb_S1024x5632_S1024x256_0_4352)) (View.ld v (Rect.unit ![1536, 0] ![256, 1024] inb_S2816x1024_S256x1024_1536_0)) shapeCasts_S1024x256_S1024x256 shapeCasts_S256x1024_S256x1024
    (ffTile xb (View.ld w (Rect.unit ![0, 1280] ![1024, 256] inb_S1024x5632_S1024x256_0_1280)) (View.ld w (Rect.unit ![0, 4096] ![1024, 256] inb_S1024x5632_S1024x256_0_4096)) (View.ld v (Rect.unit ![1280, 0] ![256, 1024] inb_S2816x1024_S256x1024_1280_0)) shapeCasts_S1024x256_S1024x256 shapeCasts_S256x1024_S256x1024
    (ffTile xb (View.ld w (Rect.unit ![0, 1024] ![1024, 256] inb_S1024x5632_S1024x256_0_1024)) (View.ld w (Rect.unit ![0, 3840] ![1024, 256] inb_S1024x5632_S1024x256_0_3840)) (View.ld v (Rect.unit ![1024, 0] ![256, 1024] inb_S2816x1024_S256x1024_1024_0)) shapeCasts_S1024x256_S1024x256 shapeCasts_S256x1024_S256x1024
    (ffTile xb (View.ld w (Rect.unit ![0, 768] ![1024, 256] inb_S1024x5632_S1024x256_0_768)) (View.ld w (Rect.unit ![0, 3584] ![1024, 256] inb_S1024x5632_S1024x256_0_3584)) (View.ld v (Rect.unit ![768, 0] ![256, 1024] inb_S2816x1024_S256x1024_768_0)) shapeCasts_S1024x256_S1024x256 shapeCasts_S256x1024_S256x1024
    (ffTile xb (View.ld w (Rect.unit ![0, 512] ![1024, 256] inb_S1024x5632_S1024x256_0_512)) (View.ld w (Rect.unit ![0, 3328] ![1024, 256] inb_S1024x5632_S1024x256_0_3328)) (View.ld v (Rect.unit ![512, 0] ![256, 1024] inb_S2816x1024_S256x1024_512_0)) shapeCasts_S1024x256_S1024x256 shapeCasts_S256x1024_S256x1024
    (ffTile xb (View.ld w (Rect.unit ![0, 256] ![1024, 256] inb_S1024x5632_S1024x256_0_256)) (View.ld w (Rect.unit ![0, 3072] ![1024, 256] inb_S1024x5632_S1024x256_0_3072)) (View.ld v (Rect.unit ![256, 0] ![256, 1024] inb_S2816x1024_S256x1024_256_0)) shapeCasts_S1024x256_S1024x256 shapeCasts_S256x1024_S256x1024
    (ffTile xb (View.ld w (Rect.unit ![0, 0] ![1024, 256] inb_S1024x5632_S1024x256_0_0)) (View.ld w (Rect.unit ![0, 2816] ![1024, 256] inb_S1024x5632_S1024x256_0_2816)) (View.ld v (Rect.unit ![0, 0] ![256, 1024] inb_S2816x1024_S256x1024_0_0)) shapeCasts_S1024x256_S1024x256 shapeCasts_S256x1024_S256x1024
    (broadcast (Mat n 1024) (Scalar.ofBits .f32 0x00000000#32))))))))))))

/-- A block of columns of the first weights, read at an entry. -/
theorem ld_cols (w : Vec Ideal S1024x5632 .bf16) (o : ℕ) (inb) (d : Fin 1024) (q : Fin 256) (i : Fin 5632) (hi : i.val = o + q.val) :
    View.ld w (Rect.unit ![0, o] ![1024, 256] inb) (ix2 d q) = w (ix2 d i) :=
  View.ld_unit_apply_of w _ _ _ _ _ fun a => match a with
    | ⟨0, _⟩ => (Nat.zero_add _).symm
    | ⟨1, _⟩ => hi

/-- A block of rows of the second weights, read at an entry. -/
theorem ld_rows (v : Vec Ideal S2816x1024 .bf16) (o : ℕ) (inb) (q : Fin 256) (j : Fin 1024) (i : Fin 2816) (hi : i.val = o + q.val) :
    View.ld v (Rect.unit ![o, 0] ![256, 1024] inb) (ix2 q j) = v (ix2 i j) :=
  View.ld_unit_apply_of v _ _ _ _ _ fun a => match a with
    | ⟨0, _⟩ => hi
    | ⟨1, _⟩ => (Nat.zero_add _).symm

/-- One hidden unit's share of an output entry. -/
def hid (x : Fin 1024 → EReal) (w : Fin 1024 → Fin 5632 → EReal) (v : Fin 2816 → Fin 1024 → EReal) (j : Fin 1024) (q : Fin 2816) : EReal :=
  unit (∑ d, x d * w d ⟨q.val, by omega⟩) (∑ d, x d * w d ⟨2816 + q.val, by omega⟩) * v q j

/-- A block's share of an output entry. -/
def hidBlk (x : Fin 1024 → EReal) (w : Fin 1024 → Fin 5632 → EReal) (v : Fin 2816 → Fin 1024 → EReal) (j : Fin 1024) (s : Fin 11) : EReal :=
  ∑ q : Fin 256, hid x w v j ⟨s.val * 256 + q.val, by omega⟩

/-- The sum over all hidden units, block by block. -/
theorem sum_hid (x : Fin 1024 → EReal) (w : Fin 1024 → Fin 5632 → EReal) (v : Fin 2816 → Fin 1024 → EReal) (j : Fin 1024) :
    ∑ q, hid x w v j q = ∑ s, hidBlk x w v j s :=
  (Fin.sum_mul_add_fin 11 256 (L := 2816) (f := hid x w v j)).symm

/-- Eleven terms added one after another. -/
theorem sum_eleven (f : Fin 11 → EReal) : 0 + f 0 + f 1 + f 2 + f 3 + f 4 + f 5 + f 6 + f 7 + f 8 + f 9 + f 10 = ∑ s, f s := by
  simp only [Fin.sum_univ_succ, Fin.sum_univ_zero, zero_add, add_zero, add_assoc]
  rfl

/-- One block of hidden units added, read at an entry, for 512 rows. -/
theorem tile_apply_512 (xb : FVec Ideal (Mat 512 1024) .bf16) (w : Vec Ideal S1024x5632 .bf16) (v : Vec Ideal S2816x1024 .bf16)
    (s : Fin 11) (a b e : ℕ) (ha : a = s.val * 256) (hb : b = 2816 + s.val * 256) (he : e = s.val * 256) (i₁ i₂ i₃ h₁ h₂)
    (acc : FVec Ideal (Mat 512 1024) .f32) (r : Fin 512) (j : Fin 1024) :
    ffTile xb (View.ld w (Rect.unit ![0, a] ![1024, 256] i₁)) (View.ld w (Rect.unit ![0, b] ![1024, 256] i₂))
        (View.ld v (Rect.unit ![e, 0] ![256, 1024] i₃)) h₁ h₂ acc (ix2 r j)
      = acc (ix2 r j) + hidBlk (fun d => xb (ix2 r d)) (fun d k => w (ix2 d k)) (fun k j => v (ix2 k j)) j s := by
  rw [ffTile_apply_512]
  unfold hidBlk hid
  refine congrArg (acc (ix2 r j) + ·) (Finset.sum_congr rfl fun q _ => ?_)
  rw [ld_rows v e i₃ q j ⟨s.val * 256 + q.val, by omega⟩ (by show s.val * 256 + q.val = _; omega)]
  congr 1
  congr 1 <;> refine Finset.sum_congr rfl fun d _ => congrArg (xb (ix2 r d) * ·) ?_
  · exact ld_cols w a i₁ d q _ (by show s.val * 256 + q.val = _; omega)
  · exact ld_cols w b i₂ d q _ (by show 2816 + (s.val * 256 + q.val) = _; omega)

/-- The sum over the blocks, read at an entry, for 512 rows. -/
theorem ffAll_apply_512 (xb : FVec Ideal (Mat 512 1024) .bf16) (w : Vec Ideal S1024x5632 .bf16) (v : Vec Ideal S2816x1024 .bf16) (r : Fin 512) (j : Fin 1024) :
    ffAll xb w v (ix2 r j) = ∑ q, hid (fun d => xb (ix2 r d)) (fun d k => w (ix2 d k)) (fun k j => v (ix2 k j)) j q := by
  rw [sum_hid, ← sum_eleven]
  unfold ffAll
  rw [tile_apply_512 xb w v 10 2560 5376 2560 rfl rfl rfl]
  rw [tile_apply_512 xb w v 9 2304 5120 2304 rfl rfl rfl]
  rw [tile_apply_512 xb w v 8 2048 4864 2048 rfl rfl rfl]
  rw [tile_apply_512 xb w v 7 1792 4608 1792 rfl rfl rfl]
  rw [tile_apply_512 xb w v 6 1536 4352 1536 rfl rfl rfl]
  rw [tile_apply_512 xb w v 5 1280 4096 1280 rfl rfl rfl]
  rw [tile_apply_512 xb w v 4 1024 3840 1024 rfl rfl rfl]
  rw [tile_apply_512 xb w v 3 768 3584 768 rfl rfl rfl]
  rw [tile_apply_512 xb w v 2 512 3328 512 rfl rfl rfl]
  rw [tile_apply_512 xb w v 1 256 3072 256 rfl rfl rfl]
  rw [tile_apply_512 xb w v 0 0 2816 0 rfl rfl rfl]
  rw [show (broadcast (Mat 512 1024) (Scalar.ofBits .f32 0x00000000#32) : FVec Ideal (Mat 512 1024) .f32) (ix2 r j) = 0 from by pointwise]

/-- One block of hidden units added, read at an entry, for 128 rows. -/
theorem tile_apply_128 (xb : FVec Ideal (Mat 128 1024) .bf16) (w : Vec Ideal S1024x5632 .bf16) (v : Vec Ideal S2816x1024 .bf16)
    (s : Fin 11) (a b e : ℕ) (ha : a = s.val * 256) (hb : b = 2816 + s.val * 256) (he : e = s.val * 256) (i₁ i₂ i₃ h₁ h₂)
    (acc : FVec Ideal (Mat 128 1024) .f32) (r : Fin 128) (j : Fin 1024) :
    ffTile xb (View.ld w (Rect.unit ![0, a] ![1024, 256] i₁)) (View.ld w (Rect.unit ![0, b] ![1024, 256] i₂))
        (View.ld v (Rect.unit ![e, 0] ![256, 1024] i₃)) h₁ h₂ acc (ix2 r j)
      = acc (ix2 r j) + hidBlk (fun d => xb (ix2 r d)) (fun d k => w (ix2 d k)) (fun k j => v (ix2 k j)) j s := by
  rw [ffTile_apply_128]
  unfold hidBlk hid
  refine congrArg (acc (ix2 r j) + ·) (Finset.sum_congr rfl fun q _ => ?_)
  rw [ld_rows v e i₃ q j ⟨s.val * 256 + q.val, by omega⟩ (by show s.val * 256 + q.val = _; omega)]
  congr 1
  congr 1 <;> refine Finset.sum_congr rfl fun d _ => congrArg (xb (ix2 r d) * ·) ?_
  · exact ld_cols w a i₁ d q _ (by show s.val * 256 + q.val = _; omega)
  · exact ld_cols w b i₂ d q _ (by show 2816 + (s.val * 256 + q.val) = _; omega)

/-- The sum over the blocks, read at an entry, for 128 rows. -/
theorem ffAll_apply_128 (xb : FVec Ideal (Mat 128 1024) .bf16) (w : Vec Ideal S1024x5632 .bf16) (v : Vec Ideal S2816x1024 .bf16) (r : Fin 128) (j : Fin 1024) :
    ffAll xb w v (ix2 r j) = ∑ q, hid (fun d => xb (ix2 r d)) (fun d k => w (ix2 d k)) (fun k j => v (ix2 k j)) j q := by
  rw [sum_hid, ← sum_eleven]
  unfold ffAll
  rw [tile_apply_128 xb w v 10 2560 5376 2560 rfl rfl rfl]
  rw [tile_apply_128 xb w v 9 2304 5120 2304 rfl rfl rfl]
  rw [tile_apply_128 xb w v 8 2048 4864 2048 rfl rfl rfl]
  rw [tile_apply_128 xb w v 7 1792 4608 1792 rfl rfl rfl]
  rw [tile_apply_128 xb w v 6 1536 4352 1536 rfl rfl rfl]
  rw [tile_apply_128 xb w v 5 1280 4096 1280 rfl rfl rfl]
  rw [tile_apply_128 xb w v 4 1024 3840 1024 rfl rfl rfl]
  rw [tile_apply_128 xb w v 3 768 3584 768 rfl rfl rfl]
  rw [tile_apply_128 xb w v 2 512 3328 512 rfl rfl rfl]
  rw [tile_apply_128 xb w v 1 256 3072 256 rfl rfl rfl]
  rw [tile_apply_128 xb w v 0 0 2816 0 rfl rfl rfl]
  rw [show (broadcast (Mat 128 1024) (Scalar.ofBits .f32 0x00000000#32) : FVec Ideal (Mat 128 1024) .f32) (ix2 r j) = 0 from by pointwise]

end Cert.FfnIdeal.Own

end
-- ==== Proof.FfnPoint.lean ====
/-
  The feed-forward kernel's two result arrays: every row of the prompt and of the decode rows through the gated unit and
  the layer norm, read off the memory the program was started on.
-/
module

public import proofs.«01_k».proof.Proof.FfnValue

@[expose] public section

set_option maxRecDepth 16384

noncomputable section

namespace Cert.FfnIdeal.Own

open Cert.FfnIdeal Cert.FfnIdeal.Gen Cert.Rows
open Idealize.ShloMosaic Idealize.ShloMosaic.TcCoe Idealize.ShloMosaic.Tactic Idealize.SL.Sem

/-- A row of the feed-forward layer: the row scaled, its hidden units added, and the layer norm of that. -/
def ffnRow (x : Fin 1024 → EReal) (w : Fin 1024 → Fin 5632 → EReal) (v : Fin 2816 → Fin 1024 → EReal) (g b : Fin 1024 → EReal) (j : Fin 1024) : EReal :=
  lnRow (fun k => Scalar.ofBits (F := Ideal) .f32 0x3FD744FD#32 * x k + ∑ q, hid x w v k q) g b j

/-- The same of a block of rows, by the body's operations. -/
def ffnV {n : ℕ} (h : RowFacts n) (x : FVec Ideal (Mat n 1024) .f32) (w : Vec Ideal S1024x5632 .bf16) (v : Vec Ideal S2816x1024 .bf16)
    (g b : Vec Ideal S1x1x1024 .f32) : FVec Ideal (Mat n 1024) .f32 :=
  lnV h (addf (mulf (broadcast (Mat n 1024) (Scalar.ofBits .f32 0x3FD744FD#32)) x) (ffAll (truncf .bf16 x bitsLt_bf16_f32) w v))
    (k0_pay12 g) (k0_pay13 b)

/-- Read at an entry, for 512 rows. -/
theorem ffnV_apply_512 (h : RowFacts 512) (x : FVec Ideal (Mat 512 1024) .f32) (w : Vec Ideal S1024x5632 .bf16) (v : Vec Ideal S2816x1024 .bf16)
    (g b : Vec Ideal S1x1x1024 .f32) (r : Fin 512) (j : Fin 1024) :
    ffnV h x w v g b (ix2 r j) = ffnRow (fun k => x (ix2 r k)) (fun d k => w (ix2 d k)) (fun k j => v (ix2 k j))
      (fun k => g (ix3 0 0 k)) (fun k => b (ix3 0 0 k)) j := by
  unfold ffnV ffnRow
  rw [lnV_apply_512]
  have h1 : (fun k => k0_pay12 g (ix2 0 k)) = fun k => g (ix3 0 0 k) := funext fun k => by pointwise [k0_pay12]
  have h2 : (fun k => k0_pay13 b (ix2 0 k)) = fun k => b (ix3 0 0 k) := funext fun k => by pointwise [k0_pay13]
  rw [h1, h2]
  refine congrArg (fun f => lnRow f _ _ j) (funext fun k => ?_)
  refine (addf_apply _ _ _).trans (congrArg₂ (· + ·) rfl ((ffAll_apply_512 _ w v r k).trans rfl))

/-- Read at an entry, for 128 rows. -/
theorem ffnV_apply_128 (h : RowFacts 128) (x : FVec Ideal (Mat 128 1024) .f32) (w : Vec Ideal S1024x5632 .bf16) (v : Vec Ideal S2816x1024 .bf16)
    (g b : Vec Ideal S1x1x1024 .f32) (r : Fin 128) (j : Fin 1024) :
    ffnV h x w v g b (ix2 r j) = ffnRow (fun k => x (ix2 r k)) (fun d k => w (ix2 d k)) (fun k j => v (ix2 k j))
      (fun k => g (ix3 0 0 k)) (fun k => b (ix3 0 0 k)) j := by
  unfold ffnV ffnRow
  rw [lnV_apply_128]
  have h1 : (fun k => k0_pay12 g (ix2 0 k)) = fun k => g (ix3 0 0 k) := funext fun k => by pointwise [k0_pay12]
  have h2 : (fun k => k0_pay13 b (ix2 0 k)) = fun k => b (ix3 0 0 k) := funext fun k => by pointwise [k0_pay13]
  rw [h1, h2]
  refine congrArg (fun f => lnRow f _ _ j) (funext fun k => ?_)
  refine (addf_apply _ _ _).trans (congrArg₂ (· + ·) rfl ((ffAll_apply_128 _ w v r k).trans rfl))

variable (m : (ℓ : Loc nD τ sig) → Buf (Elt Ideal) ℓ)

/-- The prompt block after a point, at an entry: its row through the layer. -/
theorem out6_apply (c : Dev nD) (t : Fin cfg0.N) (y : S1024x1024.Idx) :
    out6 m c t y = ffnRow (fun k => iblk m c 0 t (ix2 (y 0) k)) (fun d k => iblk m c 2 t (ix2 d k)) (fun k j => iblk m c 3 t (ix2 k j))
      (fun k => iblk m c 4 t (ix3 0 0 k)) (fun k => iblk m c 5 t (ix3 0 0 k)) (y 1) := by
  have half : ∀ (o : ℕ) (inb) (x : (Mat 512 1024).Idx) (hy : ∀ a, (y a).val = (![o, 0] : Fin 2 → ℕ) a + (x a).val),
      ffnV rows512 (View.ld (iblk m c 0 t) (Rect.unit ![o, 0] ![512, 1024] inb)) (iblk m c 2 t) (iblk m c 3 t) (iblk m c 4 t) (iblk m c 5 t) x
      = ffnRow (fun k => iblk m c 0 t (ix2 (y 0) k)) (fun d k => iblk m c 2 t (ix2 d k)) (fun k j => iblk m c 3 t (ix2 k j))
      (fun k => iblk m c 4 t (ix3 0 0 k)) (fun k => iblk m c 5 t (ix3 0 0 k)) (y 1) := by
    intro o inb x hy
    obtain ⟨r, j, rfl⟩ : ∃ (r : Fin 512) (j : Fin 1024), x = ix2 r j := ⟨x 0, x 1, by ext a; match a with | ⟨0, _⟩ => rfl | ⟨1, _⟩ => rfl⟩
    rw [ffnV_apply_512]
    have e1 : j = y 1 := Fin.ext ((hy 1).trans (Nat.zero_add _)).symm
    have e0 : (fun k => View.ld (iblk m c 0 t) (Rect.unit ![o, 0] ![512, 1024] inb) (ix2 r k)) = fun k => iblk m c 0 t (ix2 (y 0) k) :=
      funext fun k => View.ld_unit_apply_of _ _ _ _ _ _ fun a => match a with
        | ⟨0, _⟩ => hy 0
        | ⟨1, _⟩ => (Nat.zero_add _).symm
    rw [e0, e1]
  unfold out6
  by_cases h : t.val = 0
  · rw [dif_pos h]
    frame_out
    canon_tiles x h
    · exact half 512 inb_S1024x1024_S512x1024_512_0 x fun a => match a with | ⟨0, _⟩ => h0 | ⟨1, _⟩ => h1.trans (Nat.zero_add _).symm
    · exact half 0 inb_S1024x1024_S512x1024_0_0 x fun a => match a with | ⟨0, _⟩ => h0.trans (Nat.zero_add _).symm | ⟨1, _⟩ => h1.trans (Nat.zero_add _).symm
  · rw [dif_neg h]
    frame_out
    canon_tiles x h
    · exact half 512 inb_S1024x1024_S512x1024_512_0 x fun a => match a with | ⟨0, _⟩ => h0 | ⟨1, _⟩ => h1.trans (Nat.zero_add _).symm
    · exact half 0 inb_S1024x1024_S512x1024_0_0 x fun a => match a with | ⟨0, _⟩ => h0.trans (Nat.zero_add _).symm | ⟨1, _⟩ => h1.trans (Nat.zero_add _).symm

/-- The decode block after the first point, at an entry: its row through the layer. -/
theorem out7_apply (c : Dev nD) (y : S128x1024.Idx) :
    out7 m c y = ffnRow (fun k => iblk m c 1 t₀ (ix2 (y 0) k)) (fun d k => iblk m c 2 t₀ (ix2 d k)) (fun k j => iblk m c 3 t₀ (ix2 k j))
      (fun k => iblk m c 4 t₀ (ix3 0 0 k)) (fun k => iblk m c 5 t₀ (ix3 0 0 k)) (y 1) := by
  unfold out7
  frame_out
  refine Eq.trans (b := ffnV rows128 (iblk m c 1 t₀) (iblk m c 2 t₀) (iblk m c 3 t₀) (iblk m c 4 t₀) (iblk m c 5 t₀) y) rfl ?_
  have e : y = ix2 (y 0) (y 1) := by ext a; match a with | ⟨0, _⟩ => rfl | ⟨1, _⟩ => rfl
  rw [e]
  exact ffnV_apply_128 _ _ _ _ _ _ _ _

/-- A row of the layer as the memory's arrays have its weights: those of layer 1. -/
def memRow (c : Dev nD) (x : Fin 1024 → EReal) (j : Fin 1024) : EReal :=
  ffnRow x (fun d k => m ((c : Thread nD τ).loc main_arg2) (ix3 1 d k)) (fun k j => m ((c : Thread nD τ).loc main_arg3) (ix3 1 k j))
    (fun k => m ((c : Thread nD τ).loc main_arg4) (ix2 1 k)) (fun k => m ((c : Thread nD τ).loc main_arg5) (ix2 1 k)) j

/-- Where the windows' blocks stand. -/
theorem idx : ∀ t : Fin grid0.N, win0_0.index t = ![t.val, 0] ∧ win0_1.index t = ![0, 0] ∧ win0_2.index t = ![0, 0] ∧ win0_3.index t = ![0, 0]
    ∧ win0_4.index t = ![1, 0, 0] ∧ win0_5.index t = ![1, 0, 0] ∧ win0_6.index t = ![t.val, 0] ∧ win0_7.index t = ![0, 0] := by decide +kernel

theorem blk2 (c : Dev nD) (t : Fin cfg0.N) (d : Fin 1024) (k : Fin 5632) :
    iblk m c 2 t (ix2 d k) = m ((c : Thread nD τ).loc main_arg2) (ix3 1 d k) := by
  blk_ext! [iblk, V, idx t]

theorem blk3 (c : Dev nD) (t : Fin cfg0.N) (k : Fin 2816) (j : Fin 1024) :
    iblk m c 3 t (ix2 k j) = m ((c : Thread nD τ).loc main_arg3) (ix3 1 k j) := by
  blk_ext! [iblk, V, idx t]

theorem blk4 (c : Dev nD) (t : Fin cfg0.N) (k : Fin 1024) :
    iblk m c 4 t (ix3 0 0 k) = m ((c : Thread nD τ).loc main_arg4) (ix2 1 k) := by
  blk_ext! [iblk, V, idx t]

theorem blk5 (c : Dev nD) (t : Fin cfg0.N) (k : Fin 1024) :
    iblk m c 5 t (ix3 0 0 k) = m ((c : Thread nD τ).loc main_arg5) (ix2 1 k) := by
  blk_ext! [iblk, V, idx t]

theorem blk1 (c : Dev nD) (t : Fin cfg0.N) (r : Fin 128) (k : Fin 1024) :
    iblk m c 1 t (ix2 r k) = m ((c : Thread nD τ).loc main_arg1) (ix2 r k) := by
  blk_ext! [iblk, V, idx t]

theorem blk0 (c : Dev nD) (t : Fin cfg0.N) (r : Fin 1024) (k : Fin 1024) (i : Fin 16384) (hi : i.val = t.val * 1024 + r.val) :
    iblk m c 0 t (ix2 r k) = m ((c : Thread nD τ).loc main_arg0) (ix2 i k) := by
  blk_ext! [iblk, V, idx t]

/-- What the prompt result holds, row by row. -/
def result6 (c : Dev nD) : Buf (Elt Ideal) ((c : Thread nD τ).loc main_v8_0) :=
  fun i => memRow m c (fun k => m ((c : Thread nD τ).loc main_arg0) (ix2 (i 0) k)) (i 1)

/-- What the decode result holds. -/
def result7 (c : Dev nD) : Buf (Elt Ideal) ((c : Thread nD τ).loc main_v8_1) :=
  fun i => memRow m c (fun k => m ((c : Thread nD τ).loc main_arg1) (ix2 (i 0) k)) (i 1)

/-- The last point. -/
def tLast : Fin cfg0.N := ⟨15, by decide +kernel⟩

theorem final6 (c : Dev nD) : (dats m 0 c).arrAt 6 cfg0.N = result6 m c := by
  refine (dats m 0 c).arrAt_eq_of_covers 6 _ (by decide +kernel) fun t hf y => ?_
  blk_simp
  rw [after_6, out6_apply]
  simp only [blk2, blk3, blk4, blk5]
  unfold result6 memRow
  have e : ∀ k, iblk m c 0 t (ix2 (y 0) k) = m ((c : Thread nD τ).loc main_arg0) (ix2 (((cfg0.win 6).blk t).view.emb y 0) k) := fun k =>
    blk0 m c t (y 0) k _ (by blk_simp [idx t])
  exact congrArg₂ (fun x j => ffnRow x _ _ _ _ j) (funext e) (Fin.ext (by blk_simp [idx t]))

theorem final7 (c : Dev nD) : (dats m 0 c).arrAt 7 cfg0.N = result7 m c := by
  refine (dats m 0 c).arrAt_eq_of_after_last 7 tLast (by decide +kernel) _ fun j => ?_
  blk_simp
  rw [after_7, out7_apply]
  simp only [blk1, blk2, blk3, blk4, blk5]
  unfold result7 memRow
  exact congrArg₂ (fun x j => ffnRow x _ _ _ _ j) (funext fun k => blk1 m c t₀ (j 0) k) rfl

end Cert.FfnIdeal.Own

end
-- ==== Proof.FfnRefValue.lean ====
/-
  The reference of the feed-forward layer, read at an entry: the same function of the rows as the kernel's.
-/
module

public import proofs.«01_k».proof.Proof.FfnPoint
public import proofs.«01_k».proof.Proof.Gen.FfnRefIdeal.Run
public import proofs.«01_k».proof.Proof.Gen.FfnRefIdeal.Read

@[expose] public section

set_option maxRecDepth 16384

noncomputable section

namespace Cert.FfnRefIdeal.Own

open Cert.FfnRefIdeal Cert.FfnRefIdeal.Gen Cert.FfnRefIdeal.Read Cert.Rows Cert.FfnIdeal.Own
open Idealize.ShloMosaic Idealize.ShloMosaic.TcCoe Idealize.ShloMosaic.Tactic

variable (x2 : (⟨S4x1024x5632, .f32⟩ : BufTy).Contents (Elt Ideal)) (x3 : (⟨S4x2816x1024, .f32⟩ : BufTy).Contents (Elt Ideal))
  (x4 x5 : (⟨S4x1024, .f32⟩ : BufTy).Contents (Elt Ideal))

/-! ## The prompt rows -/

/-- The projection of a row. -/
theorem prompt_proj (x0 : (⟨S16384x1024, .f32⟩ : BufTy).Contents (Elt Ideal)) (r : Fin 16384) (k : Fin 5632) :
    val_main_v6 x0 x2 (ix2 r k) = ∑ d : Fin 1024, x0 (ix2 r d) * x2 (ix3 1 d k) := by
  pointwise [val_main_v6, val_main_v3, val_main_v2]

/-- A hidden unit of a row. -/
theorem prompt_hidden (x0 : (⟨S16384x1024, .f32⟩ : BufTy).Contents (Elt Ideal)) (r : Fin 16384) (q : Fin 2816) : val_main_v10 x0 x2 (ix2 r q)
    = unit (∑ d : Fin 1024, x0 (ix2 r d) * x2 (ix3 1 d ⟨q.val, by omega⟩)) (∑ d : Fin 1024, x0 (ix2 r d) * x2 (ix3 1 d ⟨2816 + q.val, by omega⟩)) := by
  rw [← prompt_proj, ← prompt_proj]
  generalize hy : val_main_v6 x0 x2 = y
  pointwise [val_main_v10, val_main_v9, val_main_call0_v5, val_main_call0_v4, val_main_call0_v3, val_main_call0_v2, val_main_call0_v1, val_main_call0_v0,
    val_main_call0_cst, val_main_call0_cst_0, val_main_v7, val_main_v8, hy, unit, Ideal.logistic]

/-- The row scaled, with its hidden units added. -/
theorem prompt_sum (x0 : (⟨S16384x1024, .f32⟩ : BufTy).Contents (Elt Ideal)) (r : Fin 16384) (j : Fin 1024) : val_main_v12 x0 x2 x3 (ix2 r j)
    = Scalar.ofBits (F := Ideal) .f32 0x3FD744FD#32 * x0 (ix2 r j)
      + ∑ q, hid (fun d => x0 (ix2 r d)) (fun d k => x2 (ix3 1 d k)) (fun k j => x3 (ix3 1 k j)) j q := by
  unfold hid
  simp only [← prompt_hidden]
  generalize hy : val_main_v10 x0 x2 = y
  pointwise [val_main_v12, val_main_v11, val_main_v1, val_main_v0, val_main_cst, val_main_v5, val_main_v4, hy]

/-- The result, at an entry. -/
theorem prompt_apply (x0 : (⟨S16384x1024, .f32⟩ : BufTy).Contents (Elt Ideal)) (r : Fin 16384) (j : Fin 1024) : val_main_v40 x0 x2 x3 x4 x5 (ix2 r j)
    = ffnRow (fun k => x0 (ix2 r k)) (fun d k => x2 (ix3 1 d k)) (fun k j => x3 (ix3 1 k j)) (fun k => x4 (ix2 1 k)) (fun k => x5 (ix2 1 k)) j := by
  unfold ffnRow
  rw [← funext (prompt_sum x2 x3 x0 r)]
  generalize hy : val_main_v12 x0 x2 x3 = y
  pointwise [val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst_0, val_main_cst_1, val_main_cst_2, val_main_cst_3, val_main_cst_4, hy, lnRow]

/-! ## The decode rows -/

/-- The projection of a row. -/
theorem decode_proj (x1 : (⟨S128x1024, .f32⟩ : BufTy).Contents (Elt Ideal)) (r : Fin 128) (k : Fin 5632) :
    val_main_v47 x1 x2 (ix2 r k) = ∑ d : Fin 1024, x1 (ix2 r d) * x2 (ix3 1 d k) := by
  pointwise [val_main_v47, val_main_v44, val_main_v43]

/-- A hidden unit of a row. -/
theorem decode_hidden (x1 : (⟨S128x1024, .f32⟩ : BufTy).Contents (Elt Ideal)) (r : Fin 128) (q : Fin 2816) : val_main_v51 x1 x2 (ix2 r q)
    = unit (∑ d : Fin 1024, x1 (ix2 r d) * x2 (ix3 1 d ⟨q.val, by omega⟩)) (∑ d : Fin 1024, x1 (ix2 r d) * x2 (ix3 1 d ⟨2816 + q.val, by omega⟩)) := by
  rw [← decode_proj, ← decode_proj]
  generalize hy : val_main_v47 x1 x2 = y
  pointwise [val_main_v51, val_main_v50, val_main_call1_v5, val_main_call1_v4, val_main_call1_v3, val_main_call1_v2, val_main_call1_v1, val_main_call1_v0,
    val_main_call1_cst, val_main_call1_cst_0, val_main_v48, val_main_v49, hy, unit, Ideal.logistic]

/-- The row scaled, with its hidden units added. -/
theorem decode_sum (x1 : (⟨S128x1024, .f32⟩ : BufTy).Contents (Elt Ideal)) (r : Fin 128) (j : Fin 1024) : val_main_v53 x1 x2 x3 (ix2 r j)
    = Scalar.ofBits (F := Ideal) .f32 0x3FD744FD#32 * x1 (ix2 r j)
      + ∑ q, hid (fun d => x1 (ix2 r d)) (fun d k => x2 (ix3 1 d k)) (fun k j => x3 (ix3 1 k j)) j q := by
  unfold hid
  simp only [← decode_hidden]
  generalize hy : val_main_v51 x1 x2 = y
  pointwise [val_main_v53, val_main_v52, val_main_v42, val_main_v41, val_main_cst_5, val_main_v46, val_main_v45, hy]

/-- The result, at an entry. -/
theorem decode_apply (x1 : (⟨S128x1024, .f32⟩ : BufTy).Contents (Elt Ideal)) (r : Fin 128) (j : Fin 1024) : val_main_v81 x1 x2 x3 x4 x5 (ix2 r j)
    = ffnRow (fun k => x1 (ix2 r k)) (fun d k => x2 (ix3 1 d k)) (fun k j => x3 (ix3 1 k j)) (fun k => x4 (ix2 1 k)) (fun k => x5 (ix2 1 k)) j := by
  unfold ffnRow
  rw [← funext (decode_sum x2 x3 x1 r)]
  generalize hy : val_main_v53 x1 x2 x3 = y
  pointwise [val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_6, val_main_cst_7, val_main_cst_8, val_main_cst_9, val_main_cst_10, hy, lnRow]

end Cert.FfnRefIdeal.Own

end
-- ==== Proof.FfnClaims.lean ====
/-
  The feed-forward programs' claims: the frames, and the equality of the kernel's and the reference's results.
-/
module

public import proofs.«01_k».proof.Defs
public import proofs.«01_k».proof.Proof.FfnRefValue
public import proofs.«01_k».proof.Proof.Gen.Ffn
public import Idealize.ShloMosaic.Lib.Claim
public import Idealize.ShloMosaic.Lib.Quiescent
public import Idealize.ShloMosaic.Lib.Tactic

@[expose] public section

set_option maxRecDepth 16384

noncomputable section

namespace Cert.FfnClaims

open Idealize.ShloMosaic Idealize.ShloMosaic.TcCoe Idealize.SL.Sem

variable {F : FTy → Type} [FloatOps F]

/-- The kernel's run: what every array ends holding. -/
theorem kernel_run (m : (ℓ : Loc Cert.FfnIdeal.nD Cert.FfnIdeal.τ Cert.FfnIdeal.sig) → Buf (Elt F) ℓ) (g : Dev Cert.FfnIdeal.nD → PrngReg) :
    θ_run (Cert.FfnIdeal.defs (F := F)) (onTc (τ := Cert.FfnIdeal.τ) (Cert.FfnIdeal.main (F := F))) ⟨m, fun _ => 0, g⟩
      (Pipeline.FramePost Cert.FfnIdeal.cfgs (Cert.FfnIdeal.Own.dats m) (0 : Fin 1) (Cert.FfnIdeal.Gen.V m)) :=
  (θ_run _ _ _).mono (fun _ h => h.1) (Cert.FfnIdeal.Own.run_main_quiescent m g)

/-- The kernel's frame, over any float values. -/
theorem kernel_frame (m : (ℓ : Loc Cert.FfnIdeal.nD Cert.FfnIdeal.τ Cert.FfnIdeal.sig) → Buf (Elt F) ℓ) (g : Dev Cert.FfnIdeal.nD → PrngReg) :
    θ_run (Cert.FfnIdeal.defs (F := F)) (onTc (τ := Cert.FfnIdeal.τ) (Cert.FfnIdeal.main (F := F))) ⟨m, fun _ => 0, g⟩ (fun r =>
      (∀ c : Dev Cert.FfnIdeal.nD, r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0) := by
  refine θ_run_and ?_ ((θ_run _ _ _).mono (fun _ h => h.2) (Cert.FfnIdeal.Own.run_main_quiescent m g))
  run_from kernel_run m g

/-- The kernel's frame over the extended reals, -/
theorem quiescent_ideal : @Cert.quiescent_FfnIdeal Cert.FfnIdeal.Gen.facts := fun m g _ => kernel_frame m g

/-- The two programs' bodies have the same text, -/
theorem defs_eq : Cert.Ffn.defs (F := Bits) = Cert.FfnIdeal.defs (F := Bits) := by sl_kernel_rfl

/-- so the frame holds at the machine's words as well. -/
theorem quiescent_bits : @Cert.quiescent_Ffn Cert.Ffn.Gen.facts := fun m g _ => by
  rw [defs_eq]
  exact kernel_frame (F := Bits) m g

/-- The reference's frame. -/
theorem quiescent_ref : @Cert.quiescent_FfnRefIdeal Cert.FfnRefIdeal.Gen.facts := by
  intro m g hpre
  exact (θ_run _ _ _).mono (fun r h => ⟨fun c => (h c).2.2, sem_eq_zero_of_no_sems (by decide) r.2⟩) (Cert.FfnRefIdeal.Value.run m g)

/-- Equal results on equal arguments. -/
theorem algebraic : @Cert.algebraic_FfnIdeal_FfnRefIdeal Cert.FfnIdeal.Gen.facts Cert.FfnRefIdeal.Gen.facts := by
  pair_intro
  · run_from kernel_run m g
  · run_from Cert.FfnRefIdeal.Value.run m' g'
    · obtain ⟨h0, h1, h2, h3, h4, h5⟩ := hagree c
      rw [Cert.FfnRefIdeal.Read.val_main_v40_eq, h0, h2, h3, h4, h5]
      refine Eq.trans (funext fun i => ?_) (Cert.FfnIdeal.Own.final6 m c).symm
      obtain ⟨r, j, rfl⟩ : ∃ (r : Fin 16384) (j : Fin 1024), i = ix2 r j := ⟨i 0, i 1, by ext a; match a with | ⟨0, _⟩ => rfl | ⟨1, _⟩ => rfl⟩
      exact Cert.FfnRefIdeal.Own.prompt_apply _ _ _ _ _ r j
    · obtain ⟨h0, h1, h2, h3, h4, h5⟩ := hagree c
      rw [Cert.FfnRefIdeal.Read.val_main_v81_eq, h1, h2, h3, h4, h5]
      refine Eq.trans (funext fun i => ?_) (Cert.FfnIdeal.Own.final7 m c).symm
      obtain ⟨r, j, rfl⟩ : ∃ (r : Fin 128) (j : Fin 1024), i = ix2 r j := ⟨i 0, i 1, by ext a; match a with | ⟨0, _⟩ => rfl | ⟨1, _⟩ => rfl⟩
      exact Cert.FfnRefIdeal.Own.decode_apply _ _ _ _ _ r j

end Cert.FfnClaims

end
-- ==== Proof.MlpBody.lean ====
/-
  The body of the token-mixing kernel, run once per case of its two branches, with what it stores named.
-/
module

public import proofs.«01_k».proof.Proof.Gen.MlpIdeal.Launch
public import proofs.«01_k».proof.Proof.Gen.MlpIdeal.Skeleton
public import proofs.«01_k».proof.Proof.Gen.MlpIdeal.Points
public import proofs.«01_k».proof.Proof.Gen.MlpIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MlpIdeal.Own

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch that the body takes at the last point of each sequence. -/
abbrev last (i : grid0.Coords) : Prop := k0_cond1 i = 1#1
/-- The branch that the body takes at the first point of the grid alone. -/
abbrev first (i : grid0.Coords) : Prop := k0_cond2 i = 1#1

set_option maxHeartbeats 3200000 in
/-- The body at the first point: it stores the tokens' block, the two weight blocks and the decode rows' two blocks; the pieces stored are what the run finds. The rows kept for the next chunk pass through. -/
def runFirst (c : Dev nD) (i : grid0.Coords) (arg2 : Memref sig .tc .vmem S1x512x1024 .f32) (harg2 : arg2.IsWhole) (arg3 : Memref sig .tc .vmem S128x1024 .f32) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x8x128x128 .f32) (harg7 : arg7.IsWhole) (arg8 : Memref sig .tc .vmem S1x128x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x32x5632 .f32) (harg12 : arg12.IsWhole) (arg13 : Memref sig .tc .vmem S1x176x1024 .f32) (harg13 : arg13.IsWhole) (arg14 : Memref sig .tc .vmem S1x512x1024 .f32) (harg14 : arg14.IsWhole) (arg15 : Memref sig .tc .vmem S1x128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S32x5632 .bf16) (harg18 : arg18.IsWhole) (arg19 : Memref sig .tc .vmem S176x1024 .bf16) (harg19 : arg19.IsWhole) (hc0 : ¬last i) (hc1 : first i)
    (x0 : Vec F S1x512x1024 .f32) (x1 : Vec F S128x1024 .f32) (x2 : Vec F S1x1024x2048 .f32) (x3 : Vec F S1x1x1024 .f32) (x4 : Vec F S1x1x1024 .f32) (x5 : Vec F S1x8x128x128 .f32) (x6 : Vec F S1x128x1024 .f32) (x7 : Vec F S1x1024x1024 .f32) (x8 : Vec F S1x1x1024 .f32) (x9 : Vec F S1x1x1024 .f32) (x10 : Vec F S1x32x5632 .f32) (x11 : Vec F S1x176x1024 .f32) :
    Σ' (L12 : List (View.Piece (Elt F) S1x512x1024 .f32)), Σ' (L16 : List (View.Piece (Elt F) S32x5632 .bf16)), Σ' (L17 : List (View.Piece (Elt F) S176x1024 .bf16)), Σ' (L14 : List (View.Piece (Elt F) S128x1024 .f32)), { L15 : List (View.Piece (Elt F) S128x1024 .f32) // ∀ (x13 : Vec F S1x128x1024 .f32), ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17)) -∗ K ⟨⟩))
          ⊢ wp frame (wpE (defs₀ (F := F)) Variants.none c none) E (cc0_cmlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun x13 E K => ?run⟩
  case run =>
    simp only [cc0_cmlp_eq_skeleton]; unfold cc0_cmlp_skel
    simp only [k0_part4_eq_skeleton, k0_part5_eq_skeleton, k0_part6_eq_skeleton, k0_part7_eq_skeleton, k0_part8_eq_skeleton, k0_part9_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%d15, %f15, -, H15⟩, ⟨%d16, %f16, -, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]
    · iexists _; isplitr; · ipureintro; exact harg15.read_unread _
      iexact H13
    isplitl [H14]; · iexists _; iexact H14
    isplitl [H15]; · iexists _; iexact H15
    isplitl [H16]; · iexists _; iexact H16
    iexists _; iexact H17

set_option maxHeartbeats 3200000 in
/-- The body at a point that is neither the first nor the last of its sequence: the tokens' block and the two weight blocks alone are stored. -/
def runMid (c : Dev nD) (i : grid0.Coords) (arg2 : Memref sig .tc .vmem S1x512x1024 .f32) (harg2 : arg2.IsWhole) (arg3 : Memref sig .tc .vmem S128x1024 .f32) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x8x128x128 .f32) (harg7 : arg7.IsWhole) (arg8 : Memref sig .tc .vmem S1x128x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x32x5632 .f32) (harg12 : arg12.IsWhole) (arg13 : Memref sig .tc .vmem S1x176x1024 .f32) (harg13 : arg13.IsWhole) (arg14 : Memref sig .tc .vmem S1x512x1024 .f32) (harg14 : arg14.IsWhole) (arg15 : Memref sig .tc .vmem S1x128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S32x5632 .bf16) (harg18 : arg18.IsWhole) (arg19 : Memref sig .tc .vmem S176x1024 .bf16) (harg19 : arg19.IsWhole) (hc0 : ¬last i) (hc1 : ¬first i)
    (x0 : Vec F S1x512x1024 .f32) (x1 : Vec F S128x1024 .f32) (x2 : Vec F S1x1024x2048 .f32) (x3 : Vec F S1x1x1024 .f32) (x4 : Vec F S1x1x1024 .f32) (x5 : Vec F S1x8x128x128 .f32) (x6 : Vec F S1x128x1024 .f32) (x7 : Vec F S1x1024x1024 .f32) (x8 : Vec F S1x1x1024 .f32) (x9 : Vec F S1x1x1024 .f32) (x10 : Vec F S1x32x5632 .f32) (x11 : Vec F S1x176x1024 .f32) :
    Σ' (L12 : List (View.Piece (Elt F) S1x512x1024 .f32)), Σ' (L16 : List (View.Piece (Elt F) S32x5632 .bf16)), { L17 : List (View.Piece (Elt F) S176x1024 .bf16) // ∀ (x13 : Vec F S1x128x1024 .f32), ∀ (x14 : Vec F S128x1024 .f32), ∀ (x15 : Vec F S128x1024 .f32), ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17)) -∗ K ⟨⟩))
          ⊢ wp frame (wpE (defs₀ (F := F)) Variants.none c none) E (cc0_cmlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun x13 x14 x15 E K => ?run⟩
  case run =>
    simp only [cc0_cmlp_eq_skeleton]; unfold cc0_cmlp_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%d16, %f16, -, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg16.eq_unread hf14; obtain rfl := harg17.eq_unread hf15
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    iexists _; iexact H17

set_option maxHeartbeats 3200000 in
/-- The body at the last point of a sequence: it stores the kept rows' block too. -/
def runLast (c : Dev nD) (i : grid0.Coords) (arg2 : Memref sig .tc .vmem S1x512x1024 .f32) (harg2 : arg2.IsWhole) (arg3 : Memref sig .tc .vmem S128x1024 .f32) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x8x128x128 .f32) (harg7 : arg7.IsWhole) (arg8 : Memref sig .tc .vmem S1x128x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x32x5632 .f32) (harg12 : arg12.IsWhole) (arg13 : Memref sig .tc .vmem S1x176x1024 .f32) (harg13 : arg13.IsWhole) (arg14 : Memref sig .tc .vmem S1x512x1024 .f32) (harg14 : arg14.IsWhole) (arg15 : Memref sig .tc .vmem S1x128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S32x5632 .bf16) (harg18 : arg18.IsWhole) (arg19 : Memref sig .tc .vmem S176x1024 .bf16) (harg19 : arg19.IsWhole) (hc0 : last i) (hc1 : ¬first i)
    (x0 : Vec F S1x512x1024 .f32) (x1 : Vec F S128x1024 .f32) (x2 : Vec F S1x1024x2048 .f32) (x3 : Vec F S1x1x1024 .f32) (x4 : Vec F S1x1x1024 .f32) (x5 : Vec F S1x8x128x128 .f32) (x6 : Vec F S1x128x1024 .f32) (x7 : Vec F S1x1024x1024 .f32) (x8 : Vec F S1x1x1024 .f32) (x9 : Vec F S1x1x1024 .f32) (x10 : Vec F S1x32x5632 .f32) (x11 : Vec F S1x176x1024 .f32) :
    Σ' (L12 : List (View.Piece (Elt F) S1x512x1024 .f32)), Σ' (L16 : List (View.Piece (Elt F) S32x5632 .bf16)), Σ' (L17 : List (View.Piece (Elt F) S176x1024 .bf16)), { L13 : List (View.Piece (Elt F) S1x128x1024 .f32) // ∀ (x14 : Vec F S128x1024 .f32), ∀ (x15 : Vec F S128x1024 .f32), ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare x14 ∗ owns (c : Thread nD τ) arg17 fullShare x15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17)) -∗ K ⟨⟩))
          ⊢ wp frame (wpE (defs₀ (F := F)) Variants.none c none) E (cc0_cmlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun x14 x15 E K => ?run⟩
  case run =>
    simp only [cc0_cmlp_eq_skeleton]; unfold cc0_cmlp_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%d16, %f16, -, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14; obtain rfl := harg17.eq_unread hf15
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    iexists _; iexact H17

end Cert.MlpIdeal.Own

end
-- ==== Proof.MlpRun.lean ====
/-
  The whole run of the token-mixing kernel: what each block of its six result arrays holds after every point of the
  grid, the body's triple at every point, and the launch.
-/
module

public import proofs.«01_k».proof.Proof.MlpBody
public import Idealize.ShloMosaic.Lib.Pipeline.ValueKit

@[expose] public section

set_option maxRecDepth 16384

noncomputable section

namespace Cert.MlpIdeal.Own

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers, and the points at which the branches are taken -/

/-- The staging buffer of window 0 at a point. -/
abbrev mem0 (t : Fin cfg0.N) : Memref sig .tc .vmem S1x512x1024 .f32 := win0_0.stage (cfg0.slots t 0)
/-- Window 0's staging buffer is whole. -/
abbrev mem0_whole (t : Fin cfg0.N) : (mem0 t).IsWhole := hstage0_0 ((cfg0.slots t 0).cast nbuf0_0)
/-- The staging buffer of window 1 at a point. -/
abbrev mem1 (t : Fin cfg0.N) : Memref sig .tc .vmem S128x1024 .f32 := win0_1.stage (cfg0.slots t 1)
/-- Window 1's staging buffer is whole. -/
abbrev mem1_whole (t : Fin cfg0.N) : (mem1 t).IsWhole := hstage0_1 ((cfg0.slots t 1).cast nbuf0_1)
/-- The staging buffer of window 2 at a point. -/
abbrev mem2 (t : Fin cfg0.N) : Memref sig .tc .vmem S1x1024x2048 .f32 := win0_2.stage (cfg0.slots t 2)
/-- Window 2's staging buffer is whole. -/
abbrev mem2_whole (t : Fin cfg0.N) : (mem2 t).IsWhole := hstage0_2 ((cfg0.slots t 2).cast nbuf0_2)
/-- The staging buffer of window 3 at a point. -/
abbrev mem3 (t : Fin cfg0.N) : Memref sig .tc .vmem S1x1x1024 .f32 := win0_3.stage (cfg0.slots t 3)
/-- Window 3's staging buffer is whole. -/
abbrev mem3_whole (t : Fin cfg0.N) : (mem3 t).IsWhole := hstage0_3 ((cfg0.slots t 3).cast nbuf0_3)
/-- The staging buffer of window 4 at a point. -/
abbrev mem4 (t : Fin cfg0.N) : Memref sig .tc .vmem S1x1x1024 .f32 := win0_4.stage (cfg0.slots t 4)
/-- Window 4's staging buffer is whole. -/
abbrev mem4_whole (t : Fin cfg0.N) : (mem4 t).IsWhole := hstage0_4 ((cfg0.slots t 4).cast nbuf0_4)
/-- The staging buffer of window 5 at a point. -/
abbrev mem5 (t : Fin cfg0.N) : Memref sig .tc .vmem S1x8x128x128 .f32 := win0_5.stage (cfg0.slots t 5)
/-- Window 5's staging buffer is whole. -/
abbrev mem5_whole (t : Fin cfg0.N) : (mem5 t).IsWhole := hstage0_5 ((cfg0.slots t 5).cast nbuf0_5)
/-- The staging buffer of window 6 at a point. -/
abbrev mem6 (t : Fin cfg0.N) : Memref sig .tc .vmem S1x128x1024 .f32 := win0_6.stage (cfg0.slots t 6)
/-- Window 6's staging buffer is whole. -/
abbrev mem6_whole (t : Fin cfg0.N) : (mem6 t).IsWhole := hstage0_6 ((cfg0.slots t 6).cast nbuf0_6)
/-- The staging buffer of window 7 at a point. -/
abbrev mem7 (t : Fin cfg0.N) : Memref sig .tc .vmem S1x1024x1024 .f32 := win0_7.stage (cfg0.slots t 7)
/-- Window 7's staging buffer is whole. -/
abbrev mem7_whole (t : Fin cfg0.N) : (mem7 t).IsWhole := hstage0_7 ((cfg0.slots t 7).cast nbuf0_7)
/-- The staging buffer of window 8 at a point. -/
abbrev mem8 (t : Fin cfg0.N) : Memref sig .tc .vmem S1x1x1024 .f32 := win0_8.stage (cfg0.slots t 8)
/-- Window 8's staging buffer is whole. -/
abbrev mem8_whole (t : Fin cfg0.N) : (mem8 t).IsWhole := hstage0_8 ((cfg0.slots t 8).cast nbuf0_8)
/-- The staging buffer of window 9 at a point. -/
abbrev mem9 (t : Fin cfg0.N) : Memref sig .tc .vmem S1x1x1024 .f32 := win0_9.stage (cfg0.slots t 9)
/-- Window 9's staging buffer is whole. -/
abbrev mem9_whole (t : Fin cfg0.N) : (mem9 t).IsWhole := hstage0_9 ((cfg0.slots t 9).cast nbuf0_9)
/-- The staging buffer of window 10 at a point. -/
abbrev mem10 (t : Fin cfg0.N) : Memref sig .tc .vmem S1x32x5632 .f32 := win0_10.stage (cfg0.slots t 10)
/-- Window 10's staging buffer is whole. -/
abbrev mem10_whole (t : Fin cfg0.N) : (mem10 t).IsWhole := hstage0_10 ((cfg0.slots t 10).cast nbuf0_10)
/-- The staging buffer of window 11 at a point. -/
abbrev mem11 (t : Fin cfg0.N) : Memref sig .tc .vmem S1x176x1024 .f32 := win0_11.stage (cfg0.slots t 11)
/-- Window 11's staging buffer is whole. -/
abbrev mem11_whole (t : Fin cfg0.N) : (mem11 t).IsWhole := hstage0_11 ((cfg0.slots t 11).cast nbuf0_11)
/-- The staging buffer of window 12 at a point. -/
abbrev mem12 (t : Fin cfg0.N) : Memref sig .tc .vmem S1x512x1024 .f32 := win0_12.stage (cfg0.slots t 12)
/-- Window 12's staging buffer is whole. -/
abbrev mem12_whole (t : Fin cfg0.N) : (mem12 t).IsWhole := hstage0_12 ((cfg0.slots t 12).cast nbuf0_12)
/-- The staging buffer of window 13 at a point. -/
abbrev mem13 (t : Fin cfg0.N) : Memref sig .tc .vmem S1x128x1024 .f32 := win0_13.stage (cfg0.slots t 13)
/-- Window 13's staging buffer is whole. -/
abbrev mem13_whole (t : Fin cfg0.N) : (mem13 t).IsWhole := hstage0_13 ((cfg0.slots t 13).cast nbuf0_13)
/-- The staging buffer of window 14 at a point. -/
abbrev mem14 (t : Fin cfg0.N) : Memref sig .tc .vmem S128x1024 .f32 := win0_14.stage (cfg0.slots t 14)
/-- Window 14's staging buffer is whole. -/
abbrev mem14_whole (t : Fin cfg0.N) : (mem14 t).IsWhole := hstage0_14 ((cfg0.slots t 14).cast nbuf0_14)
/-- The staging buffer of window 15 at a point. -/
abbrev mem15 (t : Fin cfg0.N) : Memref sig .tc .vmem S128x1024 .f32 := win0_15.stage (cfg0.slots t 15)
/-- Window 15's staging buffer is whole. -/
abbrev mem15_whole (t : Fin cfg0.N) : (mem15 t).IsWhole := hstage0_15 ((cfg0.slots t 15).cast nbuf0_15)
/-- The staging buffer of window 16 at a point. -/
abbrev mem16 (t : Fin cfg0.N) : Memref sig .tc .vmem S32x5632 .bf16 := win0_16.stage (cfg0.slots t 16)
/-- Window 16's staging buffer is whole. -/
abbrev mem16_whole (t : Fin cfg0.N) : (mem16 t).IsWhole := hstage0_16 ((cfg0.slots t 16).cast nbuf0_16)
/-- The staging buffer of window 17 at a point. -/
abbrev mem17 (t : Fin cfg0.N) : Memref sig .tc .vmem S176x1024 .bf16 := win0_17.stage (cfg0.slots t 17)
/-- Window 17's staging buffer is whole. -/
abbrev mem17_whole (t : Fin cfg0.N) : (mem17 t).IsWhole := hstage0_17 ((cfg0.slots t 17).cast nbuf0_17)

/-- The last points of the sequences are those that are 3 modulo 4. -/
theorem last_iff : ∀ t : Fin cfg0.N, last (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [last, k0_cond1, e0, e1]
    word_cmp
   : ∀ t : Fin grid0.N, last (grid0.coords t) ↔ t.val % 4 = 3)

/-- The other branch is taken at the first point of the grid alone. -/
theorem first_iff : ∀ t : Fin cfg0.N, first (grid0.coords t) ↔ t.val = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [first, k0_cond2, e0, e1]
    word_cmp
   : ∀ t : Fin grid0.N, first (grid0.coords t) ↔ t.val = 0)

/-- The first point of the grid. -/
abbrev t₀ : Fin cfg0.N := ⟨0, by rw [show cfg0.N = 32 from N_0]; decide⟩
/-- The first branch is not taken there, -/
theorem last_t₀ : ¬last (grid0.coords t₀) := fun e => by simpa using (last_iff t₀).mp e
/-- and the second one is. -/
theorem first_t₀ : first (grid0.coords t₀) := (first_iff t₀).mpr rfl

/-- The window of the kept rows is idle where the first branch is not taken, -/
theorem idle13 (t : Fin cfg0.N) (h : ¬t.val % 4 = 3) : cfg0.idle 13 (grid0.coords t) = true := by
  have : k0_cond1 (grid0.coords t) ≠ 1#1 := fun e => h ((last_iff t).mp e)
  show (!(k0_cond1 (grid0.coords t) == 1#1)) = true
  simp [this]
/-- and live where it is. -/
theorem live13 (t : Fin cfg0.N) (h : t.val % 4 = 3) : cfg0.idle 13 (grid0.coords t) = false := by
  have : k0_cond1 (grid0.coords t) = 1#1 := (last_iff t).mpr h
  show (!(k0_cond1 (grid0.coords t) == 1#1)) = false
  simp [this]
/-- The decode rows' window 14 is idle where the second branch is not taken, -/
theorem idle14 (t : Fin cfg0.N) (h : ¬t.val = 0) : cfg0.idle 14 (grid0.coords t) = true := by
  have : k0_cond2 (grid0.coords t) ≠ 1#1 := fun e => h ((first_iff t).mp e)
  show (!(k0_cond2 (grid0.coords t) == 1#1)) = true
  simp [this]
/-- and live where it is. -/
theorem live14 (t : Fin cfg0.N) (h : t.val = 0) : cfg0.idle 14 (grid0.coords t) = false := by
  have : k0_cond2 (grid0.coords t) = 1#1 := (first_iff t).mpr h
  show (!(k0_cond2 (grid0.coords t) == 1#1)) = false
  simp [this]
/-- It is written back after the last point alone, -/
theorem flush14 : ∀ t : Fin cfg0.N, (cfg0.win 14).flush t = decide (t.val = 31) := by decide +kernel
/-- and fetched nowhere. -/
theorem fetch14 (t : Fin cfg0.N) : (cfg0.win 14).fetch t = false := rfl
/-- The decode rows' window 15 is idle where the second branch is not taken, -/
theorem idle15 (t : Fin cfg0.N) (h : ¬t.val = 0) : cfg0.idle 15 (grid0.coords t) = true := by
  have : k0_cond2 (grid0.coords t) ≠ 1#1 := fun e => h ((first_iff t).mp e)
  show (!(k0_cond2 (grid0.coords t) == 1#1)) = true
  simp [this]
/-- and live where it is. -/
theorem live15 (t : Fin cfg0.N) (h : t.val = 0) : cfg0.idle 15 (grid0.coords t) = false := by
  have : k0_cond2 (grid0.coords t) = 1#1 := (first_iff t).mpr h
  show (!(k0_cond2 (grid0.coords t) == 1#1)) = false
  simp [this]
/-- It is written back after the last point alone, -/
theorem flush15 : ∀ t : Fin cfg0.N, (cfg0.win 15).flush t = decide (t.val = 31) := by decide +kernel
/-- and fetched nowhere. -/
theorem fetch15 (t : Fin cfg0.N) : (cfg0.win 15).fetch t = false := rfl
/-- The kept rows are written back at the last points of the sequences. -/
theorem flush13 : ∀ t : Fin cfg0.N, (cfg0.win 13).flush t = decide (t.val % 4 = 3) := by decide +kernel

/-! ## What the body leaves -/

/-- The run of the body at the first point, -/
abbrev atFirst (c : Dev nD) := runFirst c (grid0.coords t₀) (mem0 t₀) (mem0_whole t₀) (mem1 t₀) (mem1_whole t₀) (mem2 t₀) (mem2_whole t₀) (mem3 t₀) (mem3_whole t₀) (mem4 t₀) (mem4_whole t₀) (mem5 t₀) (mem5_whole t₀) (mem6 t₀) (mem6_whole t₀) (mem7 t₀) (mem7_whole t₀) (mem8 t₀) (mem8_whole t₀) (mem9 t₀) (mem9_whole t₀) (mem10 t₀) (mem10_whole t₀) (mem11 t₀) (mem11_whole t₀) (mem12 t₀) (mem12_whole t₀) (mem13 t₀) (mem13_whole t₀) (mem14 t₀) (mem14_whole t₀) (mem15 t₀) (mem15_whole t₀) (mem16 t₀) (mem16_whole t₀) (mem17 t₀) (mem17_whole t₀) last_t₀ first_t₀ (iblk m c 0 t₀) (iblk m c 1 t₀) (iblk m c 2 t₀) (iblk m c 3 t₀) (iblk m c 4 t₀) (iblk m c 5 t₀) (iblk m c 6 t₀) (iblk m c 7 t₀) (iblk m c 8 t₀) (iblk m c 9 t₀) (iblk m c 10 t₀) (iblk m c 11 t₀)
/-- at a middle point, -/
abbrev atMid (c : Dev nD) (t : Fin cfg0.N) (h0 : ¬t.val = 0) (h3 : ¬t.val % 4 = 3) := runMid c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) (mem8 t) (mem8_whole t) (mem9 t) (mem9_whole t) (mem10 t) (mem10_whole t) (mem11 t) (mem11_whole t) (mem12 t) (mem12_whole t) (mem13 t) (mem13_whole t) (mem14 t) (mem14_whole t) (mem15 t) (mem15_whole t) (mem16 t) (mem16_whole t) (mem17 t) (mem17_whole t) (fun e => h3 ((last_iff t).mp e)) (fun e => h0 ((first_iff t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- and at the last point of a sequence. -/
abbrev atLast (c : Dev nD) (t : Fin cfg0.N) (h0 : ¬t.val = 0) (h3 : t.val % 4 = 3) := runLast c (grid0.coords t) (mem0 t) (mem0_whole t) (mem1 t) (mem1_whole t) (mem2 t) (mem2_whole t) (mem3 t) (mem3_whole t) (mem4 t) (mem4_whole t) (mem5 t) (mem5_whole t) (mem6 t) (mem6_whole t) (mem7 t) (mem7_whole t) (mem8 t) (mem8_whole t) (mem9 t) (mem9_whole t) (mem10 t) (mem10_whole t) (mem11 t) (mem11_whole t) (mem12 t) (mem12_whole t) (mem13 t) (mem13_whole t) (mem14 t) (mem14_whole t) (mem15 t) (mem15_whole t) (mem16 t) (mem16_whole t) (mem17 t) (mem17_whole t) ((last_iff t).mpr h3) (fun e => h0 ((first_iff t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Window 12's block after the body at a point. -/
def out12 (c : Dev nD) (t : Fin cfg0.N) : Vec F S1x512x1024 .f32 :=
  if h0 : t.val = 0 then View.canon (atFirst m c).1
  else if h3 : t.val % 4 = 3 then View.canon (atLast m c t h0 h3).1
  else View.canon (atMid m c t h0 h3).1
/-- Window 16's block after the body at a point. -/
def out16 (c : Dev nD) (t : Fin cfg0.N) : Vec F S32x5632 .bf16 :=
  if h0 : t.val = 0 then View.canon (atFirst m c).2.1
  else if h3 : t.val % 4 = 3 then View.canon (atLast m c t h0 h3).2.1
  else View.canon (atMid m c t h0 h3).2.1
/-- Window 17's block after the body at a point. -/
def out17 (c : Dev nD) (t : Fin cfg0.N) : Vec F S176x1024 .bf16 :=
  if h0 : t.val = 0 then View.canon (atFirst m c).2.2.1
  else if h3 : t.val % 4 = 3 then View.canon (atLast m c t h0 h3).2.2.1
  else View.canon (atMid m c t h0 h3).2.2.1
/-- The kept rows' block after the body at the last point of a sequence; at the other points it is not written back, and nothing
    is said of it. -/
def out13 (c : Dev nD) (t : Fin cfg0.N) : Vec F S1x128x1024 .f32 :=
  if h : ¬t.val = 0 ∧ t.val % 4 = 3 then View.canon (atLast m c t h.1 h.2).2.2.2.1
  else fun _ => Scalar.ofBits .f32 0x00000000#32
/-- The decode rows' block of window 14, stored at the first point. -/
def out14 (c : Dev nD) : Vec F S128x1024 .f32 := View.canon (atFirst m c).2.2.2.1
/-- The decode rows' block of window 15, stored at the first point. -/
def out15 (c : Dev nD) : Vec F S128x1024 .f32 := View.canon (atFirst m c).2.2.2.2.1

/-- The proof data of the pipeline: the arrays as the region finds them; after the body at a point each input's
    buffer at its block, each result's at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 m c t
    | ⟨13, _⟩ => out13 m c t
    | ⟨14, _⟩ => out14 m c
    | ⟨15, _⟩ => out15 m c
    | ⟨16, _⟩ => out16 m c t
    | ⟨17, _⟩ => out17 m c t
    | ⟨_ + 18, h⟩ => absurd h (Nat.not_lt.2 (Nat.le_add_left _ _))
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- After the body, input 0's buffer holds its block; -/
theorem after_0 (c : Dev nD) (t : Fin cfg0.N) : (dats m 0 c).after 0 t = iblk m c 0 t := by dsimp only [dats]
/-- and so it does before it. -/
theorem before_0 (c : Dev nD) (t : Fin cfg0.N) (d) : (dats m 0 c).before 0 t d = iblk m c 0 t :=
  before0_0_of m (dats m 0 c) (A_eq m c 0) (after_0 m c) t d
/-- Input 0 is live throughout. -/
theorem leaves_0 (c : Dev nD) (t : Fin cfg0.N) : (dats m 0 c).leavesExact 0 t = owns (c : Thread nD τ) (mem0 t) fullShare (iblk m c 0 t) := by
  unfold Dat.leavesExact; rw [show cfg0.idle 0 (cfg0.grid.coords t) = false from rfl, after_0]
/-- After the body, input 1's buffer holds its block; -/
theorem after_1 (c : Dev nD) (t : Fin cfg0.N) : (dats m 0 c).after 1 t = iblk m c 1 t := by dsimp only [dats]
/-- and so it does before it. -/
theorem before_1 (c : Dev nD) (t : Fin cfg0.N) (d) : (dats m 0 c).before 1 t d = iblk m c 1 t :=
  before0_1_of m (dats m 0 c) (A_eq m c 1) (after_1 m c) t d
/-- Input 1 is live throughout. -/
theorem leaves_1 (c : Dev nD) (t : Fin cfg0.N) : (dats m 0 c).leavesExact 1 t = owns (c : Thread nD τ) (mem1 t) fullShare (iblk m c 1 t) := by
  unfold Dat.leavesExact; rw [show cfg0.idle 1 (cfg0.grid.coords t) = false from rfl, after_1]
/-- After the body, input 2's buffer holds its block; -/
theorem after_2 (c : Dev nD) (t : Fin cfg0.N) : (dats m 0 c).after 2 t = iblk m c 2 t := by dsimp only [dats]
/-- and so it does before it. -/
theorem before_2 (c : Dev nD) (t : Fin cfg0.N) (d) : (dats m 0 c).before 2 t d = iblk m c 2 t :=
  before0_2_of m (dats m 0 c) (A_eq m c 2) (after_2 m c) t d
/-- Input 2 is live throughout. -/
theorem leaves_2 (c : Dev nD) (t : Fin cfg0.N) : (dats m 0 c).leavesExact 2 t = owns (c : Thread nD τ) (mem2 t) fullShare (iblk m c 2 t) := by
  unfold Dat.leavesExact; rw [show cfg0.idle 2 (cfg0.grid.coords t) = false from rfl, after_2]
/-- After the body, input 3's buffer holds its block; -/
theorem after_3 (c : Dev nD) (t : Fin cfg0.N) : (dats m 0 c).after 3 t = iblk m c 3 t := by dsimp only [dats]
/-- and so it does before it. -/
theorem before_3 (c : Dev nD) (t : Fin cfg0.N) (d) : (dats m 0 c).before 3 t d = iblk m c 3 t :=
  before0_3_of m (dats m 0 c) (A_eq m c 3) (after_3 m c) t d
/-- Input 3 is live throughout. -/
theorem leaves_3 (c : Dev nD) (t : Fin cfg0.N) : (dats m 0 c).leavesExact 3 t = owns (c : Thread nD τ) (mem3 t) fullShare (iblk m c 3 t) := by
  unfold Dat.leavesExact; rw [show cfg0.idle 3 (cfg0.grid.coords t) = false from rfl, after_3]
/-- After the body, input 4's buffer holds its block; -/
theorem after_4 (c : Dev nD) (t : Fin cfg0.N) : (dats m 0 c).after 4 t = iblk m c 4 t := by dsimp only [dats]
/-- and so it does before it. -/
theorem before_4 (c : Dev nD) (t : Fin cfg0.N) (d) : (dats m 0 c).before 4 t d = iblk m c 4 t :=
  before0_4_of m (dats m 0 c) (A_eq m c 4) (after_4 m c) t d
/-- Input 4 is live throughout. -/
theorem leaves_4 (c : Dev nD) (t : Fin cfg0.N) : (dats m 0 c).leavesExact 4 t = owns (c : Thread nD τ) (mem4 t) fullShare (iblk m c 4 t) := by
  unfold Dat.leavesExact; rw [show cfg0.idle 4 (cfg0.grid.coords t) = false from rfl, after_4]
/-- After the body, input 5's buffer holds its block; -/
theorem after_5 (c : Dev nD) (t : Fin cfg0.N) : (dats m 0 c).after 5 t = iblk m c 5 t := by dsimp only [dats]
/-- and so it does before it. -/
theorem before_5 (c : Dev nD) (t : Fin cfg0.N) (d) : (dats m 0 c).before 5 t d = iblk m c 5 t :=
  before0_5_of m (dats m 0 c) (A_eq m c 5) (after_5 m c) t d
/-- Input 5 is live throughout. -/
theorem leaves_5 (c : Dev nD) (t : Fin cfg0.N) : (dats m 0 c).leavesExact 5 t = owns (c : Thread nD τ) (mem5 t) fullShare (iblk m c 5 t) := by
  unfold Dat.leavesExact; rw [show cfg0.idle 5 (cfg0.grid.coords t) = false from rfl, after_5]
/-- After the body, input 6's buffer holds its block; -/
theorem after_6 (c : Dev nD) (t : Fin cfg0.N) : (dats m 0 c).after 6 t = iblk m c 6 t := by dsimp only [dats]
/-- and so it does before it. -/
theorem before_6 (c : Dev nD) (t : Fin cfg0.N) (d) : (dats m 0 c).before 6 t d = iblk m c 6 t :=
  before0_6_of m (dats m 0 c) (A_eq m c 6) (after_6 m c) t d
/-- Input 6 is live throughout. -/
theorem leaves_6 (c : Dev nD) (t : Fin cfg0.N) : (dats m 0 c).leavesExact 6 t = owns (c : Thread nD τ) (mem6 t) fullShare (iblk m c 6 t) := by
  unfold Dat.leavesExact; rw [show cfg0.idle 6 (cfg0.grid.coords t) = false from rfl, after_6]
/-- After the body, input 7's buffer holds its block; -/
theorem after_7 (c : Dev nD) (t : Fin cfg0.N) : (dats m 0 c).after 7 t = iblk m c 7 t := by dsimp only [dats]
/-- and so it does before it. -/
theorem before_7 (c : Dev nD) (t : Fin cfg0.N) (d) : (dats m 0 c).before 7 t d = iblk m c 7 t :=
  before0_7_of m (dats m 0 c) (A_eq m c 7) (after_7 m c) t d
/-- Input 7 is live throughout. -/
theorem leaves_7 (c : Dev nD) (t : Fin cfg0.N) : (dats m 0 c).leavesExact 7 t = owns (c : Thread nD τ) (mem7 t) fullShare (iblk m c 7 t) := by
  unfold Dat.leavesExact; rw [show cfg0.idle 7 (cfg0.grid.coords t) = false from rfl, after_7]
/-- After the body, input 8's buffer holds its block; -/
theorem after_8 (c : Dev nD) (t : Fin cfg0.N) : (dats m 0 c).after 8 t = iblk m c 8 t := by dsimp only [dats]
/-- and so it does before it. -/
theorem before_8 (c : Dev nD) (t : Fin cfg0.N) (d) : (dats m 0 c).before 8 t d = iblk m c 8 t :=
  before0_8_of m (dats m 0 c) (A_eq m c 8) (after_8 m c) t d
/-- Input 8 is live throughout. -/
theorem leaves_8 (c : Dev nD) (t : Fin cfg0.N) : (dats m 0 c).leavesExact 8 t = owns (c : Thread nD τ) (mem8 t) fullShare (iblk m c 8 t) := by
  unfold Dat.leavesExact; rw [show cfg0.idle 8 (cfg0.grid.coords t) = false from rfl, after_8]
/-- After the body, input 9's buffer holds its block; -/
theorem after_9 (c : Dev nD) (t : Fin cfg0.N) : (dats m 0 c).after 9 t = iblk m c 9 t := by dsimp only [dats]
/-- and so it does before it. -/
theorem before_9 (c : Dev nD) (t : Fin cfg0.N) (d) : (dats m 0 c).before 9 t d = iblk m c 9 t :=
  before0_9_of m (dats m 0 c) (A_eq m c 9) (after_9 m c) t d
/-- Input 9 is live throughout. -/
theorem leaves_9 (c : Dev nD) (t : Fin cfg0.N) : (dats m 0 c).leavesExact 9 t = owns (c : Thread nD τ) (mem9 t) fullShare (iblk m c 9 t) := by
  unfold Dat.leavesExact; rw [show cfg0.idle 9 (cfg0.grid.coords t) = false from rfl, after_9]
/-- After the body, input 10's buffer holds its block; -/
theorem after_10 (c : Dev nD) (t : Fin cfg0.N) : (dats m 0 c).after 10 t = iblk m c 10 t := by dsimp only [dats]
/-- and so it does before it. -/
theorem before_10 (c : Dev nD) (t : Fin cfg0.N) (d) : (dats m 0 c).before 10 t d = iblk m c 10 t :=
  before0_10_of m (dats m 0 c) (A_eq m c 10) (after_10 m c) t d
/-- Input 10 is live throughout. -/
theorem leaves_10 (c : Dev nD) (t : Fin cfg0.N) : (dats m 0 c).leavesExact 10 t = owns (c : Thread nD τ) (mem10 t) fullShare (iblk m c 10 t) := by
  unfold Dat.leavesExact; rw [show cfg0.idle 10 (cfg0.grid.coords t) = false from rfl, after_10]
/-- After the body, input 11's buffer holds its block; -/
theorem after_11 (c : Dev nD) (t : Fin cfg0.N) : (dats m 0 c).after 11 t = iblk m c 11 t := by dsimp only [dats]
/-- and so it does before it. -/
theorem before_11 (c : Dev nD) (t : Fin cfg0.N) (d) : (dats m 0 c).before 11 t d = iblk m c 11 t :=
  before0_11_of m (dats m 0 c) (A_eq m c 11) (after_11 m c) t d
/-- Input 11 is live throughout. -/
theorem leaves_11 (c : Dev nD) (t : Fin cfg0.N) : (dats m 0 c).leavesExact 11 t = owns (c : Thread nD τ) (mem11 t) fullShare (iblk m c 11 t) := by
  unfold Dat.leavesExact; rw [show cfg0.idle 11 (cfg0.grid.coords t) = false from rfl, after_11]
/-- Window 12 after the body. -/
theorem after_12 (c : Dev nD) (t : Fin cfg0.N) : (dats m 0 c).after 12 t = out12 m c t := by dsimp only [dats]
/-- Window 13 after the body. -/
theorem after_13 (c : Dev nD) (t : Fin cfg0.N) : (dats m 0 c).after 13 t = out13 m c t := by dsimp only [dats]
/-- Window 14 after the body. -/
theorem after_14 (c : Dev nD) (t : Fin cfg0.N) : (dats m 0 c).after 14 t = out14 m c := by dsimp only [dats]
/-- Window 15 after the body. -/
theorem after_15 (c : Dev nD) (t : Fin cfg0.N) : (dats m 0 c).after 15 t = out15 m c := by dsimp only [dats]
/-- Window 16 after the body. -/
theorem after_16 (c : Dev nD) (t : Fin cfg0.N) : (dats m 0 c).after 16 t = out16 m c t := by dsimp only [dats]
/-- Window 17 after the body. -/
theorem after_17 (c : Dev nD) (t : Fin cfg0.N) : (dats m 0 c).after 17 t = out17 m c t := by dsimp only [dats]
/-- Window 12 is live throughout. -/
theorem leaves_12 (c : Dev nD) (t : Fin cfg0.N) : (dats m 0 c).leavesExact 12 t = owns (c : Thread nD τ) (mem12 t) fullShare (out12 m c t) := by
  unfold Dat.leavesExact; rw [show cfg0.idle 12 (cfg0.grid.coords t) = false from rfl, after_12]
/-- Window 16 is live throughout. -/
theorem leaves_16 (c : Dev nD) (t : Fin cfg0.N) : (dats m 0 c).leavesExact 16 t = owns (c : Thread nD τ) (mem16 t) fullShare (out16 m c t) := by
  unfold Dat.leavesExact; rw [show cfg0.idle 16 (cfg0.grid.coords t) = false from rfl, after_16]
/-- Window 17 is live throughout. -/
theorem leaves_17 (c : Dev nD) (t : Fin cfg0.N) : (dats m 0 c).leavesExact 17 t = owns (c : Thread nD τ) (mem17 t) fullShare (out17 m c t) := by
  unfold Dat.leavesExact; rw [show cfg0.idle 17 (cfg0.grid.coords t) = false from rfl, after_17]
/-- The kept rows' window at the last points of the sequences. -/
theorem leaves_13 (c : Dev nD) (t : Fin cfg0.N) (h : t.val % 4 = 3) : (dats m 0 c).leavesExact 13 t = owns (c : Thread nD τ) (mem13 t) fullShare (out13 m c t) := by
  unfold Dat.leavesExact; rw [show cfg0.idle 13 (cfg0.grid.coords t) = false from live13 t h, after_13]
/-- The decode rows' window 14 at the first point. -/
theorem leaves_14 (c : Dev nD) (t : Fin cfg0.N) (h : t.val = 0) : (dats m 0 c).leavesExact 14 t = owns (c : Thread nD τ) (mem14 t) fullShare (out14 m c) := by
  unfold Dat.leavesExact; rw [show cfg0.idle 14 (cfg0.grid.coords t) = false from live14 t h, after_14]
/-- From the second point on, its buffer holds what the first point stored. -/
theorem before_14 (c : Dev nD) (d) : ∀ (n : ℕ) (h : n < cfg0.N), n ≠ 0 → (dats m 0 c).before 14 ⟨n, h⟩ d = out14 m c
  | 0, _, h0 => absurd rfl h0
  | n + 1, h, _ => by
    have hN : cfg0.N = 32 := N_0
    rw [(dats m 0 c).before_of_pos 14 ⟨n + 1, h⟩ (by simp) (fetch14 _) d]
    have hf : (cfg0.win 14).flush (⟨n, by omega⟩ : Fin cfg0.N) = false := by
      rw [flush14]; simp; omega
    show (if (cfg0.win 14).flush (⟨n, by omega⟩ : Fin cfg0.N) = true then d else (dats m 0 c).left 14 ⟨n, by omega⟩ d) = _
    rw [hf, if_neg Bool.false_ne_true]
    unfold Dat.left
    by_cases hn : n = 0
    · rw [show cfg0.idle 14 (cfg0.grid.coords (⟨n, by omega⟩ : Fin cfg0.N)) = false from live14 _ hn]
      show (dats m 0 c).kept 14 _ d = _
      unfold Dat.kept
      rw [Pipeline.fill_of_clip_none 14 _ (fun _ => rfl) d ((dats m 0 c).after 14 _), Pipeline.Window.fill_cut, after_14]
    · rw [show cfg0.idle 14 (cfg0.grid.coords (⟨n, by omega⟩ : Fin cfg0.N)) = true from idle14 _ hn]
      exact before_14 c d n (by omega) hn
/-- What is owned after the body at the other points: the last point writes out what the first one left. -/
theorem passes_14 (c : Dev nD) (t : Fin cfg0.N) (h0 : ¬t.val = 0) (d) :
    owns (c : Thread nD τ) (mem14 t) fullShare ((dats m 0 c).before 14 t d) ⊢ ((dats m 0 c).leavesExact 14 t : sProp 𝕄) := by
  by_cases h31 : t.val = 31
  · rw [show (dats m 0 c).leavesExact 14 t = owns (c : Thread nD τ) (mem14 t) fullShare ((dats m 0 c).before 14 t d) from by
      unfold Dat.leavesExact
      rw [show cfg0.idle 14 (cfg0.grid.coords t) = true from idle14 t h0,
        show (cfg0.win 14).flush t = true from by rw [flush14]; simp [h31], after_14, ← before_14 m c d t.val t.isLt h0]]
  · rw [(dats m 0 c).leavesExact_idle 14 t (idle14 t h0) (by rw [flush14]; simp [h31])]
    iintro H
    iexists _; iexact H
/-- The decode rows' window 15 at the first point. -/
theorem leaves_15 (c : Dev nD) (t : Fin cfg0.N) (h : t.val = 0) : (dats m 0 c).leavesExact 15 t = owns (c : Thread nD τ) (mem15 t) fullShare (out15 m c) := by
  unfold Dat.leavesExact; rw [show cfg0.idle 15 (cfg0.grid.coords t) = false from live15 t h, after_15]
/-- From the second point on, its buffer holds what the first point stored. -/
theorem before_15 (c : Dev nD) (d) : ∀ (n : ℕ) (h : n < cfg0.N), n ≠ 0 → (dats m 0 c).before 15 ⟨n, h⟩ d = out15 m c
  | 0, _, h0 => absurd rfl h0
  | n + 1, h, _ => by
    have hN : cfg0.N = 32 := N_0
    rw [(dats m 0 c).before_of_pos 15 ⟨n + 1, h⟩ (by simp) (fetch15 _) d]
    have hf : (cfg0.win 15).flush (⟨n, by omega⟩ : Fin cfg0.N) = false := by
      rw [flush15]; simp; omega
    show (if (cfg0.win 15).flush (⟨n, by omega⟩ : Fin cfg0.N) = true then d else (dats m 0 c).left 15 ⟨n, by omega⟩ d) = _
    rw [hf, if_neg Bool.false_ne_true]
    unfold Dat.left
    by_cases hn : n = 0
    · rw [show cfg0.idle 15 (cfg0.grid.coords (⟨n, by omega⟩ : Fin cfg0.N)) = false from live15 _ hn]
      show (dats m 0 c).kept 15 _ d = _
      unfold Dat.kept
      rw [Pipeline.fill_of_clip_none 15 _ (fun _ => rfl) d ((dats m 0 c).after 15 _), Pipeline.Window.fill_cut, after_15]
    · rw [show cfg0.idle 15 (cfg0.grid.coords (⟨n, by omega⟩ : Fin cfg0.N)) = true from idle15 _ hn]
      exact before_15 c d n (by omega) hn
/-- What is owned after the body at the other points: the last point writes out what the first one left. -/
theorem passes_15 (c : Dev nD) (t : Fin cfg0.N) (h0 : ¬t.val = 0) (d) :
    owns (c : Thread nD τ) (mem15 t) fullShare ((dats m 0 c).before 15 t d) ⊢ ((dats m 0 c).leavesExact 15 t : sProp 𝕄) := by
  by_cases h31 : t.val = 31
  · rw [show (dats m 0 c).leavesExact 15 t = owns (c : Thread nD τ) (mem15 t) fullShare ((dats m 0 c).before 15 t d) from by
      unfold Dat.leavesExact
      rw [show cfg0.idle 15 (cfg0.grid.coords t) = true from idle15 t h0,
        show (cfg0.win 15).flush t = true from by rw [flush15]; simp [h31], after_15, ← before_15 m c d t.val t.isLt h0]]
  · rw [(dats m 0 c).leavesExact_idle 15 t (idle15 t h0) (by rw [flush15]; simp [h31])]
    iintro H
    iexists _; iexact H
/-- The kept rows' window passes through where it is idle. -/
theorem passes_13 (c : Dev nD) (t : Fin cfg0.N) (h : ¬t.val % 4 = 3) (d) :
    owns (c : Thread nD τ) (mem13 t) fullShare ((dats m 0 c).before 13 t d) ⊢ ((dats m 0 c).leavesExact 13 t : sProp 𝕄) := by
  rw [(dats m 0 c).leavesExact_idle 13 t (idle13 t h) (by rw [flush13]; simp [h])]
  iintro H
  iexists _; iexact H

/-! ## Every store fills its block -/

/-- Window 12. -/
theorem coverFirst_12 (c : Dev nD) (y : S1x512x1024.Idx) : ∃ pc ∈ (atFirst m c).1, y ∈ pc.1.set :=
  View.cover_of_tiledL (atFirst m c).1 S1x512x1024.size (by sl_kernel_rfl) y
/-- Window 14. -/
theorem coverFirst_14 (c : Dev nD) (y : S128x1024.Idx) : ∃ pc ∈ (atFirst m c).2.2.2.1, y ∈ pc.1.set :=
  View.cover_of_tiledL (atFirst m c).2.2.2.1 S128x1024.size (by sl_kernel_rfl) y
/-- Window 15. -/
theorem coverFirst_15 (c : Dev nD) (y : S128x1024.Idx) : ∃ pc ∈ (atFirst m c).2.2.2.2.1, y ∈ pc.1.set :=
  View.cover_of_tiledL (atFirst m c).2.2.2.2.1 S128x1024.size (by sl_kernel_rfl) y
/-- Window 16. -/
theorem coverFirst_16 (c : Dev nD) (y : S32x5632.Idx) : ∃ pc ∈ (atFirst m c).2.1, y ∈ pc.1.set :=
  View.cover_of_tiledL (atFirst m c).2.1 S32x5632.size (by sl_kernel_rfl) y
/-- Window 17. -/
theorem coverFirst_17 (c : Dev nD) (y : S176x1024.Idx) : ∃ pc ∈ (atFirst m c).2.2.1, y ∈ pc.1.set :=
  View.cover_of_tiledL (atFirst m c).2.2.1 S176x1024.size (by sl_kernel_rfl) y
/-- Window 12. -/
theorem coverMid_12 (c : Dev nD) (t : Fin cfg0.N) (h0 : ¬t.val = 0) (h3 : ¬t.val % 4 = 3) (y : S1x512x1024.Idx) : ∃ pc ∈ (atMid m c t h0 h3).1, y ∈ pc.1.set :=
  View.cover_of_tiledL (atMid m c t h0 h3).1 S1x512x1024.size (by sl_kernel_rfl) y
/-- Window 16. -/
theorem coverMid_16 (c : Dev nD) (t : Fin cfg0.N) (h0 : ¬t.val = 0) (h3 : ¬t.val % 4 = 3) (y : S32x5632.Idx) : ∃ pc ∈ (atMid m c t h0 h3).2.1, y ∈ pc.1.set :=
  View.cover_of_tiledL (atMid m c t h0 h3).2.1 S32x5632.size (by sl_kernel_rfl) y
/-- Window 17. -/
theorem coverMid_17 (c : Dev nD) (t : Fin cfg0.N) (h0 : ¬t.val = 0) (h3 : ¬t.val % 4 = 3) (y : S176x1024.Idx) : ∃ pc ∈ (atMid m c t h0 h3).2.2.1, y ∈ pc.1.set :=
  View.cover_of_tiledL (atMid m c t h0 h3).2.2.1 S176x1024.size (by sl_kernel_rfl) y
/-- Window 12. -/
theorem coverLast_12 (c : Dev nD) (t : Fin cfg0.N) (h0 : ¬t.val = 0) (h3 : t.val % 4 = 3) (y : S1x512x1024.Idx) : ∃ pc ∈ (atLast m c t h0 h3).1, y ∈ pc.1.set :=
  View.cover_of_tiledL (atLast m c t h0 h3).1 S1x512x1024.size (by sl_kernel_rfl) y
/-- Window 13. -/
theorem coverLast_13 (c : Dev nD) (t : Fin cfg0.N) (h0 : ¬t.val = 0) (h3 : t.val % 4 = 3) (y : S1x128x1024.Idx) : ∃ pc ∈ (atLast m c t h0 h3).2.2.2.1, y ∈ pc.1.set :=
  View.cover_of_tiledL (atLast m c t h0 h3).2.2.2.1 S1x128x1024.size (by sl_kernel_rfl) y
/-- Window 16. -/
theorem coverLast_16 (c : Dev nD) (t : Fin cfg0.N) (h0 : ¬t.val = 0) (h3 : t.val % 4 = 3) (y : S32x5632.Idx) : ∃ pc ∈ (atLast m c t h0 h3).2.1, y ∈ pc.1.set :=
  View.cover_of_tiledL (atLast m c t h0 h3).2.1 S32x5632.size (by sl_kernel_rfl) y
/-- Window 17. -/
theorem coverLast_17 (c : Dev nD) (t : Fin cfg0.N) (h0 : ¬t.val = 0) (h3 : t.val % 4 = 3) (y : S176x1024.Idx) : ∃ pc ∈ (atLast m c t h0 h3).2.2.1, y ∈ pc.1.set :=
  View.cover_of_tiledL (atLast m c t h0 h3).2.2.1 S176x1024.size (by sl_kernel_rfl) y

/-! ## The body at every point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d))
    ∗ (∃ d, owns (c : Thread nD τ) (mem12 t) fullShare ((dats m 0 c).before 12 t d))
    ∗ (∃ d, owns (c : Thread nD τ) (mem13 t) fullShare ((dats m 0 c).before 13 t d))
    ∗ (∃ d, owns (c : Thread nD τ) (mem14 t) fullShare ((dats m 0 c).before 14 t d))
    ∗ (∃ d, owns (c : Thread nD τ) (mem15 t) fullShare ((dats m 0 c).before 15 t d))
    ∗ (∃ d, owns (c : Thread nD τ) (mem16 t) fullShare ((dats m 0 c).before 16 t d))
    ∗ (∃ d, owns (c : Thread nD τ) (mem17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 3200000 in
/-- The body at the first point. -/
theorem soundFirst (c : Dev nD) :
    bodyPre m c t₀ ⊢ wp frame (wpE (defs₀ (F := F)) Variants.none c none) Set.univ (bodyAt0 t₀) (fun _ => bodyPost m c t₀) := by
  unfold bodyPre bodyPost bodyAt0
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11, leaves_12, leaves_16, leaves_17]
  rw [show (dats m 0 c).Φ t₀.succ = (dats m 0 c).Φ t₀.castSucc from rfl,
    show (dats m 0 c).owesAt () t₀.succ = (dats m 0 c).owesAt () t₀.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((atFirst m c).2.2.2.2.2 ((dats m 0 c).before 13 t₀ d13) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, ⟨%g12, H12⟩, H13, ⟨%g14, H14⟩, ⟨%g15, H15⟩, ⟨%g16, H16⟩, ⟨%g17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns
    iexists _; isplitr; swap; · iexact H12
    ipureintro
    rw [View.read_writes_eq_canon _ _ _ (coverFirst_12 m c)]
    unfold out12; rw [dif_pos rfl]
  isplitl [H13]
  · iapply (passes_13 m c t₀ (by decide) d13); iexact H13
  isplitl [H14]
  · rw [leaves_14 m c t₀ rfl]; unfold owns
    iexists _; isplitr; swap; · iexact H14
    ipureintro
    rw [View.read_writes_eq_canon _ _ _ (coverFirst_14 m c)]
    rfl
  isplitl [H15]
  · rw [leaves_15 m c t₀ rfl]; unfold owns
    iexists _; isplitr; swap; · iexact H15
    ipureintro
    rw [View.read_writes_eq_canon _ _ _ (coverFirst_15 m c)]
    rfl
  isplitl [H16]
  · unfold owns
    iexists _; isplitr; swap; · iexact H16
    ipureintro
    rw [View.read_writes_eq_canon _ _ _ (coverFirst_16 m c)]
    unfold out16; rw [dif_pos rfl]
  unfold owns
  iexists _; isplitr; swap; · iexact H17
  ipureintro
  rw [View.read_writes_eq_canon _ _ _ (coverFirst_17 m c)]
  unfold out17; rw [dif_pos rfl]

set_option maxHeartbeats 3200000 in
/-- The body at a middle point. -/
theorem soundMid (c : Dev nD) (t : Fin cfg0.N) (h0 : ¬t.val = 0) (h3 : ¬t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11, leaves_12, leaves_16, leaves_17]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((atMid m c t h0 h3).2.2.2 ((dats m 0 c).before 13 t d13) ((dats m 0 c).before 14 t d14) ((dats m 0 c).before 15 t d15) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [H15]; · iexact H15
  isplitl [H16]; · iexists _; iexact H16
  isplitl [H17]; · iexists _; iexact H17
  iintro ⟨H0, H1, H2, H3, H4, H5, H6, H7, H8, H9, H10, H11, ⟨%g12, H12⟩, H13, H14, H15, ⟨%g16, H16⟩, ⟨%g17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns
    iexists _; isplitr; swap; · iexact H12
    ipureintro
    rw [View.read_writes_eq_canon _ _ _ (coverMid_12 m c t h0 h3)]
    unfold out12; rw [dif_neg h0, dif_neg h3]
  isplitl [H13]
  · iapply (passes_13 m c t h3 d13); iexact H13
  isplitl [H14]
  · iapply (passes_14 m c t h0 d14); iexact H14
  isplitl [H15]
  · iapply (passes_15 m c t h0 d15); iexact H15
  isplitl [H16]
  · unfold owns
    iexists _; isplitr; swap; · iexact H16
    ipureintro
    rw [View.read_writes_eq_canon _ _ _ (coverMid_16 m c t h0 h3)]
    unfold out16; rw [dif_neg h0, dif_neg h3]
  unfold owns
  iexists _; isplitr; swap; · iexact H17
  ipureintro
  rw [View.read_writes_eq_canon _ _ _ (coverMid_17 m c t h0 h3)]
  unfold out17; rw [dif_neg h0, dif_neg h3]

set_option maxHeartbeats 3200000 in
/-- The body at the last point of a sequence. -/
theorem soundLast (c : Dev nD) (t : Fin cfg0.N) (h0 : ¬t.val = 0) (h3 : t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11, leaves_12, leaves_16, leaves_17]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((atLast m c t h0 h3).2.2.2.2 ((dats m 0 c).before 14 t d14) ((dats m 0 c).before 15 t d15) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexact H15
  isplitl [H16]; · iexists _; iexact H16
  isplitl [H17]; · iexists _; iexact H17
  iintro ⟨H0, H1, H2, H3, H4, H5, H6, H7, H8, H9, H10, H11, ⟨%g12, H12⟩, ⟨%g13, H13⟩, H14, H15, ⟨%g16, H16⟩, ⟨%g17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns
    iexists _; isplitr; swap; · iexact H12
    ipureintro
    rw [View.read_writes_eq_canon _ _ _ (coverLast_12 m c t h0 h3)]
    unfold out12; rw [dif_neg h0, dif_pos h3]
  isplitl [H13]
  · rw [leaves_13 m c t h3]; unfold owns
    iexists _; isplitr; swap; · iexact H13
    ipureintro
    rw [View.read_writes_eq_canon _ _ _ (coverLast_13 m c t h0 h3)]
    unfold out13; rw [dif_pos ⟨h0, h3⟩]
  isplitl [H14]
  · iapply (passes_14 m c t h0 d14); iexact H14
  isplitl [H15]
  · iapply (passes_15 m c t h0 d15); iexact H15
  isplitl [H16]
  · unfold owns
    iexists _; isplitr; swap; · iexact H16
    ipureintro
    rw [View.read_writes_eq_canon _ _ _ (coverLast_16 m c t h0 h3)]
    unfold out16; rw [dif_neg h0, dif_pos h3]
  unfold owns
  iexists _; isplitr; swap; · iexact H17
  ipureintro
  rw [View.read_writes_eq_canon _ _ _ (coverLast_17 m c t h0 h3)]
  unfold out17; rw [dif_neg h0, dif_pos h3]

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = t₀ := Fin.ext h0
    exact soundFirst m c
  · by_cases h3 : t.val % 4 = 3
    · exact soundLast m c t h0 h3
    · exact soundMid m c t h0 h3

/-- The body table's row at a point's slots is the body called with that point's staging buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what its proof data says, and every counter at zero. -/
theorem run_main_quiescent : θ_run defs (onTc (τ := τ) (main (F := F))) (s₀ m ρ) (fun r => (Pipeline.FramePost cfgs (dats m) (0 : Fin 1) (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.MlpIdeal.Own

end
-- ==== Proof.MlpRows.lean ====
/-
  The token mixer's row-wise functions: the gated hidden rows, their gate normed, the mixing of a chunk's rows and the
  output row, as functions of rows of extended reals; and the same as operations on whole blocks, read at an entry.
-/
module

public import proofs.«01_k».proof.Proof.Rows

@[expose] public section

set_option maxRecDepth 16384

noncomputable section

namespace Cert.Rows

open Idealize.ShloMosaic

/-- The exact gated unit, by the error function. -/
def gelu (h : EReal) : EReal :=
  Scalar.ofBits (F := Ideal) .f32 0x3F000000#32 * h * (1 + Ideal.erf (h * Scalar.ofBits (F := Ideal) .f32 0x3F3504F3#32))

/-- A hidden entry of a row: the row's product with a column of weights, through the unit. -/
def hiddenAt (x : Fin 1024 → EReal) (w : Fin 1024 → Fin 2048 → EReal) (k : Fin 2048) : EReal := gelu (∑ d, x d * w d k)

/-- The gate's row: the second half of the hidden entries, normed. -/
def gateRow (x : Fin 1024 → EReal) (w : Fin 1024 → Fin 2048 → EReal) (g b : Fin 1024 → EReal) (j : Fin 1024) : EReal :=
  lnRow (fun k => hiddenAt x w ⟨1024 + k.val, by omega⟩) g b j

/-- A row of a chunk mixed: the causal weights' sum over the chunk's gate rows, and the row's bias. -/
def mixAt (v : Fin 128 → Fin 1024 → EReal) (ws : Fin 8 → Fin 128 → Fin 128 → EReal) (bias : Fin 128 → Fin 1024 → EReal) (t : Fin 128) (j : Fin 1024) : EReal :=
  (∑ s : Fin 128, (if s ≤ t then ws ⟨j.val / 128, by omega⟩ t s else 0) * v s j) + bias t j

/-- A decode row, the first of its chunk, mixed. -/
def mixFirst (v : Fin 1024 → EReal) (ws : Fin 8 → EReal) (bias : Fin 1024 → EReal) (j : Fin 1024) : EReal :=
  v j * ws ⟨j.val / 128, by omega⟩ + bias j

/-- The output row: the row scaled, with the product of its gated hidden entries and the last weights, normed. -/
def outRow (x : Fin 1024 → EReal) (w : Fin 1024 → Fin 2048 → EReal) (mixed : Fin 1024 → EReal) (wo : Fin 1024 → Fin 1024 → EReal)
    (g b : Fin 1024 → EReal) (j : Fin 1024) : EReal :=
  lnRow (fun k => Scalar.ofBits (F := Ideal) .f32 0x3FD744FD#32 * x k + ∑ d : Fin 1024, hiddenAt x w ⟨d.val, by omega⟩ * mixed d * wo d k) g b j

/-- The unit of every entry of a product of a block of rows with a square of weights. -/
def geluV {n : ℕ} (xb : FVec Ideal (Mat n 1024) .bf16) (w : FVec Ideal ⟨3, ![1, 1024, 1024]⟩ .f32)
    (h : (⟨3, ![1, 1024, 1024]⟩ : Shape).ShapeCasts (Mat 1024 1024)) : FVec Ideal (Mat n 1024) .f32 :=
  have p : FVec Ideal (Mat n 1024) .f32 := matmul (DotDims.plain n 1024 1024) none xb (shapeCast (Mat 1024 1024) w h) (constant (Mat n 1024) .f32 0x00000000#32)
  mulf (mulf (broadcast (Mat n 1024) (Scalar.ofBits .f32 0x3F000000#32)) p)
    (addf (broadcast (Mat n 1024) (Scalar.ofBits .f32 0x3F800000#32)) (erf (mulf p (broadcast (Mat n 1024) (Scalar.ofBits .f32 0x3F3504F3#32)))))

/-- The last product of a block of rows, added to the scaled rows. -/
def sumV {n : ℕ} (x u mixed : FVec Ideal (Mat n 1024) .f32) (wo : FVec Ideal ⟨3, ![1, 1024, 1024]⟩ .f32)
    (h : (⟨3, ![1, 1024, 1024]⟩ : Shape).ShapeCasts (Mat 1024 1024)) : FVec Ideal (Mat n 1024) .f32 :=
  addf (mulf (broadcast (Mat n 1024) (Scalar.ofBits .f32 0x3FD744FD#32)) x)
    (matmul (DotDims.plain n 1024 1024) none (truncf .bf16 (mulf u mixed) (by decide) : FVec Ideal (Mat n 1024) .bf16) (shapeCast (Mat 1024 1024) wo h) (constant (Mat n 1024) .f32 0x00000000#32))

/-- The unit's block read at an entry, for 512 rows. -/
theorem geluV_apply_512 (xb : FVec Ideal (Mat 512 1024) .bf16) (w : FVec Ideal ⟨3, ![1, 1024, 1024]⟩ .f32) (h) (r : Fin 512) (k : Fin 1024) :
    geluV xb w h (ix2 r k) = gelu (∑ d : Fin 1024, xb (ix2 r d) * w (ix3 0 d k)) := by
  pointwise [geluV, gelu, Ideal.erf_def]

/-- The last product's block read at an entry, for 512 rows. -/
theorem sumV_apply_512 (x u mixed : FVec Ideal (Mat 512 1024) .f32) (wo : FVec Ideal ⟨3, ![1, 1024, 1024]⟩ .f32) (h) (r : Fin 512) (k : Fin 1024) :
    sumV x u mixed wo h (ix2 r k) = Scalar.ofBits (F := Ideal) .f32 0x3FD744FD#32 * x (ix2 r k)
      + ∑ d : Fin 1024, u (ix2 r d) * mixed (ix2 r d) * wo (ix3 0 d k) := by
  pointwise [sumV]

/-- The unit's block read at an entry, for 128 rows. -/
theorem geluV_apply_128 (xb : FVec Ideal (Mat 128 1024) .bf16) (w : FVec Ideal ⟨3, ![1, 1024, 1024]⟩ .f32) (h) (r : Fin 128) (k : Fin 1024) :
    geluV xb w h (ix2 r k) = gelu (∑ d : Fin 1024, xb (ix2 r d) * w (ix3 0 d k)) := by
  pointwise [geluV, gelu, Ideal.erf_def]

/-- The last product's block read at an entry, for 128 rows. -/
theorem sumV_apply_128 (x u mixed : FVec Ideal (Mat 128 1024) .f32) (wo : FVec Ideal ⟨3, ![1, 1024, 1024]⟩ .f32) (h) (r : Fin 128) (k : Fin 1024) :
    sumV x u mixed wo h (ix2 r k) = Scalar.ofBits (F := Ideal) .f32 0x3FD744FD#32 * x (ix2 r k)
      + ∑ d : Fin 1024, u (ix2 r d) * mixed (ix2 r d) * wo (ix3 0 d k) := by
  pointwise [sumV]

end Cert.Rows

end
-- ==== Proof.MlpValue.lean ====
/-
  What a point of the token-mixing kernel stores: its rows through the mixer, read at an entry.
-/
module

public import proofs.«01_k».proof.Proof.MlpRun
public import proofs.«01_k».proof.Proof.MlpRows
public import Idealize.ShloMosaic.Lib.Pipeline.ValueKit

@[expose] public section

set_option maxRecDepth 16384

noncomputable section

namespace Cert.MlpIdeal.Own

open Cert.MlpIdeal Cert.MlpIdeal.Gen Cert.Rows
open Idealize.ShloMosaic Idealize.ShloMosaic.TcCoe Idealize.ShloMosaic.Tactic

/-- The shapes of a block of prompt rows, -/
theorem rows512 : RowFacts 512 := ⟨reduces_S512x1024_S512, shapeCasts_S512_S512x1, broadcasts_S512x1_S512x1024, broadcasts_S1x1024_S512x1024⟩
/-- and of the decode rows. -/
theorem rows128 : RowFacts 128 := ⟨reduces_S128x1024_S128, shapeCasts_S128_S128x1, broadcasts_S128x1_S128x1024, broadcasts_S1x1024_S128x1024⟩

/-- A group's causal weights. -/
def causalV (w : Vec Ideal S1x1x128x128 .f32) : FVec Ideal S128x128 .bf16 :=
  truncf .bf16 (select (cmpi .sge (iota .tc S128x128 32 [0] iota_S128x128_d0_w32) (iota .tc S128x128 32 [1] iota_S128x128_d1_w32))
    (shapeCast S128x128 w shapeCasts_S1x1x128x128_S128x128) (broadcast S128x128 (Scalar.ofBits .f32 0x00000000#32))) bitsLt_bf16_f32

theorem causalV_apply (w : Vec Ideal S1x1x128x128 .f32) (t s : Fin 128) :
    causalV w (ix2 t s) = if s ≤ t then w (ix4 0 0 t s) else 0 := by
  pointwise [causalV]
  rw [WordCmp.cmpi_sge_ofNat (by omega) (by omega)]
  by_cases h : s ≤ t
  · rw [if_pos h, decide_eq_true (show s.val ≤ t.val from h)]; rfl
  · rw [if_neg h, decide_eq_false (show ¬s.val ≤ t.val from h)]; rfl

theorem slices (c : Fin 4) (g : Fin 8) : S512x1024.Slices ![128 * c.val, 128 * g.val] S128x128 := by
  revert c g; decide

/-- A chunk's rows mixed within each group of columns, and the bias. -/
def chunkV (v : FVec Ideal S512x1024 .f32) (w : Fin 8 → FVec Ideal S128x128 .bf16) (bias : FVec Ideal S128x1024 .f32) (c : Fin 4) : FVec Ideal S128x1024 .f32 :=
  addf (concatenate S128x1024 1 (List.ofFn fun g : Fin 8 => ⟨S128x128, (matmul (DotDims.plain 128 128 128) none (w g)
      (extractStridedSlice S128x128 ![128 * c.val, 128 * g.val] (truncf .bf16 v bitsLt_bf16_f32 : FVec Ideal S512x1024 .bf16) (slices c g)) (constant S128x128 .f32 0x00000000#32) : FVec Ideal S128x128 .f32)⟩)
    concatenates_S128x128_S128x128_S128x128_S128x128_S128x128_S128x128_S128x128_S128x128_S128x1024_d1) bias

theorem chunkV_apply (v : FVec Ideal S512x1024 .f32) (w : Fin 8 → FVec Ideal S128x128 .bf16) (bias : FVec Ideal S128x1024 .f32) (c : Fin 4)
    (t : Fin 128) (j : Fin 1024) :
    chunkV v w bias c (ix2 t j) = (∑ s : Fin 128, w ⟨j.val / 128, by omega⟩ (ix2 t s) * v (ix2 ⟨128 * c.val + s.val, by omega⟩ j)) + bias (ix2 t j) := by
  unfold chunkV
  rw [addf_apply]
  refine congrArg (· + bias (ix2 t j)) ?_
  refine (concatenate_ofFn_apply (t := S128x1024) (s₁ := S128x128) 1 _ _ rfl 128 rfl (ix2 t j) ⟨j.val / 128, by omega⟩ rfl (ix2 t ⟨j.val % 128, by omega⟩) rfl
    (fun b hb => match b with | ⟨0, _⟩ => rfl | ⟨1, _⟩ => absurd rfl hb)).trans ?_
  pointwise
  have e : 128 * (j.val / 128) + j.val % 128 = j.val := Nat.div_add_mod _ _
  simp only [e]

/-- The four chunks of a block of rows mixed. -/
def mixV (v : FVec Ideal S512x1024 .f32) (w : Fin 8 → FVec Ideal S128x128 .bf16) (bias : FVec Ideal S128x1024 .f32) : FVec Ideal S512x1024 .f32 :=
  concatenate S512x1024 0 (List.ofFn fun c : Fin 4 => ⟨S128x1024, chunkV v w bias c⟩) concatenates_S128x1024_S128x1024_S128x1024_S128x1024_S512x1024_d0

theorem mixV_apply (v : FVec Ideal S512x1024 .f32) (w : Fin 8 → FVec Ideal S128x128 .bf16) (bias : FVec Ideal S128x1024 .f32) (r : Fin 512) (j : Fin 1024) :
    mixV v w bias (ix2 r j) = (∑ s : Fin 128, w ⟨j.val / 128, by omega⟩ (ix2 ⟨r.val % 128, by omega⟩ s) * v (ix2 ⟨128 * (r.val / 128) + s.val, by omega⟩ j))
      + bias (ix2 ⟨r.val % 128, by omega⟩ j) := by
  unfold mixV
  refine (concatenate_ofFn_apply (t := S512x1024) (s₁ := S128x1024) 0 _ _ rfl 128 rfl (ix2 r j) ⟨r.val / 128, by omega⟩ rfl (ix2 ⟨r.val % 128, by omega⟩ j) rfl
    (fun b hb => match b with | ⟨0, _⟩ => absurd rfl hb | ⟨1, _⟩ => rfl)).trans ?_
  exact chunkV_apply v w bias _ _ _

/-- A square of the first weights' columns, read at an entry. -/
theorem ld_w (w : Vec Ideal S1x1024x2048 .f32) (o : ℕ) (inb) (d k : Fin 1024) (i : Fin 2048) (hi : i.val = o + k.val) :
    View.ld w (Rect.unit ![0, 0, o] ![1, 1024, 1024] inb) (ix3 0 d k) = w (ix3 0 d i) :=
  View.ld_unit_apply_of w _ _ _ _ _ fun a => match a with
    | ⟨0, _⟩ => rfl
    | ⟨1, _⟩ => (Nat.zero_add _).symm
    | ⟨2, _⟩ => hi

/-- The gate's rows of a block. -/
def gateV {n : ℕ} (h : RowFacts n) (x : FVec Ideal (Mat n 1024) .f32) (x2 : Vec Ideal S1x1024x2048 .f32) (x3 x4 : Vec Ideal S1x1x1024 .f32) : FVec Ideal (Mat n 1024) .f32 :=
  lnV h (geluV (truncf .bf16 x bitsLt_bf16_f32) (View.ld x2 (Rect.unit ![0, 0, 1024] ![1, 1024, 1024] inb_S1x1024x2048_S1x1024x1024_0_0_1024)) shapeCasts_S1x1024x1024_S1024x1024)
    (k0_pay11 x3) (k0_pay11 x4)

/-- The other hidden entries of a block's rows. -/
def leftV {n : ℕ} (x : FVec Ideal (Mat n 1024) .f32) (x2 : Vec Ideal S1x1024x2048 .f32) : FVec Ideal (Mat n 1024) .f32 :=
  geluV (truncf .bf16 x bitsLt_bf16_f32) (View.ld x2 (Rect.unit ![0, 0, 0] ![1, 1024, 1024] inb_S1x1024x2048_S1x1024x1024_0_0_0)) shapeCasts_S1x1024x1024_S1024x1024

/-- The output rows of a block, from its rows mixed. -/
def outV {n : ℕ} (h : RowFacts n) (x mixed : FVec Ideal (Mat n 1024) .f32) (x2 : Vec Ideal S1x1024x2048 .f32) (x7 : Vec Ideal S1x1024x1024 .f32)
    (x8 x9 : Vec Ideal S1x1x1024 .f32) : FVec Ideal (Mat n 1024) .f32 :=
  lnV h (sumV x (leftV x x2) mixed x7 shapeCasts_S1x1024x1024_S1024x1024) (k0_pay11 x8) (k0_pay11 x9)

/-- The gate's rows of a block, for 512 rows, read at an entry. -/
theorem gateV_apply_512 (x : FVec Ideal (Mat 512 1024) .f32) (x2 : Vec Ideal S1x1024x2048 .f32) (x3 x4 : Vec Ideal S1x1x1024 .f32) (r : Fin 512) (j : Fin 1024) :
    gateV rows512 x x2 x3 x4 (ix2 r j) = gateRow (fun k => x (ix2 r k)) (fun d k => x2 (ix3 0 d k)) (fun k => x3 (ix3 0 0 k)) (fun k => x4 (ix3 0 0 k)) j := by
  unfold gateV gateRow hiddenAt
  rw [lnV_apply_512]
  have h1 : (fun k => k0_pay11 x3 (ix2 0 k)) = fun k => x3 (ix3 0 0 k) := funext fun k => by pointwise [k0_pay11]
  have h2 : (fun k => k0_pay11 x4 (ix2 0 k)) = fun k => x4 (ix3 0 0 k) := funext fun k => by pointwise [k0_pay11]
  rw [h1, h2]
  refine congrArg (fun f => lnRow f _ _ j) (funext fun k => ?_)
  refine (geluV_apply_512 _ _ _ r k).trans (congrArg gelu (Finset.sum_congr rfl fun d _ => congrArg₂ (· * ·) rfl ?_))
  exact ld_w x2 1024 _ d k _ rfl

/-- The other hidden entries, for 512 rows, read at an entry. -/
theorem leftV_apply_512 (x : FVec Ideal (Mat 512 1024) .f32) (x2 : Vec Ideal S1x1024x2048 .f32) (r : Fin 512) (j : Fin 1024) :
    leftV x x2 (ix2 r j) = hiddenAt (fun k => x (ix2 r k)) (fun d k => x2 (ix3 0 d k)) ⟨j.val, by omega⟩ := by
  unfold leftV hiddenAt
  refine (geluV_apply_512 _ _ _ r j).trans (congrArg gelu (Finset.sum_congr rfl fun d _ => congrArg₂ (· * ·) rfl ?_))
  exact ld_w x2 0 _ d j _ (Nat.zero_add _).symm

/-- The output rows of a block, for 512 rows, read at an entry. -/
theorem outV_apply_512 (x mixed : FVec Ideal (Mat 512 1024) .f32) (x2 : Vec Ideal S1x1024x2048 .f32) (x7 : Vec Ideal S1x1024x1024 .f32)
    (x8 x9 : Vec Ideal S1x1x1024 .f32) (r : Fin 512) (j : Fin 1024) :
    outV rows512 x mixed x2 x7 x8 x9 (ix2 r j) = outRow (fun k => x (ix2 r k)) (fun d k => x2 (ix3 0 d k)) (fun d => mixed (ix2 r d))
      (fun d k => x7 (ix3 0 d k)) (fun k => x8 (ix3 0 0 k)) (fun k => x9 (ix3 0 0 k)) j := by
  unfold outV outRow
  rw [lnV_apply_512]
  have h1 : (fun k => k0_pay11 x8 (ix2 0 k)) = fun k => x8 (ix3 0 0 k) := funext fun k => by pointwise [k0_pay11]
  have h2 : (fun k => k0_pay11 x9 (ix2 0 k)) = fun k => x9 (ix3 0 0 k) := funext fun k => by pointwise [k0_pay11]
  rw [h1, h2]
  refine congrArg (fun f => lnRow f _ _ j) (funext fun k => ?_)
  refine (sumV_apply_512 _ _ _ _ _ r k).trans ?_
  simp only [leftV_apply_512]

/-- The gate's rows of a block, for 128 rows, read at an entry. -/
theorem gateV_apply_128 (x : FVec Ideal (Mat 128 1024) .f32) (x2 : Vec Ideal S1x1024x2048 .f32) (x3 x4 : Vec Ideal S1x1x1024 .f32) (r : Fin 128) (j : Fin 1024) :
    gateV rows128 x x2 x3 x4 (ix2 r j) = gateRow (fun k => x (ix2 r k)) (fun d k => x2 (ix3 0 d k)) (fun k => x3 (ix3 0 0 k)) (fun k => x4 (ix3 0 0 k)) j := by
  unfold gateV gateRow hiddenAt
  rw [lnV_apply_128]
  have h1 : (fun k => k0_pay11 x3 (ix2 0 k)) = fun k => x3 (ix3 0 0 k) := funext fun k => by pointwise [k0_pay11]
  have h2 : (fun k => k0_pay11 x4 (ix2 0 k)) = fun k => x4 (ix3 0 0 k) := funext fun k => by pointwise [k0_pay11]
  rw [h1, h2]
  refine congrArg (fun f => lnRow f _ _ j) (funext fun k => ?_)
  refine (geluV_apply_128 _ _ _ r k).trans (congrArg gelu (Finset.sum_congr rfl fun d _ => congrArg₂ (· * ·) rfl ?_))
  exact ld_w x2 1024 _ d k _ rfl

/-- The other hidden entries, for 128 rows, read at an entry. -/
theorem leftV_apply_128 (x : FVec Ideal (Mat 128 1024) .f32) (x2 : Vec Ideal S1x1024x2048 .f32) (r : Fin 128) (j : Fin 1024) :
    leftV x x2 (ix2 r j) = hiddenAt (fun k => x (ix2 r k)) (fun d k => x2 (ix3 0 d k)) ⟨j.val, by omega⟩ := by
  unfold leftV hiddenAt
  refine (geluV_apply_128 _ _ _ r j).trans (congrArg gelu (Finset.sum_congr rfl fun d _ => congrArg₂ (· * ·) rfl ?_))
  exact ld_w x2 0 _ d j _ (Nat.zero_add _).symm

/-- The output rows of a block, for 128 rows, read at an entry. -/
theorem outV_apply_128 (x mixed : FVec Ideal (Mat 128 1024) .f32) (x2 : Vec Ideal S1x1024x2048 .f32) (x7 : Vec Ideal S1x1024x1024 .f32)
    (x8 x9 : Vec Ideal S1x1x1024 .f32) (r : Fin 128) (j : Fin 1024) :
    outV rows128 x mixed x2 x7 x8 x9 (ix2 r j) = outRow (fun k => x (ix2 r k)) (fun d k => x2 (ix3 0 d k)) (fun d => mixed (ix2 r d))
      (fun d k => x7 (ix3 0 d k)) (fun k => x8 (ix3 0 0 k)) (fun k => x9 (ix3 0 0 k)) j := by
  unfold outV outRow
  rw [lnV_apply_128]
  have h1 : (fun k => k0_pay11 x8 (ix2 0 k)) = fun k => x8 (ix3 0 0 k) := funext fun k => by pointwise [k0_pay11]
  have h2 : (fun k => k0_pay11 x9 (ix2 0 k)) = fun k => x9 (ix3 0 0 k) := funext fun k => by pointwise [k0_pay11]
  rw [h1, h2]
  refine congrArg (fun f => lnRow f _ _ j) (funext fun k => ?_)
  refine (sumV_apply_128 _ _ _ _ _ r k).trans ?_
  simp only [leftV_apply_128]

theorem inbG (g : Fin 8) : ∀ a, (![0, g.val, 0, 0] : Fin 4 → ℕ) a + (![1, 1, 128, 128] : Fin 4 → ℕ) a ≤ S1x8x128x128.size a := by
  revert g; decide

theorem inbD (g : Fin 8) : ∀ a, (![0, g.val, 0, 0] : Fin 4 → ℕ) a + (![1, 1, 1, 1] : Fin 4 → ℕ) a ≤ S1x8x128x128.size a := by
  revert g; decide

/-- The groups' causal weights. -/
def weightsV (x5 : Vec Ideal S1x8x128x128 .f32) (g : Fin 8) : FVec Ideal S128x128 .bf16 :=
  causalV (View.ld x5 (Rect.unit (s := S1x8x128x128) ![0, g.val, 0, 0] ![1, 1, 128, 128] (inbG g)))

theorem weightsV_apply (x5 : Vec Ideal S1x8x128x128 .f32) (g : Fin 8) (t s : Fin 128) :
    weightsV x5 g (ix2 t s) = if s ≤ t then x5 (ix4 0 g t s) else 0 := by
  unfold weightsV
  rw [causalV_apply]
  have e : View.ld x5 (Rect.unit (s := S1x8x128x128) ![0, g.val, 0, 0] ![1, 1, 128, 128] (inbG g)) (ix4 0 0 t s) = x5 (ix4 0 g t s) :=
    View.ld_unit_apply_of x5 _ _ _ _ _ fun a => match a with
      | ⟨0, _⟩ => rfl
      | ⟨1, _⟩ => rfl
      | ⟨2, _⟩ => (Nat.zero_add _).symm
      | ⟨3, _⟩ => (Nat.zero_add _).symm
  rw [e]

/-- The groups' weights of a chunk's first row, each over its columns. -/
def firstV (x5 : Vec Ideal S1x8x128x128 .f32) : FVec Ideal S1x1024 .f32 :=
  concatenate S1x1024 1 (List.ofFn fun g : Fin 8 => ⟨S1x128, k0_pay6 (View.ld x5 (Rect.unit (s := S1x8x128x128) ![0, g.val, 0, 0] ![1, 1, 1, 1] (inbD g)))⟩)
    concatenates_S1x128_S1x128_S1x128_S1x128_S1x128_S1x128_S1x128_S1x128_S1x1024_d1

theorem firstV_apply (x5 : Vec Ideal S1x8x128x128 .f32) (j : Fin 1024) : firstV x5 (ix2 0 j) = x5 (ix4 0 ⟨j.val / 128, by omega⟩ 0 0) := by
  unfold firstV
  refine (concatenate_ofFn_apply (t := S1x1024) (s₁ := S1x128) 1 _ _ rfl 128 rfl (ix2 0 j) ⟨j.val / 128, by omega⟩ rfl (ix2 0 ⟨j.val % 128, by omega⟩) rfl
    (fun b hb => match b with | ⟨0, _⟩ => rfl | ⟨1, _⟩ => absurd rfl hb)).trans ?_
  pointwise [k0_pay6]

/-- The decode rows mixed: each is the first of its chunk. -/
def mixFirstV (v : FVec Ideal S128x1024 .f32) (x5 : Vec Ideal S1x8x128x128 .f32) (x6 : Vec Ideal S1x128x1024 .f32) : FVec Ideal S128x1024 .f32 :=
  addf (mulf v (broadcastTo S128x1024 (firstV x5) broadcasts_S1x1024_S128x1024))
    (broadcastTo S128x1024 (extractStridedSlice S1x1024 ![0, 0] (k0_pay35 x6) slices_S128x1024_o0_0_S1x1024) broadcasts_S1x1024_S128x1024)

theorem mixFirstV_apply (v : FVec Ideal S128x1024 .f32) (x5 : Vec Ideal S1x8x128x128 .f32) (x6 : Vec Ideal S1x128x1024 .f32) (r : Fin 128) (j : Fin 1024) :
    mixFirstV v x5 x6 (ix2 r j) = mixFirst (fun k => v (ix2 r k)) (fun g => x5 (ix4 0 g 0 0)) (fun k => x6 (ix3 0 0 k)) j := by
  unfold mixFirst
  beta_reduce
  rw [← firstV_apply x5 j]
  generalize hy : firstV x5 = y
  pointwise [mixFirstV, k0_pay35, hy]

end Cert.MlpIdeal.Own

end
-- ==== Proof.MlpPoint.lean ====
/-
  The token-mixing kernel's blocks after a point, read at an entry, and its six result arrays, read off the memory the
  program was started on.
-/
module

public import proofs.«01_k».proof.Proof.MlpValue

@[expose] public section

set_option maxRecDepth 16384

noncomputable section

namespace Cert.MlpIdeal.Own

open Cert.MlpIdeal Cert.MlpIdeal.Gen Cert.Rows
open Idealize.ShloMosaic Idealize.ShloMosaic.TcCoe Idealize.ShloMosaic.Tactic Idealize.SL.Sem

/-- A block of prompt rows through the mixer. -/
def tokV (x : FVec Ideal S512x1024 .f32) (x2 : Vec Ideal S1x1024x2048 .f32) (x3 x4 : Vec Ideal S1x1x1024 .f32) (x5 : Vec Ideal S1x8x128x128 .f32)
    (x6 : Vec Ideal S1x128x1024 .f32) (x7 : Vec Ideal S1x1024x1024 .f32) (x8 x9 : Vec Ideal S1x1x1024 .f32) : FVec Ideal S512x1024 .f32 :=
  outV rows512 x (mixV (gateV rows512 x x2 x3 x4) (weightsV x5) (k0_pay35 x6)) x2 x7 x8 x9

variable (m : (ℓ : Loc nD τ sig) → Buf (Elt Ideal) ℓ)

/-- The rows of a point's block. -/
abbrev rowsAt (c : Dev nD) (t : Fin cfg0.N) : FVec Ideal S512x1024 .f32 := k0_pay16 (iblk m c 0 t)

theorem out12_eq (c : Dev nD) (t : Fin cfg0.N) : out12 m c t
    = shapeCast S1x512x1024 (tokV (rowsAt m c t) (iblk m c 2 t) (iblk m c 3 t) (iblk m c 4 t) (iblk m c 5 t) (iblk m c 6 t) (iblk m c 7 t) (iblk m c 8 t) (iblk m c 9 t)) shapeCasts_S512x1024_S1x512x1024 := by
  funext y
  unfold out12
  by_cases h0 : t.val = 0
  · rw [dif_pos h0]
    obtain rfl : t = t₀ := Fin.ext h0
    unfold atFirst
    frame_out
    rfl
  · rw [dif_neg h0]
    by_cases h3 : t.val % 4 = 3
    · rw [dif_pos h3]
      unfold atLast
      frame_out
      rfl
    · rw [dif_neg h3]
      unfold atMid
      frame_out
      rfl

theorem out16_eq (c : Dev nD) (t : Fin cfg0.N) : out16 m c t = k0_pay14 (iblk m c 10 t) := by
  funext y
  unfold out16
  by_cases h0 : t.val = 0
  · rw [dif_pos h0]
    obtain rfl : t = t₀ := Fin.ext h0
    unfold atFirst
    frame_out
  · rw [dif_neg h0]
    by_cases h3 : t.val % 4 = 3
    · rw [dif_pos h3]
      unfold atLast
      frame_out
    · rw [dif_neg h3]
      unfold atMid
      frame_out

theorem out17_eq (c : Dev nD) (t : Fin cfg0.N) : out17 m c t = k0_pay15 (iblk m c 11 t) := by
  funext y
  unfold out17
  by_cases h0 : t.val = 0
  · rw [dif_pos h0]
    obtain rfl : t = t₀ := Fin.ext h0
    unfold atFirst
    frame_out
  · rw [dif_neg h0]
    by_cases h3 : t.val % 4 = 3
    · rw [dif_pos h3]
      unfold atLast
      frame_out
    · rw [dif_neg h3]
      unfold atMid
      frame_out

theorem out13_eq (c : Dev nD) (t : Fin cfg0.N) (h : t.val % 4 = 3) : out13 m c t
    = k0_pay1 (gateV rows512 (rowsAt m c t) (iblk m c 2 t) (iblk m c 3 t) (iblk m c 4 t)) := by
  funext y
  unfold out13
  rw [dif_pos ⟨fun e => by omega, h⟩]
  unfold atLast
  frame_out
  rfl

theorem out15_eq (c : Dev nD) : out15 m c = gateV rows128 (iblk m c 1 t₀) (iblk m c 2 t₀) (iblk m c 3 t₀) (iblk m c 4 t₀) := by
  funext y
  unfold out15 atFirst
  frame_out
  rfl

theorem out14_eq (c : Dev nD) : out14 m c
    = outV rows128 (iblk m c 1 t₀) (mixFirstV (gateV rows128 (iblk m c 1 t₀) (iblk m c 2 t₀) (iblk m c 3 t₀) (iblk m c 4 t₀)) (iblk m c 5 t₀) (iblk m c 6 t₀))
      (iblk m c 2 t₀) (iblk m c 7 t₀) (iblk m c 8 t₀) (iblk m c 9 t₀) := by
  funext y
  unfold out14 atFirst
  frame_out
  rfl

/-- A prompt row through the mixer: its chunk's gate rows mixed, and the output row of that. -/
def tokRow (x : Fin 2048 → Fin 1024 → EReal) (w : Fin 1024 → Fin 2048 → EReal) (vg vb : Fin 1024 → EReal) (ws : Fin 8 → Fin 128 → Fin 128 → EReal)
    (bias : Fin 128 → Fin 1024 → EReal) (wo : Fin 1024 → Fin 1024 → EReal) (g b : Fin 1024 → EReal) (p : Fin 2048) (j : Fin 1024) : EReal :=
  outRow (x p) w (mixAt (fun s => gateRow (x ⟨128 * (p.val / 128) + s.val, by omega⟩) w vg vb) ws bias ⟨p.val % 128, by omega⟩) wo g b j

/-- A decode row through the mixer. -/
def decRow (x : Fin 1024 → EReal) (w : Fin 1024 → Fin 2048 → EReal) (vg vb : Fin 1024 → EReal) (ws : Fin 8 → EReal)
    (bias : Fin 1024 → EReal) (wo : Fin 1024 → Fin 1024 → EReal) (g b : Fin 1024 → EReal) (j : Fin 1024) : EReal :=
  outRow x w (mixFirst (gateRow x w vg vb) ws bias) wo g b j

/-- The mixer's block read at an entry. -/
theorem tokV_apply (x : FVec Ideal S512x1024 .f32) (x2 : Vec Ideal S1x1024x2048 .f32) (x3 x4 : Vec Ideal S1x1x1024 .f32) (x5 : Vec Ideal S1x8x128x128 .f32)
    (x6 : Vec Ideal S1x128x1024 .f32) (x7 : Vec Ideal S1x1024x1024 .f32) (x8 x9 : Vec Ideal S1x1x1024 .f32) (r : Fin 512) (j : Fin 1024) :
    tokV x x2 x3 x4 x5 x6 x7 x8 x9 (ix2 r j) = outRow (fun k => x (ix2 r k)) (fun d k => x2 (ix3 0 d k))
      (mixAt (fun s => gateRow (fun k => x (ix2 ⟨128 * (r.val / 128) + s.val, by omega⟩ k)) (fun d k => x2 (ix3 0 d k)) (fun k => x3 (ix3 0 0 k)) (fun k => x4 (ix3 0 0 k)))
        (fun g t s => x5 (ix4 0 g t s)) (fun t k => x6 (ix3 0 t k)) ⟨r.val % 128, by omega⟩)
      (fun d k => x7 (ix3 0 d k)) (fun k => x8 (ix3 0 0 k)) (fun k => x9 (ix3 0 0 k)) j := by
  unfold tokV
  rw [outV_apply_512]
  refine congrArg (fun mx => outRow _ _ mx _ _ _ j) (funext fun k => ?_)
  rw [mixV_apply]
  unfold mixAt
  refine congrArg₂ (· + ·) (Finset.sum_congr rfl fun s _ => ?_) (by pointwise [k0_pay35])
  rw [weightsV_apply, gateV_apply_512]

/-- Where the windows' blocks stand. -/
theorem idx : ∀ t : Fin grid0.N, win0_0.index t = ![t.val / 4, t.val % 4, 0] ∧ win0_1.index t = ![0, 0] ∧ win0_2.index t = ![0, 0, 0]
    ∧ win0_3.index t = ![0, 0, 0] ∧ win0_4.index t = ![0, 0, 0] ∧ win0_5.index t = ![0, 0, 0, 0] ∧ win0_6.index t = ![0, 0, 0] ∧ win0_7.index t = ![0, 0, 0]
    ∧ win0_8.index t = ![1, 0, 0] ∧ win0_9.index t = ![1, 0, 0] ∧ win0_10.index t = ![1, t.val, 0] ∧ win0_11.index t = ![1, t.val / 2, 0]
    ∧ win0_12.index t = ![t.val / 4, t.val % 4, 0] ∧ win0_13.index t = ![t.val / 4, 0, 0] ∧ win0_14.index t = ![0, 0] ∧ win0_15.index t = ![0, 0]
    ∧ win0_16.index t = ![t.val, 0] ∧ win0_17.index t = ![t.val / 2, 0] := by decide +kernel

theorem blk0 (c : Dev nD) (t : Fin cfg0.N) (r : Fin 512) (k : Fin 1024) (i : Fin 8) (p : Fin 2048) (hi : i.val = t.val / 4) (hp : p.val = 512 * (t.val % 4) + r.val) :
    iblk m c 0 t (ix3 0 r k) = m ((c : Thread nD τ).loc main_arg0) (ix3 i p k) := by
  blk_ext! [iblk, V, idx t]

theorem blk1 (c : Dev nD) (t : Fin cfg0.N) (r : Fin 128) (k : Fin 1024) :
    iblk m c 1 t (ix2 r k) = m ((c : Thread nD τ).loc main_arg1) (ix2 r k) := by
  blk_ext! [iblk, V, idx t]

theorem blk2 (c : Dev nD) (t : Fin cfg0.N) (d : Fin 1024) (k : Fin 2048) :
    iblk m c 2 t (ix3 0 d k) = m ((c : Thread nD τ).loc main_arg2) (ix3 0 d k) := by
  blk_ext! [iblk, V, idx t]

theorem blk3 (c : Dev nD) (t : Fin cfg0.N) (k : Fin 1024) :
    iblk m c 3 t (ix3 0 0 k) = m ((c : Thread nD τ).loc main_arg3) (ix2 0 k) := by
  blk_ext! [iblk, V, idx t]

theorem blk4 (c : Dev nD) (t : Fin cfg0.N) (k : Fin 1024) :
    iblk m c 4 t (ix3 0 0 k) = m ((c : Thread nD τ).loc main_arg4) (ix2 0 k) := by
  blk_ext! [iblk, V, idx t]

theorem blk5 (c : Dev nD) (t : Fin cfg0.N) (g : Fin 8) (u s : Fin 128) :
    iblk m c 5 t (ix4 0 g u s) = m ((c : Thread nD τ).loc main_arg5) (ix4 0 g u s) := by
  blk_ext! [iblk, V, idx t]

theorem blk6 (c : Dev nD) (t : Fin cfg0.N) (u : Fin 128) (j : Fin 1024) :
    iblk m c 6 t (ix3 0 u j) = m ((c : Thread nD τ).loc main_arg6) (ix3 0 ⟨j.val / 128, by omega⟩ u) := by
  blk_ext! [iblk, V, idx t]

theorem blk7 (c : Dev nD) (t : Fin cfg0.N) (d k : Fin 1024) :
    iblk m c 7 t (ix3 0 d k) = m ((c : Thread nD τ).loc main_arg7) (ix3 0 d k) := by
  blk_ext! [iblk, V, idx t]

theorem blk8 (c : Dev nD) (t : Fin cfg0.N) (k : Fin 1024) :
    iblk m c 8 t (ix3 0 0 k) = m ((c : Thread nD τ).loc main_arg8) (ix2 1 k) := by
  blk_ext! [iblk, V, idx t]

theorem blk9 (c : Dev nD) (t : Fin cfg0.N) (k : Fin 1024) :
    iblk m c 9 t (ix3 0 0 k) = m ((c : Thread nD τ).loc main_arg9) (ix2 1 k) := by
  blk_ext! [iblk, V, idx t]

theorem blk10 (c : Dev nD) (t : Fin cfg0.N) (r : Fin 32) (k : Fin 5632) (i : Fin 1024) (hi : i.val = 32 * t.val + r.val) :
    iblk m c 10 t (ix3 0 r k) = m ((c : Thread nD τ).loc main_arg10) (ix3 1 i k) := by
  blk_ext! [iblk, V, idx t]

theorem blk11 (c : Dev nD) (t : Fin cfg0.N) (r : Fin 176) (k : Fin 1024) (i : Fin 2816) (hi : i.val = 176 * (t.val / 2) + r.val) :
    iblk m c 11 t (ix3 0 r k) = m ((c : Thread nD τ).loc main_arg11) (ix3 1 i k) := by
  blk_ext! [iblk, V, idx t]

/-- A prompt row through the mixer as the memory's arrays have its weights. -/
def memTok (c : Dev nD) (x : Fin 2048 → Fin 1024 → EReal) (p : Fin 2048) (j : Fin 1024) : EReal :=
  tokRow x (fun d k => m ((c : Thread nD τ).loc main_arg2) (ix3 0 d k)) (fun k => m ((c : Thread nD τ).loc main_arg3) (ix2 0 k)) (fun k => m ((c : Thread nD τ).loc main_arg4) (ix2 0 k))
    (fun g u s => m ((c : Thread nD τ).loc main_arg5) (ix4 0 g u s)) (fun u j => m ((c : Thread nD τ).loc main_arg6) (ix3 0 ⟨j.val / 128, by omega⟩ u))
    (fun d k => m ((c : Thread nD τ).loc main_arg7) (ix3 0 d k)) (fun k => m ((c : Thread nD τ).loc main_arg8) (ix2 1 k)) (fun k => m ((c : Thread nD τ).loc main_arg9) (ix2 1 k)) p j

/-- A gate row as the memory's arrays have its weights. -/
def memGate (c : Dev nD) (x : Fin 1024 → EReal) (j : Fin 1024) : EReal :=
  gateRow x (fun d k => m ((c : Thread nD τ).loc main_arg2) (ix3 0 d k)) (fun k => m ((c : Thread nD τ).loc main_arg3) (ix2 0 k)) (fun k => m ((c : Thread nD τ).loc main_arg4) (ix2 0 k)) j

/-- A decode row through the mixer as the memory's arrays have its weights. -/
def memDec (c : Dev nD) (x : Fin 1024 → EReal) (j : Fin 1024) : EReal :=
  decRow x (fun d k => m ((c : Thread nD τ).loc main_arg2) (ix3 0 d k)) (fun k => m ((c : Thread nD τ).loc main_arg3) (ix2 0 k)) (fun k => m ((c : Thread nD τ).loc main_arg4) (ix2 0 k))
    (fun g => m ((c : Thread nD τ).loc main_arg5) (ix4 0 g 0 0)) (fun j => m ((c : Thread nD τ).loc main_arg6) (ix3 0 ⟨j.val / 128, by omega⟩ 0))
    (fun d k => m ((c : Thread nD τ).loc main_arg7) (ix3 0 d k)) (fun k => m ((c : Thread nD τ).loc main_arg8) (ix2 1 k)) (fun k => m ((c : Thread nD τ).loc main_arg9) (ix2 1 k)) j

/-- What the prompt result holds, row by row. -/
def result12 (c : Dev nD) : Buf (Elt Ideal) ((c : Thread nD τ).loc main_v7_0) :=
  fun i => memTok m c (fun p k => m ((c : Thread nD τ).loc main_arg0) (ix3 (i 0) p k)) (i 1) (i 2)

/-- What the prompt's last gate rows hold. -/
def result13 (c : Dev nD) : Buf (Elt Ideal) ((c : Thread nD τ).loc main_v7_1) :=
  fun i => memGate m c (fun k => m ((c : Thread nD τ).loc main_arg0) (ix3 (i 0) ⟨1920 + (i 1).val, Nat.add_lt_add_left (i 1).isLt 1920⟩ k)) (i 2)

/-- What the decode result holds. -/
def result14 (c : Dev nD) : Buf (Elt Ideal) ((c : Thread nD τ).loc main_v7_2) :=
  fun i => memDec m c (fun k => m ((c : Thread nD τ).loc main_arg1) (ix2 (i 0) k)) (i 1)

/-- What the decode rows' gate rows hold. -/
def result15 (c : Dev nD) : Buf (Elt Ideal) ((c : Thread nD τ).loc main_v7_3) :=
  fun i => memGate m c (fun k => m ((c : Thread nD τ).loc main_arg1) (ix2 (i 0) k)) (i 1)

/-- What the first of the two weights handed on holds: those of layer 1. -/
def result16 (c : Dev nD) : Buf (Elt Ideal) ((c : Thread nD τ).loc main_v7_4) :=
  fun i => m ((c : Thread nD τ).loc main_arg10) (ix3 1 (i 0) (i 1))

/-- What the second holds. -/
def result17 (c : Dev nD) : Buf (Elt Ideal) ((c : Thread nD τ).loc main_v7_5) :=
  fun i => m ((c : Thread nD τ).loc main_arg11) (ix3 1 (i 0) (i 1))

/-- The last point. -/
def tLast : Fin cfg0.N := ⟨31, by decide +kernel⟩

/-- The rows of a point's block in memory. -/
theorem rowsAt_apply (c : Dev nD) (t : Fin cfg0.N) (r : Fin 512) (k : Fin 1024) (i : Fin 8) (p : Fin 2048) (hi : i.val = t.val / 4) (hp : p.val = 512 * (t.val % 4) + r.val) :
    rowsAt m c t (ix2 r k) = m ((c : Thread nD τ).loc main_arg0) (ix3 i p k) := by
  refine Eq.trans ?_ (blk0 m c t r k i p hi hp)
  pointwise [rowsAt, k0_pay16]

/-- The prompt block after a point, at an entry. -/
theorem out12_apply (c : Dev nD) (t : Fin cfg0.N) (r : Fin 512) (j : Fin 1024) (i : Fin 8) (p : Fin 2048) (hi : i.val = t.val / 4) (hp : p.val = 512 * (t.val % 4) + r.val) :
    out12 m c t (ix3 0 r j) = memTok m c (fun p k => m ((c : Thread nD τ).loc main_arg0) (ix3 i p k)) p j := by
  rw [out12_eq]
  refine Eq.trans (b := tokV (rowsAt m c t) (iblk m c 2 t) (iblk m c 3 t) (iblk m c 4 t) (iblk m c 5 t) (iblk m c 6 t) (iblk m c 7 t) (iblk m c 8 t) (iblk m c 9 t) (ix2 r j)) ?_ ?_
  · generalize tokV (rowsAt m c t) (iblk m c 2 t) (iblk m c 3 t) (iblk m c 4 t) (iblk m c 5 t) (iblk m c 6 t) (iblk m c 7 t) (iblk m c 8 t) (iblk m c 9 t) = z
    pointwise
  rw [tokV_apply]
  simp only [blk2, blk3, blk4, blk5, blk6, blk7, blk8, blk9]
  unfold memTok tokRow
  have e1 : (fun k => rowsAt m c t (ix2 r k)) = fun k => m ((c : Thread nD τ).loc main_arg0) (ix3 i p k) := funext fun k => rowsAt_apply m c t r k i p hi hp
  have e2 : ∀ s : Fin 128, (fun k => rowsAt m c t (ix2 ⟨128 * (r.val / 128) + s.val, by omega⟩ k))
      = fun k => m ((c : Thread nD τ).loc main_arg0) (ix3 i ⟨128 * (p.val / 128) + s.val, by omega⟩ k) := fun s =>
    funext fun k => rowsAt_apply m c t _ k i _ hi (by show 128 * (p.val / 128) + s.val = 512 * (t.val % 4) + (128 * (r.val / 128) + s.val); omega)
  have e3 : (⟨r.val % 128, by omega⟩ : Fin 128) = ⟨p.val % 128, by omega⟩ := Fin.ext (by show r.val % 128 = p.val % 128; omega)
  simp only [e1, e2, e3]

theorem final12 (c : Dev nD) : (dats m 0 c).arrAt 12 cfg0.N = result12 m c := by
  refine (dats m 0 c).arrAt_eq_of_covers 12 _ (by decide +kernel) fun t hf y => ?_
  blk_simp
  rw [after_12]
  obtain ⟨r, j, rfl⟩ : ∃ (r : Fin 512) (j : Fin 1024), y = ix3 0 r j := ⟨y 1, y 2, by ext a; match a with | ⟨0, _⟩ => exact Nat.lt_one_iff.mp (y 0).isLt | ⟨1, _⟩ => rfl | ⟨2, _⟩ => rfl⟩
  rw [out12_apply m c t r j (((cfg0.win 12).blk t).view.emb (ix3 0 r j) 0) (((cfg0.win 12).blk t).view.emb (ix3 0 r j) 1) (by blk_simp [idx t]; rfl) (by blk_simp [idx t]; omega)]
  unfold result12
  exact congrArg (fun j => memTok m c _ _ j) (Fin.ext (by blk_simp [idx t]))

theorem final13 (c : Dev nD) : (dats m 0 c).arrAt 13 cfg0.N = result13 m c := by
  refine (dats m 0 c).arrAt_eq_of_covers 13 _ (by decide +kernel) fun t hf y => ?_
  blk_simp
  have h3 : t.val % 4 = 3 := of_decide_eq_true ((flush13 t).symm.trans hf)
  rw [after_13, out13_eq m c t h3]
  obtain ⟨r, j, rfl⟩ : ∃ (r : Fin 128) (j : Fin 1024), y = ix3 0 r j := ⟨y 1, y 2, by ext a; match a with | ⟨0, _⟩ => exact Nat.lt_one_iff.mp (y 0).isLt | ⟨1, _⟩ => rfl | ⟨2, _⟩ => rfl⟩
  refine Eq.trans (b := gateV rows512 (rowsAt m c t) (iblk m c 2 t) (iblk m c 3 t) (iblk m c 4 t) (ix2 ⟨384 + r.val, by omega⟩ j)) ?_ ?_
  · generalize gateV rows512 (rowsAt m c t) (iblk m c 2 t) (iblk m c 3 t) (iblk m c 4 t) = z
    pointwise [k0_pay1]
  rw [gateV_apply_512]
  simp only [blk2, blk3, blk4]
  unfold result13 memGate
  refine congrArg₂ (fun x j => gateRow x _ _ _ j) (funext fun k => rowsAt_apply m c t _ k _ _ (by blk_simp [idx t]; rfl) ?_) (Fin.ext (by blk_simp [idx t]))
  blk_simp [idx t]
  show 1920 + r.val = 512 * (t.val % 4) + (384 + r.val)
  omega

theorem final14 (c : Dev nD) : (dats m 0 c).arrAt 14 cfg0.N = result14 m c := by
  refine (dats m 0 c).arrAt_eq_of_after_last 14 tLast (by decide +kernel) _ fun y => ?_
  blk_simp
  rw [after_14, out14_eq]
  obtain ⟨r, j, rfl⟩ : ∃ (r : Fin 128) (j : Fin 1024), y = ix2 r j := ⟨y 0, y 1, by ext a; match a with | ⟨0, _⟩ => rfl | ⟨1, _⟩ => rfl⟩
  rw [outV_apply_128]
  simp only [mixFirstV_apply, gateV_apply_128, blk1, blk2, blk3, blk4, blk5, blk6, blk7, blk8, blk9]
  rfl

theorem final15 (c : Dev nD) : (dats m 0 c).arrAt 15 cfg0.N = result15 m c := by
  refine (dats m 0 c).arrAt_eq_of_after_last 15 tLast (by decide +kernel) _ fun y => ?_
  blk_simp
  rw [after_15, out15_eq]
  obtain ⟨r, j, rfl⟩ : ∃ (r : Fin 128) (j : Fin 1024), y = ix2 r j := ⟨y 0, y 1, by ext a; match a with | ⟨0, _⟩ => rfl | ⟨1, _⟩ => rfl⟩
  rw [gateV_apply_128]
  simp only [blk1, blk2, blk3, blk4]
  rfl

theorem final16 (c : Dev nD) : (dats m 0 c).arrAt 16 cfg0.N = result16 m c := by
  refine (dats m 0 c).arrAt_eq_of_covers 16 _ (by decide +kernel) fun t hf y => ?_
  blk_simp
  rw [after_16, out16_eq]
  obtain ⟨r, k, rfl⟩ : ∃ (r : Fin 32) (k : Fin 5632), y = ix2 r k := ⟨y 0, y 1, by ext a; match a with | ⟨0, _⟩ => rfl | ⟨1, _⟩ => rfl⟩
  refine Eq.trans (b := iblk m c 10 t (ix3 0 r k)) ?_ ?_
  · pointwise [k0_pay14]
  rw [blk10 m c t r k (((cfg0.win 16).blk t).view.emb (ix2 r k) 0) (by blk_simp [idx t]; omega)]
  unfold result16
  exact congrArg (fun j => m ((c : Thread nD τ).loc main_arg10) (ix3 1 _ j)) (Fin.ext (by blk_simp [idx t]))

theorem final17 (c : Dev nD) : (dats m 0 c).arrAt 17 cfg0.N = result17 m c := by
  refine (dats m 0 c).arrAt_eq_of_covers 17 _ (by decide +kernel) fun t hf y => ?_
  blk_simp
  rw [after_17, out17_eq]
  obtain ⟨r, k, rfl⟩ : ∃ (r : Fin 176) (k : Fin 1024), y = ix2 r k := ⟨y 0, y 1, by ext a; match a with | ⟨0, _⟩ => rfl | ⟨1, _⟩ => rfl⟩
  refine Eq.trans (b := iblk m c 11 t (ix3 0 r k)) ?_ ?_
  · pointwise [k0_pay15]
  rw [blk11 m c t r k (((cfg0.win 17).blk t).view.emb (ix2 r k) 0) (by blk_simp [idx t]; omega)]
  unfold result17
  exact congrArg (fun j => m ((c : Thread nD τ).loc main_arg11) (ix3 1 _ j)) (Fin.ext (by blk_simp [idx t]))

end Cert.MlpIdeal.Own

end
-- ==== Proof.MlpRefValue.lean ====
/-
  The reference of the token mixer, read at an entry: the same functions of the rows as the kernel's.
-/
module

public import proofs.«01_k».proof.Proof.MlpPoint
public import proofs.«01_k».proof.Proof.Gen.MlpRefIdeal.Run
public import proofs.«01_k».proof.Proof.Gen.MlpRefIdeal.Read
public import Idealize.ShloMosaic.Lib.WordCmp

@[expose] public section

set_option maxRecDepth 16384

noncomputable section

namespace Cert.MlpRefIdeal.Own

open Cert.MlpRefIdeal Cert.MlpRefIdeal.Gen Cert.MlpRefIdeal.Read Cert.Rows Cert.MlpIdeal.Own
open Idealize.ShloMosaic Idealize.ShloMosaic.TcCoe Idealize.ShloMosaic.Tactic

variable (x2 : (⟨S2x1024x2048, .f32⟩ : BufTy).Contents (Elt Ideal)) (x3 x4 : (⟨S2x1024, .f32⟩ : BufTy).Contents (Elt Ideal))
  (x5 : (⟨S2x8x128x128, .f32⟩ : BufTy).Contents (Elt Ideal)) (x6 : (⟨S2x8x128, .f32⟩ : BufTy).Contents (Elt Ideal))
  (x7 : (⟨S2x1024x1024, .f32⟩ : BufTy).Contents (Elt Ideal)) (x8 x9 : (⟨S4x1024, .f32⟩ : BufTy).Contents (Elt Ideal))

/-- The unit written with the complement of the error function. -/
theorem gelu_erfc (h : EReal) : Scalar.ofBits (F := Ideal) .f32 0x3F000000#32 * h * Ideal.erfc (-h * Scalar.ofBits (F := Ideal) .f32 0x3F3504F3#32) = gelu h := by
  rw [neg_mul, Ideal.erfc_neg]; rfl

/-! ## The prompt rows -/

variable (x0 : (⟨S8x2048x1024, .f32⟩ : BufTy).Contents (Elt Ideal))

/-- The projection of a row. -/
theorem prompt_proj (i : Fin 8) (p k : Fin 2048) : val_main_v12 x0 x2 (ix3 i p k) = ∑ d : Fin 1024, x0 (ix3 i p d) * x2 (ix3 0 d k) := by
  pointwise [val_main_v12, val_main_v1, val_main_v0]

/-- A hidden entry of a row. -/
theorem prompt_hidden (i : Fin 8) (p k : Fin 2048) : val_main_v19 x0 x2 (ix3 i p k) = hiddenAt (fun d => x0 (ix3 i p d)) (fun d k => x2 (ix3 0 d k)) k := by
  unfold hiddenAt
  rw [← prompt_proj, ← gelu_erfc]
  generalize hy : val_main_v12 x0 x2 = y
  pointwise [val_main_v13, val_main_v14, val_main_v15, val_main_v16, val_main_v17, val_main_v18, val_main_v19, val_main_cst, val_main_cst_0, hy, Ideal.hostUnary_erfc_def]

/-- The gate's row. -/
theorem prompt_gate (i : Fin 8) (p : Fin 2048) (j : Fin 1024) : val_main_v45 x0 x2 x3 x4 (ix3 i p j)
    = gateRow (fun d => x0 (ix3 i p d)) (fun d k => x2 (ix3 0 d k)) (fun k => x3 (ix2 0 k)) (fun k => x4 (ix2 0 k)) j := by
  unfold gateRow
  simp only [← prompt_hidden]
  generalize hy : val_main_v19 x0 x2 = y
  pointwise [val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v2, val_main_v3, val_main_v4, val_main_v5, val_main_cst_1, val_main_cst_2, val_main_cst_3, val_main_cst_4, val_main_cst_5, hy, lnRow]

/-- The causal weights. -/
theorem prompt_causal (g : Fin 8) (t s : Fin 128) : val_main_v46 x5 (ix3 g t s) = if s ≤ t then x5 (ix4 0 g t s) else 0 := by
  pointwise [val_main_v46, val_main_call0_v0, val_main_call0_v1, val_main_call0_v2, val_main_call0_v3, val_main_call0_v4, val_main_call0_v5, val_main_call0_v6, val_main_call0_c, val_main_call0_cst, val_main_v7, val_main_v6]
  rw [show IntOp.addi (BitVec.ofNat 32 t.val) 0#32 = BitVec.ofNat 32 t.val from BitVec.add_zero _, WordCmp.cmpi_sge_ofNat (by omega) (by omega)]
  by_cases h : s ≤ t
  · rw [if_pos h, decide_eq_true (show s.val ≤ t.val from h)]; rfl
  · rw [if_neg h, decide_eq_false (show ¬s.val ≤ t.val from h)]; rfl

/-- The mixed row. -/
theorem prompt_mix (i : Fin 8) (p : Fin 2048) (j : Fin 1024) : val_main_v54 x0 x2 x3 x4 x5 x6 (ix3 i p j)
    = mixAt (fun s => gateRow (fun d => x0 (ix3 i ⟨128 * (p.val / 128) + s.val, by omega⟩ d)) (fun d k => x2 (ix3 0 d k)) (fun k => x3 (ix2 0 k)) (fun k => x4 (ix2 0 k)))
      (fun g t s => x5 (ix4 0 g t s)) (fun t j => x6 (ix3 0 ⟨j.val / 128, by omega⟩ t)) ⟨p.val % 128, by omega⟩ j := by
  unfold mixAt
  simp only [← prompt_gate]
  generalize hy : val_main_v45 x0 x2 x3 x4 = y
  generalize hw : val_main_v46 x5 = w
  pointwise [val_main_v47, val_main_v48, val_main_v49, val_main_v50, val_main_v51, val_main_v52, val_main_v53, val_main_v54, val_main_v9, val_main_v8, hy, hw]
  refine congrArg₂ (· + ·) (Finset.sum_congr rfl fun s _ => ?_) rfl
  rw [mul_comm, ← hw, prompt_causal]
  exact congrArg (fun k => _ * y (ix3 i k j)) (Fin.ext (congrArg (· + s.val) (Nat.mul_comm _ _)))

/-- The row scaled, with the last product added. -/
theorem prompt_sum (i : Fin 8) (p : Fin 2048) (j : Fin 1024) : val_main_v60 x0 x2 x3 x4 x5 x6 x7 (ix3 i p j)
    = Scalar.ofBits (F := Ideal) .f32 0x3FD744FD#32 * x0 (ix3 i p j)
      + ∑ d : Fin 1024, val_main_v19 x0 x2 (ix3 i p ⟨d.val, by omega⟩) * val_main_v54 x0 x2 x3 x4 x5 x6 (ix3 i p d) * x7 (ix3 0 d j) := by
  generalize hy : val_main_v19 x0 x2 = y
  generalize hz : val_main_v54 x0 x2 x3 x4 x5 x6 = z
  pointwise [val_main_v55, val_main_v56, val_main_v58, val_main_v59, val_main_v60, val_main_v20, val_main_cst_6, val_main_v11, val_main_v10, hy, hz]

/-- The result, at an entry. -/
theorem prompt_apply (i : Fin 8) (p : Fin 2048) (j : Fin 1024) : val_main_v88 x0 x2 x3 x4 x5 x6 x7 x8 x9 (ix3 i p j)
    = tokRow (fun p k => x0 (ix3 i p k)) (fun d k => x2 (ix3 0 d k)) (fun k => x3 (ix2 0 k)) (fun k => x4 (ix2 0 k))
      (fun g t s => x5 (ix4 0 g t s)) (fun t j => x6 (ix3 0 ⟨j.val / 128, by omega⟩ t)) (fun d k => x7 (ix3 0 d k)) (fun k => x8 (ix2 1 k)) (fun k => x9 (ix2 1 k)) p j := by
  unfold tokRow outRow
  simp only [← prompt_mix, ← prompt_hidden]
  rw [← funext (prompt_sum x2 x3 x4 x5 x6 x7 x0 i p)]
  generalize hy : val_main_v60 x0 x2 x3 x4 x5 x6 x7 = y
  pointwise [val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_cst_7, val_main_cst_8, val_main_cst_9, val_main_cst_10, val_main_cst_11, hy, lnRow]

/-- The last gate rows, at an entry. -/
theorem prompt_rows (i : Fin 8) (r : Fin 128) (j : Fin 1024) : val_main_v57 x0 x2 x3 x4 (ix3 i r j)
    = gateRow (fun d => x0 (ix3 i ⟨1920 + r.val, by omega⟩ d)) (fun d k => x2 (ix3 0 d k)) (fun k => x3 (ix2 0 k)) (fun k => x4 (ix2 0 k)) j := by
  rw [← prompt_gate]
  generalize hy : val_main_v45 x0 x2 x3 x4 = y
  pointwise [val_main_v57, hy]

/-! ## The decode rows -/

variable (x1 : (⟨S128x1024, .f32⟩ : BufTy).Contents (Elt Ideal))

/-- The projection of a row. -/
theorem decode_proj (r : Fin 128) (k : Fin 2048) : val_main_v102 x1 x2 (ix3 r 0 k) = ∑ d : Fin 1024, x1 (ix2 r d) * x2 (ix3 0 d k) := by
  pointwise [val_main_v102, val_main_v89, val_main_v90, val_main_v91]

/-- A hidden entry of a row. -/
theorem decode_hidden (r : Fin 128) (k : Fin 2048) : val_main_v109 x1 x2 (ix3 r 0 k) = hiddenAt (fun d => x1 (ix2 r d)) (fun d k => x2 (ix3 0 d k)) k := by
  unfold hiddenAt
  rw [← decode_proj, ← gelu_erfc]
  generalize hy : val_main_v102 x1 x2 = y
  pointwise [val_main_v103, val_main_v104, val_main_v105, val_main_v106, val_main_v107, val_main_v108, val_main_v109, val_main_cst_12, val_main_cst_13, hy, Ideal.hostUnary_erfc_def]

/-- The gate's row. -/
theorem decode_gate (r : Fin 128) (j : Fin 1024) : val_main_v135 x1 x2 x3 x4 (ix3 r 0 j)
    = gateRow (fun d => x1 (ix2 r d)) (fun d k => x2 (ix3 0 d k)) (fun k => x3 (ix2 0 k)) (fun k => x4 (ix2 0 k)) j := by
  unfold gateRow
  simp only [← decode_hidden]
  generalize hy : val_main_v109 x1 x2 = y
  pointwise [val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v92, val_main_v93, val_main_v94, val_main_v95, val_main_cst_14, val_main_cst_15, val_main_cst_16, val_main_cst_17, val_main_cst_18, hy, lnRow]

/-- The weight of a chunk's first row, which is its own alone. -/
theorem decode_causal (g : Fin 8) : val_main_v137 x5 (ix3 g 0 0) = x5 (ix4 0 g 0 0) := by
  pointwise [val_main_v137, val_main_v136, val_main_call1_v0, val_main_call1_v1, val_main_call1_v2, val_main_call1_v3, val_main_call1_v4, val_main_call1_v5, val_main_call1_v6, val_main_call1_c, val_main_call1_cst, val_main_v97, val_main_v96]
  rfl

/-- The mixed row. -/
theorem decode_mix (r : Fin 128) (j : Fin 1024) : val_main_v146 x1 x2 x3 x4 x5 x6 (ix3 r 0 j)
    = mixFirst (gateRow (fun d => x1 (ix2 r d)) (fun d k => x2 (ix3 0 d k)) (fun k => x3 (ix2 0 k)) (fun k => x4 (ix2 0 k)))
      (fun g => x5 (ix4 0 g 0 0)) (fun j => x6 (ix3 0 ⟨j.val / 128, by omega⟩ 0)) j := by
  unfold mixFirst
  simp only [← decode_gate, ← decode_causal]
  generalize hy : val_main_v135 x1 x2 x3 x4 = y
  generalize hw : val_main_v137 x5 = w
  pointwise [val_main_v138, val_main_v139, val_main_v140, val_main_v141, val_main_v142, val_main_v143, val_main_v144, val_main_v145, val_main_v146, val_main_v99, val_main_v98, hy, hw]
  exact congrArg₂ (· + ·) (Fin.sum_univ_one _) rfl

/-- The row scaled, with the last product added. -/
theorem decode_sum (r : Fin 128) (j : Fin 1024) : val_main_v151 x1 x2 x3 x4 x5 x6 x7 (ix3 r 0 j)
    = Scalar.ofBits (F := Ideal) .f32 0x3FD744FD#32 * x1 (ix2 r j)
      + ∑ d : Fin 1024, val_main_v109 x1 x2 (ix3 r 0 ⟨d.val, by omega⟩) * val_main_v146 x1 x2 x3 x4 x5 x6 (ix3 r 0 d) * x7 (ix3 0 d j) := by
  generalize hy : val_main_v109 x1 x2 = y
  generalize hz : val_main_v146 x1 x2 x3 x4 x5 x6 = z
  pointwise [val_main_v147, val_main_v148, val_main_v149, val_main_v150, val_main_v151, val_main_v110, val_main_cst_19, val_main_v101, val_main_v100, val_main_v89, hy, hz]

/-- The result, at an entry. -/
theorem decode_apply (r : Fin 128) (j : Fin 1024) : val_main_v180 x1 x2 x3 x4 x5 x6 x7 x8 x9 (ix2 r j)
    = decRow (fun k => x1 (ix2 r k)) (fun d k => x2 (ix3 0 d k)) (fun k => x3 (ix2 0 k)) (fun k => x4 (ix2 0 k))
      (fun g => x5 (ix4 0 g 0 0)) (fun j => x6 (ix3 0 ⟨j.val / 128, by omega⟩ 0)) (fun d k => x7 (ix3 0 d k)) (fun k => x8 (ix2 1 k)) (fun k => x9 (ix2 1 k)) j := by
  unfold decRow outRow
  simp only [← decode_mix, ← decode_hidden]
  rw [← funext (decode_sum x2 x3 x4 x5 x6 x7 x1 r)]
  generalize hy : val_main_v151 x1 x2 x3 x4 x5 x6 x7 = y
  pointwise [val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_cst_20, val_main_cst_21, val_main_cst_22, val_main_cst_23, val_main_cst_24, hy, lnRow]

/-- The gate rows, at an entry. -/
theorem decode_rows (r : Fin 128) (j : Fin 1024) : val_main_v181 x1 x2 x3 x4 (ix2 r j)
    = gateRow (fun d => x1 (ix2 r d)) (fun d k => x2 (ix3 0 d k)) (fun k => x3 (ix2 0 k)) (fun k => x4 (ix2 0 k)) j := by
  rw [← decode_gate]
  generalize hy : val_main_v135 x1 x2 x3 x4 = y
  pointwise [val_main_v181, hy]

/-! ## The weights handed on -/

theorem weights_in (x10 : (⟨S4x1024x5632, .f32⟩ : BufTy).Contents (Elt Ideal)) (d : Fin 1024) (k : Fin 5632) : val_main_v184 x10 (ix2 d k) = x10 (ix3 1 d k) := by
  pointwise [val_main_v182, val_main_v183, val_main_v184]

theorem weights_out (x11 : (⟨S4x2816x1024, .f32⟩ : BufTy).Contents (Elt Ideal)) (d : Fin 2816) (k : Fin 1024) : val_main_v187 x11 (ix2 d k) = x11 (ix3 1 d k) := by
  pointwise [val_main_v185, val_main_v186, val_main_v187]

end Cert.MlpRefIdeal.Own

end
-- ==== Proof.MlpClaims.lean ====
/-
  The token-mixing programs' claims: the frames, and the equality of the kernel's and the reference's results.
-/
module

public import proofs.«01_k».proof.Defs
public import proofs.«01_k».proof.Proof.MlpRefValue
public import proofs.«01_k».proof.Proof.Gen.Mlp
public import Idealize.ShloMosaic.Lib.Claim
public import Idealize.ShloMosaic.Lib.Quiescent
public import Idealize.ShloMosaic.Lib.Tactic

@[expose] public section

set_option maxRecDepth 16384

noncomputable section

namespace Cert.MlpClaims

open Idealize.ShloMosaic Idealize.ShloMosaic.TcCoe Idealize.SL.Sem

variable {F : FTy → Type} [FloatOps F]

/-- The kernel's run: what every array ends holding. -/
theorem kernel_run (m : (ℓ : Loc Cert.MlpIdeal.nD Cert.MlpIdeal.τ Cert.MlpIdeal.sig) → Buf (Elt F) ℓ) (g : Dev Cert.MlpIdeal.nD → PrngReg) :
    θ_run (Cert.MlpIdeal.defs (F := F)) (onTc (τ := Cert.MlpIdeal.τ) (Cert.MlpIdeal.main (F := F))) ⟨m, fun _ => 0, g⟩
      (Pipeline.FramePost Cert.MlpIdeal.cfgs (Cert.MlpIdeal.Own.dats m) (0 : Fin 1) (Cert.MlpIdeal.Gen.V m)) :=
  (θ_run _ _ _).mono (fun _ h => h.1) (Cert.MlpIdeal.Own.run_main_quiescent m g)

/-- The kernel's frame, over any float values. -/
theorem kernel_frame (m : (ℓ : Loc Cert.MlpIdeal.nD Cert.MlpIdeal.τ Cert.MlpIdeal.sig) → Buf (Elt F) ℓ) (g : Dev Cert.MlpIdeal.nD → PrngReg) :
    θ_run (Cert.MlpIdeal.defs (F := F)) (onTc (τ := Cert.MlpIdeal.τ) (Cert.MlpIdeal.main (F := F))) ⟨m, fun _ => 0, g⟩ (fun r =>
      (∀ c : Dev Cert.MlpIdeal.nD, r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0) := by
  refine θ_run_and ?_ ((θ_run _ _ _).mono (fun _ h => h.2) (Cert.MlpIdeal.Own.run_main_quiescent m g))
  run_from kernel_run m g

/-- The kernel's frame over the extended reals, -/
theorem quiescent_ideal : @Cert.quiescent_MlpIdeal Cert.MlpIdeal.Gen.facts := fun m g _ => kernel_frame m g

/-- The two programs' bodies have the same text, -/
theorem defs_eq : Cert.Mlp.defs (F := Bits) = Cert.MlpIdeal.defs (F := Bits) := by sl_kernel_rfl

/-- so the frame holds at the machine's words as well. -/
theorem quiescent_bits : @Cert.quiescent_Mlp Cert.Mlp.Gen.facts := fun m g _ => by
  rw [defs_eq]
  exact kernel_frame (F := Bits) m g

/-- The reference's frame. -/
theorem quiescent_ref : @Cert.quiescent_MlpRefIdeal Cert.MlpRefIdeal.Gen.facts := by
  intro m g hpre
  exact (θ_run _ _ _).mono (fun r h => ⟨fun c => (h c).2.2.2.2.2.2, sem_eq_zero_of_no_sems (by decide) r.2⟩) (Cert.MlpRefIdeal.Value.run m g)

set_option maxHeartbeats 8000000 in
/-- Equal results on equal arguments. -/
theorem algebraic : @Cert.algebraic_MlpIdeal_MlpRefIdeal Cert.MlpIdeal.Gen.facts Cert.MlpRefIdeal.Gen.facts := by
  pair_intro
  · run_from kernel_run m g
    · exact hc.1 16
    · exact hc.1 17
  · run_from Cert.MlpRefIdeal.Value.run m' g'
    · obtain ⟨h0, h1, h2, h3, h4, h5, h6, h7, h8, h9, h10, h11⟩ := hagree c
      rw [← h8, ← h9]
      refine (Cert.MlpRefIdeal.Read.val_main_v88_eq (StableHlo.launchContents m' c)).trans ?_
      have e0 : StableHlo.launchContents m' c (Proc.devRef .tc Cert.MlpRefIdeal.main_arg0) = m ((c.tc : Thread Cert.MlpIdeal.nD Cert.MlpIdeal.τ).loc Cert.MlpIdeal.main_arg0) := h0
      have e2 : StableHlo.launchContents m' c (Proc.devRef .tc Cert.MlpRefIdeal.main_arg2) = m ((c.tc : Thread Cert.MlpIdeal.nD Cert.MlpIdeal.τ).loc Cert.MlpIdeal.main_arg2) := h2
      have e3 : StableHlo.launchContents m' c (Proc.devRef .tc Cert.MlpRefIdeal.main_arg3) = m ((c.tc : Thread Cert.MlpIdeal.nD Cert.MlpIdeal.τ).loc Cert.MlpIdeal.main_arg3) := h3
      have e4 : StableHlo.launchContents m' c (Proc.devRef .tc Cert.MlpRefIdeal.main_arg4) = m ((c.tc : Thread Cert.MlpIdeal.nD Cert.MlpIdeal.τ).loc Cert.MlpIdeal.main_arg4) := h4
      have e5 : StableHlo.launchContents m' c (Proc.devRef .tc Cert.MlpRefIdeal.main_arg5) = m ((c.tc : Thread Cert.MlpIdeal.nD Cert.MlpIdeal.τ).loc Cert.MlpIdeal.main_arg5) := h5
      have e6 : StableHlo.launchContents m' c (Proc.devRef .tc Cert.MlpRefIdeal.main_arg6) = m ((c.tc : Thread Cert.MlpIdeal.nD Cert.MlpIdeal.τ).loc Cert.MlpIdeal.main_arg6) := h6
      have e7 : StableHlo.launchContents m' c (Proc.devRef .tc Cert.MlpRefIdeal.main_arg7) = m ((c.tc : Thread Cert.MlpIdeal.nD Cert.MlpIdeal.τ).loc Cert.MlpIdeal.main_arg7) := h7
      have e8 : StableHlo.launchContents m' c (Proc.devRef .tc Cert.MlpRefIdeal.main_arg8) = m ((c.tc : Thread Cert.MlpIdeal.nD Cert.MlpIdeal.τ).loc Cert.MlpIdeal.main_arg8) := h8
      have e9 : StableHlo.launchContents m' c (Proc.devRef .tc Cert.MlpRefIdeal.main_arg9) = m ((c.tc : Thread Cert.MlpIdeal.nD Cert.MlpIdeal.τ).loc Cert.MlpIdeal.main_arg9) := h9
      rw [e0, e2, e3, e4, e5, e6, e7, e8, e9]
      refine Eq.trans (funext fun i => ?_) (Cert.MlpIdeal.Own.final12 m c).symm
      obtain ⟨b, r, j, rfl⟩ : ∃ (b : Fin 8) (r : Fin 2048) (j : Fin 1024), i = ix3 b r j := ⟨i 0, i 1, i 2, by ext a; match a with | ⟨0, _⟩ => rfl | ⟨1, _⟩ => rfl | ⟨2, _⟩ => rfl⟩
      exact Cert.MlpRefIdeal.Own.prompt_apply _ _ _ _ _ _ _ _ _ b r j
    · obtain ⟨h0, h1, h2, h3, h4, h5, h6, h7, h8, h9, h10, h11⟩ := hagree c
      refine (Cert.MlpRefIdeal.Read.val_main_v57_eq (StableHlo.launchContents m' c)).trans ?_
      have e0 : StableHlo.launchContents m' c (Proc.devRef .tc Cert.MlpRefIdeal.main_arg0) = m ((c.tc : Thread Cert.MlpIdeal.nD Cert.MlpIdeal.τ).loc Cert.MlpIdeal.main_arg0) := h0
      have e2 : StableHlo.launchContents m' c (Proc.devRef .tc Cert.MlpRefIdeal.main_arg2) = m ((c.tc : Thread Cert.MlpIdeal.nD Cert.MlpIdeal.τ).loc Cert.MlpIdeal.main_arg2) := h2
      have e3 : StableHlo.launchContents m' c (Proc.devRef .tc Cert.MlpRefIdeal.main_arg3) = m ((c.tc : Thread Cert.MlpIdeal.nD Cert.MlpIdeal.τ).loc Cert.MlpIdeal.main_arg3) := h3
      have e4 : StableHlo.launchContents m' c (Proc.devRef .tc Cert.MlpRefIdeal.main_arg4) = m ((c.tc : Thread Cert.MlpIdeal.nD Cert.MlpIdeal.τ).loc Cert.MlpIdeal.main_arg4) := h4
      rw [e0, e2, e3, e4]
      refine Eq.trans (funext fun i => ?_) (Cert.MlpIdeal.Own.final13 m c).symm
      obtain ⟨b, r, j, rfl⟩ : ∃ (b : Fin 8) (r : Fin 128) (j : Fin 1024), i = ix3 b r j := ⟨i 0, i 1, i 2, by ext a; match a with | ⟨0, _⟩ => rfl | ⟨1, _⟩ => rfl | ⟨2, _⟩ => rfl⟩
      exact Cert.MlpRefIdeal.Own.prompt_rows _ _ _ _ b r j
    · obtain ⟨h0, h1, h2, h3, h4, h5, h6, h7, h8, h9, h10, h11⟩ := hagree c
      rw [← h8, ← h9]
      refine (Cert.MlpRefIdeal.Read.val_main_v180_eq (StableHlo.launchContents m' c)).trans ?_
      have e1 : StableHlo.launchContents m' c (Proc.devRef .tc Cert.MlpRefIdeal.main_arg1) = m ((c.tc : Thread Cert.MlpIdeal.nD Cert.MlpIdeal.τ).loc Cert.MlpIdeal.main_arg1) := h1
      have e2 : StableHlo.launchContents m' c (Proc.devRef .tc Cert.MlpRefIdeal.main_arg2) = m ((c.tc : Thread Cert.MlpIdeal.nD Cert.MlpIdeal.τ).loc Cert.MlpIdeal.main_arg2) := h2
      have e3 : StableHlo.launchContents m' c (Proc.devRef .tc Cert.MlpRefIdeal.main_arg3) = m ((c.tc : Thread Cert.MlpIdeal.nD Cert.MlpIdeal.τ).loc Cert.MlpIdeal.main_arg3) := h3
      have e4 : StableHlo.launchContents m' c (Proc.devRef .tc Cert.MlpRefIdeal.main_arg4) = m ((c.tc : Thread Cert.MlpIdeal.nD Cert.MlpIdeal.τ).loc Cert.MlpIdeal.main_arg4) := h4
      have e5 : StableHlo.launchContents m' c (Proc.devRef .tc Cert.MlpRefIdeal.main_arg5) = m ((c.tc : Thread Cert.MlpIdeal.nD Cert.MlpIdeal.τ).loc Cert.MlpIdeal.main_arg5) := h5
      have e6 : StableHlo.launchContents m' c (Proc.devRef .tc Cert.MlpRefIdeal.main_arg6) = m ((c.tc : Thread Cert.MlpIdeal.nD Cert.MlpIdeal.τ).loc Cert.MlpIdeal.main_arg6) := h6
      have e7 : StableHlo.launchContents m' c (Proc.devRef .tc Cert.MlpRefIdeal.main_arg7) = m ((c.tc : Thread Cert.MlpIdeal.nD Cert.MlpIdeal.τ).loc Cert.MlpIdeal.main_arg7) := h7
      have e8 : StableHlo.launchContents m' c (Proc.devRef .tc Cert.MlpRefIdeal.main_arg8) = m ((c.tc : Thread Cert.MlpIdeal.nD Cert.MlpIdeal.τ).loc Cert.MlpIdeal.main_arg8) := h8
      have e9 : StableHlo.launchContents m' c (Proc.devRef .tc Cert.MlpRefIdeal.main_arg9) = m ((c.tc : Thread Cert.MlpIdeal.nD Cert.MlpIdeal.τ).loc Cert.MlpIdeal.main_arg9) := h9
      rw [e1, e2, e3, e4, e5, e6, e7, e8, e9]
      refine Eq.trans (funext fun i => ?_) (Cert.MlpIdeal.Own.final14 m c).symm
      obtain ⟨r, j, rfl⟩ : ∃ (r : Fin 128) (j : Fin 1024), i = ix2 r j := ⟨i 0, i 1, by ext a; match a with | ⟨0, _⟩ => rfl | ⟨1, _⟩ => rfl⟩
      exact Cert.MlpRefIdeal.Own.decode_apply _ _ _ _ _ _ _ _ _ r j
    · obtain ⟨h0, h1, h2, h3, h4, h5, h6, h7, h8, h9, h10, h11⟩ := hagree c
      refine (Cert.MlpRefIdeal.Read.val_main_v181_eq (StableHlo.launchContents m' c)).trans ?_
      have e1 : StableHlo.launchContents m' c (Proc.devRef .tc Cert.MlpRefIdeal.main_arg1) = m ((c.tc : Thread Cert.MlpIdeal.nD Cert.MlpIdeal.τ).loc Cert.MlpIdeal.main_arg1) := h1
      have e2 : StableHlo.launchContents m' c (Proc.devRef .tc Cert.MlpRefIdeal.main_arg2) = m ((c.tc : Thread Cert.MlpIdeal.nD Cert.MlpIdeal.τ).loc Cert.MlpIdeal.main_arg2) := h2
      have e3 : StableHlo.launchContents m' c (Proc.devRef .tc Cert.MlpRefIdeal.main_arg3) = m ((c.tc : Thread Cert.MlpIdeal.nD Cert.MlpIdeal.τ).loc Cert.MlpIdeal.main_arg3) := h3
      have e4 : StableHlo.launchContents m' c (Proc.devRef .tc Cert.MlpRefIdeal.main_arg4) = m ((c.tc : Thread Cert.MlpIdeal.nD Cert.MlpIdeal.τ).loc Cert.MlpIdeal.main_arg4) := h4
      rw [e1, e2, e3, e4]
      refine Eq.trans (funext fun i => ?_) (Cert.MlpIdeal.Own.final15 m c).symm
      obtain ⟨r, j, rfl⟩ : ∃ (r : Fin 128) (j : Fin 1024), i = ix2 r j := ⟨i 0, i 1, by ext a; match a with | ⟨0, _⟩ => rfl | ⟨1, _⟩ => rfl⟩
      exact Cert.MlpRefIdeal.Own.decode_rows _ _ _ _ r j
    · obtain ⟨h0, h1, h2, h3, h4, h5, h6, h7, h8, h9, h10, h11⟩ := hagree c
      rw [← h10]
      refine (Cert.MlpRefIdeal.Read.val_main_v184_eq (StableHlo.launchContents m' c)).trans ?_
      have e10 : StableHlo.launchContents m' c (Proc.devRef .tc Cert.MlpRefIdeal.main_arg10) = m ((c.tc : Thread Cert.MlpIdeal.nD Cert.MlpIdeal.τ).loc Cert.MlpIdeal.main_arg10) := h10
      rw [e10]
      refine Eq.trans (funext fun i => ?_) (Cert.MlpIdeal.Own.final16 m c).symm
      obtain ⟨r, j, rfl⟩ : ∃ (r : Fin 1024) (j : Fin 5632), i = ix2 r j := ⟨i 0, i 1, by ext a; match a with | ⟨0, _⟩ => rfl | ⟨1, _⟩ => rfl⟩
      exact Cert.MlpRefIdeal.Own.weights_in _ r j
    · obtain ⟨h0, h1, h2, h3, h4, h5, h6, h7, h8, h9, h10, h11⟩ := hagree c
      rw [← h11]
      refine (Cert.MlpRefIdeal.Read.val_main_v187_eq (StableHlo.launchContents m' c)).trans ?_
      have e11 : StableHlo.launchContents m' c (Proc.devRef .tc Cert.MlpRefIdeal.main_arg11) = m ((c.tc : Thread Cert.MlpIdeal.nD Cert.MlpIdeal.τ).loc Cert.MlpIdeal.main_arg11) := h11
      rw [e11]
      refine Eq.trans (funext fun i => ?_) (Cert.MlpIdeal.Own.final17 m c).symm
      obtain ⟨r, j, rfl⟩ : ∃ (r : Fin 2816) (j : Fin 1024), i = ix2 r j := ⟨i 0, i 1, by ext a; match a with | ⟨0, _⟩ => rfl | ⟨1, _⟩ => rfl⟩
      exact Cert.MlpRefIdeal.Own.weights_out _ r j

end Cert.MlpClaims

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Decode
public import proofs.«01_k».proof.Proof.Gen.DecodeIdeal
public import proofs.«01_k».proof.Proof.Gen.DecodeRefIdeal
public import proofs.«01_k».proof.Proof.Gen.Pre_finite_inputs
public import proofs.«01_k».proof.Proof.DecodeClaims
public import proofs.«01_k».proof.Proof.FfnClaims
public import proofs.«01_k».proof.Proof.MlpClaims
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpRefIdeal.Gen.facts, Cert.Ffn.Gen.facts, Cert.FfnIdeal.Gen.facts, Cert.FfnRefIdeal.Gen.facts,
  Cert.Decode.Gen.facts, Cert.DecodeIdeal.Gen.facts, Cert.DecodeRefIdeal.Gen.facts, Cert.Pre_finite_inputs.Gen.facts,
  Cert.MlpClaims.quiescent_bits, Cert.MlpClaims.quiescent_ideal, Cert.MlpClaims.quiescent_ref,
  Cert.FfnClaims.quiescent_bits, Cert.FfnClaims.quiescent_ideal, Cert.FfnClaims.quiescent_ref,
  Cert.DecodeClaims.quiescent_bits, Cert.DecodeClaims.quiescent_ideal, Cert.DecodeClaims.quiescent_ideal_pre,
  Cert.DecodeClaims.quiescent_ref, Cert.DecodeClaims.quiescent_ref_pre,
  trivial, Cert.MlpClaims.algebraic, trivial, Cert.FfnClaims.algebraic, trivial, Cert.DecodeClaims.algebraic⟩

end Cert.Proof

end
